-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_0177" .f32 0x40B4CA7C#32 ((67108864 / 11878269 : ℝ) : EReal)
  ∧ IdealRules.named_const.Statement Cert.KernelIdeal.κ "inv_01255" .f32 0x40FEFAE7#32 ((33554432 / 4211081 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1045_11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x512x512 : Shape := ⟨4, ![4, 3, 512, 512]⟩
abbrev S10x3x3x3 : Shape := ⟨4, ![10, 3, 3, 3]⟩
abbrev S10 : Shape := ⟨1, ![10]⟩
abbrev S16x10x3x3 : Shape := ⟨4, ![16, 10, 3, 3]⟩
abbrev S16 : Shape := ⟨1, ![16]⟩
abbrev S32x16x3x3 : Shape := ⟨4, ![32, 16, 3, 3]⟩
abbrev S32 : Shape := ⟨1, ![32]⟩
abbrev S2x32x1x1 : Shape := ⟨4, ![2, 32, 1, 1]⟩
abbrev S2 : Shape := ⟨1, ![2]⟩
abbrev S4x32x1x1 : Shape := ⟨4, ![4, 32, 1, 1]⟩
abbrev S4 : Shape := ⟨1, ![4]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel
  bcast_S_S10x3x3x3 : S_.BroadcastsInDim S10x3x3x3 (![] : Fin 0 → Fin S10x3x3x3.rank)
  reducesTo_S10x3x3x3_S_d0_1_2_3 : S10x3x3x3.ReducesTo [0, 1, 2, 3] S_
  bcast_S_S10 : S_.BroadcastsInDim S10 (![] : Fin 0 → Fin S10.rank)
  reducesTo_S10_S_d0 : S10.ReducesTo [0] S_
  bcast_S_S16x10x3x3 : S_.BroadcastsInDim S16x10x3x3 (![] : Fin 0 → Fin S16x10x3x3.rank)
  reducesTo_S16x10x3x3_S_d0_1_2_3 : S16x10x3x3.ReducesTo [0, 1, 2, 3] S_
  bcast_S_S16 : S_.BroadcastsInDim S16 (![] : Fin 0 → Fin S16.rank)
  reducesTo_S16_S_d0 : S16.ReducesTo [0] S_
  bcast_S_S32x16x3x3 : S_.BroadcastsInDim S32x16x3x3 (![] : Fin 0 → Fin S32x16x3x3.rank)
  reducesTo_S32x16x3x3_S_d0_1_2_3 : S32x16x3x3.ReducesTo [0, 1, 2, 3] S_
  bcast_S_S32 : S_.BroadcastsInDim S32 (![] : Fin 0 → Fin S32.rank)
  reducesTo_S32_S_d0 : S32.ReducesTo [0] S_
  bcast_S_S2x32x1x1 : S_.BroadcastsInDim S2x32x1x1 (![] : Fin 0 → Fin S2x32x1x1.rank)
  reducesTo_S2x32x1x1_S_d0_1_2_3 : S2x32x1x1.ReducesTo [0, 1, 2, 3] S_
  bcast_S_S2 : S_.BroadcastsInDim S2 (![] : Fin 0 → Fin S2.rank)
  reducesTo_S2_S_d0 : S2.ReducesTo [0] S_
  bcast_S_S4x32x1x1 : S_.BroadcastsInDim S4x32x1x1 (![] : Fin 0 → Fin S4x32x1x1.rank)
  reducesTo_S4x32x1x1_S_d0_1_2_3 : S4x32x1x1.ReducesTo [0, 1, 2, 3] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2 .f32) (main_arg12 : FVec F S4x32x1x1 .f32) (main_arg13 : FVec F S4 .f32) (main_v48 : IVec S_ 1) (main_v49 : FVec F S2x32x1x1 .f32) (main_v50 : FVec F S2x32x1x1 .f32) : IVec S_ 1 :=
  let main_v51 : IVec S2x32x1x1 1 := cmpf .olt main_v49 main_v50
  let main_c_19 : IVec S_ 1 := constantI S_ 1 1#1
  let main_v52 : IVec S_ 1 := (fun x v => Host.reduce IntOp.andi x v reducesTo_S2x32x1x1_S_d0_1_2_3 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S4x32x1x1 .f32 := Host.absf main_arg12
  let main_cst_22 : FVec F S_ .f32 := constant S_ .f32 0x7F800000#32
  let main_v60 : FVec F S4x32x1x1 .f32 := broadcastInDim S4x32x1x1 ![] bcast_S_S4x32x1x1 main_cst_22
  let main_v61 : IVec S4x32x1x1 1 := cmpf .olt main_v59 main_v60
  let main_c_23 : IVec S_ 1 := constantI S_ 1 1#1
  let main_v62 : IVec S_ 1 := (fun x v => Host.reduce IntOp.andi x v reducesTo_S4x32x1x1_S_d0_1_2_3 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg7 : FVec F S32x16x3x3 .f32) (main_arg8 : FVec F S32 .f32) (main_arg9 : FVec F S32 .f32) (main_arg10 : FVec F S2x32x1x1 .f32) (main_arg11 : FVec F S2 .f32) (main_arg12 : FVec F S4x32x1x1 .f32) (main_arg13 : FVec F S4 .f32) (main_v33 : IVec S_ 1) : IVec S_ 1 :=
  let main_v34 : FVec F S32x16x3x3 .f32 := Host.absf main_arg7
  let main_cst_12 : FVec F S_ .f32 := constant S_ .f32 0x7F800000#32
  let main_v35 : FVec F S32x16x3x3 .f32 := broadcastInDim S32x16x3x3 ![] bcast_S_S32x16x3x3 main_cst_12
  let main_v36 : IVec S32x16x3x3 1 := cmpf .olt main_v34 main_v35
  let main_c_13 : IVec S_ 1 := constantI S_ 1 1#1
  let main_v37 : IVec S_ 1 := (fun x v => Host.reduce IntOp.andi x v reducesTo_S32x16x3x3_S_d0_1_2_3 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2x32x1x1 .f32 := Host.absf main_arg10
  let main_cst_18 : FVec F S_ .f32 := constant S_ .f32 0x7F800000#32
  let main_v50 : FVec F S2x32x1x1 .f32 := broadcastInDim S2x32x1x1 ![] bcast_S_S2x32x1x1 main_cst_18
  fn_part3 (F := F) main_arg11 main_arg12 main_arg13 main_v48 main_v49 main_v50

def fn_part1 {F : FTy → Type} [FloatOps F] (main_arg4 : FVec F S16x10x3x3 .f32) (main_arg5 : FVec F S16 .f32) (main_arg6 : FVec F S16 .f32) (main_arg7 : FVec F S32x16x3x3 .f32) (main_arg8 : FVec F S32 .f32) (main_arg9 : FVec F S32 .f32) (main_arg10 : FVec F S2x32x1x1 .f32) (main_arg11 : FVec F S2 .f32) (main_arg12 : FVec F S4x32x1x1 .f32) (main_arg13 : FVec F S4 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S16x10x3x3 .f32 := Host.absf main_arg4
  let main_cst_6 : FVec F S_ .f32 := constant S_ .f32 0x7F800000#32
  let main_v20 : FVec F S16x10x3x3 .f32 := broadcastInDim S16x10x3x3 ![] bcast_S_S16x10x3x3 main_cst_6
  let main_v21 : IVec S16x10x3x3 1 := cmpf .olt main_v19 main_v20
  let main_c_7 : IVec S_ 1 := constantI S_ 1 1#1
  let main_v22 : IVec S_ 1 := (fun x v => Host.reduce IntOp.andi x v reducesTo_S16x10x3x3_S_d0_1_2_3 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x3x512x512 .f32) (main_arg1 : FVec F S10x3x3x3 .f32) (main_arg2 : FVec F S10 .f32) (main_arg3 : FVec F S10 .f32) (main_arg4 : FVec F S16x10x3x3 .f32) (main_arg5 : FVec F S16 .f32) (main_arg6 : FVec F S16 .f32) (main_arg7 : FVec F S32x16x3x3 .f32) (main_arg8 : FVec F S32 .f32) (main_arg9 : FVec F S32 .f32) (main_arg10 : FVec F S2x32x1x1 .f32) (main_arg11 : FVec F S2 .f32) (main_arg12 : FVec F S4x32x1x1 .f32) (main_arg13 : FVec F S4 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S10x3x3x3 .f32 := Host.absf main_arg1
  let main_cst_0 : FVec F S_ .f32 := constant S_ .f32 0x7F800000#32
  let main_v5 : FVec F S10x3x3x3 .f32 := broadcastInDim S10x3x3x3 ![] bcast_S_S10x3x3x3 main_cst_0
  let main_v6 : IVec S10x3x3x3 1 := cmpf .olt main_v4 main_v5
  let main_c_1 : IVec S_ 1 := constantI S_ 1 1#1
  let main_v7 : IVec S_ 1 := (fun x v => Host.reduce IntOp.andi x v reducesTo_S10x3x3x3_S_d0_1_2_3 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x3x512x512 : Shape := ⟨4, ![4, 3, 512, 512]⟩
abbrev S10x3x3x3 : Shape := ⟨4, ![10, 3, 3, 3]⟩
abbrev S10 : Shape := ⟨1, ![10]⟩
abbrev S16x10x3x3 : Shape := ⟨4, ![16, 10, 3, 3]⟩
abbrev S16 : Shape := ⟨1, ![16]⟩
abbrev S32x16x3x3 : Shape := ⟨4, ![32, 16, 3, 3]⟩
abbrev S32 : Shape := ⟨1, ![32]⟩
abbrev S2x32x1x1 : Shape := ⟨4, ![2, 32, 1, 1]⟩
abbrev S2 : Shape := ⟨1, ![2]⟩
abbrev S4x32x1x1 : Shape := ⟨4, ![4, 32, 1, 1]⟩
abbrev S4 : Shape := ⟨1, ![4]⟩
abbrev S_ : Shape := ⟨0, ![]⟩
abbrev S10x27 : Shape := ⟨2, ![10, 27]⟩
abbrev S16x3x3x10 : Shape := ⟨4, ![16, 3, 3, 10]⟩
abbrev S16x90 : Shape := ⟨2, ![16, 90]⟩
abbrev S32x3x3x16 : Shape := ⟨4, ![32, 3, 3, 16]⟩
abbrev S32x144 : Shape := ⟨2, ![32, 144]⟩
abbrev S2x32 : Shape := ⟨2, ![2, 32]⟩
abbrev S4x32 : Shape := ⟨2, ![4, 32]⟩
abbrev S10x1x1 : Shape := ⟨3, ![10, 1, 1]⟩
abbrev S16x1x1 : Shape := ⟨3, ![16, 1, 1]⟩
abbrev S32x1x1 : Shape := ⟨3, ![32, 1, 1]⟩
abbrev S2x1x1 : Shape := ⟨3, ![2, 1, 1]⟩
abbrev S4x1x1 : Shape := ⟨3, ![4, 1, 1]⟩
abbrev S128 : Shape := ⟨1, ![128]⟩
abbrev S512 : Shape := ⟨1, ![512]⟩
abbrev S1x128 : Shape := ⟨2, ![1, 128]⟩
abbrev S512x1 : Shape := ⟨2, ![512, 1]⟩
abbrev S512x128 : Shape := ⟨2, ![512, 128]⟩
abbrev S4x3x512x512x1 : Shape := ⟨5, ![4, 3, 512, 512, 1]⟩
abbrev S1x1x512x1x128 : Shape := ⟨5, ![1, 1, 512, 1, 128]⟩
abbrev S4x3x512x512x128 : Shape := ⟨5, ![4, 3, 512, 512, 128]⟩
abbrev S4x3x512x128 : Shape := ⟨4, ![4, 3, 512, 128]⟩
abbrev S4x3x512x128x1 : Shape := ⟨5, ![4, 3, 512, 128, 1]⟩
abbrev S4x3x512x128x128 : Shape := ⟨5, ![4, 3, 512, 128, 128]⟩
abbrev S4x3x128x128 : Shape := ⟨4, ![4, 3, 128, 128]⟩
abbrev S4x59x59 : Shape := ⟨3, ![4, 59, 59]⟩
abbrev S4x4x59x59 : Shape := ⟨4, ![4, 4, 59, 59]⟩
abbrev S1x3x128x128 : Shape := ⟨4, ![1, 3, 128, 128]⟩
abbrev S1x59x59 : Shape := ⟨3, ![1, 59, 59]⟩
abbrev S1x4x59x59 : Shape := ⟨4, ![1, 4, 59, 59]⟩
abbrev S3x128x128 : Shape := ⟨3, ![3, 128, 128]⟩
abbrev S3x126x126 : Shape := ⟨3, ![3, 126, 126]⟩
abbrev S27x126x126 : Shape := ⟨3, ![27, 126, 126]⟩
abbrev S10x126x126 : Shape := ⟨3, ![10, 126, 126]⟩
abbrev S10x63x2x126 : Shape := ⟨4, ![10, 63, 2, 126]⟩
abbrev S10x63x1x126 : Shape := ⟨4, ![10, 63, 1, 126]⟩
abbrev S10x63x126 : Shape := ⟨3, ![10, 63, 126]⟩
abbrev S10x63x125 : Shape := ⟨3, ![10, 63, 125]⟩
abbrev S125x63 : Shape := ⟨2, ![125, 63]⟩
abbrev S10x63x63 : Shape := ⟨3, ![10, 63, 63]⟩
abbrev S10x61x61 : Shape := ⟨3, ![10, 61, 61]⟩
abbrev S90x61x61 : Shape := ⟨3, ![90, 61, 61]⟩
abbrev S16x61x61 : Shape := ⟨3, ![16, 61, 61]⟩
abbrev S16x59x59 : Shape := ⟨3, ![16, 59, 59]⟩
abbrev S144x59x59 : Shape := ⟨3, ![144, 59, 59]⟩
abbrev S32x59x59 : Shape := ⟨3, ![32, 59, 59]⟩
abbrev S2x59x59 : Shape := ⟨3, ![2, 59, 59]⟩
abbrev S59x59 : Shape := ⟨2, ![59, 59]⟩
abbrev S4x3481 : Shape := ⟨2, ![4, 3481]⟩
abbrev S4x4x3481 : Shape := ⟨3, ![4, 4, 3481]⟩
abbrev S90 : Shape := ⟨1, ![90]⟩
abbrev S1x90 : Shape := ⟨2, ![1, 90]⟩
abbrev S512x90 : Shape := ⟨2, ![512, 90]⟩
abbrev S1x1x512x1x90 : Shape := ⟨5, ![1, 1, 512, 1, 90]⟩
abbrev S4x3x512x512x90 : Shape := ⟨5, ![4, 3, 512, 512, 90]⟩
abbrev S4x3x512x90 : Shape := ⟨4, ![4, 3, 512, 90]⟩
abbrev S4x3x512x90x1 : Shape := ⟨5, ![4, 3, 512, 90, 1]⟩
abbrev S4x3x512x90x90 : Shape := ⟨5, ![4, 3, 512, 90, 90]⟩
abbrev S4x3x90x90 : Shape := ⟨4, ![4, 3, 90, 90]⟩
abbrev S4x40x40 : Shape := ⟨3, ![4, 40, 40]⟩
abbrev S4x4x40x40 : Shape := ⟨4, ![4, 4, 40, 40]⟩
abbrev S1x3x90x90 : Shape := ⟨4, ![1, 3, 90, 90]⟩
abbrev S1x40x40 : Shape := ⟨3, ![1, 40, 40]⟩
abbrev S1x4x40x40 : Shape := ⟨4, ![1, 4, 40, 40]⟩
abbrev S3x90x90 : Shape := ⟨3, ![3, 90, 90]⟩
abbrev S3x88x88 : Shape := ⟨3, ![3, 88, 88]⟩
abbrev S27x88x88 : Shape := ⟨3, ![27, 88, 88]⟩
abbrev S10x88x88 : Shape := ⟨3, ![10, 88, 88]⟩
abbrev S10x44x2x88 : Shape := ⟨4, ![10, 44, 2, 88]⟩
abbrev S10x44x1x88 : Shape := ⟨4, ![10, 44, 1, 88]⟩
abbrev S10x44x88 : Shape := ⟨3, ![10, 44, 88]⟩
abbrev S10x44x87 : Shape := ⟨3, ![10, 44, 87]⟩
abbrev S87x44 : Shape := ⟨2, ![87, 44]⟩
abbrev S10x44x44 : Shape := ⟨3, ![10, 44, 44]⟩
abbrev S10x42x42 : Shape := ⟨3, ![10, 42, 42]⟩
abbrev S90x42x42 : Shape := ⟨3, ![90, 42, 42]⟩
abbrev S16x42x42 : Shape := ⟨3, ![16, 42, 42]⟩
abbrev S16x40x40 : Shape := ⟨3, ![16, 40, 40]⟩
abbrev S144x40x40 : Shape := ⟨3, ![144, 40, 40]⟩
abbrev S32x40x40 : Shape := ⟨3, ![32, 40, 40]⟩
abbrev S2x40x40 : Shape := ⟨3, ![2, 40, 40]⟩
abbrev S40x40 : Shape := ⟨2, ![40, 40]⟩
abbrev S4x1600 : Shape := ⟨2, ![4, 1600]⟩
abbrev S4x4x1600 : Shape := ⟨3, ![4, 4, 1600]⟩
abbrev S64 : Shape := ⟨1, ![64]⟩
abbrev S1x64 : Shape := ⟨2, ![1, 64]⟩
abbrev S512x64 : Shape := ⟨2, ![512, 64]⟩
abbrev S1x1x512x1x64 : Shape := ⟨5, ![1, 1, 512, 1, 64]⟩
abbrev S4x3x512x512x64 : Shape := ⟨5, ![4, 3, 512, 512, 64]⟩
abbrev S4x3x512x64 : Shape := ⟨4, ![4, 3, 512, 64]⟩
abbrev S4x3x512x64x1 : Shape := ⟨5, ![4, 3, 512, 64, 1]⟩
abbrev S4x3x512x64x64 : Shape := ⟨5, ![4, 3, 512, 64, 64]⟩
abbrev S4x3x64x64 : Shape := ⟨4, ![4, 3, 64, 64]⟩
abbrev S4x27x27 : Shape := ⟨3, ![4, 27, 27]⟩
abbrev S4x4x27x27 : Shape := ⟨4, ![4, 4, 27, 27]⟩
abbrev S1x3x64x64 : Shape := ⟨4, ![1, 3, 64, 64]⟩
abbrev S1x27x27 : Shape := ⟨3, ![1, 27, 27]⟩
abbrev S1x4x27x27 : Shape := ⟨4, ![1, 4, 27, 27]⟩
abbrev S3x64x64 : Shape := ⟨3, ![3, 64, 64]⟩
abbrev S3x62x62 : Shape := ⟨3, ![3, 62, 62]⟩
abbrev S27x62x62 : Shape := ⟨3, ![27, 62, 62]⟩
abbrev S10x62x62 : Shape := ⟨3, ![10, 62, 62]⟩
abbrev S10x31x2x62 : Shape := ⟨4, ![10, 31, 2, 62]⟩
abbrev S10x31x1x62 : Shape := ⟨4, ![10, 31, 1, 62]⟩
abbrev S10x31x62 : Shape := ⟨3, ![10, 31, 62]⟩
abbrev S10x31x61 : Shape := ⟨3, ![10, 31, 61]⟩
abbrev S61x31 : Shape := ⟨2, ![61, 31]⟩
abbrev S10x31x31 : Shape := ⟨3, ![10, 31, 31]⟩
abbrev S10x29x29 : Shape := ⟨3, ![10, 29, 29]⟩
abbrev S90x29x29 : Shape := ⟨3, ![90, 29, 29]⟩
abbrev S16x29x29 : Shape := ⟨3, ![16, 29, 29]⟩
abbrev S16x27x27 : Shape := ⟨3, ![16, 27, 27]⟩
abbrev S144x27x27 : Shape := ⟨3, ![144, 27, 27]⟩
abbrev S32x27x27 : Shape := ⟨3, ![32, 27, 27]⟩
abbrev S2x27x27 : Shape := ⟨3, ![2, 27, 27]⟩
abbrev S27x27 : Shape := ⟨2, ![27, 27]⟩
abbrev S4x729 : Shape := ⟨2, ![4, 729]⟩
abbrev S4x4x729 : Shape := ⟨3, ![4, 4, 729]⟩
abbrev S4x5810 : Shape := ⟨2, ![4, 5810]⟩
abbrev S4x4x5810 : Shape := ⟨3, ![4, 4, 5810]⟩
abbrev S4x5888 : Shape := ⟨2, ![4, 5888]⟩
abbrev S4x46x128 : Shape := ⟨3, ![4, 46, 128]⟩
abbrev S4x4x5888 : Shape := ⟨3, ![4, 4, 5888]⟩
abbrev S4x4x46x128 : Shape := ⟨4, ![4, 4, 46, 128]⟩
abbrev S4x8x128 : Shape := ⟨3, ![4, 8, 128]⟩
abbrev S46x128 : Shape := ⟨2, ![46, 128]⟩
abbrev S1x46x128 : Shape := ⟨3, ![1, 46, 128]⟩
abbrev S1 : Shape := ⟨1, ![1]⟩
abbrev S1x1x1 : Shape := ⟨3, ![1, 1, 1]⟩
abbrev S1x1x46x128 : Shape := ⟨4, ![1, 1, 46, 128]⟩
abbrev S128x1 : Shape := ⟨2, ![128, 1]⟩
abbrev S128x128 : Shape := ⟨2, ![128, 128]⟩
abbrev S1x1x128 : Shape := ⟨3, ![1, 1, 128]⟩
abbrev S3x128 : Shape := ⟨2, ![3, 128]⟩
abbrev S8x128 : Shape := ⟨2, ![8, 128]⟩
abbrev S1x8x128 : Shape := ⟨3, ![1, 8, 128]⟩
abbrev S4x5x100 : Shape := ⟨3, ![4, 5, 100]⟩
abbrev S4x100x5 : Shape := ⟨3, ![4, 100, 5]⟩

abbrev nBuf : Space → Nat
  | .hbm => 307
  | .vmem => 60
  | .smem => 0
  | _ => 0

abbrev hbmTy0_0 (i : Nat) : BufTy := match i % 128 with
  | 0 => ⟨S4x3x512x512, .f32⟩
  | 1 => ⟨S10x3x3x3, .f32⟩
  | 2 => ⟨S10, .f32⟩
  | 3 => ⟨S10, .f32⟩
  | 4 => ⟨S16x10x3x3, .f32⟩
  | 5 => ⟨S16, .f32⟩
  | 6 => ⟨S16, .f32⟩
  | 7 => ⟨S32x16x3x3, .f32⟩
  | 8 => ⟨S32, .f32⟩
  | 9 => ⟨S32, .f32⟩
  | 10 => ⟨S2x32x1x1, .f32⟩
  | 11 => ⟨S2, .f32⟩
  | 12 => ⟨S4x32x1x1, .f32⟩
  | 13 => ⟨S4, .f32⟩
  | 14 => ⟨S_, .f32⟩
  | 15 => ⟨S4x3x512x512, .f32⟩
  | 16 => ⟨S4x3x512x512, .f32⟩
  | 17 => ⟨S_, .f32⟩
  | 18 => ⟨S4x3x512x512, .f32⟩
  | 19 => ⟨S4x3x512x512, .f32⟩
  | 20 => ⟨S10x3x3x3, .f32⟩
  | 21 => ⟨S10x27, .f32⟩
  | 22 => ⟨S16x3x3x10, .f32⟩
  | 23 => ⟨S16x90, .f32⟩
  | 24 => ⟨S32x3x3x16, .f32⟩
  | 25 => ⟨S32x144, .f32⟩
  | 26 => ⟨S2x32, .f32⟩
  | 27 => ⟨S4x32, .f32⟩
  | 28 => ⟨S10x1x1, .f32⟩
  | 29 => ⟨S10x1x1, .f32⟩
  | 30 => ⟨S16x1x1, .f32⟩
  | 31 => ⟨S16x1x1, .f32⟩
  | 32 => ⟨S32x1x1, .f32⟩
  | 33 => ⟨S32x1x1, .f32⟩
  | 34 => ⟨S2x1x1, .f32⟩
  | 35 => ⟨S4x1x1, .f32⟩
  | 36 => ⟨S_, .f32⟩
  | 37 => ⟨S_, .f32⟩
  | 38 => ⟨S_, .f32⟩
  | 39 => ⟨S_, .f32⟩
  | 40 => ⟨S_, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S_, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S512, .f32⟩
  | 55 => ⟨S1x128, .f32⟩
  | 56 => ⟨S512x1, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S_, .f32⟩
  | 65 => ⟨S512x128, .f32⟩
  | 66 => ⟨S512x128, .f32⟩
  | 67 => ⟨S_, .f32⟩
  | 68 => ⟨S512x128, .f32⟩
  | 69 => ⟨S512x128, .f32⟩
  | 70 => ⟨S_, .f32⟩
  | 71 => ⟨S128, .f32⟩
  | 72 => ⟨S1x128, .f32⟩
  | 73 => ⟨S1x128, .f32⟩
  | 74 => ⟨S_, .f32⟩
  | 75 => ⟨S1x128, .f32⟩
  | 76 => ⟨S1x128, .i1⟩
  | 77 => ⟨S_, .f32⟩
  | 78 => ⟨S1x128, .f32⟩
  | 79 => ⟨S1x128, .i1⟩
  | 80 => ⟨S_, .i32⟩
  | 81 => ⟨S_, .f32⟩
  | 82 => ⟨S1x128, .f32⟩
  | 83 => ⟨S1x128, .f32⟩
  | 84 => ⟨S512x128, .f32⟩
  | 85 => ⟨S512x128, .f32⟩
  | 86 => ⟨S_, .i32⟩
  | 87 => ⟨S_, .f32⟩
  | 88 => ⟨S512x128, .i1⟩
  | 89 => ⟨S512x128, .f32⟩
  | 90 => ⟨S512x128, .f32⟩
  | 91 => ⟨S_, .f32⟩
  | 92 => ⟨S128, .f32⟩
  | 93 => ⟨S128, .i1⟩
  | 94 => ⟨S_, .f32⟩
  | 95 => ⟨S128, .f32⟩
  | 96 => ⟨S128, .i1⟩
  | 97 => ⟨S128, .i1⟩
  | 98 => ⟨S1x128, .i1⟩
  | 99 => ⟨S_, .i32⟩
  | 100 => ⟨S_, .f32⟩
  | 101 => ⟨S512x128, .i1⟩
  | 102 => ⟨S512x128, .f32⟩
  | 103 => ⟨S512x128, .f32⟩
  | 104 => ⟨S4x3x512x512x1, .f32⟩
  | 105 => ⟨S1x1x512x1x128, .f32⟩
  | 106 => ⟨S4x3x512x512x128, .f32⟩
  | 107 => ⟨S4x3x512x512x128, .f32⟩
  | 108 => ⟨S4x3x512x512x128, .f32⟩
  | 109 => ⟨S_, .f32⟩
  | 110 => ⟨S4x3x512x128, .f32⟩
  | 111 => ⟨S4x3x512x128x1, .f32⟩
  | 112 => ⟨S1x1x512x1x128, .f32⟩
  | 113 => ⟨S4x3x512x128x128, .f32⟩
  | 114 => ⟨S4x3x512x128x128, .f32⟩
  | 115 => ⟨S4x3x512x128x128, .f32⟩
  | 116 => ⟨S_, .f32⟩
  | 117 => ⟨S4x3x128x128, .f32⟩
  | 118 => ⟨S4x59x59, .f32⟩
  | 119 => ⟨S4x4x59x59, .f32⟩
  | 120 => ⟨S4x3481, .f32⟩
  | 121 => ⟨S4x4x3481, .f32⟩
  | 122 => ⟨S_, .f32⟩
  | 123 => ⟨S_, .f32⟩
  | 124 => ⟨S_, .f32⟩
  | 125 => ⟨S_, .f32⟩
  | 126 => ⟨S_, .f32⟩
  | 127 => ⟨S90, .f32⟩
  | _ => ⟨S4x3x512x512, .f32⟩

abbrev hbmTy0_1 (i : Nat) : BufTy := match i % 128 with
  | 0 => ⟨S_, .f32⟩
  | 1 => ⟨S90, .f32⟩
  | 2 => ⟨S90, .f32⟩
  | 3 => ⟨S90, .f32⟩
  | 4 => ⟨S90, .f32⟩
  | 5 => ⟨S_, .f32⟩
  | 6 => ⟨S_, .f32⟩
  | 7 => ⟨S90, .f32⟩
  | 8 => ⟨S90, .f32⟩
  | 9 => ⟨S_, .f32⟩
  | 10 => ⟨S90, .f32⟩
  | 11 => ⟨S90, .f32⟩
  | 12 => ⟨S512, .f32⟩
  | 13 => ⟨S1x90, .f32⟩
  | 14 => ⟨S512x1, .f32⟩
  | 15 => ⟨S512x90, .f32⟩
  | 16 => ⟨S512x90, .f32⟩
  | 17 => ⟨S512x90, .f32⟩
  | 18 => ⟨S512x90, .f32⟩
  | 19 => ⟨S512x90, .f32⟩
  | 20 => ⟨S512x90, .f32⟩
  | 21 => ⟨S512x90, .f32⟩
  | 22 => ⟨S_, .f32⟩
  | 23 => ⟨S512x90, .f32⟩
  | 24 => ⟨S512x90, .f32⟩
  | 25 => ⟨S_, .f32⟩
  | 26 => ⟨S512x90, .f32⟩
  | 27 => ⟨S512x90, .f32⟩
  | 28 => ⟨S_, .f32⟩
  | 29 => ⟨S90, .f32⟩
  | 30 => ⟨S1x90, .f32⟩
  | 31 => ⟨S1x90, .f32⟩
  | 32 => ⟨S_, .f32⟩
  | 33 => ⟨S1x90, .f32⟩
  | 34 => ⟨S1x90, .i1⟩
  | 35 => ⟨S_, .f32⟩
  | 36 => ⟨S1x90, .f32⟩
  | 37 => ⟨S1x90, .i1⟩
  | 38 => ⟨S_, .i32⟩
  | 39 => ⟨S_, .f32⟩
  | 40 => ⟨S1x90, .f32⟩
  | 41 => ⟨S1x90, .f32⟩
  | 42 => ⟨S512x90, .f32⟩
  | 43 => ⟨S512x90, .f32⟩
  | 44 => ⟨S_, .i32⟩
  | 45 => ⟨S_, .f32⟩
  | 46 => ⟨S512x90, .i1⟩
  | 47 => ⟨S512x90, .f32⟩
  | 48 => ⟨S512x90, .f32⟩
  | 49 => ⟨S_, .f32⟩
  | 50 => ⟨S90, .f32⟩
  | 51 => ⟨S90, .i1⟩
  | 52 => ⟨S_, .f32⟩
  | 53 => ⟨S90, .f32⟩
  | 54 => ⟨S90, .i1⟩
  | 55 => ⟨S90, .i1⟩
  | 56 => ⟨S1x90, .i1⟩
  | 57 => ⟨S_, .i32⟩
  | 58 => ⟨S_, .f32⟩
  | 59 => ⟨S512x90, .i1⟩
  | 60 => ⟨S512x90, .f32⟩
  | 61 => ⟨S512x90, .f32⟩
  | 62 => ⟨S4x3x512x512x1, .f32⟩
  | 63 => ⟨S1x1x512x1x90, .f32⟩
  | 64 => ⟨S4x3x512x512x90, .f32⟩
  | 65 => ⟨S4x3x512x512x90, .f32⟩
  | 66 => ⟨S4x3x512x512x90, .f32⟩
  | 67 => ⟨S_, .f32⟩
  | 68 => ⟨S4x3x512x90, .f32⟩
  | 69 => ⟨S4x3x512x90x1, .f32⟩
  | 70 => ⟨S1x1x512x1x90, .f32⟩
  | 71 => ⟨S4x3x512x90x90, .f32⟩
  | 72 => ⟨S4x3x512x90x90, .f32⟩
  | 73 => ⟨S4x3x512x90x90, .f32⟩
  | 74 => ⟨S_, .f32⟩
  | 75 => ⟨S4x3x90x90, .f32⟩
  | 76 => ⟨S4x40x40, .f32⟩
  | 77 => ⟨S4x4x40x40, .f32⟩
  | 78 => ⟨S4x1600, .f32⟩
  | 79 => ⟨S4x4x1600, .f32⟩
  | 80 => ⟨S_, .f32⟩
  | 81 => ⟨S_, .f32⟩
  | 82 => ⟨S_, .f32⟩
  | 83 => ⟨S_, .f32⟩
  | 84 => ⟨S_, .f32⟩
  | 85 => ⟨S64, .f32⟩
  | 86 => ⟨S_, .f32⟩
  | 87 => ⟨S64, .f32⟩
  | 88 => ⟨S64, .f32⟩
  | 89 => ⟨S64, .f32⟩
  | 90 => ⟨S64, .f32⟩
  | 91 => ⟨S_, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S512, .f32⟩
  | 99 => ⟨S1x64, .f32⟩
  | 100 => ⟨S512x1, .f32⟩
  | 101 => ⟨S512x64, .f32⟩
  | 102 => ⟨S512x64, .f32⟩
  | 103 => ⟨S512x64, .f32⟩
  | 104 => ⟨S512x64, .f32⟩
  | 105 => ⟨S512x64, .f32⟩
  | 106 => ⟨S512x64, .f32⟩
  | 107 => ⟨S512x64, .f32⟩
  | 108 => ⟨S_, .f32⟩
  | 109 => ⟨S512x64, .f32⟩
  | 110 => ⟨S512x64, .f32⟩
  | 111 => ⟨S_, .f32⟩
  | 112 => ⟨S512x64, .f32⟩
  | 113 => ⟨S512x64, .f32⟩
  | 114 => ⟨S_, .f32⟩
  | 115 => ⟨S64, .f32⟩
  | 116 => ⟨S1x64, .f32⟩
  | 117 => ⟨S1x64, .f32⟩
  | 118 => ⟨S_, .f32⟩
  | 119 => ⟨S1x64, .f32⟩
  | 120 => ⟨S1x64, .i1⟩
  | 121 => ⟨S_, .f32⟩
  | 122 => ⟨S1x64, .f32⟩
  | 123 => ⟨S1x64, .i1⟩
  | 124 => ⟨S_, .i32⟩
  | 125 => ⟨S_, .f32⟩
  | 126 => ⟨S1x64, .f32⟩
  | 127 => ⟨S1x64, .f32⟩
  | _ => ⟨S4x3x512x512, .f32⟩

abbrev hbmTy0_2 (i : Nat) : BufTy := match i % 128 with
  | 0 => ⟨S512x64, .f32⟩
  | 1 => ⟨S512x64, .f32⟩
  | 2 => ⟨S_, .i32⟩
  | 3 => ⟨S_, .f32⟩
  | 4 => ⟨S512x64, .i1⟩
  | 5 => ⟨S512x64, .f32⟩
  | 6 => ⟨S512x64, .f32⟩
  | 7 => ⟨S_, .f32⟩
  | 8 => ⟨S64, .f32⟩
  | 9 => ⟨S64, .i1⟩
  | 10 => ⟨S_, .f32⟩
  | 11 => ⟨S64, .f32⟩
  | 12 => ⟨S64, .i1⟩
  | 13 => ⟨S64, .i1⟩
  | 14 => ⟨S1x64, .i1⟩
  | 15 => ⟨S_, .i32⟩
  | 16 => ⟨S_, .f32⟩
  | 17 => ⟨S512x64, .i1⟩
  | 18 => ⟨S512x64, .f32⟩
  | 19 => ⟨S512x64, .f32⟩
  | 20 => ⟨S4x3x512x512x1, .f32⟩
  | 21 => ⟨S1x1x512x1x64, .f32⟩
  | 22 => ⟨S4x3x512x512x64, .f32⟩
  | 23 => ⟨S4x3x512x512x64, .f32⟩
  | 24 => ⟨S4x3x512x512x64, .f32⟩
  | 25 => ⟨S_, .f32⟩
  | 26 => ⟨S4x3x512x64, .f32⟩
  | 27 => ⟨S4x3x512x64x1, .f32⟩
  | 28 => ⟨S1x1x512x1x64, .f32⟩
  | 29 => ⟨S4x3x512x64x64, .f32⟩
  | 30 => ⟨S4x3x512x64x64, .f32⟩
  | 31 => ⟨S4x3x512x64x64, .f32⟩
  | 32 => ⟨S_, .f32⟩
  | 33 => ⟨S4x3x64x64, .f32⟩
  | 34 => ⟨S4x27x27, .f32⟩
  | 35 => ⟨S4x4x27x27, .f32⟩
  | 36 => ⟨S4x729, .f32⟩
  | 37 => ⟨S4x4x729, .f32⟩
  | 38 => ⟨S4x5810, .f32⟩
  | 39 => ⟨S4x4x5810, .f32⟩
  | 40 => ⟨S_, .i32⟩
  | 41 => ⟨S_, .f32⟩
  | 42 => ⟨S4x5888, .f32⟩
  | 43 => ⟨S4x46x128, .f32⟩
  | 44 => ⟨S_, .i32⟩
  | 45 => ⟨S_, .f32⟩
  | 46 => ⟨S4x4x5888, .f32⟩
  | 47 => ⟨S4x4x46x128, .f32⟩
  | 48 => ⟨S4x8x128, .f32⟩
  | 49 => ⟨S4x5x100, .f32⟩
  | 50 => ⟨S4x100x5, .f32⟩
  | _ => ⟨S4x3x512x512, .f32⟩

abbrev hbmTy (i : Nat) : BufTy := match i / 128 with
  | 0 => hbmTy0_0 i
  | 1 => hbmTy0_1 i
  | 2 => hbmTy0_2 i
  | _ => ⟨S4x3x512x512, .f32⟩

abbrev bufTy : (tb : Table) → Fin (tcTables nBuf tb) → BufTy
  | .hbm, ⟨i, _⟩ => hbmTy i
  | .local _ .vmem, ⟨0, _⟩ => ⟨S1x3x128x128, .f32⟩
  | .local _ .vmem, ⟨1, _⟩ => ⟨S1x3x128x128, .f32⟩
  | .local _ .vmem, ⟨2, _⟩ => ⟨S10x27, .f32⟩
  | .local _ .vmem, ⟨3, _⟩ => ⟨S10x1x1, .f32⟩
  | .local _ .vmem, ⟨4, _⟩ => ⟨S10x1x1, .f32⟩
  | .local _ .vmem, ⟨5, _⟩ => ⟨S16x90, .f32⟩
  | .local _ .vmem, ⟨6, _⟩ => ⟨S16x1x1, .f32⟩
  | .local _ .vmem, ⟨7, _⟩ => ⟨S16x1x1, .f32⟩
  | .local _ .vmem, ⟨8, _⟩ => ⟨S32x144, .f32⟩
  | .local _ .vmem, ⟨9, _⟩ => ⟨S32x1x1, .f32⟩
  | .local _ .vmem, ⟨10, _⟩ => ⟨S32x1x1, .f32⟩
  | .local _ .vmem, ⟨11, _⟩ => ⟨S2x32, .f32⟩
  | .local _ .vmem, ⟨12, _⟩ => ⟨S2x1x1, .f32⟩
  | .local _ .vmem, ⟨13, _⟩ => ⟨S4x32, .f32⟩
  | .local _ .vmem, ⟨14, _⟩ => ⟨S4x1x1, .f32⟩
  | .local _ .vmem, ⟨15, _⟩ => ⟨S1x59x59, .f32⟩
  | .local _ .vmem, ⟨16, _⟩ => ⟨S1x59x59, .f32⟩
  | .local _ .vmem, ⟨17, _⟩ => ⟨S1x4x59x59, .f32⟩
  | .local _ .vmem, ⟨18, _⟩ => ⟨S1x4x59x59, .f32⟩
  | .local _ .vmem, ⟨19, _⟩ => ⟨S1x3x90x90, .f32⟩
  | .local _ .vmem, ⟨20, _⟩ => ⟨S1x3x90x90, .f32⟩
  | .local _ .vmem, ⟨21, _⟩ => ⟨S10x27, .f32⟩
  | .local _ .vmem, ⟨22, _⟩ => ⟨S10x1x1, .f32⟩
  | .local _ .vmem, ⟨23, _⟩ => ⟨S10x1x1, .f32⟩
  | .local _ .vmem, ⟨24, _⟩ => ⟨S16x90, .f32⟩
  | .local _ .vmem, ⟨25, _⟩ => ⟨S16x1x1, .f32⟩
  | .local _ .vmem, ⟨26, _⟩ => ⟨S16x1x1, .f32⟩
  | .local _ .vmem, ⟨27, _⟩ => ⟨S32x144, .f32⟩
  | .local _ .vmem, ⟨28, _⟩ => ⟨S32x1x1, .f32⟩
  | .local _ .vmem, ⟨29, _⟩ => ⟨S32x1x1, .f32⟩
  | .local _ .vmem, ⟨30, _⟩ => ⟨S2x32, .f32⟩
  | .local _ .vmem, ⟨31, _⟩ => ⟨S2x1x1, .f32⟩
  | .local _ .vmem, ⟨32, _⟩ => ⟨S4x32, .f32⟩
  | .local _ .vmem, ⟨33, _⟩ => ⟨S4x1x1, .f32⟩
  | .local _ .vmem, ⟨34, _⟩ => ⟨S1x40x40, .f32⟩
  | .local _ .vmem, ⟨35, _⟩ => ⟨S1x40x40, .f32⟩
  | .local _ .vmem, ⟨36, _⟩ => ⟨S1x4x40x40, .f32⟩
  | .local _ .vmem, ⟨37, _⟩ => ⟨S1x4x40x40, .f32⟩
  | .local _ .vmem, ⟨38, _⟩ => ⟨S1x3x64x64, .f32⟩
  | .local _ .vmem, ⟨39, _⟩ => ⟨S1x3x64x64, .f32⟩
  | .local _ .vmem, ⟨40, _⟩ => ⟨S10x27, .f32⟩
  | .local _ .vmem, ⟨41, _⟩ => ⟨S10x1x1, .f32⟩
  | .local _ .vmem, ⟨42, _⟩ => ⟨S10x1x1, .f32⟩
  | .local _ .vmem, ⟨43, _⟩ => ⟨S16x90, .f32⟩
  | .local _ .vmem, ⟨44, _⟩ => ⟨S16x1x1, .f32⟩
  | .local _ .vmem, ⟨45, _⟩ => ⟨S16x1x1, .f32⟩
  | .local _ .vmem, ⟨46, _⟩ => ⟨S32x144, .f32⟩
  | .local _ .vmem, ⟨47, _⟩ => ⟨S32x1x1, .f32⟩
  | .local _ .vmem, ⟨48, _⟩ => ⟨S32x1x1, .f32⟩
  | .local _ .vmem, ⟨49, _⟩ => ⟨S2x32, .f32⟩
  | .local _ .vmem, ⟨50, _⟩ => ⟨S2x1x1, .f32⟩
  | .local _ .vmem, ⟨51, _⟩ => ⟨S4x32, .f32⟩
  | .local _ .vmem, ⟨52, _⟩ => ⟨S4x1x1, .f32⟩
  | .local _ .vmem, ⟨53, _⟩ => ⟨S1x27x27, .f32⟩
  | .local _ .vmem, ⟨54, _⟩ => ⟨S1x27x27, .f32⟩
  | .local _ .vmem, ⟨55, _⟩ => ⟨S1x4x27x27, .f32⟩
  | .local _ .vmem, ⟨56, _⟩ => ⟨S1x4x27x27, .f32⟩
  | .local _ .vmem, ⟨57, _⟩ => ⟨S4x46x128, .f32⟩
  | .local _ .vmem, ⟨58, _⟩ => ⟨S4x4x46x128, .f32⟩
  | .local _ .vmem, ⟨59, _⟩ => ⟨S4x8x128, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_c : Ref sig .tc := ⟨.hbm, 80, rfl⟩
abbrev main_call0_v0 : Ref sig .tc := ⟨.hbm, 81, rfl⟩
abbrev main_call0_v1 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76_0 : Ref sig .tc := ⟨.hbm, 118, rfl⟩
abbrev main_v76_1 : Ref sig .tc := ⟨.hbm, 119, rfl⟩
abbrev main_v77 : Ref sig .tc := ⟨.hbm, 120, rfl⟩
abbrev main_v78 : Ref sig .tc := ⟨.hbm, 121, rfl⟩
abbrev main_cst_18 : Ref sig .tc := ⟨.hbm, 122, rfl⟩
abbrev main_cst_19 : Ref sig .tc := ⟨.hbm, 123, rfl⟩
abbrev main_v79 : Ref sig .tc := ⟨.hbm, 124, rfl⟩
abbrev main_cst_20 : Ref sig .tc := ⟨.hbm, 125, rfl⟩
abbrev main_v80 : Ref sig .tc := ⟨.hbm, 126, rfl⟩
abbrev main_v81 : Ref sig .tc := ⟨.hbm, 127, rfl⟩
abbrev main_cst_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_22 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_23 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_24 : Ref sig .tc := ⟨.hbm, 150, rfl⟩
abbrev main_v101 : Ref sig .tc := ⟨.hbm, 151, rfl⟩
abbrev main_v102 : Ref sig .tc := ⟨.hbm, 152, rfl⟩
abbrev main_cst_25 : Ref sig .tc := ⟨.hbm, 153, rfl⟩
abbrev main_v103 : Ref sig .tc := ⟨.hbm, 154, rfl⟩
abbrev main_v104 : Ref sig .tc := ⟨.hbm, 155, rfl⟩
abbrev main_cst_26 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_27 : Ref sig .tc := ⟨.hbm, 160, rfl⟩
abbrev main_v108 : Ref sig .tc := ⟨.hbm, 161, rfl⟩
abbrev main_v109 : Ref sig .tc := ⟨.hbm, 162, rfl⟩
abbrev main_cst_28 : Ref sig .tc := ⟨.hbm, 163, rfl⟩
abbrev main_v110 : Ref sig .tc := ⟨.hbm, 164, rfl⟩
abbrev main_v111 : Ref sig .tc := ⟨.hbm, 165, rfl⟩
abbrev main_c_29 : Ref sig .tc := ⟨.hbm, 166, rfl⟩
abbrev main_call3_v0 : Ref sig .tc := ⟨.hbm, 167, rfl⟩
abbrev main_call3_v1 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_30 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_v115 : Ref sig .tc := ⟨.hbm, 176, rfl⟩
abbrev main_cst_31 : Ref sig .tc := ⟨.hbm, 177, rfl⟩
abbrev main_v116 : Ref sig .tc := ⟨.hbm, 178, rfl⟩
abbrev main_v117 : Ref sig .tc := ⟨.hbm, 179, rfl⟩
abbrev main_cst_32 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_c_33 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_34 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_35 : Ref sig .tc := ⟨.hbm, 202, rfl⟩
abbrev main_v134 : Ref sig .tc := ⟨.hbm, 203, rfl⟩
abbrev main_v135_0 : Ref sig .tc := ⟨.hbm, 204, rfl⟩
abbrev main_v135_1 : Ref sig .tc := ⟨.hbm, 205, rfl⟩
abbrev main_v136 : Ref sig .tc := ⟨.hbm, 206, rfl⟩
abbrev main_v137 : Ref sig .tc := ⟨.hbm, 207, rfl⟩
abbrev main_cst_36 : Ref sig .tc := ⟨.hbm, 208, rfl⟩
abbrev main_cst_37 : Ref sig .tc := ⟨.hbm, 209, rfl⟩
abbrev main_v138 : Ref sig .tc := ⟨.hbm, 210, rfl⟩
abbrev main_cst_38 : Ref sig .tc := ⟨.hbm, 211, rfl⟩
abbrev main_v139 : Ref sig .tc := ⟨.hbm, 212, rfl⟩
abbrev main_v140 : Ref sig .tc := ⟨.hbm, 213, rfl⟩
abbrev main_cst_39 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_40 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_cst_41 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_42 : Ref sig .tc := ⟨.hbm, 236, rfl⟩
abbrev main_v160 : Ref sig .tc := ⟨.hbm, 237, rfl⟩
abbrev main_v161 : Ref sig .tc := ⟨.hbm, 238, rfl⟩
abbrev main_cst_43 : Ref sig .tc := ⟨.hbm, 239, rfl⟩
abbrev main_v162 : Ref sig .tc := ⟨.hbm, 240, rfl⟩
abbrev main_v163 : Ref sig .tc := ⟨.hbm, 241, rfl⟩
abbrev main_cst_44 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_45 : Ref sig .tc := ⟨.hbm, 246, rfl⟩
abbrev main_v167 : Ref sig .tc := ⟨.hbm, 247, rfl⟩
abbrev main_v168 : Ref sig .tc := ⟨.hbm, 248, rfl⟩
abbrev main_cst_46 : Ref sig .tc := ⟨.hbm, 249, rfl⟩
abbrev main_v169 : Ref sig .tc := ⟨.hbm, 250, rfl⟩
abbrev main_v170 : Ref sig .tc := ⟨.hbm, 251, rfl⟩
abbrev main_c_47 : Ref sig .tc := ⟨.hbm, 252, rfl⟩
abbrev main_call6_v0 : Ref sig .tc := ⟨.hbm, 253, rfl⟩
abbrev main_call6_v1 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_c_48 : Ref sig .tc := ⟨.hbm, 258, rfl⟩
abbrev main_call7_v0 : Ref sig .tc := ⟨.hbm, 259, rfl⟩
abbrev main_call7_v1 : Ref sig .tc := ⟨.hbm, 260, rfl⟩
abbrev main_call7_v2 : Ref sig .tc := ⟨.hbm, 261, rfl⟩
abbrev main_v174 : Ref sig .tc := ⟨.hbm, 262, rfl⟩
abbrev main_cst_49 : Ref sig .tc := ⟨.hbm, 263, rfl⟩
abbrev main_v175 : Ref sig .tc := ⟨.hbm, 264, rfl⟩
abbrev main_v176 : Ref sig .tc := ⟨.hbm, 265, rfl⟩
abbrev main_cst_50 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_c_51 : Ref sig .tc := ⟨.hbm, 271, rfl⟩
abbrev main_call8_v0 : Ref sig .tc := ⟨.hbm, 272, rfl⟩
abbrev main_call8_v1 : Ref sig .tc := ⟨.hbm, 273, rfl⟩
abbrev main_call8_v2 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_cst_52 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_cst_53 : Ref sig .tc := ⟨.hbm, 288, rfl⟩
abbrev main_v193 : Ref sig .tc := ⟨.hbm, 289, rfl⟩
abbrev main_v194_0 : Ref sig .tc := ⟨.hbm, 290, rfl⟩
abbrev main_v194_1 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_c_54 : Ref sig .tc := ⟨.hbm, 296, rfl⟩
abbrev main_call9_v0 : Ref sig .tc := ⟨.hbm, 297, rfl⟩
abbrev main_v199 : Ref sig .tc := ⟨.hbm, 298, rfl⟩
abbrev main_v200 : Ref sig .tc := ⟨.hbm, 299, rfl⟩
abbrev main_c_55 : Ref sig .tc := ⟨.hbm, 300, rfl⟩
abbrev main_call10_v0 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc1_stg15_0 : Ref sig .tc := ⟨.vmem, 36, rfl⟩
abbrev cc1_stg15_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg2_0 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg12_0 : Ref sig .tc := ⟨.vmem, 51, rfl⟩
abbrev cc2_stg13_0 : Ref sig .tc := ⟨.vmem, 52, rfl⟩
abbrev cc2_stg14_0 : Ref sig .tc := ⟨.vmem, 53, rfl⟩
abbrev cc2_stg14_1 : Ref sig .tc := ⟨.vmem, 54, rfl⟩
abbrev cc2_stg15_0 : Ref sig .tc := ⟨.vmem, 55, rfl⟩
abbrev cc2_stg15_1 : Ref sig .tc := ⟨.vmem, 56, rfl⟩
abbrev cc3_stg0_0 : Ref sig .tc := ⟨.vmem, 57, rfl⟩
abbrev cc3_stg1_0 : Ref sig .tc := ⟨.vmem, 58, rfl⟩
abbrev cc3_stg2_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc1_sem15_0 : DmaSem sig := 36
abbrev cc1_sem15_1 : DmaSem sig := 37
abbrev cc2_sem0_0 : DmaSem sig := 38
abbrev cc2_sem0_1 : DmaSem sig := 39
abbrev cc2_sem1_0 : DmaSem sig := 40
abbrev cc2_sem2_0 : DmaSem sig := 41
abbrev cc2_sem3_0 : DmaSem sig := 42
abbrev cc2_sem4_0 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem14_1 : DmaSem sig := 54
abbrev cc2_sem15_0 : DmaSem sig := 55
abbrev cc2_sem15_1 : DmaSem sig := 56
abbrev cc3_sem0_0 : DmaSem sig := 57
abbrev cc3_sem1_0 : DmaSem sig := 58
abbrev cc3_sem2_0 : DmaSem sig := 59

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x90 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x59x59 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x59x59 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x3x90x90 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x27 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x90 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x144 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2x1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4x1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S1x40x40 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x4x40x40 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_15 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x3x64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x27 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10x1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x90 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x144 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S2x1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S4x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S4x1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S1x27x27 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x4x27x27 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := .none

@[reducible] def k3_t1_loop : Scf.Loop 32 :=
  let c0_i32 : BitVec 32 := 0#32
  let c100_i32 : BitVec 32 := 100#32
  let v32 : BitVec 32 := Scalar.addi c0_i32 c100_i32
  let c1_i32 : BitVec 32 := 1#32
  ⟨c0_i32, v32, c1_i32⟩
@[reducible] def k3_t2_loop : Scf.Loop 32 :=
  let c0_i32_32 : BitVec 32 := 0#32
  let c100_i32_33 : BitVec 32 := 100#32
  let v195 : BitVec 32 := Scalar.addi c0_i32_32 c100_i32_33
  let c1_i32_34 : BitVec 32 := 1#32
  ⟨c0_i32_32, v195, c1_i32_34⟩
abbrev stage3_0 : Fin 1 → Memref sig .tc .vmem S4x46x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4x4x46x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4x8x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== KernelIdeal.lean ====
variable {F : FTy → Type} [FloatOps F] [Named F]
def κ : String → Option EReal := fun
  | "inv_01255" => some ((33554432 / 4211081 : ℝ) : EReal)
  | "inv_0177" => some ((67108864 / 11878269 : ℝ) : EReal)
  | _ => none
-- ==== ReferenceIdeal.lean ====
abbrev S4x3x512x512 : Shape := ⟨4, ![4, 3, 512, 512]⟩
abbrev S10x3x3x3 : Shape := ⟨4, ![10, 3, 3, 3]⟩
abbrev S10 : Shape := ⟨1, ![10]⟩
abbrev S16x10x3x3 : Shape := ⟨4, ![16, 10, 3, 3]⟩
abbrev S16 : Shape := ⟨1, ![16]⟩
abbrev S32x16x3x3 : Shape := ⟨4, ![32, 16, 3, 3]⟩
abbrev S32 : Shape := ⟨1, ![32]⟩
abbrev S2x32x1x1 : Shape := ⟨4, ![2, 32, 1, 1]⟩
abbrev S2 : Shape := ⟨1, ![2]⟩
abbrev S4x32x1x1 : Shape := ⟨4, ![4, 32, 1, 1]⟩
abbrev S4 : Shape := ⟨1, ![4]⟩
abbrev S_ : Shape := ⟨0, ![]⟩
abbrev S128 : Shape := ⟨1, ![128]⟩
abbrev S512 : Shape := ⟨1, ![512]⟩
abbrev S1x128 : Shape := ⟨2, ![1, 128]⟩
abbrev S512x1 : Shape := ⟨2, ![512, 1]⟩
abbrev S512x128 : Shape := ⟨2, ![512, 128]⟩
abbrev S128x4x3x512 : Shape := ⟨4, ![128, 4, 3, 512]⟩
abbrev S4x3x128x512 : Shape := ⟨4, ![4, 3, 128, 512]⟩
abbrev S4x3x128x128 : Shape := ⟨4, ![4, 3, 128, 128]⟩
abbrev S10x3x1x1 : Shape := ⟨4, ![10, 3, 1, 1]⟩
abbrev S10x3 : Shape := ⟨2, ![10, 3]⟩
abbrev S4x3x126x126 : Shape := ⟨4, ![4, 3, 126, 126]⟩
abbrev S4x126x126x10 : Shape := ⟨4, ![4, 126, 126, 10]⟩
abbrev S4x10x126x126 : Shape := ⟨4, ![4, 10, 126, 126]⟩
abbrev S1x10x1x1 : Shape := ⟨4, ![1, 10, 1, 1]⟩
abbrev S4x10x63x63 : Shape := ⟨4, ![4, 10, 63, 63]⟩
abbrev S16x10x1x1 : Shape := ⟨4, ![16, 10, 1, 1]⟩
abbrev S16x10 : Shape := ⟨2, ![16, 10]⟩
abbrev S4x10x61x61 : Shape := ⟨4, ![4, 10, 61, 61]⟩
abbrev S4x61x61x16 : Shape := ⟨4, ![4, 61, 61, 16]⟩
abbrev S4x16x61x61 : Shape := ⟨4, ![4, 16, 61, 61]⟩
abbrev S1x16x1x1 : Shape := ⟨4, ![1, 16, 1, 1]⟩
abbrev S32x16x1x1 : Shape := ⟨4, ![32, 16, 1, 1]⟩
abbrev S32x16 : Shape := ⟨2, ![32, 16]⟩
abbrev S4x16x59x59 : Shape := ⟨4, ![4, 16, 59, 59]⟩
abbrev S4x59x59x32 : Shape := ⟨4, ![4, 59, 59, 32]⟩
abbrev S4x32x59x59 : Shape := ⟨4, ![4, 32, 59, 59]⟩
abbrev S1x32x1x1 : Shape := ⟨4, ![1, 32, 1, 1]⟩
abbrev S2x32 : Shape := ⟨2, ![2, 32]⟩
abbrev S4x59x59x2 : Shape := ⟨4, ![4, 59, 59, 2]⟩
abbrev S4x2x59x59 : Shape := ⟨4, ![4, 2, 59, 59]⟩
abbrev S1x2x1x1 : Shape := ⟨4, ![1, 2, 1, 1]⟩
abbrev S4x59x59 : Shape := ⟨3, ![4, 59, 59]⟩
abbrev S4x1x59x59 : Shape := ⟨4, ![4, 1, 59, 59]⟩
abbrev S4x32 : Shape := ⟨2, ![4, 32]⟩
abbrev S4x59x59x4 : Shape := ⟨4, ![4, 59, 59, 4]⟩
abbrev S4x4x59x59 : Shape := ⟨4, ![4, 4, 59, 59]⟩
abbrev S1x4x1x1 : Shape := ⟨4, ![1, 4, 1, 1]⟩
abbrev S59 : Shape := ⟨1, ![59]⟩
abbrev S59x59 : Shape := ⟨2, ![59, 59]⟩
abbrev S1x59x59 : Shape := ⟨3, ![1, 59, 59]⟩
abbrev S4x59x59x1 : Shape := ⟨4, ![4, 59, 59, 1]⟩
abbrev S4x3481x4 : Shape := ⟨3, ![4, 3481, 4]⟩
abbrev S4x3481 : Shape := ⟨2, ![4, 3481]⟩
abbrev S90 : Shape := ⟨1, ![90]⟩
abbrev S1x90 : Shape := ⟨2, ![1, 90]⟩
abbrev S512x90 : Shape := ⟨2, ![512, 90]⟩
abbrev S90x4x3x512 : Shape := ⟨4, ![90, 4, 3, 512]⟩
abbrev S4x3x90x512 : Shape := ⟨4, ![4, 3, 90, 512]⟩
abbrev S4x3x90x90 : Shape := ⟨4, ![4, 3, 90, 90]⟩
abbrev S4x3x88x88 : Shape := ⟨4, ![4, 3, 88, 88]⟩
abbrev S4x88x88x10 : Shape := ⟨4, ![4, 88, 88, 10]⟩
abbrev S4x10x88x88 : Shape := ⟨4, ![4, 10, 88, 88]⟩
abbrev S4x10x44x44 : Shape := ⟨4, ![4, 10, 44, 44]⟩
abbrev S4x10x42x42 : Shape := ⟨4, ![4, 10, 42, 42]⟩
abbrev S4x42x42x16 : Shape := ⟨4, ![4, 42, 42, 16]⟩
abbrev S4x16x42x42 : Shape := ⟨4, ![4, 16, 42, 42]⟩
abbrev S4x16x40x40 : Shape := ⟨4, ![4, 16, 40, 40]⟩
abbrev S4x40x40x32 : Shape := ⟨4, ![4, 40, 40, 32]⟩
abbrev S4x32x40x40 : Shape := ⟨4, ![4, 32, 40, 40]⟩
abbrev S4x40x40x2 : Shape := ⟨4, ![4, 40, 40, 2]⟩
abbrev S4x2x40x40 : Shape := ⟨4, ![4, 2, 40, 40]⟩
abbrev S4x40x40 : Shape := ⟨3, ![4, 40, 40]⟩
abbrev S4x1x40x40 : Shape := ⟨4, ![4, 1, 40, 40]⟩
abbrev S4x40x40x4 : Shape := ⟨4, ![4, 40, 40, 4]⟩
abbrev S4x4x40x40 : Shape := ⟨4, ![4, 4, 40, 40]⟩
abbrev S40 : Shape := ⟨1, ![40]⟩
abbrev S40x40 : Shape := ⟨2, ![40, 40]⟩
abbrev S1x40x40 : Shape := ⟨3, ![1, 40, 40]⟩
abbrev S4x40x40x1 : Shape := ⟨4, ![4, 40, 40, 1]⟩
abbrev S4x1600x4 : Shape := ⟨3, ![4, 1600, 4]⟩
abbrev S4x1600 : Shape := ⟨2, ![4, 1600]⟩
abbrev S64 : Shape := ⟨1, ![64]⟩
abbrev S1x64 : Shape := ⟨2, ![1, 64]⟩
abbrev S512x64 : Shape := ⟨2, ![512, 64]⟩
abbrev S64x4x3x512 : Shape := ⟨4, ![64, 4, 3, 512]⟩
abbrev S4x3x64x512 : Shape := ⟨4, ![4, 3, 64, 512]⟩
abbrev S4x3x64x64 : Shape := ⟨4, ![4, 3, 64, 64]⟩
abbrev S4x3x62x62 : Shape := ⟨4, ![4, 3, 62, 62]⟩
abbrev S4x62x62x10 : Shape := ⟨4, ![4, 62, 62, 10]⟩
abbrev S4x10x62x62 : Shape := ⟨4, ![4, 10, 62, 62]⟩
abbrev S4x10x31x31 : Shape := ⟨4, ![4, 10, 31, 31]⟩
abbrev S4x10x29x29 : Shape := ⟨4, ![4, 10, 29, 29]⟩
abbrev S4x29x29x16 : Shape := ⟨4, ![4, 29, 29, 16]⟩
abbrev S4x16x29x29 : Shape := ⟨4, ![4, 16, 29, 29]⟩
abbrev S4x16x27x27 : Shape := ⟨4, ![4, 16, 27, 27]⟩
abbrev S4x27x27x32 : Shape := ⟨4, ![4, 27, 27, 32]⟩
abbrev S4x32x27x27 : Shape := ⟨4, ![4, 32, 27, 27]⟩
abbrev S4x27x27x2 : Shape := ⟨4, ![4, 27, 27, 2]⟩
abbrev S4x2x27x27 : Shape := ⟨4, ![4, 2, 27, 27]⟩
abbrev S4x27x27 : Shape := ⟨3, ![4, 27, 27]⟩
abbrev S4x1x27x27 : Shape := ⟨4, ![4, 1, 27, 27]⟩
abbrev S4x27x27x4 : Shape := ⟨4, ![4, 27, 27, 4]⟩
abbrev S4x4x27x27 : Shape := ⟨4, ![4, 4, 27, 27]⟩
abbrev S27 : Shape := ⟨1, ![27]⟩
abbrev S27x27 : Shape := ⟨2, ![27, 27]⟩
abbrev S1x27x27 : Shape := ⟨3, ![1, 27, 27]⟩
abbrev S4x27x27x1 : Shape := ⟨4, ![4, 27, 27, 1]⟩
abbrev S4x729x4 : Shape := ⟨3, ![4, 729, 4]⟩
abbrev S4x729 : Shape := ⟨2, ![4, 729]⟩
abbrev S4x5810x4 : Shape := ⟨3, ![4, 5810, 4]⟩
abbrev S4x5810 : Shape := ⟨2, ![4, 5810]⟩
abbrev S4x100 : Shape := ⟨2, ![4, 100]⟩
abbrev S4x100x1 : Shape := ⟨3, ![4, 100, 1]⟩
abbrev S1 : Shape := ⟨1, ![1]⟩
abbrev S1x1x1 : Shape := ⟨3, ![1, 1, 1]⟩
abbrev S4x100x4 : Shape := ⟨3, ![4, 100, 4]⟩
abbrev S100 : Shape := ⟨1, ![100]⟩
abbrev S1x100 : Shape := ⟨2, ![1, 100]⟩
abbrev S4x100x5 : Shape := ⟨3, ![4, 100, 5]⟩
abbrev S4x1 : Shape := ⟨2, ![4, 1]⟩
abbrev S4x1x1 : Shape := ⟨3, ![4, 1, 1]⟩

abbrev nBuf : Space → Nat
  | .hbm => 1422
  | .vmem => 0
  | .smem => 0
  | _ => 0

abbrev hbmTy0_0 (i : Nat) : BufTy := match i % 128 with
  | 0 => ⟨S4x3x512x512, .f32⟩
  | 1 => ⟨S10x3x3x3, .f32⟩
  | 2 => ⟨S10, .f32⟩
  | 3 => ⟨S10, .f32⟩
  | 4 => ⟨S16x10x3x3, .f32⟩
  | 5 => ⟨S16, .f32⟩
  | 6 => ⟨S16, .f32⟩
  | 7 => ⟨S32x16x3x3, .f32⟩
  | 8 => ⟨S32, .f32⟩
  | 9 => ⟨S32, .f32⟩
  | 10 => ⟨S2x32x1x1, .f32⟩
  | 11 => ⟨S2, .f32⟩
  | 12 => ⟨S4x32x1x1, .f32⟩
  | 13 => ⟨S4, .f32⟩
  | 14 => ⟨S_, .f32⟩
  | 15 => ⟨S4x3x512x512, .f32⟩
  | 16 => ⟨S4x3x512x512, .f32⟩
  | 17 => ⟨S_, .f32⟩
  | 18 => ⟨S4x3x512x512, .f32⟩
  | 19 => ⟨S4x3x512x512, .f32⟩
  | 20 => ⟨S_, .f32⟩
  | 21 => ⟨S_, .f32⟩
  | 22 => ⟨S_, .f32⟩
  | 23 => ⟨S_, .f32⟩
  | 24 => ⟨S_, .f32⟩
  | 25 => ⟨S128, .f32⟩
  | 26 => ⟨S_, .f32⟩
  | 27 => ⟨S128, .f32⟩
  | 28 => ⟨S128, .f32⟩
  | 29 => ⟨S128, .f32⟩
  | 30 => ⟨S128, .f32⟩
  | 31 => ⟨S_, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S512, .f32⟩
  | 39 => ⟨S1x128, .f32⟩
  | 40 => ⟨S512x1, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S512x128, .f32⟩
  | 47 => ⟨S512x128, .f32⟩
  | 48 => ⟨S_, .f32⟩
  | 49 => ⟨S512x128, .f32⟩
  | 50 => ⟨S512x128, .f32⟩
  | 51 => ⟨S_, .f32⟩
  | 52 => ⟨S512x128, .f32⟩
  | 53 => ⟨S512x128, .f32⟩
  | 54 => ⟨S_, .f32⟩
  | 55 => ⟨S128, .f32⟩
  | 56 => ⟨S1x128, .f32⟩
  | 57 => ⟨S1x128, .f32⟩
  | 58 => ⟨S_, .f32⟩
  | 59 => ⟨S1x128, .f32⟩
  | 60 => ⟨S1x128, .i1⟩
  | 61 => ⟨S_, .f32⟩
  | 62 => ⟨S1x128, .f32⟩
  | 63 => ⟨S1x128, .i1⟩
  | 64 => ⟨S_, .i32⟩
  | 65 => ⟨S_, .f32⟩
  | 66 => ⟨S1x128, .f32⟩
  | 67 => ⟨S1x128, .f32⟩
  | 68 => ⟨S512x128, .f32⟩
  | 69 => ⟨S512x128, .f32⟩
  | 70 => ⟨S_, .i32⟩
  | 71 => ⟨S_, .f32⟩
  | 72 => ⟨S512x128, .i1⟩
  | 73 => ⟨S512x128, .f32⟩
  | 74 => ⟨S512x128, .f32⟩
  | 75 => ⟨S_, .f32⟩
  | 76 => ⟨S128, .f32⟩
  | 77 => ⟨S128, .i1⟩
  | 78 => ⟨S_, .f32⟩
  | 79 => ⟨S128, .f32⟩
  | 80 => ⟨S128, .i1⟩
  | 81 => ⟨S128, .i1⟩
  | 82 => ⟨S1x128, .i1⟩
  | 83 => ⟨S_, .i32⟩
  | 84 => ⟨S_, .f32⟩
  | 85 => ⟨S512x128, .i1⟩
  | 86 => ⟨S512x128, .f32⟩
  | 87 => ⟨S512x128, .f32⟩
  | 88 => ⟨S128x4x3x512, .f32⟩
  | 89 => ⟨S4x3x128x512, .f32⟩
  | 90 => ⟨S4x3x128x128, .f32⟩
  | 91 => ⟨S10x3x1x1, .f32⟩
  | 92 => ⟨S10x3, .f32⟩
  | 93 => ⟨S4x3x126x126, .f32⟩
  | 94 => ⟨S4x126x126x10, .f32⟩
  | 95 => ⟨S4x10x126x126, .f32⟩
  | 96 => ⟨S_, .f32⟩
  | 97 => ⟨S4x10x126x126, .f32⟩
  | 98 => ⟨S4x10x126x126, .f32⟩
  | 99 => ⟨S10x3x1x1, .f32⟩
  | 100 => ⟨S10x3, .f32⟩
  | 101 => ⟨S4x3x126x126, .f32⟩
  | 102 => ⟨S4x126x126x10, .f32⟩
  | 103 => ⟨S4x10x126x126, .f32⟩
  | 104 => ⟨S4x10x126x126, .f32⟩
  | 105 => ⟨S10x3x1x1, .f32⟩
  | 106 => ⟨S10x3, .f32⟩
  | 107 => ⟨S4x3x126x126, .f32⟩
  | 108 => ⟨S4x126x126x10, .f32⟩
  | 109 => ⟨S4x10x126x126, .f32⟩
  | 110 => ⟨S4x10x126x126, .f32⟩
  | 111 => ⟨S10x3x1x1, .f32⟩
  | 112 => ⟨S10x3, .f32⟩
  | 113 => ⟨S4x3x126x126, .f32⟩
  | 114 => ⟨S4x126x126x10, .f32⟩
  | 115 => ⟨S4x10x126x126, .f32⟩
  | 116 => ⟨S4x10x126x126, .f32⟩
  | 117 => ⟨S10x3x1x1, .f32⟩
  | 118 => ⟨S10x3, .f32⟩
  | 119 => ⟨S4x3x126x126, .f32⟩
  | 120 => ⟨S4x126x126x10, .f32⟩
  | 121 => ⟨S4x10x126x126, .f32⟩
  | 122 => ⟨S4x10x126x126, .f32⟩
  | 123 => ⟨S10x3x1x1, .f32⟩
  | 124 => ⟨S10x3, .f32⟩
  | 125 => ⟨S4x3x126x126, .f32⟩
  | 126 => ⟨S4x126x126x10, .f32⟩
  | 127 => ⟨S4x10x126x126, .f32⟩
  | _ => ⟨S4x3x512x512, .f32⟩

abbrev hbmTy0_1 (i : Nat) : BufTy := match i % 128 with
  | 0 => ⟨S4x10x126x126, .f32⟩
  | 1 => ⟨S10x3x1x1, .f32⟩
  | 2 => ⟨S10x3, .f32⟩
  | 3 => ⟨S4x3x126x126, .f32⟩
  | 4 => ⟨S4x126x126x10, .f32⟩
  | 5 => ⟨S4x10x126x126, .f32⟩
  | 6 => ⟨S4x10x126x126, .f32⟩
  | 7 => ⟨S10x3x1x1, .f32⟩
  | 8 => ⟨S10x3, .f32⟩
  | 9 => ⟨S4x3x126x126, .f32⟩
  | 10 => ⟨S4x126x126x10, .f32⟩
  | 11 => ⟨S4x10x126x126, .f32⟩
  | 12 => ⟨S4x10x126x126, .f32⟩
  | 13 => ⟨S10x3x1x1, .f32⟩
  | 14 => ⟨S10x3, .f32⟩
  | 15 => ⟨S4x3x126x126, .f32⟩
  | 16 => ⟨S4x126x126x10, .f32⟩
  | 17 => ⟨S4x10x126x126, .f32⟩
  | 18 => ⟨S4x10x126x126, .f32⟩
  | 19 => ⟨S1x10x1x1, .f32⟩
  | 20 => ⟨S4x10x126x126, .f32⟩
  | 21 => ⟨S4x10x126x126, .f32⟩
  | 22 => ⟨S_, .f32⟩
  | 23 => ⟨S4x10x126x126, .f32⟩
  | 24 => ⟨S4x10x126x126, .i1⟩
  | 25 => ⟨S1x10x1x1, .f32⟩
  | 26 => ⟨S4x10x126x126, .f32⟩
  | 27 => ⟨S4x10x126x126, .f32⟩
  | 28 => ⟨S4x10x126x126, .f32⟩
  | 29 => ⟨S_, .f32⟩
  | 30 => ⟨S_, .f32⟩
  | 31 => ⟨S4x10x63x63, .f32⟩
  | 32 => ⟨S16x10x1x1, .f32⟩
  | 33 => ⟨S16x10, .f32⟩
  | 34 => ⟨S4x10x61x61, .f32⟩
  | 35 => ⟨S4x61x61x16, .f32⟩
  | 36 => ⟨S4x16x61x61, .f32⟩
  | 37 => ⟨S_, .f32⟩
  | 38 => ⟨S4x16x61x61, .f32⟩
  | 39 => ⟨S4x16x61x61, .f32⟩
  | 40 => ⟨S16x10x1x1, .f32⟩
  | 41 => ⟨S16x10, .f32⟩
  | 42 => ⟨S4x10x61x61, .f32⟩
  | 43 => ⟨S4x61x61x16, .f32⟩
  | 44 => ⟨S4x16x61x61, .f32⟩
  | 45 => ⟨S4x16x61x61, .f32⟩
  | 46 => ⟨S16x10x1x1, .f32⟩
  | 47 => ⟨S16x10, .f32⟩
  | 48 => ⟨S4x10x61x61, .f32⟩
  | 49 => ⟨S4x61x61x16, .f32⟩
  | 50 => ⟨S4x16x61x61, .f32⟩
  | 51 => ⟨S4x16x61x61, .f32⟩
  | 52 => ⟨S16x10x1x1, .f32⟩
  | 53 => ⟨S16x10, .f32⟩
  | 54 => ⟨S4x10x61x61, .f32⟩
  | 55 => ⟨S4x61x61x16, .f32⟩
  | 56 => ⟨S4x16x61x61, .f32⟩
  | 57 => ⟨S4x16x61x61, .f32⟩
  | 58 => ⟨S16x10x1x1, .f32⟩
  | 59 => ⟨S16x10, .f32⟩
  | 60 => ⟨S4x10x61x61, .f32⟩
  | 61 => ⟨S4x61x61x16, .f32⟩
  | 62 => ⟨S4x16x61x61, .f32⟩
  | 63 => ⟨S4x16x61x61, .f32⟩
  | 64 => ⟨S16x10x1x1, .f32⟩
  | 65 => ⟨S16x10, .f32⟩
  | 66 => ⟨S4x10x61x61, .f32⟩
  | 67 => ⟨S4x61x61x16, .f32⟩
  | 68 => ⟨S4x16x61x61, .f32⟩
  | 69 => ⟨S4x16x61x61, .f32⟩
  | 70 => ⟨S16x10x1x1, .f32⟩
  | 71 => ⟨S16x10, .f32⟩
  | 72 => ⟨S4x10x61x61, .f32⟩
  | 73 => ⟨S4x61x61x16, .f32⟩
  | 74 => ⟨S4x16x61x61, .f32⟩
  | 75 => ⟨S4x16x61x61, .f32⟩
  | 76 => ⟨S16x10x1x1, .f32⟩
  | 77 => ⟨S16x10, .f32⟩
  | 78 => ⟨S4x10x61x61, .f32⟩
  | 79 => ⟨S4x61x61x16, .f32⟩
  | 80 => ⟨S4x16x61x61, .f32⟩
  | 81 => ⟨S4x16x61x61, .f32⟩
  | 82 => ⟨S16x10x1x1, .f32⟩
  | 83 => ⟨S16x10, .f32⟩
  | 84 => ⟨S4x10x61x61, .f32⟩
  | 85 => ⟨S4x61x61x16, .f32⟩
  | 86 => ⟨S4x16x61x61, .f32⟩
  | 87 => ⟨S4x16x61x61, .f32⟩
  | 88 => ⟨S1x16x1x1, .f32⟩
  | 89 => ⟨S4x16x61x61, .f32⟩
  | 90 => ⟨S4x16x61x61, .f32⟩
  | 91 => ⟨S_, .f32⟩
  | 92 => ⟨S4x16x61x61, .f32⟩
  | 93 => ⟨S4x16x61x61, .i1⟩
  | 94 => ⟨S1x16x1x1, .f32⟩
  | 95 => ⟨S4x16x61x61, .f32⟩
  | 96 => ⟨S4x16x61x61, .f32⟩
  | 97 => ⟨S4x16x61x61, .f32⟩
  | 98 => ⟨S32x16x1x1, .f32⟩
  | 99 => ⟨S32x16, .f32⟩
  | 100 => ⟨S4x16x59x59, .f32⟩
  | 101 => ⟨S4x59x59x32, .f32⟩
  | 102 => ⟨S4x32x59x59, .f32⟩
  | 103 => ⟨S_, .f32⟩
  | 104 => ⟨S4x32x59x59, .f32⟩
  | 105 => ⟨S4x32x59x59, .f32⟩
  | 106 => ⟨S32x16x1x1, .f32⟩
  | 107 => ⟨S32x16, .f32⟩
  | 108 => ⟨S4x16x59x59, .f32⟩
  | 109 => ⟨S4x59x59x32, .f32⟩
  | 110 => ⟨S4x32x59x59, .f32⟩
  | 111 => ⟨S4x32x59x59, .f32⟩
  | 112 => ⟨S32x16x1x1, .f32⟩
  | 113 => ⟨S32x16, .f32⟩
  | 114 => ⟨S4x16x59x59, .f32⟩
  | 115 => ⟨S4x59x59x32, .f32⟩
  | 116 => ⟨S4x32x59x59, .f32⟩
  | 117 => ⟨S4x32x59x59, .f32⟩
  | 118 => ⟨S32x16x1x1, .f32⟩
  | 119 => ⟨S32x16, .f32⟩
  | 120 => ⟨S4x16x59x59, .f32⟩
  | 121 => ⟨S4x59x59x32, .f32⟩
  | 122 => ⟨S4x32x59x59, .f32⟩
  | 123 => ⟨S4x32x59x59, .f32⟩
  | 124 => ⟨S32x16x1x1, .f32⟩
  | 125 => ⟨S32x16, .f32⟩
  | 126 => ⟨S4x16x59x59, .f32⟩
  | 127 => ⟨S4x59x59x32, .f32⟩
  | _ => ⟨S4x3x512x512, .f32⟩

abbrev hbmTy0_2 (i : Nat) : BufTy := match i % 128 with
  | 0 => ⟨S4x32x59x59, .f32⟩
  | 1 => ⟨S4x32x59x59, .f32⟩
  | 2 => ⟨S32x16x1x1, .f32⟩
  | 3 => ⟨S32x16, .f32⟩
  | 4 => ⟨S4x16x59x59, .f32⟩
  | 5 => ⟨S4x59x59x32, .f32⟩
  | 6 => ⟨S4x32x59x59, .f32⟩
  | 7 => ⟨S4x32x59x59, .f32⟩
  | 8 => ⟨S32x16x1x1, .f32⟩
  | 9 => ⟨S32x16, .f32⟩
  | 10 => ⟨S4x16x59x59, .f32⟩
  | 11 => ⟨S4x59x59x32, .f32⟩
  | 12 => ⟨S4x32x59x59, .f32⟩
  | 13 => ⟨S4x32x59x59, .f32⟩
  | 14 => ⟨S32x16x1x1, .f32⟩
  | 15 => ⟨S32x16, .f32⟩
  | 16 => ⟨S4x16x59x59, .f32⟩
  | 17 => ⟨S4x59x59x32, .f32⟩
  | 18 => ⟨S4x32x59x59, .f32⟩
  | 19 => ⟨S4x32x59x59, .f32⟩
  | 20 => ⟨S32x16x1x1, .f32⟩
  | 21 => ⟨S32x16, .f32⟩
  | 22 => ⟨S4x16x59x59, .f32⟩
  | 23 => ⟨S4x59x59x32, .f32⟩
  | 24 => ⟨S4x32x59x59, .f32⟩
  | 25 => ⟨S4x32x59x59, .f32⟩
  | 26 => ⟨S1x32x1x1, .f32⟩
  | 27 => ⟨S4x32x59x59, .f32⟩
  | 28 => ⟨S4x32x59x59, .f32⟩
  | 29 => ⟨S_, .f32⟩
  | 30 => ⟨S4x32x59x59, .f32⟩
  | 31 => ⟨S4x32x59x59, .i1⟩
  | 32 => ⟨S1x32x1x1, .f32⟩
  | 33 => ⟨S4x32x59x59, .f32⟩
  | 34 => ⟨S4x32x59x59, .f32⟩
  | 35 => ⟨S4x32x59x59, .f32⟩
  | 36 => ⟨S2x32, .f32⟩
  | 37 => ⟨S4x59x59x2, .f32⟩
  | 38 => ⟨S4x2x59x59, .f32⟩
  | 39 => ⟨S_, .f32⟩
  | 40 => ⟨S4x2x59x59, .f32⟩
  | 41 => ⟨S4x2x59x59, .f32⟩
  | 42 => ⟨S1x2x1x1, .f32⟩
  | 43 => ⟨S4x2x59x59, .f32⟩
  | 44 => ⟨S4x2x59x59, .f32⟩
  | 45 => ⟨S_, .f32⟩
  | 46 => ⟨S4x59x59, .f32⟩
  | 47 => ⟨S_, .f32⟩
  | 48 => ⟨S4x59x59, .f32⟩
  | 49 => ⟨S4x59x59, .f32⟩
  | 50 => ⟨S4x1x59x59, .f32⟩
  | 51 => ⟨S4x2x59x59, .f32⟩
  | 52 => ⟨S4x2x59x59, .f32⟩
  | 53 => ⟨S4x2x59x59, .f32⟩
  | 54 => ⟨S_, .f32⟩
  | 55 => ⟨S4x59x59, .f32⟩
  | 56 => ⟨S4x1x59x59, .f32⟩
  | 57 => ⟨S4x2x59x59, .f32⟩
  | 58 => ⟨S4x2x59x59, .f32⟩
  | 59 => ⟨S4x32, .f32⟩
  | 60 => ⟨S4x59x59x4, .f32⟩
  | 61 => ⟨S4x4x59x59, .f32⟩
  | 62 => ⟨S_, .f32⟩
  | 63 => ⟨S4x4x59x59, .f32⟩
  | 64 => ⟨S4x4x59x59, .f32⟩
  | 65 => ⟨S1x4x1x1, .f32⟩
  | 66 => ⟨S4x4x59x59, .f32⟩
  | 67 => ⟨S4x4x59x59, .f32⟩
  | 68 => ⟨S4x1x59x59, .f32⟩
  | 69 => ⟨S4x59x59, .f32⟩
  | 70 => ⟨S59, .f32⟩
  | 71 => ⟨S59, .f32⟩
  | 72 => ⟨S59x59, .f32⟩
  | 73 => ⟨S59x59, .f32⟩
  | 74 => ⟨S_, .f32⟩
  | 75 => ⟨S59x59, .f32⟩
  | 76 => ⟨S59x59, .f32⟩
  | 77 => ⟨S_, .f32⟩
  | 78 => ⟨S59x59, .f32⟩
  | 79 => ⟨S59x59, .f32⟩
  | 80 => ⟨S_, .f32⟩
  | 81 => ⟨S59x59, .f32⟩
  | 82 => ⟨S59x59, .f32⟩
  | 83 => ⟨S_, .f32⟩
  | 84 => ⟨S59x59, .f32⟩
  | 85 => ⟨S59x59, .f32⟩
  | 86 => ⟨S_, .f32⟩
  | 87 => ⟨S59x59, .f32⟩
  | 88 => ⟨S59x59, .f32⟩
  | 89 => ⟨S_, .f32⟩
  | 90 => ⟨S59x59, .f32⟩
  | 91 => ⟨S59x59, .f32⟩
  | 92 => ⟨S_, .f32⟩
  | 93 => ⟨S59x59, .f32⟩
  | 94 => ⟨S59x59, .f32⟩
  | 95 => ⟨S_, .f32⟩
  | 96 => ⟨S59x59, .f32⟩
  | 97 => ⟨S59x59, .f32⟩
  | 98 => ⟨S_, .f32⟩
  | 99 => ⟨S59x59, .f32⟩
  | 100 => ⟨S59x59, .f32⟩
  | 101 => ⟨S_, .f32⟩
  | 102 => ⟨S59x59, .f32⟩
  | 103 => ⟨S59x59, .f32⟩
  | 104 => ⟨S_, .f32⟩
  | 105 => ⟨S59x59, .f32⟩
  | 106 => ⟨S59x59, .f32⟩
  | 107 => ⟨S_, .f32⟩
  | 108 => ⟨S59x59, .f32⟩
  | 109 => ⟨S59x59, .f32⟩
  | 110 => ⟨S59x59, .f32⟩
  | 111 => ⟨S59x59, .f32⟩
  | 112 => ⟨S1x59x59, .f32⟩
  | 113 => ⟨S4x1x59x59, .f32⟩
  | 114 => ⟨S4x59x59, .f32⟩
  | 115 => ⟨S1x59x59, .f32⟩
  | 116 => ⟨S4x59x59, .f32⟩
  | 117 => ⟨S4x59x59, .f32⟩
  | 118 => ⟨S4x59x59, .f32⟩
  | 119 => ⟨S4x59x59, .f32⟩
  | 120 => ⟨S1x59x59, .f32⟩
  | 121 => ⟨S4x1x59x59, .f32⟩
  | 122 => ⟨S4x59x59, .f32⟩
  | 123 => ⟨S1x59x59, .f32⟩
  | 124 => ⟨S4x59x59, .f32⟩
  | 125 => ⟨S4x59x59, .f32⟩
  | 126 => ⟨S4x59x59, .f32⟩
  | 127 => ⟨S4x59x59, .f32⟩
  | _ => ⟨S4x3x512x512, .f32⟩

abbrev hbmTy0_3 (i : Nat) : BufTy := match i % 128 with
  | 0 => ⟨S1x59x59, .f32⟩
  | 1 => ⟨S4x1x59x59, .f32⟩
  | 2 => ⟨S4x59x59, .f32⟩
  | 3 => ⟨S1x59x59, .f32⟩
  | 4 => ⟨S4x59x59, .f32⟩
  | 5 => ⟨S4x59x59, .f32⟩
  | 6 => ⟨S4x59x59, .f32⟩
  | 7 => ⟨S4x59x59, .f32⟩
  | 8 => ⟨S1x59x59, .f32⟩
  | 9 => ⟨S4x1x59x59, .f32⟩
  | 10 => ⟨S4x59x59, .f32⟩
  | 11 => ⟨S1x59x59, .f32⟩
  | 12 => ⟨S4x59x59, .f32⟩
  | 13 => ⟨S4x59x59, .f32⟩
  | 14 => ⟨S4x59x59, .f32⟩
  | 15 => ⟨S4x59x59, .f32⟩
  | 16 => ⟨S4x59x59x1, .f32⟩
  | 17 => ⟨S4x59x59x1, .f32⟩
  | 18 => ⟨S4x59x59x1, .f32⟩
  | 19 => ⟨S4x59x59x1, .f32⟩
  | 20 => ⟨S4x59x59x4, .f32⟩
  | 21 => ⟨S4x3481x4, .f32⟩
  | 22 => ⟨S4x3481, .f32⟩
  | 23 => ⟨S_, .f32⟩
  | 24 => ⟨S_, .f32⟩
  | 25 => ⟨S_, .f32⟩
  | 26 => ⟨S_, .f32⟩
  | 27 => ⟨S_, .f32⟩
  | 28 => ⟨S90, .f32⟩
  | 29 => ⟨S_, .f32⟩
  | 30 => ⟨S90, .f32⟩
  | 31 => ⟨S90, .f32⟩
  | 32 => ⟨S90, .f32⟩
  | 33 => ⟨S90, .f32⟩
  | 34 => ⟨S_, .f32⟩
  | 35 => ⟨S_, .f32⟩
  | 36 => ⟨S90, .f32⟩
  | 37 => ⟨S90, .f32⟩
  | 38 => ⟨S_, .f32⟩
  | 39 => ⟨S90, .f32⟩
  | 40 => ⟨S90, .f32⟩
  | 41 => ⟨S512, .f32⟩
  | 42 => ⟨S1x90, .f32⟩
  | 43 => ⟨S512x1, .f32⟩
  | 44 => ⟨S512x90, .f32⟩
  | 45 => ⟨S512x90, .f32⟩
  | 46 => ⟨S512x90, .f32⟩
  | 47 => ⟨S512x90, .f32⟩
  | 48 => ⟨S512x90, .f32⟩
  | 49 => ⟨S512x90, .f32⟩
  | 50 => ⟨S512x90, .f32⟩
  | 51 => ⟨S_, .f32⟩
  | 52 => ⟨S512x90, .f32⟩
  | 53 => ⟨S512x90, .f32⟩
  | 54 => ⟨S_, .f32⟩
  | 55 => ⟨S512x90, .f32⟩
  | 56 => ⟨S512x90, .f32⟩
  | 57 => ⟨S_, .f32⟩
  | 58 => ⟨S90, .f32⟩
  | 59 => ⟨S1x90, .f32⟩
  | 60 => ⟨S1x90, .f32⟩
  | 61 => ⟨S_, .f32⟩
  | 62 => ⟨S1x90, .f32⟩
  | 63 => ⟨S1x90, .i1⟩
  | 64 => ⟨S_, .f32⟩
  | 65 => ⟨S1x90, .f32⟩
  | 66 => ⟨S1x90, .i1⟩
  | 67 => ⟨S_, .i32⟩
  | 68 => ⟨S_, .f32⟩
  | 69 => ⟨S1x90, .f32⟩
  | 70 => ⟨S1x90, .f32⟩
  | 71 => ⟨S512x90, .f32⟩
  | 72 => ⟨S512x90, .f32⟩
  | 73 => ⟨S_, .i32⟩
  | 74 => ⟨S_, .f32⟩
  | 75 => ⟨S512x90, .i1⟩
  | 76 => ⟨S512x90, .f32⟩
  | 77 => ⟨S512x90, .f32⟩
  | 78 => ⟨S_, .f32⟩
  | 79 => ⟨S90, .f32⟩
  | 80 => ⟨S90, .i1⟩
  | 81 => ⟨S_, .f32⟩
  | 82 => ⟨S90, .f32⟩
  | 83 => ⟨S90, .i1⟩
  | 84 => ⟨S90, .i1⟩
  | 85 => ⟨S1x90, .i1⟩
  | 86 => ⟨S_, .i32⟩
  | 87 => ⟨S_, .f32⟩
  | 88 => ⟨S512x90, .i1⟩
  | 89 => ⟨S512x90, .f32⟩
  | 90 => ⟨S512x90, .f32⟩
  | 91 => ⟨S90x4x3x512, .f32⟩
  | 92 => ⟨S4x3x90x512, .f32⟩
  | 93 => ⟨S4x3x90x90, .f32⟩
  | 94 => ⟨S10x3x1x1, .f32⟩
  | 95 => ⟨S10x3, .f32⟩
  | 96 => ⟨S4x3x88x88, .f32⟩
  | 97 => ⟨S4x88x88x10, .f32⟩
  | 98 => ⟨S4x10x88x88, .f32⟩
  | 99 => ⟨S_, .f32⟩
  | 100 => ⟨S4x10x88x88, .f32⟩
  | 101 => ⟨S4x10x88x88, .f32⟩
  | 102 => ⟨S10x3x1x1, .f32⟩
  | 103 => ⟨S10x3, .f32⟩
  | 104 => ⟨S4x3x88x88, .f32⟩
  | 105 => ⟨S4x88x88x10, .f32⟩
  | 106 => ⟨S4x10x88x88, .f32⟩
  | 107 => ⟨S4x10x88x88, .f32⟩
  | 108 => ⟨S10x3x1x1, .f32⟩
  | 109 => ⟨S10x3, .f32⟩
  | 110 => ⟨S4x3x88x88, .f32⟩
  | 111 => ⟨S4x88x88x10, .f32⟩
  | 112 => ⟨S4x10x88x88, .f32⟩
  | 113 => ⟨S4x10x88x88, .f32⟩
  | 114 => ⟨S10x3x1x1, .f32⟩
  | 115 => ⟨S10x3, .f32⟩
  | 116 => ⟨S4x3x88x88, .f32⟩
  | 117 => ⟨S4x88x88x10, .f32⟩
  | 118 => ⟨S4x10x88x88, .f32⟩
  | 119 => ⟨S4x10x88x88, .f32⟩
  | 120 => ⟨S10x3x1x1, .f32⟩
  | 121 => ⟨S10x3, .f32⟩
  | 122 => ⟨S4x3x88x88, .f32⟩
  | 123 => ⟨S4x88x88x10, .f32⟩
  | 124 => ⟨S4x10x88x88, .f32⟩
  | 125 => ⟨S4x10x88x88, .f32⟩
  | 126 => ⟨S10x3x1x1, .f32⟩
  | 127 => ⟨S10x3, .f32⟩
  | _ => ⟨S4x3x512x512, .f32⟩

abbrev hbmTy0_4 (i : Nat) : BufTy := match i % 128 with
  | 0 => ⟨S4x3x88x88, .f32⟩
  | 1 => ⟨S4x88x88x10, .f32⟩
  | 2 => ⟨S4x10x88x88, .f32⟩
  | 3 => ⟨S4x10x88x88, .f32⟩
  | 4 => ⟨S10x3x1x1, .f32⟩
  | 5 => ⟨S10x3, .f32⟩
  | 6 => ⟨S4x3x88x88, .f32⟩
  | 7 => ⟨S4x88x88x10, .f32⟩
  | 8 => ⟨S4x10x88x88, .f32⟩
  | 9 => ⟨S4x10x88x88, .f32⟩
  | 10 => ⟨S10x3x1x1, .f32⟩
  | 11 => ⟨S10x3, .f32⟩
  | 12 => ⟨S4x3x88x88, .f32⟩
  | 13 => ⟨S4x88x88x10, .f32⟩
  | 14 => ⟨S4x10x88x88, .f32⟩
  | 15 => ⟨S4x10x88x88, .f32⟩
  | 16 => ⟨S10x3x1x1, .f32⟩
  | 17 => ⟨S10x3, .f32⟩
  | 18 => ⟨S4x3x88x88, .f32⟩
  | 19 => ⟨S4x88x88x10, .f32⟩
  | 20 => ⟨S4x10x88x88, .f32⟩
  | 21 => ⟨S4x10x88x88, .f32⟩
  | 22 => ⟨S1x10x1x1, .f32⟩
  | 23 => ⟨S4x10x88x88, .f32⟩
  | 24 => ⟨S4x10x88x88, .f32⟩
  | 25 => ⟨S_, .f32⟩
  | 26 => ⟨S4x10x88x88, .f32⟩
  | 27 => ⟨S4x10x88x88, .i1⟩
  | 28 => ⟨S1x10x1x1, .f32⟩
  | 29 => ⟨S4x10x88x88, .f32⟩
  | 30 => ⟨S4x10x88x88, .f32⟩
  | 31 => ⟨S4x10x88x88, .f32⟩
  | 32 => ⟨S_, .f32⟩
  | 33 => ⟨S_, .f32⟩
  | 34 => ⟨S4x10x44x44, .f32⟩
  | 35 => ⟨S16x10x1x1, .f32⟩
  | 36 => ⟨S16x10, .f32⟩
  | 37 => ⟨S4x10x42x42, .f32⟩
  | 38 => ⟨S4x42x42x16, .f32⟩
  | 39 => ⟨S4x16x42x42, .f32⟩
  | 40 => ⟨S_, .f32⟩
  | 41 => ⟨S4x16x42x42, .f32⟩
  | 42 => ⟨S4x16x42x42, .f32⟩
  | 43 => ⟨S16x10x1x1, .f32⟩
  | 44 => ⟨S16x10, .f32⟩
  | 45 => ⟨S4x10x42x42, .f32⟩
  | 46 => ⟨S4x42x42x16, .f32⟩
  | 47 => ⟨S4x16x42x42, .f32⟩
  | 48 => ⟨S4x16x42x42, .f32⟩
  | 49 => ⟨S16x10x1x1, .f32⟩
  | 50 => ⟨S16x10, .f32⟩
  | 51 => ⟨S4x10x42x42, .f32⟩
  | 52 => ⟨S4x42x42x16, .f32⟩
  | 53 => ⟨S4x16x42x42, .f32⟩
  | 54 => ⟨S4x16x42x42, .f32⟩
  | 55 => ⟨S16x10x1x1, .f32⟩
  | 56 => ⟨S16x10, .f32⟩
  | 57 => ⟨S4x10x42x42, .f32⟩
  | 58 => ⟨S4x42x42x16, .f32⟩
  | 59 => ⟨S4x16x42x42, .f32⟩
  | 60 => ⟨S4x16x42x42, .f32⟩
  | 61 => ⟨S16x10x1x1, .f32⟩
  | 62 => ⟨S16x10, .f32⟩
  | 63 => ⟨S4x10x42x42, .f32⟩
  | 64 => ⟨S4x42x42x16, .f32⟩
  | 65 => ⟨S4x16x42x42, .f32⟩
  | 66 => ⟨S4x16x42x42, .f32⟩
  | 67 => ⟨S16x10x1x1, .f32⟩
  | 68 => ⟨S16x10, .f32⟩
  | 69 => ⟨S4x10x42x42, .f32⟩
  | 70 => ⟨S4x42x42x16, .f32⟩
  | 71 => ⟨S4x16x42x42, .f32⟩
  | 72 => ⟨S4x16x42x42, .f32⟩
  | 73 => ⟨S16x10x1x1, .f32⟩
  | 74 => ⟨S16x10, .f32⟩
  | 75 => ⟨S4x10x42x42, .f32⟩
  | 76 => ⟨S4x42x42x16, .f32⟩
  | 77 => ⟨S4x16x42x42, .f32⟩
  | 78 => ⟨S4x16x42x42, .f32⟩
  | 79 => ⟨S16x10x1x1, .f32⟩
  | 80 => ⟨S16x10, .f32⟩
  | 81 => ⟨S4x10x42x42, .f32⟩
  | 82 => ⟨S4x42x42x16, .f32⟩
  | 83 => ⟨S4x16x42x42, .f32⟩
  | 84 => ⟨S4x16x42x42, .f32⟩
  | 85 => ⟨S16x10x1x1, .f32⟩
  | 86 => ⟨S16x10, .f32⟩
  | 87 => ⟨S4x10x42x42, .f32⟩
  | 88 => ⟨S4x42x42x16, .f32⟩
  | 89 => ⟨S4x16x42x42, .f32⟩
  | 90 => ⟨S4x16x42x42, .f32⟩
  | 91 => ⟨S1x16x1x1, .f32⟩
  | 92 => ⟨S4x16x42x42, .f32⟩
  | 93 => ⟨S4x16x42x42, .f32⟩
  | 94 => ⟨S_, .f32⟩
  | 95 => ⟨S4x16x42x42, .f32⟩
  | 96 => ⟨S4x16x42x42, .i1⟩
  | 97 => ⟨S1x16x1x1, .f32⟩
  | 98 => ⟨S4x16x42x42, .f32⟩
  | 99 => ⟨S4x16x42x42, .f32⟩
  | 100 => ⟨S4x16x42x42, .f32⟩
  | 101 => ⟨S32x16x1x1, .f32⟩
  | 102 => ⟨S32x16, .f32⟩
  | 103 => ⟨S4x16x40x40, .f32⟩
  | 104 => ⟨S4x40x40x32, .f32⟩
  | 105 => ⟨S4x32x40x40, .f32⟩
  | 106 => ⟨S_, .f32⟩
  | 107 => ⟨S4x32x40x40, .f32⟩
  | 108 => ⟨S4x32x40x40, .f32⟩
  | 109 => ⟨S32x16x1x1, .f32⟩
  | 110 => ⟨S32x16, .f32⟩
  | 111 => ⟨S4x16x40x40, .f32⟩
  | 112 => ⟨S4x40x40x32, .f32⟩
  | 113 => ⟨S4x32x40x40, .f32⟩
  | 114 => ⟨S4x32x40x40, .f32⟩
  | 115 => ⟨S32x16x1x1, .f32⟩
  | 116 => ⟨S32x16, .f32⟩
  | 117 => ⟨S4x16x40x40, .f32⟩
  | 118 => ⟨S4x40x40x32, .f32⟩
  | 119 => ⟨S4x32x40x40, .f32⟩
  | 120 => ⟨S4x32x40x40, .f32⟩
  | 121 => ⟨S32x16x1x1, .f32⟩
  | 122 => ⟨S32x16, .f32⟩
  | 123 => ⟨S4x16x40x40, .f32⟩
  | 124 => ⟨S4x40x40x32, .f32⟩
  | 125 => ⟨S4x32x40x40, .f32⟩
  | 126 => ⟨S4x32x40x40, .f32⟩
  | 127 => ⟨S32x16x1x1, .f32⟩
  | _ => ⟨S4x3x512x512, .f32⟩

abbrev hbmTy0_5 (i : Nat) : BufTy := match i % 128 with
  | 0 => ⟨S32x16, .f32⟩
  | 1 => ⟨S4x16x40x40, .f32⟩
  | 2 => ⟨S4x40x40x32, .f32⟩
  | 3 => ⟨S4x32x40x40, .f32⟩
  | 4 => ⟨S4x32x40x40, .f32⟩
  | 5 => ⟨S32x16x1x1, .f32⟩
  | 6 => ⟨S32x16, .f32⟩
  | 7 => ⟨S4x16x40x40, .f32⟩
  | 8 => ⟨S4x40x40x32, .f32⟩
  | 9 => ⟨S4x32x40x40, .f32⟩
  | 10 => ⟨S4x32x40x40, .f32⟩
  | 11 => ⟨S32x16x1x1, .f32⟩
  | 12 => ⟨S32x16, .f32⟩
  | 13 => ⟨S4x16x40x40, .f32⟩
  | 14 => ⟨S4x40x40x32, .f32⟩
  | 15 => ⟨S4x32x40x40, .f32⟩
  | 16 => ⟨S4x32x40x40, .f32⟩
  | 17 => ⟨S32x16x1x1, .f32⟩
  | 18 => ⟨S32x16, .f32⟩
  | 19 => ⟨S4x16x40x40, .f32⟩
  | 20 => ⟨S4x40x40x32, .f32⟩
  | 21 => ⟨S4x32x40x40, .f32⟩
  | 22 => ⟨S4x32x40x40, .f32⟩
  | 23 => ⟨S32x16x1x1, .f32⟩
  | 24 => ⟨S32x16, .f32⟩
  | 25 => ⟨S4x16x40x40, .f32⟩
  | 26 => ⟨S4x40x40x32, .f32⟩
  | 27 => ⟨S4x32x40x40, .f32⟩
  | 28 => ⟨S4x32x40x40, .f32⟩
  | 29 => ⟨S1x32x1x1, .f32⟩
  | 30 => ⟨S4x32x40x40, .f32⟩
  | 31 => ⟨S4x32x40x40, .f32⟩
  | 32 => ⟨S_, .f32⟩
  | 33 => ⟨S4x32x40x40, .f32⟩
  | 34 => ⟨S4x32x40x40, .i1⟩
  | 35 => ⟨S1x32x1x1, .f32⟩
  | 36 => ⟨S4x32x40x40, .f32⟩
  | 37 => ⟨S4x32x40x40, .f32⟩
  | 38 => ⟨S4x32x40x40, .f32⟩
  | 39 => ⟨S2x32, .f32⟩
  | 40 => ⟨S4x40x40x2, .f32⟩
  | 41 => ⟨S4x2x40x40, .f32⟩
  | 42 => ⟨S_, .f32⟩
  | 43 => ⟨S4x2x40x40, .f32⟩
  | 44 => ⟨S4x2x40x40, .f32⟩
  | 45 => ⟨S1x2x1x1, .f32⟩
  | 46 => ⟨S4x2x40x40, .f32⟩
  | 47 => ⟨S4x2x40x40, .f32⟩
  | 48 => ⟨S_, .f32⟩
  | 49 => ⟨S4x40x40, .f32⟩
  | 50 => ⟨S_, .f32⟩
  | 51 => ⟨S4x40x40, .f32⟩
  | 52 => ⟨S4x40x40, .f32⟩
  | 53 => ⟨S4x1x40x40, .f32⟩
  | 54 => ⟨S4x2x40x40, .f32⟩
  | 55 => ⟨S4x2x40x40, .f32⟩
  | 56 => ⟨S4x2x40x40, .f32⟩
  | 57 => ⟨S_, .f32⟩
  | 58 => ⟨S4x40x40, .f32⟩
  | 59 => ⟨S4x1x40x40, .f32⟩
  | 60 => ⟨S4x2x40x40, .f32⟩
  | 61 => ⟨S4x2x40x40, .f32⟩
  | 62 => ⟨S4x32, .f32⟩
  | 63 => ⟨S4x40x40x4, .f32⟩
  | 64 => ⟨S4x4x40x40, .f32⟩
  | 65 => ⟨S_, .f32⟩
  | 66 => ⟨S4x4x40x40, .f32⟩
  | 67 => ⟨S4x4x40x40, .f32⟩
  | 68 => ⟨S1x4x1x1, .f32⟩
  | 69 => ⟨S4x4x40x40, .f32⟩
  | 70 => ⟨S4x4x40x40, .f32⟩
  | 71 => ⟨S4x1x40x40, .f32⟩
  | 72 => ⟨S4x40x40, .f32⟩
  | 73 => ⟨S40, .f32⟩
  | 74 => ⟨S40, .f32⟩
  | 75 => ⟨S40x40, .f32⟩
  | 76 => ⟨S40x40, .f32⟩
  | 77 => ⟨S_, .f32⟩
  | 78 => ⟨S40x40, .f32⟩
  | 79 => ⟨S40x40, .f32⟩
  | 80 => ⟨S_, .f32⟩
  | 81 => ⟨S40x40, .f32⟩
  | 82 => ⟨S40x40, .f32⟩
  | 83 => ⟨S_, .f32⟩
  | 84 => ⟨S40x40, .f32⟩
  | 85 => ⟨S40x40, .f32⟩
  | 86 => ⟨S_, .f32⟩
  | 87 => ⟨S40x40, .f32⟩
  | 88 => ⟨S40x40, .f32⟩
  | 89 => ⟨S_, .f32⟩
  | 90 => ⟨S40x40, .f32⟩
  | 91 => ⟨S40x40, .f32⟩
  | 92 => ⟨S_, .f32⟩
  | 93 => ⟨S40x40, .f32⟩
  | 94 => ⟨S40x40, .f32⟩
  | 95 => ⟨S_, .f32⟩
  | 96 => ⟨S40x40, .f32⟩
  | 97 => ⟨S40x40, .f32⟩
  | 98 => ⟨S_, .f32⟩
  | 99 => ⟨S40x40, .f32⟩
  | 100 => ⟨S40x40, .f32⟩
  | 101 => ⟨S_, .f32⟩
  | 102 => ⟨S40x40, .f32⟩
  | 103 => ⟨S40x40, .f32⟩
  | 104 => ⟨S_, .f32⟩
  | 105 => ⟨S40x40, .f32⟩
  | 106 => ⟨S40x40, .f32⟩
  | 107 => ⟨S_, .f32⟩
  | 108 => ⟨S40x40, .f32⟩
  | 109 => ⟨S40x40, .f32⟩
  | 110 => ⟨S_, .f32⟩
  | 111 => ⟨S40x40, .f32⟩
  | 112 => ⟨S40x40, .f32⟩
  | 113 => ⟨S40x40, .f32⟩
  | 114 => ⟨S40x40, .f32⟩
  | 115 => ⟨S1x40x40, .f32⟩
  | 116 => ⟨S4x1x40x40, .f32⟩
  | 117 => ⟨S4x40x40, .f32⟩
  | 118 => ⟨S1x40x40, .f32⟩
  | 119 => ⟨S4x40x40, .f32⟩
  | 120 => ⟨S4x40x40, .f32⟩
  | 121 => ⟨S4x40x40, .f32⟩
  | 122 => ⟨S4x40x40, .f32⟩
  | 123 => ⟨S1x40x40, .f32⟩
  | 124 => ⟨S4x1x40x40, .f32⟩
  | 125 => ⟨S4x40x40, .f32⟩
  | 126 => ⟨S1x40x40, .f32⟩
  | 127 => ⟨S4x40x40, .f32⟩
  | _ => ⟨S4x3x512x512, .f32⟩

abbrev hbmTy0_6 (i : Nat) : BufTy := match i % 128 with
  | 0 => ⟨S4x40x40, .f32⟩
  | 1 => ⟨S4x40x40, .f32⟩
  | 2 => ⟨S4x40x40, .f32⟩
  | 3 => ⟨S1x40x40, .f32⟩
  | 4 => ⟨S4x1x40x40, .f32⟩
  | 5 => ⟨S4x40x40, .f32⟩
  | 6 => ⟨S1x40x40, .f32⟩
  | 7 => ⟨S4x40x40, .f32⟩
  | 8 => ⟨S4x40x40, .f32⟩
  | 9 => ⟨S4x40x40, .f32⟩
  | 10 => ⟨S4x40x40, .f32⟩
  | 11 => ⟨S1x40x40, .f32⟩
  | 12 => ⟨S4x1x40x40, .f32⟩
  | 13 => ⟨S4x40x40, .f32⟩
  | 14 => ⟨S1x40x40, .f32⟩
  | 15 => ⟨S4x40x40, .f32⟩
  | 16 => ⟨S4x40x40, .f32⟩
  | 17 => ⟨S4x40x40, .f32⟩
  | 18 => ⟨S4x40x40, .f32⟩
  | 19 => ⟨S4x40x40x1, .f32⟩
  | 20 => ⟨S4x40x40x1, .f32⟩
  | 21 => ⟨S4x40x40x1, .f32⟩
  | 22 => ⟨S4x40x40x1, .f32⟩
  | 23 => ⟨S4x40x40x4, .f32⟩
  | 24 => ⟨S4x1600x4, .f32⟩
  | 25 => ⟨S4x1600, .f32⟩
  | 26 => ⟨S_, .f32⟩
  | 27 => ⟨S_, .f32⟩
  | 28 => ⟨S_, .f32⟩
  | 29 => ⟨S_, .f32⟩
  | 30 => ⟨S_, .f32⟩
  | 31 => ⟨S64, .f32⟩
  | 32 => ⟨S_, .f32⟩
  | 33 => ⟨S64, .f32⟩
  | 34 => ⟨S64, .f32⟩
  | 35 => ⟨S64, .f32⟩
  | 36 => ⟨S64, .f32⟩
  | 37 => ⟨S_, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S512, .f32⟩
  | 45 => ⟨S1x64, .f32⟩
  | 46 => ⟨S512x1, .f32⟩
  | 47 => ⟨S512x64, .f32⟩
  | 48 => ⟨S512x64, .f32⟩
  | 49 => ⟨S512x64, .f32⟩
  | 50 => ⟨S512x64, .f32⟩
  | 51 => ⟨S512x64, .f32⟩
  | 52 => ⟨S512x64, .f32⟩
  | 53 => ⟨S512x64, .f32⟩
  | 54 => ⟨S_, .f32⟩
  | 55 => ⟨S512x64, .f32⟩
  | 56 => ⟨S512x64, .f32⟩
  | 57 => ⟨S_, .f32⟩
  | 58 => ⟨S512x64, .f32⟩
  | 59 => ⟨S512x64, .f32⟩
  | 60 => ⟨S_, .f32⟩
  | 61 => ⟨S64, .f32⟩
  | 62 => ⟨S1x64, .f32⟩
  | 63 => ⟨S1x64, .f32⟩
  | 64 => ⟨S_, .f32⟩
  | 65 => ⟨S1x64, .f32⟩
  | 66 => ⟨S1x64, .i1⟩
  | 67 => ⟨S_, .f32⟩
  | 68 => ⟨S1x64, .f32⟩
  | 69 => ⟨S1x64, .i1⟩
  | 70 => ⟨S_, .i32⟩
  | 71 => ⟨S_, .f32⟩
  | 72 => ⟨S1x64, .f32⟩
  | 73 => ⟨S1x64, .f32⟩
  | 74 => ⟨S512x64, .f32⟩
  | 75 => ⟨S512x64, .f32⟩
  | 76 => ⟨S_, .i32⟩
  | 77 => ⟨S_, .f32⟩
  | 78 => ⟨S512x64, .i1⟩
  | 79 => ⟨S512x64, .f32⟩
  | 80 => ⟨S512x64, .f32⟩
  | 81 => ⟨S_, .f32⟩
  | 82 => ⟨S64, .f32⟩
  | 83 => ⟨S64, .i1⟩
  | 84 => ⟨S_, .f32⟩
  | 85 => ⟨S64, .f32⟩
  | 86 => ⟨S64, .i1⟩
  | 87 => ⟨S64, .i1⟩
  | 88 => ⟨S1x64, .i1⟩
  | 89 => ⟨S_, .i32⟩
  | 90 => ⟨S_, .f32⟩
  | 91 => ⟨S512x64, .i1⟩
  | 92 => ⟨S512x64, .f32⟩
  | 93 => ⟨S512x64, .f32⟩
  | 94 => ⟨S64x4x3x512, .f32⟩
  | 95 => ⟨S4x3x64x512, .f32⟩
  | 96 => ⟨S4x3x64x64, .f32⟩
  | 97 => ⟨S10x3x1x1, .f32⟩
  | 98 => ⟨S10x3, .f32⟩
  | 99 => ⟨S4x3x62x62, .f32⟩
  | 100 => ⟨S4x62x62x10, .f32⟩
  | 101 => ⟨S4x10x62x62, .f32⟩
  | 102 => ⟨S_, .f32⟩
  | 103 => ⟨S4x10x62x62, .f32⟩
  | 104 => ⟨S4x10x62x62, .f32⟩
  | 105 => ⟨S10x3x1x1, .f32⟩
  | 106 => ⟨S10x3, .f32⟩
  | 107 => ⟨S4x3x62x62, .f32⟩
  | 108 => ⟨S4x62x62x10, .f32⟩
  | 109 => ⟨S4x10x62x62, .f32⟩
  | 110 => ⟨S4x10x62x62, .f32⟩
  | 111 => ⟨S10x3x1x1, .f32⟩
  | 112 => ⟨S10x3, .f32⟩
  | 113 => ⟨S4x3x62x62, .f32⟩
  | 114 => ⟨S4x62x62x10, .f32⟩
  | 115 => ⟨S4x10x62x62, .f32⟩
  | 116 => ⟨S4x10x62x62, .f32⟩
  | 117 => ⟨S10x3x1x1, .f32⟩
  | 118 => ⟨S10x3, .f32⟩
  | 119 => ⟨S4x3x62x62, .f32⟩
  | 120 => ⟨S4x62x62x10, .f32⟩
  | 121 => ⟨S4x10x62x62, .f32⟩
  | 122 => ⟨S4x10x62x62, .f32⟩
  | 123 => ⟨S10x3x1x1, .f32⟩
  | 124 => ⟨S10x3, .f32⟩
  | 125 => ⟨S4x3x62x62, .f32⟩
  | 126 => ⟨S4x62x62x10, .f32⟩
  | 127 => ⟨S4x10x62x62, .f32⟩
  | _ => ⟨S4x3x512x512, .f32⟩

abbrev hbmTy0_7 (i : Nat) : BufTy := match i % 128 with
  | 0 => ⟨S4x10x62x62, .f32⟩
  | 1 => ⟨S10x3x1x1, .f32⟩
  | 2 => ⟨S10x3, .f32⟩
  | 3 => ⟨S4x3x62x62, .f32⟩
  | 4 => ⟨S4x62x62x10, .f32⟩
  | 5 => ⟨S4x10x62x62, .f32⟩
  | 6 => ⟨S4x10x62x62, .f32⟩
  | 7 => ⟨S10x3x1x1, .f32⟩
  | 8 => ⟨S10x3, .f32⟩
  | 9 => ⟨S4x3x62x62, .f32⟩
  | 10 => ⟨S4x62x62x10, .f32⟩
  | 11 => ⟨S4x10x62x62, .f32⟩
  | 12 => ⟨S4x10x62x62, .f32⟩
  | 13 => ⟨S10x3x1x1, .f32⟩
  | 14 => ⟨S10x3, .f32⟩
  | 15 => ⟨S4x3x62x62, .f32⟩
  | 16 => ⟨S4x62x62x10, .f32⟩
  | 17 => ⟨S4x10x62x62, .f32⟩
  | 18 => ⟨S4x10x62x62, .f32⟩
  | 19 => ⟨S10x3x1x1, .f32⟩
  | 20 => ⟨S10x3, .f32⟩
  | 21 => ⟨S4x3x62x62, .f32⟩
  | 22 => ⟨S4x62x62x10, .f32⟩
  | 23 => ⟨S4x10x62x62, .f32⟩
  | 24 => ⟨S4x10x62x62, .f32⟩
  | 25 => ⟨S1x10x1x1, .f32⟩
  | 26 => ⟨S4x10x62x62, .f32⟩
  | 27 => ⟨S4x10x62x62, .f32⟩
  | 28 => ⟨S_, .f32⟩
  | 29 => ⟨S4x10x62x62, .f32⟩
  | 30 => ⟨S4x10x62x62, .i1⟩
  | 31 => ⟨S1x10x1x1, .f32⟩
  | 32 => ⟨S4x10x62x62, .f32⟩
  | 33 => ⟨S4x10x62x62, .f32⟩
  | 34 => ⟨S4x10x62x62, .f32⟩
  | 35 => ⟨S_, .f32⟩
  | 36 => ⟨S_, .f32⟩
  | 37 => ⟨S4x10x31x31, .f32⟩
  | 38 => ⟨S16x10x1x1, .f32⟩
  | 39 => ⟨S16x10, .f32⟩
  | 40 => ⟨S4x10x29x29, .f32⟩
  | 41 => ⟨S4x29x29x16, .f32⟩
  | 42 => ⟨S4x16x29x29, .f32⟩
  | 43 => ⟨S_, .f32⟩
  | 44 => ⟨S4x16x29x29, .f32⟩
  | 45 => ⟨S4x16x29x29, .f32⟩
  | 46 => ⟨S16x10x1x1, .f32⟩
  | 47 => ⟨S16x10, .f32⟩
  | 48 => ⟨S4x10x29x29, .f32⟩
  | 49 => ⟨S4x29x29x16, .f32⟩
  | 50 => ⟨S4x16x29x29, .f32⟩
  | 51 => ⟨S4x16x29x29, .f32⟩
  | 52 => ⟨S16x10x1x1, .f32⟩
  | 53 => ⟨S16x10, .f32⟩
  | 54 => ⟨S4x10x29x29, .f32⟩
  | 55 => ⟨S4x29x29x16, .f32⟩
  | 56 => ⟨S4x16x29x29, .f32⟩
  | 57 => ⟨S4x16x29x29, .f32⟩
  | 58 => ⟨S16x10x1x1, .f32⟩
  | 59 => ⟨S16x10, .f32⟩
  | 60 => ⟨S4x10x29x29, .f32⟩
  | 61 => ⟨S4x29x29x16, .f32⟩
  | 62 => ⟨S4x16x29x29, .f32⟩
  | 63 => ⟨S4x16x29x29, .f32⟩
  | 64 => ⟨S16x10x1x1, .f32⟩
  | 65 => ⟨S16x10, .f32⟩
  | 66 => ⟨S4x10x29x29, .f32⟩
  | 67 => ⟨S4x29x29x16, .f32⟩
  | 68 => ⟨S4x16x29x29, .f32⟩
  | 69 => ⟨S4x16x29x29, .f32⟩
  | 70 => ⟨S16x10x1x1, .f32⟩
  | 71 => ⟨S16x10, .f32⟩
  | 72 => ⟨S4x10x29x29, .f32⟩
  | 73 => ⟨S4x29x29x16, .f32⟩
  | 74 => ⟨S4x16x29x29, .f32⟩
  | 75 => ⟨S4x16x29x29, .f32⟩
  | 76 => ⟨S16x10x1x1, .f32⟩
  | 77 => ⟨S16x10, .f32⟩
  | 78 => ⟨S4x10x29x29, .f32⟩
  | 79 => ⟨S4x29x29x16, .f32⟩
  | 80 => ⟨S4x16x29x29, .f32⟩
  | 81 => ⟨S4x16x29x29, .f32⟩
  | 82 => ⟨S16x10x1x1, .f32⟩
  | 83 => ⟨S16x10, .f32⟩
  | 84 => ⟨S4x10x29x29, .f32⟩
  | 85 => ⟨S4x29x29x16, .f32⟩
  | 86 => ⟨S4x16x29x29, .f32⟩
  | 87 => ⟨S4x16x29x29, .f32⟩
  | 88 => ⟨S16x10x1x1, .f32⟩
  | 89 => ⟨S16x10, .f32⟩
  | 90 => ⟨S4x10x29x29, .f32⟩
  | 91 => ⟨S4x29x29x16, .f32⟩
  | 92 => ⟨S4x16x29x29, .f32⟩
  | 93 => ⟨S4x16x29x29, .f32⟩
  | 94 => ⟨S1x16x1x1, .f32⟩
  | 95 => ⟨S4x16x29x29, .f32⟩
  | 96 => ⟨S4x16x29x29, .f32⟩
  | 97 => ⟨S_, .f32⟩
  | 98 => ⟨S4x16x29x29, .f32⟩
  | 99 => ⟨S4x16x29x29, .i1⟩
  | 100 => ⟨S1x16x1x1, .f32⟩
  | 101 => ⟨S4x16x29x29, .f32⟩
  | 102 => ⟨S4x16x29x29, .f32⟩
  | 103 => ⟨S4x16x29x29, .f32⟩
  | 104 => ⟨S32x16x1x1, .f32⟩
  | 105 => ⟨S32x16, .f32⟩
  | 106 => ⟨S4x16x27x27, .f32⟩
  | 107 => ⟨S4x27x27x32, .f32⟩
  | 108 => ⟨S4x32x27x27, .f32⟩
  | 109 => ⟨S_, .f32⟩
  | 110 => ⟨S4x32x27x27, .f32⟩
  | 111 => ⟨S4x32x27x27, .f32⟩
  | 112 => ⟨S32x16x1x1, .f32⟩
  | 113 => ⟨S32x16, .f32⟩
  | 114 => ⟨S4x16x27x27, .f32⟩
  | 115 => ⟨S4x27x27x32, .f32⟩
  | 116 => ⟨S4x32x27x27, .f32⟩
  | 117 => ⟨S4x32x27x27, .f32⟩
  | 118 => ⟨S32x16x1x1, .f32⟩
  | 119 => ⟨S32x16, .f32⟩
  | 120 => ⟨S4x16x27x27, .f32⟩
  | 121 => ⟨S4x27x27x32, .f32⟩
  | 122 => ⟨S4x32x27x27, .f32⟩
  | 123 => ⟨S4x32x27x27, .f32⟩
  | 124 => ⟨S32x16x1x1, .f32⟩
  | 125 => ⟨S32x16, .f32⟩
  | 126 => ⟨S4x16x27x27, .f32⟩
  | 127 => ⟨S4x27x27x32, .f32⟩
  | _ => ⟨S4x3x512x512, .f32⟩

abbrev hbmTy0_8 (i : Nat) : BufTy := match i % 128 with
  | 0 => ⟨S4x32x27x27, .f32⟩
  | 1 => ⟨S4x32x27x27, .f32⟩
  | 2 => ⟨S32x16x1x1, .f32⟩
  | 3 => ⟨S32x16, .f32⟩
  | 4 => ⟨S4x16x27x27, .f32⟩
  | 5 => ⟨S4x27x27x32, .f32⟩
  | 6 => ⟨S4x32x27x27, .f32⟩
  | 7 => ⟨S4x32x27x27, .f32⟩
  | 8 => ⟨S32x16x1x1, .f32⟩
  | 9 => ⟨S32x16, .f32⟩
  | 10 => ⟨S4x16x27x27, .f32⟩
  | 11 => ⟨S4x27x27x32, .f32⟩
  | 12 => ⟨S4x32x27x27, .f32⟩
  | 13 => ⟨S4x32x27x27, .f32⟩
  | 14 => ⟨S32x16x1x1, .f32⟩
  | 15 => ⟨S32x16, .f32⟩
  | 16 => ⟨S4x16x27x27, .f32⟩
  | 17 => ⟨S4x27x27x32, .f32⟩
  | 18 => ⟨S4x32x27x27, .f32⟩
  | 19 => ⟨S4x32x27x27, .f32⟩
  | 20 => ⟨S32x16x1x1, .f32⟩
  | 21 => ⟨S32x16, .f32⟩
  | 22 => ⟨S4x16x27x27, .f32⟩
  | 23 => ⟨S4x27x27x32, .f32⟩
  | 24 => ⟨S4x32x27x27, .f32⟩
  | 25 => ⟨S4x32x27x27, .f32⟩
  | 26 => ⟨S32x16x1x1, .f32⟩
  | 27 => ⟨S32x16, .f32⟩
  | 28 => ⟨S4x16x27x27, .f32⟩
  | 29 => ⟨S4x27x27x32, .f32⟩
  | 30 => ⟨S4x32x27x27, .f32⟩
  | 31 => ⟨S4x32x27x27, .f32⟩
  | 32 => ⟨S1x32x1x1, .f32⟩
  | 33 => ⟨S4x32x27x27, .f32⟩
  | 34 => ⟨S4x32x27x27, .f32⟩
  | 35 => ⟨S_, .f32⟩
  | 36 => ⟨S4x32x27x27, .f32⟩
  | 37 => ⟨S4x32x27x27, .i1⟩
  | 38 => ⟨S1x32x1x1, .f32⟩
  | 39 => ⟨S4x32x27x27, .f32⟩
  | 40 => ⟨S4x32x27x27, .f32⟩
  | 41 => ⟨S4x32x27x27, .f32⟩
  | 42 => ⟨S2x32, .f32⟩
  | 43 => ⟨S4x27x27x2, .f32⟩
  | 44 => ⟨S4x2x27x27, .f32⟩
  | 45 => ⟨S_, .f32⟩
  | 46 => ⟨S4x2x27x27, .f32⟩
  | 47 => ⟨S4x2x27x27, .f32⟩
  | 48 => ⟨S1x2x1x1, .f32⟩
  | 49 => ⟨S4x2x27x27, .f32⟩
  | 50 => ⟨S4x2x27x27, .f32⟩
  | 51 => ⟨S_, .f32⟩
  | 52 => ⟨S4x27x27, .f32⟩
  | 53 => ⟨S_, .f32⟩
  | 54 => ⟨S4x27x27, .f32⟩
  | 55 => ⟨S4x27x27, .f32⟩
  | 56 => ⟨S4x1x27x27, .f32⟩
  | 57 => ⟨S4x2x27x27, .f32⟩
  | 58 => ⟨S4x2x27x27, .f32⟩
  | 59 => ⟨S4x2x27x27, .f32⟩
  | 60 => ⟨S_, .f32⟩
  | 61 => ⟨S4x27x27, .f32⟩
  | 62 => ⟨S4x1x27x27, .f32⟩
  | 63 => ⟨S4x2x27x27, .f32⟩
  | 64 => ⟨S4x2x27x27, .f32⟩
  | 65 => ⟨S4x32, .f32⟩
  | 66 => ⟨S4x27x27x4, .f32⟩
  | 67 => ⟨S4x4x27x27, .f32⟩
  | 68 => ⟨S_, .f32⟩
  | 69 => ⟨S4x4x27x27, .f32⟩
  | 70 => ⟨S4x4x27x27, .f32⟩
  | 71 => ⟨S1x4x1x1, .f32⟩
  | 72 => ⟨S4x4x27x27, .f32⟩
  | 73 => ⟨S4x4x27x27, .f32⟩
  | 74 => ⟨S4x1x27x27, .f32⟩
  | 75 => ⟨S4x27x27, .f32⟩
  | 76 => ⟨S27, .f32⟩
  | 77 => ⟨S27, .f32⟩
  | 78 => ⟨S27x27, .f32⟩
  | 79 => ⟨S27x27, .f32⟩
  | 80 => ⟨S_, .f32⟩
  | 81 => ⟨S27x27, .f32⟩
  | 82 => ⟨S27x27, .f32⟩
  | 83 => ⟨S_, .f32⟩
  | 84 => ⟨S27x27, .f32⟩
  | 85 => ⟨S27x27, .f32⟩
  | 86 => ⟨S_, .f32⟩
  | 87 => ⟨S27x27, .f32⟩
  | 88 => ⟨S27x27, .f32⟩
  | 89 => ⟨S_, .f32⟩
  | 90 => ⟨S27x27, .f32⟩
  | 91 => ⟨S27x27, .f32⟩
  | 92 => ⟨S_, .f32⟩
  | 93 => ⟨S27x27, .f32⟩
  | 94 => ⟨S27x27, .f32⟩
  | 95 => ⟨S_, .f32⟩
  | 96 => ⟨S27x27, .f32⟩
  | 97 => ⟨S27x27, .f32⟩
  | 98 => ⟨S_, .f32⟩
  | 99 => ⟨S27x27, .f32⟩
  | 100 => ⟨S27x27, .f32⟩
  | 101 => ⟨S_, .f32⟩
  | 102 => ⟨S27x27, .f32⟩
  | 103 => ⟨S27x27, .f32⟩
  | 104 => ⟨S_, .f32⟩
  | 105 => ⟨S27x27, .f32⟩
  | 106 => ⟨S27x27, .f32⟩
  | 107 => ⟨S_, .f32⟩
  | 108 => ⟨S27x27, .f32⟩
  | 109 => ⟨S27x27, .f32⟩
  | 110 => ⟨S_, .f32⟩
  | 111 => ⟨S27x27, .f32⟩
  | 112 => ⟨S27x27, .f32⟩
  | 113 => ⟨S_, .f32⟩
  | 114 => ⟨S27x27, .f32⟩
  | 115 => ⟨S27x27, .f32⟩
  | 116 => ⟨S27x27, .f32⟩
  | 117 => ⟨S27x27, .f32⟩
  | 118 => ⟨S1x27x27, .f32⟩
  | 119 => ⟨S4x1x27x27, .f32⟩
  | 120 => ⟨S4x27x27, .f32⟩
  | 121 => ⟨S1x27x27, .f32⟩
  | 122 => ⟨S4x27x27, .f32⟩
  | 123 => ⟨S4x27x27, .f32⟩
  | 124 => ⟨S4x27x27, .f32⟩
  | 125 => ⟨S4x27x27, .f32⟩
  | 126 => ⟨S1x27x27, .f32⟩
  | 127 => ⟨S4x1x27x27, .f32⟩
  | _ => ⟨S4x3x512x512, .f32⟩

abbrev hbmTy0_9 (i : Nat) : BufTy := match i % 128 with
  | 0 => ⟨S4x27x27, .f32⟩
  | 1 => ⟨S1x27x27, .f32⟩
  | 2 => ⟨S4x27x27, .f32⟩
  | 3 => ⟨S4x27x27, .f32⟩
  | 4 => ⟨S4x27x27, .f32⟩
  | 5 => ⟨S4x27x27, .f32⟩
  | 6 => ⟨S1x27x27, .f32⟩
  | 7 => ⟨S4x1x27x27, .f32⟩
  | 8 => ⟨S4x27x27, .f32⟩
  | 9 => ⟨S1x27x27, .f32⟩
  | 10 => ⟨S4x27x27, .f32⟩
  | 11 => ⟨S4x27x27, .f32⟩
  | 12 => ⟨S4x27x27, .f32⟩
  | 13 => ⟨S4x27x27, .f32⟩
  | 14 => ⟨S1x27x27, .f32⟩
  | 15 => ⟨S4x1x27x27, .f32⟩
  | 16 => ⟨S4x27x27, .f32⟩
  | 17 => ⟨S1x27x27, .f32⟩
  | 18 => ⟨S4x27x27, .f32⟩
  | 19 => ⟨S4x27x27, .f32⟩
  | 20 => ⟨S4x27x27, .f32⟩
  | 21 => ⟨S4x27x27, .f32⟩
  | 22 => ⟨S4x27x27x1, .f32⟩
  | 23 => ⟨S4x27x27x1, .f32⟩
  | 24 => ⟨S4x27x27x1, .f32⟩
  | 25 => ⟨S4x27x27x1, .f32⟩
  | 26 => ⟨S4x27x27x4, .f32⟩
  | 27 => ⟨S4x729x4, .f32⟩
  | 28 => ⟨S4x729, .f32⟩
  | 29 => ⟨S4x5810x4, .f32⟩
  | 30 => ⟨S4x5810, .f32⟩
  | 31 => ⟨S4x100, .f32⟩
  | 32 => ⟨S4x100, .i32⟩
  | 33 => ⟨S4x100x1, .i32⟩
  | 34 => ⟨S_, .i32⟩
  | 35 => ⟨S4x100x1, .i32⟩
  | 36 => ⟨S4x100x1, .i1⟩
  | 37 => ⟨S_, .i32⟩
  | 38 => ⟨S4x100x1, .i32⟩
  | 39 => ⟨S4x100x1, .i32⟩
  | 40 => ⟨S4x100x1, .i32⟩
  | 41 => ⟨S1, .i32⟩
  | 42 => ⟨S_, .i32⟩
  | 43 => ⟨S4x100x1, .i32⟩
  | 44 => ⟨S4x100x1, .i1⟩
  | 45 => ⟨S1x1x1, .i32⟩
  | 46 => ⟨S4x100x1, .i32⟩
  | 47 => ⟨S4x100x1, .i1⟩
  | 48 => ⟨S4x100x1, .i1⟩
  | 49 => ⟨S_, .i1⟩
  | 50 => ⟨S4x100, .i1⟩
  | 51 => ⟨S4x100x4, .f32⟩
  | 52 => ⟨S4x100x4, .i1⟩
  | 53 => ⟨S_, .f32⟩
  | 54 => ⟨S4x100x4, .f32⟩
  | 55 => ⟨S4x100x4, .f32⟩
  | 56 => ⟨S_, .f32⟩
  | 57 => ⟨S4x100, .f32⟩
  | 58 => ⟨S4x100, .i1⟩
  | 59 => ⟨S4x100x1, .f32⟩
  | 60 => ⟨S4x100, .f32⟩
  | 61 => ⟨S4x100x1, .f32⟩
  | 62 => ⟨S4x100, .f32⟩
  | 63 => ⟨S4x100x1, .f32⟩
  | 64 => ⟨S4x100, .f32⟩
  | 65 => ⟨S4x100x1, .f32⟩
  | 66 => ⟨S4x100, .f32⟩
  | 67 => ⟨S4x100, .f32⟩
  | 68 => ⟨S4x100, .f32⟩
  | 69 => ⟨S4x100, .f32⟩
  | 70 => ⟨S100, .i32⟩
  | 71 => ⟨S1x100, .i32⟩
  | 72 => ⟨S4x100x1, .f32⟩
  | 73 => ⟨S4x100x5, .f32⟩
  | 74 => ⟨S_, .f32⟩
  | 75 => ⟨S4x100, .f32⟩
  | 76 => ⟨S4x100x1, .f32⟩
  | 77 => ⟨S4x100x5, .f32⟩
  | 78 => ⟨S_, .i32⟩
  | 79 => ⟨S_, .i32⟩
  | 80 => ⟨S4x100, .f32⟩
  | 81 => ⟨S1x100, .i32⟩
  | 82 => ⟨S4x100x5, .f32⟩
  | 83 => ⟨S4x100, .f32⟩
  | 84 => ⟨S4x100, .f32⟩
  | 85 => ⟨S4x100, .f32⟩
  | 86 => ⟨S4x100, .f32⟩
  | 87 => ⟨S4x100, .f32⟩
  | 88 => ⟨S_, .i32⟩
  | 89 => ⟨S_, .i32⟩
  | 90 => ⟨S4x100, .i1⟩
  | 91 => ⟨S4x100x5, .f32⟩
  | 92 => ⟨S_, .i32⟩
  | 93 => ⟨S_, .i1⟩
  | 94 => ⟨S_, .i32⟩
  | 95 => ⟨S_, .i32⟩
  | 96 => ⟨S_, .f32⟩
  | 97 => ⟨S_, .f32⟩
  | 98 => ⟨S4x100, .f32⟩
  | 99 => ⟨S4x100, .f32⟩
  | 100 => ⟨S_, .f32⟩
  | 101 => ⟨S4, .f32⟩
  | 102 => ⟨S4x1, .f32⟩
  | 103 => ⟨S4x100, .f32⟩
  | 104 => ⟨S4x100, .i1⟩
  | 105 => ⟨S_, .i32⟩
  | 106 => ⟨S_, .i32⟩
  | 107 => ⟨S4x100, .i32⟩
  | 108 => ⟨S4x100, .i32⟩
  | 109 => ⟨S4x100, .i32⟩
  | 110 => ⟨S_, .i32⟩
  | 111 => ⟨S4, .i32⟩
  | 112 => ⟨S4x1, .i32⟩
  | 113 => ⟨S_, .f32⟩
  | 114 => ⟨S4x1, .f32⟩
  | 115 => ⟨S4x1, .i1⟩
  | 116 => ⟨S4x100, .i32⟩
  | 117 => ⟨S4x100, .i32⟩
  | 118 => ⟨S4x100, .i1⟩
  | 119 => ⟨S4x100, .i1⟩
  | 120 => ⟨S4x100, .i1⟩
  | 121 => ⟨S4x100x1, .i1⟩
  | 122 => ⟨S4x100x5, .i1⟩
  | 123 => ⟨S4x100x5, .f32⟩
  | 124 => ⟨S_, .i32⟩
  | 125 => ⟨S4x1, .i32⟩
  | 126 => ⟨S4x1, .i1⟩
  | 127 => ⟨S_, .i32⟩
  | _ => ⟨S4x3x512x512, .f32⟩

abbrev hbmTy0_10 (i : Nat) : BufTy := match i % 128 with
  | 0 => ⟨S4x1, .i32⟩
  | 1 => ⟨S4x1, .i32⟩
  | 2 => ⟨S4x1, .i32⟩
  | 3 => ⟨S4x1x1, .i32⟩
  | 4 => ⟨S1, .i32⟩
  | 5 => ⟨S_, .i32⟩
  | 6 => ⟨S4x1x1, .i32⟩
  | 7 => ⟨S4x1x1, .i1⟩
  | 8 => ⟨S1x1x1, .i32⟩
  | 9 => ⟨S4x1x1, .i32⟩
  | 10 => ⟨S4x1x1, .i1⟩
  | 11 => ⟨S4x1x1, .i1⟩
  | 12 => ⟨S_, .i1⟩
  | 13 => ⟨S4x1, .i1⟩
  | 14 => ⟨S4x1, .f32⟩
  | 15 => ⟨S_, .f32⟩
  | 16 => ⟨S4x1, .f32⟩
  | 17 => ⟨S4x1, .f32⟩
  | 18 => ⟨S4x100, .f32⟩
  | 19 => ⟨S4x100, .f32⟩
  | 20 => ⟨S_, .i32⟩
  | 21 => ⟨S4x1, .i32⟩
  | 22 => ⟨S4x1, .i1⟩
  | 23 => ⟨S_, .i32⟩
  | 24 => ⟨S4x1, .i32⟩
  | 25 => ⟨S4x1, .i32⟩
  | 26 => ⟨S4x1, .i32⟩
  | 27 => ⟨S4x1x1, .i32⟩
  | 28 => ⟨S1, .i32⟩
  | 29 => ⟨S_, .i32⟩
  | 30 => ⟨S4x1x1, .i32⟩
  | 31 => ⟨S4x1x1, .i1⟩
  | 32 => ⟨S1x1x1, .i32⟩
  | 33 => ⟨S4x1x1, .i32⟩
  | 34 => ⟨S4x1x1, .i1⟩
  | 35 => ⟨S4x1x1, .i1⟩
  | 36 => ⟨S_, .i1⟩
  | 37 => ⟨S4x1, .i1⟩
  | 38 => ⟨S4x1, .f32⟩
  | 39 => ⟨S_, .f32⟩
  | 40 => ⟨S4x1, .f32⟩
  | 41 => ⟨S4x1, .f32⟩
  | 42 => ⟨S4x100, .f32⟩
  | 43 => ⟨S4x100, .f32⟩
  | 44 => ⟨S_, .i32⟩
  | 45 => ⟨S4x1, .i32⟩
  | 46 => ⟨S4x1, .i1⟩
  | 47 => ⟨S_, .i32⟩
  | 48 => ⟨S4x1, .i32⟩
  | 49 => ⟨S4x1, .i32⟩
  | 50 => ⟨S4x1, .i32⟩
  | 51 => ⟨S4x1x1, .i32⟩
  | 52 => ⟨S1, .i32⟩
  | 53 => ⟨S_, .i32⟩
  | 54 => ⟨S4x1x1, .i32⟩
  | 55 => ⟨S4x1x1, .i1⟩
  | 56 => ⟨S1x1x1, .i32⟩
  | 57 => ⟨S4x1x1, .i32⟩
  | 58 => ⟨S4x1x1, .i1⟩
  | 59 => ⟨S4x1x1, .i1⟩
  | 60 => ⟨S_, .i1⟩
  | 61 => ⟨S4x1, .i1⟩
  | 62 => ⟨S4x1, .f32⟩
  | 63 => ⟨S_, .f32⟩
  | 64 => ⟨S4x1, .f32⟩
  | 65 => ⟨S4x1, .f32⟩
  | 66 => ⟨S4x100, .f32⟩
  | 67 => ⟨S4x100, .f32⟩
  | 68 => ⟨S_, .i32⟩
  | 69 => ⟨S4x1, .i32⟩
  | 70 => ⟨S4x1, .i1⟩
  | 71 => ⟨S_, .i32⟩
  | 72 => ⟨S4x1, .i32⟩
  | 73 => ⟨S4x1, .i32⟩
  | 74 => ⟨S4x1, .i32⟩
  | 75 => ⟨S4x1x1, .i32⟩
  | 76 => ⟨S1, .i32⟩
  | 77 => ⟨S_, .i32⟩
  | 78 => ⟨S4x1x1, .i32⟩
  | 79 => ⟨S4x1x1, .i1⟩
  | 80 => ⟨S1x1x1, .i32⟩
  | 81 => ⟨S4x1x1, .i32⟩
  | 82 => ⟨S4x1x1, .i1⟩
  | 83 => ⟨S4x1x1, .i1⟩
  | 84 => ⟨S_, .i1⟩
  | 85 => ⟨S4x1, .i1⟩
  | 86 => ⟨S4x1, .f32⟩
  | 87 => ⟨S_, .f32⟩
  | 88 => ⟨S4x1, .f32⟩
  | 89 => ⟨S4x1, .f32⟩
  | 90 => ⟨S4x100, .f32⟩
  | 91 => ⟨S4x100, .f32⟩
  | 92 => ⟨S4x100, .f32⟩
  | 93 => ⟨S_, .f32⟩
  | 94 => ⟨S4x100, .f32⟩
  | 95 => ⟨S4x100, .f32⟩
  | 96 => ⟨S4x100, .f32⟩
  | 97 => ⟨S_, .f32⟩
  | 98 => ⟨S4x100, .f32⟩
  | 99 => ⟨S4x100, .f32⟩
  | 100 => ⟨S4x100, .f32⟩
  | 101 => ⟨S_, .i32⟩
  | 102 => ⟨S4x1, .i32⟩
  | 103 => ⟨S4x1, .i1⟩
  | 104 => ⟨S_, .i32⟩
  | 105 => ⟨S4x1, .i32⟩
  | 106 => ⟨S4x1, .i32⟩
  | 107 => ⟨S4x1, .i32⟩
  | 108 => ⟨S4x1x1, .i32⟩
  | 109 => ⟨S1, .i32⟩
  | 110 => ⟨S_, .i32⟩
  | 111 => ⟨S4x1x1, .i32⟩
  | 112 => ⟨S4x1x1, .i1⟩
  | 113 => ⟨S1x1x1, .i32⟩
  | 114 => ⟨S4x1x1, .i32⟩
  | 115 => ⟨S4x1x1, .i1⟩
  | 116 => ⟨S4x1x1, .i1⟩
  | 117 => ⟨S_, .i1⟩
  | 118 => ⟨S4x1, .i1⟩
  | 119 => ⟨S4x1, .f32⟩
  | 120 => ⟨S_, .f32⟩
  | 121 => ⟨S4x1, .f32⟩
  | 122 => ⟨S4x1, .f32⟩
  | 123 => ⟨S4x100, .f32⟩
  | 124 => ⟨S4x100, .f32⟩
  | 125 => ⟨S4x100, .f32⟩
  | 126 => ⟨S_, .f32⟩
  | 127 => ⟨S4x100, .f32⟩
  | _ => ⟨S4x3x512x512, .f32⟩

abbrev hbmTy0_11 (i : Nat) : BufTy := match i % 128 with
  | 0 => ⟨S4x100, .f32⟩
  | 1 => ⟨S4x100, .f32⟩
  | 2 => ⟨S_, .f32⟩
  | 3 => ⟨S4x100, .f32⟩
  | 4 => ⟨S4x100, .i1⟩
  | 5 => ⟨S4x100, .i1⟩
  | 6 => ⟨S4x100, .i32⟩
  | 7 => ⟨S4x100, .i32⟩
  | 8 => ⟨S4x100, .i1⟩
  | 9 => ⟨S4x100, .i1⟩
  | 10 => ⟨S4x100, .i1⟩
  | 11 => ⟨S4x100, .i1⟩
  | 12 => ⟨S_, .i32⟩
  | 13 => ⟨S_, .i32⟩
  | _ => ⟨S4x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_cst_2 : Ref sig .tc := ⟨.hbm, 21, rfl⟩
abbrev main_v4 : Ref sig .tc := ⟨.hbm, 22, rfl⟩
abbrev main_cst_3 : Ref sig .tc := ⟨.hbm, 23, rfl⟩
abbrev main_v5 : Ref sig .tc := ⟨.hbm, 24, rfl⟩
abbrev main_v6 : Ref sig .tc := ⟨.hbm, 25, rfl⟩
abbrev main_cst_4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_6 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_c : Ref sig .tc := ⟨.hbm, 64, rfl⟩
abbrev main_call0_v0 : Ref sig .tc := ⟨.hbm, 65, rfl⟩
abbrev main_call0_v1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_12 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v40 : Ref sig .tc := ⟨.hbm, 74, rfl⟩
abbrev main_cst_13 : Ref sig .tc := ⟨.hbm, 75, rfl⟩
abbrev main_v41 : Ref sig .tc := ⟨.hbm, 76, rfl⟩
abbrev main_v42 : Ref sig .tc := ⟨.hbm, 77, rfl⟩
abbrev main_cst_14 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_15 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_16 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_17 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_18 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_19 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_20 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_21 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_cst_22 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_cst_23 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_cst_24 : Ref sig .tc := ⟨.hbm, 301, rfl⟩
abbrev main_v253 : Ref sig .tc := ⟨.hbm, 302, rfl⟩
abbrev main_cst_25 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_cst_26 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_cst_27 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_cst_28 : Ref sig .tc := ⟨.hbm, 330, rfl⟩
abbrev main_v278 : Ref sig .tc := ⟨.hbm, 331, rfl⟩
abbrev main_v279 : Ref sig .tc := ⟨.hbm, 332, rfl⟩
abbrev main_cst_29 : Ref sig .tc := ⟨.hbm, 333, rfl⟩
abbrev main_v280 : Ref sig .tc := ⟨.hbm, 334, rfl⟩
abbrev main_v281 : Ref sig .tc := ⟨.hbm, 335, rfl⟩
abbrev main_cst_30 : Ref sig .tc := ⟨.hbm, 336, rfl⟩
abbrev main_v282 : Ref sig .tc := ⟨.hbm, 337, rfl⟩
abbrev main_v283 : Ref sig .tc := ⟨.hbm, 338, rfl⟩
abbrev main_cst_31 : Ref sig .tc := ⟨.hbm, 339, rfl⟩
abbrev main_v284 : Ref sig .tc := ⟨.hbm, 340, rfl⟩
abbrev main_v285 : Ref sig .tc := ⟨.hbm, 341, rfl⟩
abbrev main_cst_32 : Ref sig .tc := ⟨.hbm, 342, rfl⟩
abbrev main_v286 : Ref sig .tc := ⟨.hbm, 343, rfl⟩
abbrev main_v287 : Ref sig .tc := ⟨.hbm, 344, rfl⟩
abbrev main_cst_33 : Ref sig .tc := ⟨.hbm, 345, rfl⟩
abbrev main_v288 : Ref sig .tc := ⟨.hbm, 346, rfl⟩
abbrev main_v289 : Ref sig .tc := ⟨.hbm, 347, rfl⟩
abbrev main_cst_34 : Ref sig .tc := ⟨.hbm, 348, rfl⟩
abbrev main_v290 : Ref sig .tc := ⟨.hbm, 349, rfl⟩
abbrev main_v291 : Ref sig .tc := ⟨.hbm, 350, rfl⟩
abbrev main_cst_35 : Ref sig .tc := ⟨.hbm, 351, rfl⟩
abbrev main_v292 : Ref sig .tc := ⟨.hbm, 352, rfl⟩
abbrev main_v293 : Ref sig .tc := ⟨.hbm, 353, rfl⟩
abbrev main_cst_36 : Ref sig .tc := ⟨.hbm, 354, rfl⟩
abbrev main_v294 : Ref sig .tc := ⟨.hbm, 355, rfl⟩
abbrev main_v295 : Ref sig .tc := ⟨.hbm, 356, rfl⟩
abbrev main_cst_37 : Ref sig .tc := ⟨.hbm, 357, rfl⟩
abbrev main_v296 : Ref sig .tc := ⟨.hbm, 358, rfl⟩
abbrev main_v297 : Ref sig .tc := ⟨.hbm, 359, rfl⟩
abbrev main_cst_38 : Ref sig .tc := ⟨.hbm, 360, rfl⟩
abbrev main_v298 : Ref sig .tc := ⟨.hbm, 361, rfl⟩
abbrev main_v299 : Ref sig .tc := ⟨.hbm, 362, rfl⟩
abbrev main_cst_39 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_v316 : Ref sig .tc := ⟨.hbm, 380, rfl⟩
abbrev main_v317 : Ref sig .tc := ⟨.hbm, 381, rfl⟩
abbrev main_v318 : Ref sig .tc := ⟨.hbm, 382, rfl⟩
abbrev main_v319 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_cst_40 : Ref sig .tc := ⟨.hbm, 407, rfl⟩
abbrev main_cst_41 : Ref sig .tc := ⟨.hbm, 408, rfl⟩
abbrev main_v343 : Ref sig .tc := ⟨.hbm, 409, rfl⟩
abbrev main_cst_42 : Ref sig .tc := ⟨.hbm, 410, rfl⟩
abbrev main_v344 : Ref sig .tc := ⟨.hbm, 411, rfl⟩
abbrev main_v345 : Ref sig .tc := ⟨.hbm, 412, rfl⟩
abbrev main_cst_43 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_cst_44 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_cst_45 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_cst_46 : Ref sig .tc := ⟨.hbm, 435, rfl⟩
abbrev main_v365 : Ref sig .tc := ⟨.hbm, 436, rfl⟩
abbrev main_v366 : Ref sig .tc := ⟨.hbm, 437, rfl⟩
abbrev main_cst_47 : Ref sig .tc := ⟨.hbm, 438, rfl⟩
abbrev main_v367 : Ref sig .tc := ⟨.hbm, 439, rfl⟩
abbrev main_v368 : Ref sig .tc := ⟨.hbm, 440, rfl⟩
abbrev main_cst_48 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩
abbrev main_cst_49 : Ref sig .tc := ⟨.hbm, 445, rfl⟩
abbrev main_v372 : Ref sig .tc := ⟨.hbm, 446, rfl⟩
abbrev main_v373 : Ref sig .tc := ⟨.hbm, 447, rfl⟩
abbrev main_cst_50 : Ref sig .tc := ⟨.hbm, 448, rfl⟩
abbrev main_v374 : Ref sig .tc := ⟨.hbm, 449, rfl⟩
abbrev main_v375 : Ref sig .tc := ⟨.hbm, 450, rfl⟩
abbrev main_c_51 : Ref sig .tc := ⟨.hbm, 451, rfl⟩
abbrev main_call6_v0 : Ref sig .tc := ⟨.hbm, 452, rfl⟩
abbrev main_call6_v1 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_c_52 : Ref sig .tc := ⟨.hbm, 457, rfl⟩
abbrev main_call7_v0 : Ref sig .tc := ⟨.hbm, 458, rfl⟩
abbrev main_call7_v1 : Ref sig .tc := ⟨.hbm, 459, rfl⟩
abbrev main_call7_v2 : Ref sig .tc := ⟨.hbm, 460, rfl⟩
abbrev main_v379 : Ref sig .tc := ⟨.hbm, 461, rfl⟩
abbrev main_cst_53 : Ref sig .tc := ⟨.hbm, 462, rfl⟩
abbrev main_v380 : Ref sig .tc := ⟨.hbm, 463, rfl⟩
abbrev main_v381 : Ref sig .tc := ⟨.hbm, 464, rfl⟩
abbrev main_cst_54 : Ref sig .tc := ⟨.hbm, 465, rfl⟩
abbrev main_v382 : Ref sig .tc := ⟨.hbm, 466, rfl⟩
abbrev main_v383 : Ref sig .tc := ⟨.hbm, 467, rfl⟩
abbrev main_v384 : Ref sig .tc := ⟨.hbm, 468, rfl⟩
abbrev main_v385 : Ref sig .tc := ⟨.hbm, 469, rfl⟩
abbrev main_c_55 : Ref sig .tc := ⟨.hbm, 470, rfl⟩
abbrev main_call8_v0 : Ref sig .tc := ⟨.hbm, 471, rfl⟩
abbrev main_call8_v1 : Ref sig .tc := ⟨.hbm, 472, rfl⟩
abbrev main_call8_v2 : Ref sig .tc := ⟨.hbm, 473, rfl⟩
abbrev main_v386 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_cst_56 : Ref sig .tc := ⟨.hbm, 483, rfl⟩
abbrev main_v395 : Ref sig .tc := ⟨.hbm, 484, rfl⟩
abbrev main_v396 : Ref sig .tc := ⟨.hbm, 485, rfl⟩
abbrev main_v397 : Ref sig .tc := ⟨.hbm, 486, rfl⟩
abbrev main_v398 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_v420 : Ref sig .tc := ⟨.hbm, 509, rfl⟩
abbrev main_v421 : Ref sig .tc := ⟨.hbm, 510, rfl⟩
abbrev main_v422 : Ref sig .tc := ⟨.hbm, 511, rfl⟩
abbrev main_v423 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_v427 : Ref sig .tc := ⟨.hbm, 516, rfl⟩
abbrev main_v428 : Ref sig .tc := ⟨.hbm, 517, rfl⟩
abbrev main_v429 : Ref sig .tc := ⟨.hbm, 518, rfl⟩
abbrev main_v430 : Ref sig .tc := ⟨.hbm, 519, rfl⟩
abbrev main_v431 : Ref sig .tc := ⟨.hbm, 520, rfl⟩
abbrev main_v432 : Ref sig .tc := ⟨.hbm, 521, rfl⟩
abbrev main_v433 : Ref sig .tc := ⟨.hbm, 522, rfl⟩
abbrev main_v434 : Ref sig .tc := ⟨.hbm, 523, rfl⟩
abbrev main_v435 : Ref sig .tc := ⟨.hbm, 524, rfl⟩
abbrev main_v436 : Ref sig .tc := ⟨.hbm, 525, rfl⟩
abbrev main_v437 : Ref sig .tc := ⟨.hbm, 526, rfl⟩
abbrev main_v438 : Ref sig .tc := ⟨.hbm, 527, rfl⟩
abbrev main_v439 : Ref sig .tc := ⟨.hbm, 528, rfl⟩
abbrev main_v440 : Ref sig .tc := ⟨.hbm, 529, rfl⟩
abbrev main_v441 : Ref sig .tc := ⟨.hbm, 530, rfl⟩
abbrev main_v442 : Ref sig .tc := ⟨.hbm, 531, rfl⟩
abbrev main_v443 : Ref sig .tc := ⟨.hbm, 532, rfl⟩
abbrev main_v444 : Ref sig .tc := ⟨.hbm, 533, rfl⟩
abbrev main_v445 : Ref sig .tc := ⟨.hbm, 534, rfl⟩
abbrev main_v446 : Ref sig .tc := ⟨.hbm, 535, rfl⟩
abbrev main_v447 : Ref sig .tc := ⟨.hbm, 536, rfl⟩
abbrev main_cst_57 : Ref sig .tc := ⟨.hbm, 537, rfl⟩
abbrev main_v448 : Ref sig .tc := ⟨.hbm, 538, rfl⟩
abbrev main_v449 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_cst_58 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_v460 : Ref sig .tc := ⟨.hbm, 551, rfl⟩
abbrev main_cst_59 : Ref sig .tc := ⟨.hbm, 552, rfl⟩
abbrev main_v461 : Ref sig .tc := ⟨.hbm, 553, rfl⟩
abbrev main_v462 : Ref sig .tc := ⟨.hbm, 554, rfl⟩
abbrev main_v463 : Ref sig .tc := ⟨.hbm, 555, rfl⟩
abbrev main_v464 : Ref sig .tc := ⟨.hbm, 556, rfl⟩
abbrev main_v465 : Ref sig .tc := ⟨.hbm, 557, rfl⟩
abbrev main_v466 : Ref sig .tc := ⟨.hbm, 558, rfl⟩
abbrev main_v467 : Ref sig .tc := ⟨.hbm, 559, rfl⟩
abbrev main_v468 : Ref sig .tc := ⟨.hbm, 560, rfl⟩
abbrev main_v469 : Ref sig .tc := ⟨.hbm, 561, rfl⟩
abbrev main_v470 : Ref sig .tc := ⟨.hbm, 562, rfl⟩
abbrev main_v471 : Ref sig .tc := ⟨.hbm, 563, rfl⟩
abbrev main_v472 : Ref sig .tc := ⟨.hbm, 564, rfl⟩
abbrev main_v473 : Ref sig .tc := ⟨.hbm, 565, rfl⟩
abbrev main_v474 : Ref sig .tc := ⟨.hbm, 566, rfl⟩
abbrev main_v475 : Ref sig .tc := ⟨.hbm, 567, rfl⟩
abbrev main_v476 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_v481 : Ref sig .tc := ⟨.hbm, 573, rfl⟩
abbrev main_v482 : Ref sig .tc := ⟨.hbm, 574, rfl⟩
abbrev main_v483 : Ref sig .tc := ⟨.hbm, 575, rfl⟩
abbrev main_v484 : Ref sig .tc := ⟨.hbm, 576, rfl⟩
abbrev main_v485 : Ref sig .tc := ⟨.hbm, 577, rfl⟩
abbrev main_v486 : Ref sig .tc := ⟨.hbm, 578, rfl⟩
abbrev main_v487 : Ref sig .tc := ⟨.hbm, 579, rfl⟩
abbrev main_v488 : Ref sig .tc := ⟨.hbm, 580, rfl⟩
abbrev main_v489 : Ref sig .tc := ⟨.hbm, 581, rfl⟩
abbrev main_v490 : Ref sig .tc := ⟨.hbm, 582, rfl⟩
abbrev main_v491 : Ref sig .tc := ⟨.hbm, 583, rfl⟩
abbrev main_v492 : Ref sig .tc := ⟨.hbm, 584, rfl⟩
abbrev main_v493 : Ref sig .tc := ⟨.hbm, 585, rfl⟩
abbrev main_v494 : Ref sig .tc := ⟨.hbm, 586, rfl⟩
abbrev main_v495 : Ref sig .tc := ⟨.hbm, 587, rfl⟩
abbrev main_v496 : Ref sig .tc := ⟨.hbm, 588, rfl⟩
abbrev main_v497 : Ref sig .tc := ⟨.hbm, 589, rfl⟩
abbrev main_v498 : Ref sig .tc := ⟨.hbm, 590, rfl⟩
abbrev main_v499 : Ref sig .tc := ⟨.hbm, 591, rfl⟩
abbrev main_v500 : Ref sig .tc := ⟨.hbm, 592, rfl⟩
abbrev main_v501 : Ref sig .tc := ⟨.hbm, 593, rfl⟩
abbrev main_v502 : Ref sig .tc := ⟨.hbm, 594, rfl⟩
abbrev main_v503 : Ref sig .tc := ⟨.hbm, 595, rfl⟩
abbrev main_v504 : Ref sig .tc := ⟨.hbm, 596, rfl⟩
abbrev main_v505 : Ref sig .tc := ⟨.hbm, 597, rfl⟩
abbrev main_v506 : Ref sig .tc := ⟨.hbm, 598, rfl⟩
abbrev main_v507 : Ref sig .tc := ⟨.hbm, 599, rfl⟩
abbrev main_v508 : Ref sig .tc := ⟨.hbm, 600, rfl⟩
abbrev main_v509 : Ref sig .tc := ⟨.hbm, 601, rfl⟩
abbrev main_v510 : Ref sig .tc := ⟨.hbm, 602, rfl⟩
abbrev main_v511 : Ref sig .tc := ⟨.hbm, 603, rfl⟩
abbrev main_v512 : Ref sig .tc := ⟨.hbm, 604, rfl⟩
abbrev main_v513 : Ref sig .tc := ⟨.hbm, 605, rfl⟩
abbrev main_cst_60 : Ref sig .tc := ⟨.hbm, 606, rfl⟩
abbrev main_v514 : Ref sig .tc := ⟨.hbm, 607, rfl⟩
abbrev main_v515 : Ref sig .tc := ⟨.hbm, 608, rfl⟩
abbrev main_v516 : Ref sig .tc := ⟨.hbm, 609, rfl⟩
abbrev main_v517 : Ref sig .tc := ⟨.hbm, 610, rfl⟩
abbrev main_v518 : Ref sig .tc := ⟨.hbm, 611, rfl⟩
abbrev main_v519 : Ref sig .tc := ⟨.hbm, 612, rfl⟩
abbrev main_v520 : Ref sig .tc := ⟨.hbm, 613, rfl⟩
abbrev main_v521 : Ref sig .tc := ⟨.hbm, 614, rfl⟩
abbrev main_v522 : Ref sig .tc := ⟨.hbm, 615, rfl⟩
abbrev main_v523 : Ref sig .tc := ⟨.hbm, 616, rfl⟩
abbrev main_v524 : Ref sig .tc := ⟨.hbm, 617, rfl⟩
abbrev main_cst_61 : Ref sig .tc := ⟨.hbm, 618, rfl⟩
abbrev main_v525 : Ref sig .tc := ⟨.hbm, 619, rfl⟩
abbrev main_v526 : Ref sig .tc := ⟨.hbm, 620, rfl⟩
abbrev main_v527 : Ref sig .tc := ⟨.hbm, 621, rfl⟩
abbrev main_v528 : Ref sig .tc := ⟨.hbm, 622, rfl⟩
abbrev main_v529 : Ref sig .tc := ⟨.hbm, 623, rfl⟩
abbrev main_v530 : Ref sig .tc := ⟨.hbm, 624, rfl⟩
abbrev main_v531 : Ref sig .tc := ⟨.hbm, 625, rfl⟩
abbrev main_v532 : Ref sig .tc := ⟨.hbm, 626, rfl⟩
abbrev main_v533 : Ref sig .tc := ⟨.hbm, 627, rfl⟩
abbrev main_v534 : Ref sig .tc := ⟨.hbm, 628, rfl⟩
abbrev main_v535 : Ref sig .tc := ⟨.hbm, 629, rfl⟩
abbrev main_v536 : Ref sig .tc := ⟨.hbm, 630, rfl⟩
abbrev main_v537 : Ref sig .tc := ⟨.hbm, 631, rfl⟩
abbrev main_v538 : Ref sig .tc := ⟨.hbm, 632, rfl⟩
abbrev main_v539 : Ref sig .tc := ⟨.hbm, 633, rfl⟩
abbrev main_v540 : Ref sig .tc := ⟨.hbm, 634, rfl⟩
abbrev main_v541 : Ref sig .tc := ⟨.hbm, 635, rfl⟩
abbrev main_v542 : Ref sig .tc := ⟨.hbm, 636, rfl⟩
abbrev main_v543 : Ref sig .tc := ⟨.hbm, 637, rfl⟩
abbrev main_v544 : Ref sig .tc := ⟨.hbm, 638, rfl⟩
abbrev main_v545 : Ref sig .tc := ⟨.hbm, 639, rfl⟩
abbrev main_v546 : Ref sig .tc := ⟨.hbm, 640, rfl⟩
abbrev main_v547 : Ref sig .tc := ⟨.hbm, 641, rfl⟩
abbrev main_v548 : Ref sig .tc := ⟨.hbm, 642, rfl⟩
abbrev main_v549 : Ref sig .tc := ⟨.hbm, 643, rfl⟩
abbrev main_v550 : Ref sig .tc := ⟨.hbm, 644, rfl⟩
abbrev main_v551 : Ref sig .tc := ⟨.hbm, 645, rfl⟩
abbrev main_v552 : Ref sig .tc := ⟨.hbm, 646, rfl⟩
abbrev main_v553 : Ref sig .tc := ⟨.hbm, 647, rfl⟩
abbrev main_v554 : Ref sig .tc := ⟨.hbm, 648, rfl⟩
abbrev main_v555 : Ref sig .tc := ⟨.hbm, 649, rfl⟩
abbrev main_v556 : Ref sig .tc := ⟨.hbm, 650, rfl⟩
abbrev main_v557 : Ref sig .tc := ⟨.hbm, 651, rfl⟩
abbrev main_v558 : Ref sig .tc := ⟨.hbm, 652, rfl⟩
abbrev main_v559 : Ref sig .tc := ⟨.hbm, 653, rfl⟩
abbrev main_v560 : Ref sig .tc := ⟨.hbm, 654, rfl⟩
abbrev main_v561 : Ref sig .tc := ⟨.hbm, 655, rfl⟩
abbrev main_v562 : Ref sig .tc := ⟨.hbm, 656, rfl⟩
abbrev main_v563 : Ref sig .tc := ⟨.hbm, 657, rfl⟩
abbrev main_v564 : Ref sig .tc := ⟨.hbm, 658, rfl⟩
abbrev main_v565 : Ref sig .tc := ⟨.hbm, 659, rfl⟩
abbrev main_v566 : Ref sig .tc := ⟨.hbm, 660, rfl⟩
abbrev main_v567 : Ref sig .tc := ⟨.hbm, 661, rfl⟩
abbrev main_v568 : Ref sig .tc := ⟨.hbm, 662, rfl⟩
abbrev main_v569 : Ref sig .tc := ⟨.hbm, 663, rfl⟩
abbrev main_v570 : Ref sig .tc := ⟨.hbm, 664, rfl⟩
abbrev main_v571 : Ref sig .tc := ⟨.hbm, 665, rfl⟩
abbrev main_v572 : Ref sig .tc := ⟨.hbm, 666, rfl⟩
abbrev main_v573 : Ref sig .tc := ⟨.hbm, 667, rfl⟩
abbrev main_v574 : Ref sig .tc := ⟨.hbm, 668, rfl⟩
abbrev main_v575 : Ref sig .tc := ⟨.hbm, 669, rfl⟩
abbrev main_v576 : Ref sig .tc := ⟨.hbm, 670, rfl⟩
abbrev main_v577 : Ref sig .tc := ⟨.hbm, 671, rfl⟩
abbrev main_cst_62 : Ref sig .tc := ⟨.hbm, 672, rfl⟩
abbrev main_v578 : Ref sig .tc := ⟨.hbm, 673, rfl⟩
abbrev main_v579 : Ref sig .tc := ⟨.hbm, 674, rfl⟩
abbrev main_v580 : Ref sig .tc := ⟨.hbm, 675, rfl⟩
abbrev main_v581 : Ref sig .tc := ⟨.hbm, 676, rfl⟩
abbrev main_v582 : Ref sig .tc := ⟨.hbm, 677, rfl⟩
abbrev main_v583 : Ref sig .tc := ⟨.hbm, 678, rfl⟩
abbrev main_v584 : Ref sig .tc := ⟨.hbm, 679, rfl⟩
abbrev main_v585 : Ref sig .tc := ⟨.hbm, 680, rfl⟩
abbrev main_v586 : Ref sig .tc := ⟨.hbm, 681, rfl⟩
abbrev main_cst_63 : Ref sig .tc := ⟨.hbm, 682, rfl⟩
abbrev main_v587 : Ref sig .tc := ⟨.hbm, 683, rfl⟩
abbrev main_v588 : Ref sig .tc := ⟨.hbm, 684, rfl⟩
abbrev main_v589 : Ref sig .tc := ⟨.hbm, 685, rfl⟩
abbrev main_v590 : Ref sig .tc := ⟨.hbm, 686, rfl⟩
abbrev main_v591 : Ref sig .tc := ⟨.hbm, 687, rfl⟩
abbrev main_cst_64 : Ref sig .tc := ⟨.hbm, 688, rfl⟩
abbrev main_v592 : Ref sig .tc := ⟨.hbm, 689, rfl⟩
abbrev main_cst_65 : Ref sig .tc := ⟨.hbm, 690, rfl⟩
abbrev main_v593 : Ref sig .tc := ⟨.hbm, 691, rfl⟩
abbrev main_v594 : Ref sig .tc := ⟨.hbm, 692, rfl⟩
abbrev main_v595 : Ref sig .tc := ⟨.hbm, 693, rfl⟩
abbrev main_v596 : Ref sig .tc := ⟨.hbm, 694, rfl⟩
abbrev main_v597 : Ref sig .tc := ⟨.hbm, 695, rfl⟩
abbrev main_v598 : Ref sig .tc := ⟨.hbm, 696, rfl⟩
abbrev main_cst_66 : Ref sig .tc := ⟨.hbm, 697, rfl⟩
abbrev main_v599 : Ref sig .tc := ⟨.hbm, 698, rfl⟩
abbrev main_v600 : Ref sig .tc := ⟨.hbm, 699, rfl⟩
abbrev main_v601 : Ref sig .tc := ⟨.hbm, 700, rfl⟩
abbrev main_v602 : Ref sig .tc := ⟨.hbm, 701, rfl⟩
abbrev main_v603 : Ref sig .tc := ⟨.hbm, 702, rfl⟩
abbrev main_v604 : Ref sig .tc := ⟨.hbm, 703, rfl⟩
abbrev main_v605 : Ref sig .tc := ⟨.hbm, 704, rfl⟩
abbrev main_cst_67 : Ref sig .tc := ⟨.hbm, 705, rfl⟩
abbrev main_v606 : Ref sig .tc := ⟨.hbm, 706, rfl⟩
abbrev main_v607 : Ref sig .tc := ⟨.hbm, 707, rfl⟩
abbrev main_v608 : Ref sig .tc := ⟨.hbm, 708, rfl⟩
abbrev main_v609 : Ref sig .tc := ⟨.hbm, 709, rfl⟩
abbrev main_v610 : Ref sig .tc := ⟨.hbm, 710, rfl⟩
abbrev main_v611 : Ref sig .tc := ⟨.hbm, 711, rfl⟩
abbrev main_v612 : Ref sig .tc := ⟨.hbm, 712, rfl⟩
abbrev main_v613 : Ref sig .tc := ⟨.hbm, 713, rfl⟩
abbrev main_v614 : Ref sig .tc := ⟨.hbm, 714, rfl⟩
abbrev main_v615 : Ref sig .tc := ⟨.hbm, 715, rfl⟩
abbrev main_v616 : Ref sig .tc := ⟨.hbm, 716, rfl⟩
abbrev main_cst_68 : Ref sig .tc := ⟨.hbm, 717, rfl⟩
abbrev main_v617 : Ref sig .tc := ⟨.hbm, 718, rfl⟩
abbrev main_v618 : Ref sig .tc := ⟨.hbm, 719, rfl⟩
abbrev main_cst_69 : Ref sig .tc := ⟨.hbm, 720, rfl⟩
abbrev main_v619 : Ref sig .tc := ⟨.hbm, 721, rfl⟩
abbrev main_v620 : Ref sig .tc := ⟨.hbm, 722, rfl⟩
abbrev main_cst_70 : Ref sig .tc := ⟨.hbm, 723, rfl⟩
abbrev main_v621 : Ref sig .tc := ⟨.hbm, 724, rfl⟩
abbrev main_v622 : Ref sig .tc := ⟨.hbm, 725, rfl⟩
abbrev main_cst_71 : Ref sig .tc := ⟨.hbm, 726, rfl⟩
abbrev main_v623 : Ref sig .tc := ⟨.hbm, 727, rfl⟩
abbrev main_v624 : Ref sig .tc := ⟨.hbm, 728, rfl⟩
abbrev main_cst_72 : Ref sig .tc := ⟨.hbm, 729, rfl⟩
abbrev main_v625 : Ref sig .tc := ⟨.hbm, 730, rfl⟩
abbrev main_v626 : Ref sig .tc := ⟨.hbm, 731, rfl⟩
abbrev main_cst_73 : Ref sig .tc := ⟨.hbm, 732, rfl⟩
abbrev main_v627 : Ref sig .tc := ⟨.hbm, 733, rfl⟩
abbrev main_v628 : Ref sig .tc := ⟨.hbm, 734, rfl⟩
abbrev main_cst_74 : Ref sig .tc := ⟨.hbm, 735, rfl⟩
abbrev main_v629 : Ref sig .tc := ⟨.hbm, 736, rfl⟩
abbrev main_v630 : Ref sig .tc := ⟨.hbm, 737, rfl⟩
abbrev main_cst_75 : Ref sig .tc := ⟨.hbm, 738, rfl⟩
abbrev main_v631 : Ref sig .tc := ⟨.hbm, 739, rfl⟩
abbrev main_v632 : Ref sig .tc := ⟨.hbm, 740, rfl⟩
abbrev main_cst_76 : Ref sig .tc := ⟨.hbm, 741, rfl⟩
abbrev main_v633 : Ref sig .tc := ⟨.hbm, 742, rfl⟩
abbrev main_v634 : Ref sig .tc := ⟨.hbm, 743, rfl⟩
abbrev main_cst_77 : Ref sig .tc := ⟨.hbm, 744, rfl⟩
abbrev main_v635 : Ref sig .tc := ⟨.hbm, 745, rfl⟩
abbrev main_v636 : Ref sig .tc := ⟨.hbm, 746, rfl⟩
abbrev main_cst_78 : Ref sig .tc := ⟨.hbm, 747, rfl⟩
abbrev main_v637 : Ref sig .tc := ⟨.hbm, 748, rfl⟩
abbrev main_v638 : Ref sig .tc := ⟨.hbm, 749, rfl⟩
abbrev main_cst_79 : Ref sig .tc := ⟨.hbm, 750, rfl⟩
abbrev main_v639 : Ref sig .tc := ⟨.hbm, 751, rfl⟩
abbrev main_v640 : Ref sig .tc := ⟨.hbm, 752, rfl⟩
abbrev main_v641 : Ref sig .tc := ⟨.hbm, 753, rfl⟩
abbrev main_v642 : Ref sig .tc := ⟨.hbm, 754, rfl⟩
abbrev main_v643 : Ref sig .tc := ⟨.hbm, 755, rfl⟩
abbrev main_v644 : Ref sig .tc := ⟨.hbm, 756, rfl⟩
abbrev main_v645 : Ref sig .tc := ⟨.hbm, 757, rfl⟩
abbrev main_v646 : Ref sig .tc := ⟨.hbm, 758, rfl⟩
abbrev main_v647 : Ref sig .tc := ⟨.hbm, 759, rfl⟩
abbrev main_v648 : Ref sig .tc := ⟨.hbm, 760, rfl⟩
abbrev main_v649 : Ref sig .tc := ⟨.hbm, 761, rfl⟩
abbrev main_v650 : Ref sig .tc := ⟨.hbm, 762, rfl⟩
abbrev main_v651 : Ref sig .tc := ⟨.hbm, 763, rfl⟩
abbrev main_v652 : Ref sig .tc := ⟨.hbm, 764, rfl⟩
abbrev main_v653 : Ref sig .tc := ⟨.hbm, 765, rfl⟩
abbrev main_v654 : Ref sig .tc := ⟨.hbm, 766, rfl⟩
abbrev main_v655 : Ref sig .tc := ⟨.hbm, 767, rfl⟩
abbrev main_v656 : Ref sig .tc := ⟨.hbm, 768, rfl⟩
abbrev main_v657 : Ref sig .tc := ⟨.hbm, 769, rfl⟩
abbrev main_v658 : Ref sig .tc := ⟨.hbm, 770, rfl⟩
abbrev main_v659 : Ref sig .tc := ⟨.hbm, 771, rfl⟩
abbrev main_v660 : Ref sig .tc := ⟨.hbm, 772, rfl⟩
abbrev main_v661 : Ref sig .tc := ⟨.hbm, 773, rfl⟩
abbrev main_v662 : Ref sig .tc := ⟨.hbm, 774, rfl⟩
abbrev main_v663 : Ref sig .tc := ⟨.hbm, 775, rfl⟩
abbrev main_v664 : Ref sig .tc := ⟨.hbm, 776, rfl⟩
abbrev main_v665 : Ref sig .tc := ⟨.hbm, 777, rfl⟩
abbrev main_v666 : Ref sig .tc := ⟨.hbm, 778, rfl⟩
abbrev main_v667 : Ref sig .tc := ⟨.hbm, 779, rfl⟩
abbrev main_v668 : Ref sig .tc := ⟨.hbm, 780, rfl⟩
abbrev main_v669 : Ref sig .tc := ⟨.hbm, 781, rfl⟩
abbrev main_v670 : Ref sig .tc := ⟨.hbm, 782, rfl⟩
abbrev main_v671 : Ref sig .tc := ⟨.hbm, 783, rfl⟩
abbrev main_v672 : Ref sig .tc := ⟨.hbm, 784, rfl⟩
abbrev main_v673 : Ref sig .tc := ⟨.hbm, 785, rfl⟩
abbrev main_v674 : Ref sig .tc := ⟨.hbm, 786, rfl⟩
abbrev main_v675 : Ref sig .tc := ⟨.hbm, 787, rfl⟩
abbrev main_v676 : Ref sig .tc := ⟨.hbm, 788, rfl⟩
abbrev main_v677 : Ref sig .tc := ⟨.hbm, 789, rfl⟩
abbrev main_v678 : Ref sig .tc := ⟨.hbm, 790, rfl⟩
abbrev main_v679 : Ref sig .tc := ⟨.hbm, 791, rfl⟩
abbrev main_v680 : Ref sig .tc := ⟨.hbm, 792, rfl⟩
abbrev main_v681 : Ref sig .tc := ⟨.hbm, 793, rfl⟩
abbrev main_cst_80 : Ref sig .tc := ⟨.hbm, 794, rfl⟩
abbrev main_cst_81 : Ref sig .tc := ⟨.hbm, 795, rfl⟩
abbrev main_v682 : Ref sig .tc := ⟨.hbm, 796, rfl⟩
abbrev main_cst_82 : Ref sig .tc := ⟨.hbm, 797, rfl⟩
abbrev main_v683 : Ref sig .tc := ⟨.hbm, 798, rfl⟩
abbrev main_v684 : Ref sig .tc := ⟨.hbm, 799, rfl⟩
abbrev main_cst_83 : Ref sig .tc := ⟨.hbm, 800, rfl⟩
abbrev main_v685 : Ref sig .tc := ⟨.hbm, 801, rfl⟩
abbrev main_v686 : Ref sig .tc := ⟨.hbm, 802, rfl⟩
abbrev main_v687 : Ref sig .tc := ⟨.hbm, 803, rfl⟩
abbrev main_v688 : Ref sig .tc := ⟨.hbm, 804, rfl⟩
abbrev main_cst_84 : Ref sig .tc := ⟨.hbm, 805, rfl⟩
abbrev main_v689 : Ref sig .tc := ⟨.hbm, 806, rfl⟩
abbrev main_v690 : Ref sig .tc := ⟨.hbm, 807, rfl⟩
abbrev main_v691 : Ref sig .tc := ⟨.hbm, 808, rfl⟩
abbrev main_cst_85 : Ref sig .tc := ⟨.hbm, 809, rfl⟩
abbrev main_v692 : Ref sig .tc := ⟨.hbm, 810, rfl⟩
abbrev main_v693 : Ref sig .tc := ⟨.hbm, 811, rfl⟩
abbrev main_v694 : Ref sig .tc := ⟨.hbm, 812, rfl⟩
abbrev main_v695 : Ref sig .tc := ⟨.hbm, 813, rfl⟩
abbrev main_v696 : Ref sig .tc := ⟨.hbm, 814, rfl⟩
abbrev main_v697 : Ref sig .tc := ⟨.hbm, 815, rfl⟩
abbrev main_v698 : Ref sig .tc := ⟨.hbm, 816, rfl⟩
abbrev main_v699 : Ref sig .tc := ⟨.hbm, 817, rfl⟩
abbrev main_v700 : Ref sig .tc := ⟨.hbm, 818, rfl⟩
abbrev main_v701 : Ref sig .tc := ⟨.hbm, 819, rfl⟩
abbrev main_v702 : Ref sig .tc := ⟨.hbm, 820, rfl⟩
abbrev main_v703 : Ref sig .tc := ⟨.hbm, 821, rfl⟩
abbrev main_cst_86 : Ref sig .tc := ⟨.hbm, 822, rfl⟩
abbrev main_v704 : Ref sig .tc := ⟨.hbm, 823, rfl⟩
abbrev main_v705 : Ref sig .tc := ⟨.hbm, 824, rfl⟩
abbrev main_cst_87 : Ref sig .tc := ⟨.hbm, 825, rfl⟩
abbrev main_v706 : Ref sig .tc := ⟨.hbm, 826, rfl⟩
abbrev main_v707 : Ref sig .tc := ⟨.hbm, 827, rfl⟩
abbrev main_cst_88 : Ref sig .tc := ⟨.hbm, 828, rfl⟩
abbrev main_v708 : Ref sig .tc := ⟨.hbm, 829, rfl⟩
abbrev main_v709 : Ref sig .tc := ⟨.hbm, 830, rfl⟩
abbrev main_v710 : Ref sig .tc := ⟨.hbm, 831, rfl⟩
abbrev main_cst_89 : Ref sig .tc := ⟨.hbm, 832, rfl⟩
abbrev main_v711 : Ref sig .tc := ⟨.hbm, 833, rfl⟩
abbrev main_v712 : Ref sig .tc := ⟨.hbm, 834, rfl⟩
abbrev main_cst_90 : Ref sig .tc := ⟨.hbm, 835, rfl⟩
abbrev main_v713 : Ref sig .tc := ⟨.hbm, 836, rfl⟩
abbrev main_v714 : Ref sig .tc := ⟨.hbm, 837, rfl⟩
abbrev main_c_91 : Ref sig .tc := ⟨.hbm, 838, rfl⟩
abbrev main_call12_v0 : Ref sig .tc := ⟨.hbm, 839, rfl⟩
abbrev main_call12_v1 : Ref sig .tc := ⟨.hbm, 840, rfl⟩
abbrev main_v715 : Ref sig .tc := ⟨.hbm, 841, rfl⟩
abbrev main_v716 : Ref sig .tc := ⟨.hbm, 842, rfl⟩
abbrev main_v717 : Ref sig .tc := ⟨.hbm, 843, rfl⟩
abbrev main_c_92 : Ref sig .tc := ⟨.hbm, 844, rfl⟩
abbrev main_call13_v0 : Ref sig .tc := ⟨.hbm, 845, rfl⟩
abbrev main_call13_v1 : Ref sig .tc := ⟨.hbm, 846, rfl⟩
abbrev main_call13_v2 : Ref sig .tc := ⟨.hbm, 847, rfl⟩
abbrev main_v718 : Ref sig .tc := ⟨.hbm, 848, rfl⟩
abbrev main_cst_93 : Ref sig .tc := ⟨.hbm, 849, rfl⟩
abbrev main_v719 : Ref sig .tc := ⟨.hbm, 850, rfl⟩
abbrev main_v720 : Ref sig .tc := ⟨.hbm, 851, rfl⟩
abbrev main_cst_94 : Ref sig .tc := ⟨.hbm, 852, rfl⟩
abbrev main_v721 : Ref sig .tc := ⟨.hbm, 853, rfl⟩
abbrev main_v722 : Ref sig .tc := ⟨.hbm, 854, rfl⟩
abbrev main_v723 : Ref sig .tc := ⟨.hbm, 855, rfl⟩
abbrev main_v724 : Ref sig .tc := ⟨.hbm, 856, rfl⟩
abbrev main_c_95 : Ref sig .tc := ⟨.hbm, 857, rfl⟩
abbrev main_call14_v0 : Ref sig .tc := ⟨.hbm, 858, rfl⟩
abbrev main_call14_v1 : Ref sig .tc := ⟨.hbm, 859, rfl⟩
abbrev main_call14_v2 : Ref sig .tc := ⟨.hbm, 860, rfl⟩
abbrev main_v725 : Ref sig .tc := ⟨.hbm, 861, rfl⟩
abbrev main_v726 : Ref sig .tc := ⟨.hbm, 862, rfl⟩
abbrev main_v727 : Ref sig .tc := ⟨.hbm, 863, rfl⟩
abbrev main_v728 : Ref sig .tc := ⟨.hbm, 864, rfl⟩
abbrev main_v729 : Ref sig .tc := ⟨.hbm, 865, rfl⟩
abbrev main_v730 : Ref sig .tc := ⟨.hbm, 866, rfl⟩
abbrev main_v731 : Ref sig .tc := ⟨.hbm, 867, rfl⟩
abbrev main_v732 : Ref sig .tc := ⟨.hbm, 868, rfl⟩
abbrev main_v733 : Ref sig .tc := ⟨.hbm, 869, rfl⟩
abbrev main_cst_96 : Ref sig .tc := ⟨.hbm, 870, rfl⟩
abbrev main_v734 : Ref sig .tc := ⟨.hbm, 871, rfl⟩
abbrev main_v735 : Ref sig .tc := ⟨.hbm, 872, rfl⟩
abbrev main_v736 : Ref sig .tc := ⟨.hbm, 873, rfl⟩
abbrev main_v737 : Ref sig .tc := ⟨.hbm, 874, rfl⟩
abbrev main_v738 : Ref sig .tc := ⟨.hbm, 875, rfl⟩
abbrev main_v739 : Ref sig .tc := ⟨.hbm, 876, rfl⟩
abbrev main_v740 : Ref sig .tc := ⟨.hbm, 877, rfl⟩
abbrev main_v741 : Ref sig .tc := ⟨.hbm, 878, rfl⟩
abbrev main_v742 : Ref sig .tc := ⟨.hbm, 879, rfl⟩
abbrev main_v743 : Ref sig .tc := ⟨.hbm, 880, rfl⟩
abbrev main_v744 : Ref sig .tc := ⟨.hbm, 881, rfl⟩
abbrev main_v745 : Ref sig .tc := ⟨.hbm, 882, rfl⟩
abbrev main_v746 : Ref sig .tc := ⟨.hbm, 883, rfl⟩
abbrev main_v747 : Ref sig .tc := ⟨.hbm, 884, rfl⟩
abbrev main_v748 : Ref sig .tc := ⟨.hbm, 885, rfl⟩
abbrev main_v749 : Ref sig .tc := ⟨.hbm, 886, rfl⟩
abbrev main_v750 : Ref sig .tc := ⟨.hbm, 887, rfl⟩
abbrev main_v751 : Ref sig .tc := ⟨.hbm, 888, rfl⟩
abbrev main_v752 : Ref sig .tc := ⟨.hbm, 889, rfl⟩
abbrev main_v753 : Ref sig .tc := ⟨.hbm, 890, rfl⟩
abbrev main_v754 : Ref sig .tc := ⟨.hbm, 891, rfl⟩
abbrev main_v755 : Ref sig .tc := ⟨.hbm, 892, rfl⟩
abbrev main_v756 : Ref sig .tc := ⟨.hbm, 893, rfl⟩
abbrev main_v757 : Ref sig .tc := ⟨.hbm, 894, rfl⟩
abbrev main_v758 : Ref sig .tc := ⟨.hbm, 895, rfl⟩
abbrev main_v759 : Ref sig .tc := ⟨.hbm, 896, rfl⟩
abbrev main_v760 : Ref sig .tc := ⟨.hbm, 897, rfl⟩
abbrev main_v761 : Ref sig .tc := ⟨.hbm, 898, rfl⟩
abbrev main_v762 : Ref sig .tc := ⟨.hbm, 899, rfl⟩
abbrev main_v763 : Ref sig .tc := ⟨.hbm, 900, rfl⟩
abbrev main_v764 : Ref sig .tc := ⟨.hbm, 901, rfl⟩
abbrev main_v765 : Ref sig .tc := ⟨.hbm, 902, rfl⟩
abbrev main_v766 : Ref sig .tc := ⟨.hbm, 903, rfl⟩
abbrev main_v767 : Ref sig .tc := ⟨.hbm, 904, rfl⟩
abbrev main_v768 : Ref sig .tc := ⟨.hbm, 905, rfl⟩
abbrev main_v769 : Ref sig .tc := ⟨.hbm, 906, rfl⟩
abbrev main_v770 : Ref sig .tc := ⟨.hbm, 907, rfl⟩
abbrev main_v771 : Ref sig .tc := ⟨.hbm, 908, rfl⟩
abbrev main_v772 : Ref sig .tc := ⟨.hbm, 909, rfl⟩
abbrev main_v773 : Ref sig .tc := ⟨.hbm, 910, rfl⟩
abbrev main_v774 : Ref sig .tc := ⟨.hbm, 911, rfl⟩
abbrev main_v775 : Ref sig .tc := ⟨.hbm, 912, rfl⟩
abbrev main_v776 : Ref sig .tc := ⟨.hbm, 913, rfl⟩
abbrev main_v777 : Ref sig .tc := ⟨.hbm, 914, rfl⟩
abbrev main_v778 : Ref sig .tc := ⟨.hbm, 915, rfl⟩
abbrev main_v779 : Ref sig .tc := ⟨.hbm, 916, rfl⟩
abbrev main_v780 : Ref sig .tc := ⟨.hbm, 917, rfl⟩
abbrev main_v781 : Ref sig .tc := ⟨.hbm, 918, rfl⟩
abbrev main_v782 : Ref sig .tc := ⟨.hbm, 919, rfl⟩
abbrev main_v783 : Ref sig .tc := ⟨.hbm, 920, rfl⟩
abbrev main_v784 : Ref sig .tc := ⟨.hbm, 921, rfl⟩
abbrev main_v785 : Ref sig .tc := ⟨.hbm, 922, rfl⟩
abbrev main_v786 : Ref sig .tc := ⟨.hbm, 923, rfl⟩
abbrev main_cst_97 : Ref sig .tc := ⟨.hbm, 924, rfl⟩
abbrev main_v787 : Ref sig .tc := ⟨.hbm, 925, rfl⟩
abbrev main_v788 : Ref sig .tc := ⟨.hbm, 926, rfl⟩
abbrev main_v789 : Ref sig .tc := ⟨.hbm, 927, rfl⟩
abbrev main_v790 : Ref sig .tc := ⟨.hbm, 928, rfl⟩
abbrev main_v791 : Ref sig .tc := ⟨.hbm, 929, rfl⟩
abbrev main_v792 : Ref sig .tc := ⟨.hbm, 930, rfl⟩
abbrev main_cst_98 : Ref sig .tc := ⟨.hbm, 931, rfl⟩
abbrev main_v793 : Ref sig .tc := ⟨.hbm, 932, rfl⟩
abbrev main_v794 : Ref sig .tc := ⟨.hbm, 933, rfl⟩
abbrev main_v795 : Ref sig .tc := ⟨.hbm, 934, rfl⟩
abbrev main_v796 : Ref sig .tc := ⟨.hbm, 935, rfl⟩
abbrev main_v797 : Ref sig .tc := ⟨.hbm, 936, rfl⟩
abbrev main_v798 : Ref sig .tc := ⟨.hbm, 937, rfl⟩
abbrev main_v799 : Ref sig .tc := ⟨.hbm, 938, rfl⟩
abbrev main_cst_99 : Ref sig .tc := ⟨.hbm, 939, rfl⟩
abbrev main_v800 : Ref sig .tc := ⟨.hbm, 940, rfl⟩
abbrev main_v801 : Ref sig .tc := ⟨.hbm, 941, rfl⟩
abbrev main_v802 : Ref sig .tc := ⟨.hbm, 942, rfl⟩
abbrev main_v803 : Ref sig .tc := ⟨.hbm, 943, rfl⟩
abbrev main_v804 : Ref sig .tc := ⟨.hbm, 944, rfl⟩
abbrev main_v805 : Ref sig .tc := ⟨.hbm, 945, rfl⟩
abbrev main_v806 : Ref sig .tc := ⟨.hbm, 946, rfl⟩
abbrev main_v807 : Ref sig .tc := ⟨.hbm, 947, rfl⟩
abbrev main_v808 : Ref sig .tc := ⟨.hbm, 948, rfl⟩
abbrev main_v809 : Ref sig .tc := ⟨.hbm, 949, rfl⟩
abbrev main_v810 : Ref sig .tc := ⟨.hbm, 950, rfl⟩
abbrev main_v811 : Ref sig .tc := ⟨.hbm, 951, rfl⟩
abbrev main_v812 : Ref sig .tc := ⟨.hbm, 952, rfl⟩
abbrev main_v813 : Ref sig .tc := ⟨.hbm, 953, rfl⟩
abbrev main_v814 : Ref sig .tc := ⟨.hbm, 954, rfl⟩
abbrev main_v815 : Ref sig .tc := ⟨.hbm, 955, rfl⟩
abbrev main_v816 : Ref sig .tc := ⟨.hbm, 956, rfl⟩
abbrev main_v817 : Ref sig .tc := ⟨.hbm, 957, rfl⟩
abbrev main_v818 : Ref sig .tc := ⟨.hbm, 958, rfl⟩
abbrev main_v819 : Ref sig .tc := ⟨.hbm, 959, rfl⟩
abbrev main_v820 : Ref sig .tc := ⟨.hbm, 960, rfl⟩
abbrev main_v821 : Ref sig .tc := ⟨.hbm, 961, rfl⟩
abbrev main_v822 : Ref sig .tc := ⟨.hbm, 962, rfl⟩
abbrev main_v823 : Ref sig .tc := ⟨.hbm, 963, rfl⟩
abbrev main_v824 : Ref sig .tc := ⟨.hbm, 964, rfl⟩
abbrev main_v825 : Ref sig .tc := ⟨.hbm, 965, rfl⟩
abbrev main_v826 : Ref sig .tc := ⟨.hbm, 966, rfl⟩
abbrev main_v827 : Ref sig .tc := ⟨.hbm, 967, rfl⟩
abbrev main_v828 : Ref sig .tc := ⟨.hbm, 968, rfl⟩
abbrev main_v829 : Ref sig .tc := ⟨.hbm, 969, rfl⟩
abbrev main_v830 : Ref sig .tc := ⟨.hbm, 970, rfl⟩
abbrev main_v831 : Ref sig .tc := ⟨.hbm, 971, rfl⟩
abbrev main_v832 : Ref sig .tc := ⟨.hbm, 972, rfl⟩
abbrev main_v833 : Ref sig .tc := ⟨.hbm, 973, rfl⟩
abbrev main_v834 : Ref sig .tc := ⟨.hbm, 974, rfl⟩
abbrev main_v835 : Ref sig .tc := ⟨.hbm, 975, rfl⟩
abbrev main_v836 : Ref sig .tc := ⟨.hbm, 976, rfl⟩
abbrev main_v837 : Ref sig .tc := ⟨.hbm, 977, rfl⟩
abbrev main_v838 : Ref sig .tc := ⟨.hbm, 978, rfl⟩
abbrev main_v839 : Ref sig .tc := ⟨.hbm, 979, rfl⟩
abbrev main_v840 : Ref sig .tc := ⟨.hbm, 980, rfl⟩
abbrev main_v841 : Ref sig .tc := ⟨.hbm, 981, rfl⟩
abbrev main_v842 : Ref sig .tc := ⟨.hbm, 982, rfl⟩
abbrev main_v843 : Ref sig .tc := ⟨.hbm, 983, rfl⟩
abbrev main_v844 : Ref sig .tc := ⟨.hbm, 984, rfl⟩
abbrev main_v845 : Ref sig .tc := ⟨.hbm, 985, rfl⟩
abbrev main_v846 : Ref sig .tc := ⟨.hbm, 986, rfl⟩
abbrev main_v847 : Ref sig .tc := ⟨.hbm, 987, rfl⟩
abbrev main_v848 : Ref sig .tc := ⟨.hbm, 988, rfl⟩
abbrev main_v849 : Ref sig .tc := ⟨.hbm, 989, rfl⟩
abbrev main_v850 : Ref sig .tc := ⟨.hbm, 990, rfl⟩
abbrev main_v851 : Ref sig .tc := ⟨.hbm, 991, rfl⟩
abbrev main_v852 : Ref sig .tc := ⟨.hbm, 992, rfl⟩
abbrev main_cst_100 : Ref sig .tc := ⟨.hbm, 993, rfl⟩
abbrev main_v853 : Ref sig .tc := ⟨.hbm, 994, rfl⟩
abbrev main_v854 : Ref sig .tc := ⟨.hbm, 995, rfl⟩
abbrev main_v855 : Ref sig .tc := ⟨.hbm, 996, rfl⟩
abbrev main_v856 : Ref sig .tc := ⟨.hbm, 997, rfl⟩
abbrev main_v857 : Ref sig .tc := ⟨.hbm, 998, rfl⟩
abbrev main_v858 : Ref sig .tc := ⟨.hbm, 999, rfl⟩
abbrev main_v859 : Ref sig .tc := ⟨.hbm, 1000, rfl⟩
abbrev main_v860 : Ref sig .tc := ⟨.hbm, 1001, rfl⟩
abbrev main_v861 : Ref sig .tc := ⟨.hbm, 1002, rfl⟩
abbrev main_v862 : Ref sig .tc := ⟨.hbm, 1003, rfl⟩
abbrev main_v863 : Ref sig .tc := ⟨.hbm, 1004, rfl⟩
abbrev main_cst_101 : Ref sig .tc := ⟨.hbm, 1005, rfl⟩
abbrev main_v864 : Ref sig .tc := ⟨.hbm, 1006, rfl⟩
abbrev main_v865 : Ref sig .tc := ⟨.hbm, 1007, rfl⟩
abbrev main_v866 : Ref sig .tc := ⟨.hbm, 1008, rfl⟩
abbrev main_v867 : Ref sig .tc := ⟨.hbm, 1009, rfl⟩
abbrev main_v868 : Ref sig .tc := ⟨.hbm, 1010, rfl⟩
abbrev main_v869 : Ref sig .tc := ⟨.hbm, 1011, rfl⟩
abbrev main_v870 : Ref sig .tc := ⟨.hbm, 1012, rfl⟩
abbrev main_v871 : Ref sig .tc := ⟨.hbm, 1013, rfl⟩
abbrev main_v872 : Ref sig .tc := ⟨.hbm, 1014, rfl⟩
abbrev main_v873 : Ref sig .tc := ⟨.hbm, 1015, rfl⟩
abbrev main_v874 : Ref sig .tc := ⟨.hbm, 1016, rfl⟩
abbrev main_v875 : Ref sig .tc := ⟨.hbm, 1017, rfl⟩
abbrev main_v876 : Ref sig .tc := ⟨.hbm, 1018, rfl⟩
abbrev main_v877 : Ref sig .tc := ⟨.hbm, 1019, rfl⟩
abbrev main_v878 : Ref sig .tc := ⟨.hbm, 1020, rfl⟩
abbrev main_v879 : Ref sig .tc := ⟨.hbm, 1021, rfl⟩
abbrev main_v880 : Ref sig .tc := ⟨.hbm, 1022, rfl⟩
abbrev main_v881 : Ref sig .tc := ⟨.hbm, 1023, rfl⟩
abbrev main_v882 : Ref sig .tc := ⟨.hbm, 1024, rfl⟩
abbrev main_v883 : Ref sig .tc := ⟨.hbm, 1025, rfl⟩
abbrev main_v884 : Ref sig .tc := ⟨.hbm, 1026, rfl⟩
abbrev main_v885 : Ref sig .tc := ⟨.hbm, 1027, rfl⟩
abbrev main_v886 : Ref sig .tc := ⟨.hbm, 1028, rfl⟩
abbrev main_v887 : Ref sig .tc := ⟨.hbm, 1029, rfl⟩
abbrev main_v888 : Ref sig .tc := ⟨.hbm, 1030, rfl⟩
abbrev main_v889 : Ref sig .tc := ⟨.hbm, 1031, rfl⟩
abbrev main_v890 : Ref sig .tc := ⟨.hbm, 1032, rfl⟩
abbrev main_v891 : Ref sig .tc := ⟨.hbm, 1033, rfl⟩
abbrev main_v892 : Ref sig .tc := ⟨.hbm, 1034, rfl⟩
abbrev main_v893 : Ref sig .tc := ⟨.hbm, 1035, rfl⟩
abbrev main_v894 : Ref sig .tc := ⟨.hbm, 1036, rfl⟩
abbrev main_v895 : Ref sig .tc := ⟨.hbm, 1037, rfl⟩
abbrev main_v896 : Ref sig .tc := ⟨.hbm, 1038, rfl⟩
abbrev main_v897 : Ref sig .tc := ⟨.hbm, 1039, rfl⟩
abbrev main_v898 : Ref sig .tc := ⟨.hbm, 1040, rfl⟩
abbrev main_v899 : Ref sig .tc := ⟨.hbm, 1041, rfl⟩
abbrev main_v900 : Ref sig .tc := ⟨.hbm, 1042, rfl⟩
abbrev main_v901 : Ref sig .tc := ⟨.hbm, 1043, rfl⟩
abbrev main_v902 : Ref sig .tc := ⟨.hbm, 1044, rfl⟩
abbrev main_v903 : Ref sig .tc := ⟨.hbm, 1045, rfl⟩
abbrev main_v904 : Ref sig .tc := ⟨.hbm, 1046, rfl⟩
abbrev main_v905 : Ref sig .tc := ⟨.hbm, 1047, rfl⟩
abbrev main_v906 : Ref sig .tc := ⟨.hbm, 1048, rfl⟩
abbrev main_v907 : Ref sig .tc := ⟨.hbm, 1049, rfl⟩
abbrev main_v908 : Ref sig .tc := ⟨.hbm, 1050, rfl⟩
abbrev main_v909 : Ref sig .tc := ⟨.hbm, 1051, rfl⟩
abbrev main_v910 : Ref sig .tc := ⟨.hbm, 1052, rfl⟩
abbrev main_v911 : Ref sig .tc := ⟨.hbm, 1053, rfl⟩
abbrev main_v912 : Ref sig .tc := ⟨.hbm, 1054, rfl⟩
abbrev main_v913 : Ref sig .tc := ⟨.hbm, 1055, rfl⟩
abbrev main_v914 : Ref sig .tc := ⟨.hbm, 1056, rfl⟩
abbrev main_v915 : Ref sig .tc := ⟨.hbm, 1057, rfl⟩
abbrev main_v916 : Ref sig .tc := ⟨.hbm, 1058, rfl⟩
abbrev main_cst_102 : Ref sig .tc := ⟨.hbm, 1059, rfl⟩
abbrev main_v917 : Ref sig .tc := ⟨.hbm, 1060, rfl⟩
abbrev main_v918 : Ref sig .tc := ⟨.hbm, 1061, rfl⟩
abbrev main_v919 : Ref sig .tc := ⟨.hbm, 1062, rfl⟩
abbrev main_v920 : Ref sig .tc := ⟨.hbm, 1063, rfl⟩
abbrev main_v921 : Ref sig .tc := ⟨.hbm, 1064, rfl⟩
abbrev main_v922 : Ref sig .tc := ⟨.hbm, 1065, rfl⟩
abbrev main_v923 : Ref sig .tc := ⟨.hbm, 1066, rfl⟩
abbrev main_v924 : Ref sig .tc := ⟨.hbm, 1067, rfl⟩
abbrev main_v925 : Ref sig .tc := ⟨.hbm, 1068, rfl⟩
abbrev main_cst_103 : Ref sig .tc := ⟨.hbm, 1069, rfl⟩
abbrev main_v926 : Ref sig .tc := ⟨.hbm, 1070, rfl⟩
abbrev main_v927 : Ref sig .tc := ⟨.hbm, 1071, rfl⟩
abbrev main_v928 : Ref sig .tc := ⟨.hbm, 1072, rfl⟩
abbrev main_v929 : Ref sig .tc := ⟨.hbm, 1073, rfl⟩
abbrev main_v930 : Ref sig .tc := ⟨.hbm, 1074, rfl⟩
abbrev main_cst_104 : Ref sig .tc := ⟨.hbm, 1075, rfl⟩
abbrev main_v931 : Ref sig .tc := ⟨.hbm, 1076, rfl⟩
abbrev main_cst_105 : Ref sig .tc := ⟨.hbm, 1077, rfl⟩
abbrev main_v932 : Ref sig .tc := ⟨.hbm, 1078, rfl⟩
abbrev main_v933 : Ref sig .tc := ⟨.hbm, 1079, rfl⟩
abbrev main_v934 : Ref sig .tc := ⟨.hbm, 1080, rfl⟩
abbrev main_v935 : Ref sig .tc := ⟨.hbm, 1081, rfl⟩
abbrev main_v936 : Ref sig .tc := ⟨.hbm, 1082, rfl⟩
abbrev main_v937 : Ref sig .tc := ⟨.hbm, 1083, rfl⟩
abbrev main_cst_106 : Ref sig .tc := ⟨.hbm, 1084, rfl⟩
abbrev main_v938 : Ref sig .tc := ⟨.hbm, 1085, rfl⟩
abbrev main_v939 : Ref sig .tc := ⟨.hbm, 1086, rfl⟩
abbrev main_v940 : Ref sig .tc := ⟨.hbm, 1087, rfl⟩
abbrev main_v941 : Ref sig .tc := ⟨.hbm, 1088, rfl⟩
abbrev main_v942 : Ref sig .tc := ⟨.hbm, 1089, rfl⟩
abbrev main_v943 : Ref sig .tc := ⟨.hbm, 1090, rfl⟩
abbrev main_v944 : Ref sig .tc := ⟨.hbm, 1091, rfl⟩
abbrev main_cst_107 : Ref sig .tc := ⟨.hbm, 1092, rfl⟩
abbrev main_v945 : Ref sig .tc := ⟨.hbm, 1093, rfl⟩
abbrev main_v946 : Ref sig .tc := ⟨.hbm, 1094, rfl⟩
abbrev main_v947 : Ref sig .tc := ⟨.hbm, 1095, rfl⟩
abbrev main_v948 : Ref sig .tc := ⟨.hbm, 1096, rfl⟩
abbrev main_v949 : Ref sig .tc := ⟨.hbm, 1097, rfl⟩
abbrev main_v950 : Ref sig .tc := ⟨.hbm, 1098, rfl⟩
abbrev main_v951 : Ref sig .tc := ⟨.hbm, 1099, rfl⟩
abbrev main_v952 : Ref sig .tc := ⟨.hbm, 1100, rfl⟩
abbrev main_v953 : Ref sig .tc := ⟨.hbm, 1101, rfl⟩
abbrev main_v954 : Ref sig .tc := ⟨.hbm, 1102, rfl⟩
abbrev main_v955 : Ref sig .tc := ⟨.hbm, 1103, rfl⟩
abbrev main_cst_108 : Ref sig .tc := ⟨.hbm, 1104, rfl⟩
abbrev main_v956 : Ref sig .tc := ⟨.hbm, 1105, rfl⟩
abbrev main_v957 : Ref sig .tc := ⟨.hbm, 1106, rfl⟩
abbrev main_cst_109 : Ref sig .tc := ⟨.hbm, 1107, rfl⟩
abbrev main_v958 : Ref sig .tc := ⟨.hbm, 1108, rfl⟩
abbrev main_v959 : Ref sig .tc := ⟨.hbm, 1109, rfl⟩
abbrev main_cst_110 : Ref sig .tc := ⟨.hbm, 1110, rfl⟩
abbrev main_v960 : Ref sig .tc := ⟨.hbm, 1111, rfl⟩
abbrev main_v961 : Ref sig .tc := ⟨.hbm, 1112, rfl⟩
abbrev main_cst_111 : Ref sig .tc := ⟨.hbm, 1113, rfl⟩
abbrev main_v962 : Ref sig .tc := ⟨.hbm, 1114, rfl⟩
abbrev main_v963 : Ref sig .tc := ⟨.hbm, 1115, rfl⟩
abbrev main_cst_112 : Ref sig .tc := ⟨.hbm, 1116, rfl⟩
abbrev main_v964 : Ref sig .tc := ⟨.hbm, 1117, rfl⟩
abbrev main_v965 : Ref sig .tc := ⟨.hbm, 1118, rfl⟩
abbrev main_cst_113 : Ref sig .tc := ⟨.hbm, 1119, rfl⟩
abbrev main_v966 : Ref sig .tc := ⟨.hbm, 1120, rfl⟩
abbrev main_v967 : Ref sig .tc := ⟨.hbm, 1121, rfl⟩
abbrev main_cst_114 : Ref sig .tc := ⟨.hbm, 1122, rfl⟩
abbrev main_v968 : Ref sig .tc := ⟨.hbm, 1123, rfl⟩
abbrev main_v969 : Ref sig .tc := ⟨.hbm, 1124, rfl⟩
abbrev main_cst_115 : Ref sig .tc := ⟨.hbm, 1125, rfl⟩
abbrev main_v970 : Ref sig .tc := ⟨.hbm, 1126, rfl⟩
abbrev main_v971 : Ref sig .tc := ⟨.hbm, 1127, rfl⟩
abbrev main_cst_116 : Ref sig .tc := ⟨.hbm, 1128, rfl⟩
abbrev main_v972 : Ref sig .tc := ⟨.hbm, 1129, rfl⟩
abbrev main_v973 : Ref sig .tc := ⟨.hbm, 1130, rfl⟩
abbrev main_cst_117 : Ref sig .tc := ⟨.hbm, 1131, rfl⟩
abbrev main_v974 : Ref sig .tc := ⟨.hbm, 1132, rfl⟩
abbrev main_v975 : Ref sig .tc := ⟨.hbm, 1133, rfl⟩
abbrev main_cst_118 : Ref sig .tc := ⟨.hbm, 1134, rfl⟩
abbrev main_v976 : Ref sig .tc := ⟨.hbm, 1135, rfl⟩
abbrev main_v977 : Ref sig .tc := ⟨.hbm, 1136, rfl⟩
abbrev main_cst_119 : Ref sig .tc := ⟨.hbm, 1137, rfl⟩
abbrev main_v978 : Ref sig .tc := ⟨.hbm, 1138, rfl⟩
abbrev main_v979 : Ref sig .tc := ⟨.hbm, 1139, rfl⟩
abbrev main_v980 : Ref sig .tc := ⟨.hbm, 1140, rfl⟩
abbrev main_v981 : Ref sig .tc := ⟨.hbm, 1141, rfl⟩
abbrev main_v982 : Ref sig .tc := ⟨.hbm, 1142, rfl⟩
abbrev main_v983 : Ref sig .tc := ⟨.hbm, 1143, rfl⟩
abbrev main_v984 : Ref sig .tc := ⟨.hbm, 1144, rfl⟩
abbrev main_v985 : Ref sig .tc := ⟨.hbm, 1145, rfl⟩
abbrev main_v986 : Ref sig .tc := ⟨.hbm, 1146, rfl⟩
abbrev main_v987 : Ref sig .tc := ⟨.hbm, 1147, rfl⟩
abbrev main_v988 : Ref sig .tc := ⟨.hbm, 1148, rfl⟩
abbrev main_v989 : Ref sig .tc := ⟨.hbm, 1149, rfl⟩
abbrev main_v990 : Ref sig .tc := ⟨.hbm, 1150, rfl⟩
abbrev main_v991 : Ref sig .tc := ⟨.hbm, 1151, rfl⟩
abbrev main_v992 : Ref sig .tc := ⟨.hbm, 1152, rfl⟩
abbrev main_v993 : Ref sig .tc := ⟨.hbm, 1153, rfl⟩
abbrev main_v994 : Ref sig .tc := ⟨.hbm, 1154, rfl⟩
abbrev main_v995 : Ref sig .tc := ⟨.hbm, 1155, rfl⟩
abbrev main_v996 : Ref sig .tc := ⟨.hbm, 1156, rfl⟩
abbrev main_v997 : Ref sig .tc := ⟨.hbm, 1157, rfl⟩
abbrev main_v998 : Ref sig .tc := ⟨.hbm, 1158, rfl⟩
abbrev main_v999 : Ref sig .tc := ⟨.hbm, 1159, rfl⟩
abbrev main_v1000 : Ref sig .tc := ⟨.hbm, 1160, rfl⟩
abbrev main_v1001 : Ref sig .tc := ⟨.hbm, 1161, rfl⟩
abbrev main_v1002 : Ref sig .tc := ⟨.hbm, 1162, rfl⟩
abbrev main_v1003 : Ref sig .tc := ⟨.hbm, 1163, rfl⟩
abbrev main_v1004 : Ref sig .tc := ⟨.hbm, 1164, rfl⟩
abbrev main_v1005 : Ref sig .tc := ⟨.hbm, 1165, rfl⟩
abbrev main_v1006 : Ref sig .tc := ⟨.hbm, 1166, rfl⟩
abbrev main_v1007 : Ref sig .tc := ⟨.hbm, 1167, rfl⟩
abbrev main_v1008 : Ref sig .tc := ⟨.hbm, 1168, rfl⟩
abbrev main_v1009 : Ref sig .tc := ⟨.hbm, 1169, rfl⟩
abbrev main_v1010 : Ref sig .tc := ⟨.hbm, 1170, rfl⟩
abbrev main_v1011 : Ref sig .tc := ⟨.hbm, 1171, rfl⟩
abbrev main_v1012 : Ref sig .tc := ⟨.hbm, 1172, rfl⟩
abbrev main_v1013 : Ref sig .tc := ⟨.hbm, 1173, rfl⟩
abbrev main_v1014 : Ref sig .tc := ⟨.hbm, 1174, rfl⟩
abbrev main_v1015 : Ref sig .tc := ⟨.hbm, 1175, rfl⟩
abbrev main_v1016 : Ref sig .tc := ⟨.hbm, 1176, rfl⟩
abbrev main_v1017 : Ref sig .tc := ⟨.hbm, 1177, rfl⟩
abbrev main_v1018 : Ref sig .tc := ⟨.hbm, 1178, rfl⟩
abbrev main_v1019 : Ref sig .tc := ⟨.hbm, 1179, rfl⟩
abbrev main_v1020 : Ref sig .tc := ⟨.hbm, 1180, rfl⟩
abbrev main_v1021 : Ref sig .tc := ⟨.hbm, 1181, rfl⟩
abbrev main_v1022 : Ref sig .tc := ⟨.hbm, 1182, rfl⟩
abbrev main_values : Ref sig .tc := ⟨.hbm, 1183, rfl⟩
abbrev main_indices : Ref sig .tc := ⟨.hbm, 1184, rfl⟩
abbrev main_v1023 : Ref sig .tc := ⟨.hbm, 1185, rfl⟩
abbrev main_call18_c : Ref sig .tc := ⟨.hbm, 1186, rfl⟩
abbrev main_call18_v0 : Ref sig .tc := ⟨.hbm, 1187, rfl⟩
abbrev main_call18_v1 : Ref sig .tc := ⟨.hbm, 1188, rfl⟩
abbrev main_call18_c_0 : Ref sig .tc := ⟨.hbm, 1189, rfl⟩
abbrev main_call18_v2 : Ref sig .tc := ⟨.hbm, 1190, rfl⟩
abbrev main_call18_v3 : Ref sig .tc := ⟨.hbm, 1191, rfl⟩
abbrev main_call18_v4 : Ref sig .tc := ⟨.hbm, 1192, rfl⟩
abbrev main_call18_c_1 : Ref sig .tc := ⟨.hbm, 1193, rfl⟩
abbrev main_call18_c_2 : Ref sig .tc := ⟨.hbm, 1194, rfl⟩
abbrev main_call18_v5 : Ref sig .tc := ⟨.hbm, 1195, rfl⟩
abbrev main_call18_v6 : Ref sig .tc := ⟨.hbm, 1196, rfl⟩
abbrev main_call18_v7 : Ref sig .tc := ⟨.hbm, 1197, rfl⟩
abbrev main_call18_v8 : Ref sig .tc := ⟨.hbm, 1198, rfl⟩
abbrev main_call18_v9 : Ref sig .tc := ⟨.hbm, 1199, rfl⟩
abbrev main_call18_v10 : Ref sig .tc := ⟨.hbm, 1200, rfl⟩
abbrev main_call18_c_3 : Ref sig .tc := ⟨.hbm, 1201, rfl⟩
abbrev main_call18_v11 : Ref sig .tc := ⟨.hbm, 1202, rfl⟩
abbrev main_call18_v12 : Ref sig .tc := ⟨.hbm, 1203, rfl⟩
abbrev main_call18_v13 : Ref sig .tc := ⟨.hbm, 1204, rfl⟩
abbrev main_call18_cst : Ref sig .tc := ⟨.hbm, 1205, rfl⟩
abbrev main_call18_v14 : Ref sig .tc := ⟨.hbm, 1206, rfl⟩
abbrev main_v1024 : Ref sig .tc := ⟨.hbm, 1207, rfl⟩
abbrev main_cst_120 : Ref sig .tc := ⟨.hbm, 1208, rfl⟩
abbrev main_v1025 : Ref sig .tc := ⟨.hbm, 1209, rfl⟩
abbrev main_v1026 : Ref sig .tc := ⟨.hbm, 1210, rfl⟩
abbrev main_v1027 : Ref sig .tc := ⟨.hbm, 1211, rfl⟩
abbrev main_v1028 : Ref sig .tc := ⟨.hbm, 1212, rfl⟩
abbrev main_v1029 : Ref sig .tc := ⟨.hbm, 1213, rfl⟩
abbrev main_v1030 : Ref sig .tc := ⟨.hbm, 1214, rfl⟩
abbrev main_v1031 : Ref sig .tc := ⟨.hbm, 1215, rfl⟩
abbrev main_v1032 : Ref sig .tc := ⟨.hbm, 1216, rfl⟩
abbrev main_v1033 : Ref sig .tc := ⟨.hbm, 1217, rfl⟩
abbrev main_v1034 : Ref sig .tc := ⟨.hbm, 1218, rfl⟩
abbrev main_v1035 : Ref sig .tc := ⟨.hbm, 1219, rfl⟩
abbrev main_v1036 : Ref sig .tc := ⟨.hbm, 1220, rfl⟩
abbrev main_v1037 : Ref sig .tc := ⟨.hbm, 1221, rfl⟩
abbrev main_v1038 : Ref sig .tc := ⟨.hbm, 1222, rfl⟩
abbrev main_v1039 : Ref sig .tc := ⟨.hbm, 1223, rfl⟩
abbrev main_v1040 : Ref sig .tc := ⟨.hbm, 1224, rfl⟩
abbrev main_v1041 : Ref sig .tc := ⟨.hbm, 1225, rfl⟩
abbrev main_cst_121 : Ref sig .tc := ⟨.hbm, 1226, rfl⟩
abbrev main_v1042 : Ref sig .tc := ⟨.hbm, 1227, rfl⟩
abbrev main_v1043 : Ref sig .tc := ⟨.hbm, 1228, rfl⟩
abbrev main_v1044 : Ref sig .tc := ⟨.hbm, 1229, rfl⟩
abbrev main_c_122 : Ref sig .tc := ⟨.hbm, 1230, rfl⟩
abbrev main_c_123 : Ref sig .tc := ⟨.hbm, 1231, rfl⟩
abbrev main_v1045_0 : Ref sig .tc := ⟨.hbm, 1232, rfl⟩
abbrev main_v1045_1 : Ref sig .tc := ⟨.hbm, 1233, rfl⟩
abbrev main_v1045_2 : Ref sig .tc := ⟨.hbm, 1234, rfl⟩
abbrev main_v1045_3 : Ref sig .tc := ⟨.hbm, 1235, rfl⟩
abbrev main_v1045_4 : Ref sig .tc := ⟨.hbm, 1236, rfl⟩
abbrev main_v1045_5 : Ref sig .tc := ⟨.hbm, 1237, rfl⟩
abbrev main_v1045_6 : Ref sig .tc := ⟨.hbm, 1238, rfl⟩
abbrev main_v1045_7 : Ref sig .tc := ⟨.hbm, 1239, rfl⟩
abbrev main_v1045_8 : Ref sig .tc := ⟨.hbm, 1240, rfl⟩
abbrev main_v1045_9 : Ref sig .tc := ⟨.hbm, 1241, rfl⟩
abbrev main_v1045_10 : Ref sig .tc := ⟨.hbm, 1242, rfl⟩
abbrev main_v1045_11 : Ref sig .tc := ⟨.hbm, 1243, rfl⟩
abbrev main_while0c_c_135 : Ref sig .tc := ⟨.hbm, 1244, rfl⟩
abbrev main_while0c_v1046 : Ref sig .tc := ⟨.hbm, 1245, rfl⟩
abbrev main_while0b_c_135 : Ref sig .tc := ⟨.hbm, 1246, rfl⟩
abbrev main_while0b_v1046 : Ref sig .tc := ⟨.hbm, 1247, rfl⟩
abbrev main_while0b_cst_136 : Ref sig .tc := ⟨.hbm, 1248, rfl⟩
abbrev main_while0b_call19_v0 : Ref sig .tc := ⟨.hbm, 1249, rfl⟩
abbrev main_while0b_call19_v1 : Ref sig .tc := ⟨.hbm, 1250, rfl⟩
abbrev main_while0b_v1047 : Ref sig .tc := ⟨.hbm, 1251, rfl⟩
abbrev main_while0b_cst_137 : Ref sig .tc := ⟨.hbm, 1252, rfl⟩
abbrev main_while0b_v1048 : Ref sig .tc := ⟨.hbm, 1253, rfl⟩
abbrev main_while0b_v1049 : Ref sig .tc := ⟨.hbm, 1254, rfl⟩
abbrev main_while0b_v1050 : Ref sig .tc := ⟨.hbm, 1255, rfl⟩
abbrev main_while0b_v1051 : Ref sig .tc := ⟨.hbm, 1256, rfl⟩
abbrev main_while0b_c_138 : Ref sig .tc := ⟨.hbm, 1257, rfl⟩
abbrev main_while0b_call20_v0 : Ref sig .tc := ⟨.hbm, 1258, rfl⟩
abbrev main_while0b_call20_v1 : Ref sig .tc := ⟨.hbm, 1259, rfl⟩
abbrev main_while0b_call20_v2 : Ref sig .tc := ⟨.hbm, 1260, rfl⟩
abbrev main_while0b_v1052 : Ref sig .tc := ⟨.hbm, 1261, rfl⟩
abbrev main_while0b_c_139 : Ref sig .tc := ⟨.hbm, 1262, rfl⟩
abbrev main_while0b_v1053 : Ref sig .tc := ⟨.hbm, 1263, rfl⟩
abbrev main_while0b_v1054 : Ref sig .tc := ⟨.hbm, 1264, rfl⟩
abbrev main_while0b_cst_140 : Ref sig .tc := ⟨.hbm, 1265, rfl⟩
abbrev main_while0b_v1055 : Ref sig .tc := ⟨.hbm, 1266, rfl⟩
abbrev main_while0b_v1056 : Ref sig .tc := ⟨.hbm, 1267, rfl⟩
abbrev main_while0b_v1057 : Ref sig .tc := ⟨.hbm, 1268, rfl⟩
abbrev main_while0b_v1058 : Ref sig .tc := ⟨.hbm, 1269, rfl⟩
abbrev main_while0b_v1059 : Ref sig .tc := ⟨.hbm, 1270, rfl⟩
abbrev main_while0b_v1060 : Ref sig .tc := ⟨.hbm, 1271, rfl⟩
abbrev main_while0b_v1061 : Ref sig .tc := ⟨.hbm, 1272, rfl⟩
abbrev main_while0b_v1062 : Ref sig .tc := ⟨.hbm, 1273, rfl⟩
abbrev main_while0b_call21_v0 : Ref sig .tc := ⟨.hbm, 1274, rfl⟩
abbrev main_while0b_v1063 : Ref sig .tc := ⟨.hbm, 1275, rfl⟩
abbrev main_while0b_call22_c : Ref sig .tc := ⟨.hbm, 1276, rfl⟩
abbrev main_while0b_call22_v0 : Ref sig .tc := ⟨.hbm, 1277, rfl⟩
abbrev main_while0b_call22_v1 : Ref sig .tc := ⟨.hbm, 1278, rfl⟩
abbrev main_while0b_call22_c_0 : Ref sig .tc := ⟨.hbm, 1279, rfl⟩
abbrev main_while0b_call22_v2 : Ref sig .tc := ⟨.hbm, 1280, rfl⟩
abbrev main_while0b_call22_v3 : Ref sig .tc := ⟨.hbm, 1281, rfl⟩
abbrev main_while0b_call22_v4 : Ref sig .tc := ⟨.hbm, 1282, rfl⟩
abbrev main_while0b_call22_v5 : Ref sig .tc := ⟨.hbm, 1283, rfl⟩
abbrev main_while0b_call22_c_1 : Ref sig .tc := ⟨.hbm, 1284, rfl⟩
abbrev main_while0b_call22_c_2 : Ref sig .tc := ⟨.hbm, 1285, rfl⟩
abbrev main_while0b_call22_v6 : Ref sig .tc := ⟨.hbm, 1286, rfl⟩
abbrev main_while0b_call22_v7 : Ref sig .tc := ⟨.hbm, 1287, rfl⟩
abbrev main_while0b_call22_v8 : Ref sig .tc := ⟨.hbm, 1288, rfl⟩
abbrev main_while0b_call22_v9 : Ref sig .tc := ⟨.hbm, 1289, rfl⟩
abbrev main_while0b_call22_v10 : Ref sig .tc := ⟨.hbm, 1290, rfl⟩
abbrev main_while0b_call22_v11 : Ref sig .tc := ⟨.hbm, 1291, rfl⟩
abbrev main_while0b_call22_c_3 : Ref sig .tc := ⟨.hbm, 1292, rfl⟩
abbrev main_while0b_call22_v12 : Ref sig .tc := ⟨.hbm, 1293, rfl⟩
abbrev main_while0b_call22_v13 : Ref sig .tc := ⟨.hbm, 1294, rfl⟩
abbrev main_while0b_call22_cst : Ref sig .tc := ⟨.hbm, 1295, rfl⟩
abbrev main_while0b_call22_v14 : Ref sig .tc := ⟨.hbm, 1296, rfl⟩
abbrev main_while0b_v1064 : Ref sig .tc := ⟨.hbm, 1297, rfl⟩
abbrev main_while0b_v1065 : Ref sig .tc := ⟨.hbm, 1298, rfl⟩
abbrev main_while0b_v1066 : Ref sig .tc := ⟨.hbm, 1299, rfl⟩
abbrev main_while0b_call23_c : Ref sig .tc := ⟨.hbm, 1300, rfl⟩
abbrev main_while0b_call23_v0 : Ref sig .tc := ⟨.hbm, 1301, rfl⟩
abbrev main_while0b_call23_v1 : Ref sig .tc := ⟨.hbm, 1302, rfl⟩
abbrev main_while0b_call23_c_0 : Ref sig .tc := ⟨.hbm, 1303, rfl⟩
abbrev main_while0b_call23_v2 : Ref sig .tc := ⟨.hbm, 1304, rfl⟩
abbrev main_while0b_call23_v3 : Ref sig .tc := ⟨.hbm, 1305, rfl⟩
abbrev main_while0b_call23_v4 : Ref sig .tc := ⟨.hbm, 1306, rfl⟩
abbrev main_while0b_call23_v5 : Ref sig .tc := ⟨.hbm, 1307, rfl⟩
abbrev main_while0b_call23_c_1 : Ref sig .tc := ⟨.hbm, 1308, rfl⟩
abbrev main_while0b_call23_c_2 : Ref sig .tc := ⟨.hbm, 1309, rfl⟩
abbrev main_while0b_call23_v6 : Ref sig .tc := ⟨.hbm, 1310, rfl⟩
abbrev main_while0b_call23_v7 : Ref sig .tc := ⟨.hbm, 1311, rfl⟩
abbrev main_while0b_call23_v8 : Ref sig .tc := ⟨.hbm, 1312, rfl⟩
abbrev main_while0b_call23_v9 : Ref sig .tc := ⟨.hbm, 1313, rfl⟩
abbrev main_while0b_call23_v10 : Ref sig .tc := ⟨.hbm, 1314, rfl⟩
abbrev main_while0b_call23_v11 : Ref sig .tc := ⟨.hbm, 1315, rfl⟩
abbrev main_while0b_call23_c_3 : Ref sig .tc := ⟨.hbm, 1316, rfl⟩
abbrev main_while0b_call23_v12 : Ref sig .tc := ⟨.hbm, 1317, rfl⟩
abbrev main_while0b_call23_v13 : Ref sig .tc := ⟨.hbm, 1318, rfl⟩
abbrev main_while0b_call23_cst : Ref sig .tc := ⟨.hbm, 1319, rfl⟩
abbrev main_while0b_call23_v14 : Ref sig .tc := ⟨.hbm, 1320, rfl⟩
abbrev main_while0b_v1067 : Ref sig .tc := ⟨.hbm, 1321, rfl⟩
abbrev main_while0b_v1068 : Ref sig .tc := ⟨.hbm, 1322, rfl⟩
abbrev main_while0b_v1069 : Ref sig .tc := ⟨.hbm, 1323, rfl⟩
abbrev main_while0b_call24_c : Ref sig .tc := ⟨.hbm, 1324, rfl⟩
abbrev main_while0b_call24_v0 : Ref sig .tc := ⟨.hbm, 1325, rfl⟩
abbrev main_while0b_call24_v1 : Ref sig .tc := ⟨.hbm, 1326, rfl⟩
abbrev main_while0b_call24_c_0 : Ref sig .tc := ⟨.hbm, 1327, rfl⟩
abbrev main_while0b_call24_v2 : Ref sig .tc := ⟨.hbm, 1328, rfl⟩
abbrev main_while0b_call24_v3 : Ref sig .tc := ⟨.hbm, 1329, rfl⟩
abbrev main_while0b_call24_v4 : Ref sig .tc := ⟨.hbm, 1330, rfl⟩
abbrev main_while0b_call24_v5 : Ref sig .tc := ⟨.hbm, 1331, rfl⟩
abbrev main_while0b_call24_c_1 : Ref sig .tc := ⟨.hbm, 1332, rfl⟩
abbrev main_while0b_call24_c_2 : Ref sig .tc := ⟨.hbm, 1333, rfl⟩
abbrev main_while0b_call24_v6 : Ref sig .tc := ⟨.hbm, 1334, rfl⟩
abbrev main_while0b_call24_v7 : Ref sig .tc := ⟨.hbm, 1335, rfl⟩
abbrev main_while0b_call24_v8 : Ref sig .tc := ⟨.hbm, 1336, rfl⟩
abbrev main_while0b_call24_v9 : Ref sig .tc := ⟨.hbm, 1337, rfl⟩
abbrev main_while0b_call24_v10 : Ref sig .tc := ⟨.hbm, 1338, rfl⟩
abbrev main_while0b_call24_v11 : Ref sig .tc := ⟨.hbm, 1339, rfl⟩
abbrev main_while0b_call24_c_3 : Ref sig .tc := ⟨.hbm, 1340, rfl⟩
abbrev main_while0b_call24_v12 : Ref sig .tc := ⟨.hbm, 1341, rfl⟩
abbrev main_while0b_call24_v13 : Ref sig .tc := ⟨.hbm, 1342, rfl⟩
abbrev main_while0b_call24_cst : Ref sig .tc := ⟨.hbm, 1343, rfl⟩
abbrev main_while0b_call24_v14 : Ref sig .tc := ⟨.hbm, 1344, rfl⟩
abbrev main_while0b_v1070 : Ref sig .tc := ⟨.hbm, 1345, rfl⟩
abbrev main_while0b_v1071 : Ref sig .tc := ⟨.hbm, 1346, rfl⟩
abbrev main_while0b_v1072 : Ref sig .tc := ⟨.hbm, 1347, rfl⟩
abbrev main_while0b_call25_c : Ref sig .tc := ⟨.hbm, 1348, rfl⟩
abbrev main_while0b_call25_v0 : Ref sig .tc := ⟨.hbm, 1349, rfl⟩
abbrev main_while0b_call25_v1 : Ref sig .tc := ⟨.hbm, 1350, rfl⟩
abbrev main_while0b_call25_c_0 : Ref sig .tc := ⟨.hbm, 1351, rfl⟩
abbrev main_while0b_call25_v2 : Ref sig .tc := ⟨.hbm, 1352, rfl⟩
abbrev main_while0b_call25_v3 : Ref sig .tc := ⟨.hbm, 1353, rfl⟩
abbrev main_while0b_call25_v4 : Ref sig .tc := ⟨.hbm, 1354, rfl⟩
abbrev main_while0b_call25_v5 : Ref sig .tc := ⟨.hbm, 1355, rfl⟩
abbrev main_while0b_call25_c_1 : Ref sig .tc := ⟨.hbm, 1356, rfl⟩
abbrev main_while0b_call25_c_2 : Ref sig .tc := ⟨.hbm, 1357, rfl⟩
abbrev main_while0b_call25_v6 : Ref sig .tc := ⟨.hbm, 1358, rfl⟩
abbrev main_while0b_call25_v7 : Ref sig .tc := ⟨.hbm, 1359, rfl⟩
abbrev main_while0b_call25_v8 : Ref sig .tc := ⟨.hbm, 1360, rfl⟩
abbrev main_while0b_call25_v9 : Ref sig .tc := ⟨.hbm, 1361, rfl⟩
abbrev main_while0b_call25_v10 : Ref sig .tc := ⟨.hbm, 1362, rfl⟩
abbrev main_while0b_call25_v11 : Ref sig .tc := ⟨.hbm, 1363, rfl⟩
abbrev main_while0b_call25_c_3 : Ref sig .tc := ⟨.hbm, 1364, rfl⟩
abbrev main_while0b_call25_v12 : Ref sig .tc := ⟨.hbm, 1365, rfl⟩
abbrev main_while0b_call25_v13 : Ref sig .tc := ⟨.hbm, 1366, rfl⟩
abbrev main_while0b_call25_cst : Ref sig .tc := ⟨.hbm, 1367, rfl⟩
abbrev main_while0b_call25_v14 : Ref sig .tc := ⟨.hbm, 1368, rfl⟩
abbrev main_while0b_v1073 : Ref sig .tc := ⟨.hbm, 1369, rfl⟩
abbrev main_while0b_v1074 : Ref sig .tc := ⟨.hbm, 1370, rfl⟩
abbrev main_while0b_v1075 : Ref sig .tc := ⟨.hbm, 1371, rfl⟩
abbrev main_while0b_v1076 : Ref sig .tc := ⟨.hbm, 1372, rfl⟩
abbrev main_while0b_cst_141 : Ref sig .tc := ⟨.hbm, 1373, rfl⟩
abbrev main_while0b_v1077 : Ref sig .tc := ⟨.hbm, 1374, rfl⟩
abbrev main_while0b_v1078 : Ref sig .tc := ⟨.hbm, 1375, rfl⟩
abbrev main_while0b_v1079 : Ref sig .tc := ⟨.hbm, 1376, rfl⟩
abbrev main_while0b_cst_142 : Ref sig .tc := ⟨.hbm, 1377, rfl⟩
abbrev main_while0b_v1080 : Ref sig .tc := ⟨.hbm, 1378, rfl⟩
abbrev main_while0b_v1081 : Ref sig .tc := ⟨.hbm, 1379, rfl⟩
abbrev main_while0b_v1082 : Ref sig .tc := ⟨.hbm, 1380, rfl⟩
abbrev main_while0b_call26_c : Ref sig .tc := ⟨.hbm, 1381, rfl⟩
abbrev main_while0b_call26_v0 : Ref sig .tc := ⟨.hbm, 1382, rfl⟩
abbrev main_while0b_call26_v1 : Ref sig .tc := ⟨.hbm, 1383, rfl⟩
abbrev main_while0b_call26_c_0 : Ref sig .tc := ⟨.hbm, 1384, rfl⟩
abbrev main_while0b_call26_v2 : Ref sig .tc := ⟨.hbm, 1385, rfl⟩
abbrev main_while0b_call26_v3 : Ref sig .tc := ⟨.hbm, 1386, rfl⟩
abbrev main_while0b_call26_v4 : Ref sig .tc := ⟨.hbm, 1387, rfl⟩
abbrev main_while0b_call26_v5 : Ref sig .tc := ⟨.hbm, 1388, rfl⟩
abbrev main_while0b_call26_c_1 : Ref sig .tc := ⟨.hbm, 1389, rfl⟩
abbrev main_while0b_call26_c_2 : Ref sig .tc := ⟨.hbm, 1390, rfl⟩
abbrev main_while0b_call26_v6 : Ref sig .tc := ⟨.hbm, 1391, rfl⟩
abbrev main_while0b_call26_v7 : Ref sig .tc := ⟨.hbm, 1392, rfl⟩
abbrev main_while0b_call26_v8 : Ref sig .tc := ⟨.hbm, 1393, rfl⟩
abbrev main_while0b_call26_v9 : Ref sig .tc := ⟨.hbm, 1394, rfl⟩
abbrev main_while0b_call26_v10 : Ref sig .tc := ⟨.hbm, 1395, rfl⟩
abbrev main_while0b_call26_v11 : Ref sig .tc := ⟨.hbm, 1396, rfl⟩
abbrev main_while0b_call26_c_3 : Ref sig .tc := ⟨.hbm, 1397, rfl⟩
abbrev main_while0b_call26_v12 : Ref sig .tc := ⟨.hbm, 1398, rfl⟩
abbrev main_while0b_call26_v13 : Ref sig .tc := ⟨.hbm, 1399, rfl⟩
abbrev main_while0b_call26_cst : Ref sig .tc := ⟨.hbm, 1400, rfl⟩
abbrev main_while0b_call26_v14 : Ref sig .tc := ⟨.hbm, 1401, rfl⟩
abbrev main_while0b_v1083 : Ref sig .tc := ⟨.hbm, 1402, rfl⟩
abbrev main_while0b_v1084 : Ref sig .tc := ⟨.hbm, 1403, rfl⟩
abbrev main_while0b_v1085 : Ref sig .tc := ⟨.hbm, 1404, rfl⟩
abbrev main_while0b_v1086 : Ref sig .tc := ⟨.hbm, 1405, rfl⟩
abbrev main_while0b_cst_143 : Ref sig .tc := ⟨.hbm, 1406, rfl⟩
abbrev main_while0b_v1087 : Ref sig .tc := ⟨.hbm, 1407, rfl⟩
abbrev main_while0b_v1088 : Ref sig .tc := ⟨.hbm, 1408, rfl⟩
abbrev main_while0b_v1089 : Ref sig .tc := ⟨.hbm, 1409, rfl⟩
abbrev main_while0b_cst_144 : Ref sig .tc := ⟨.hbm, 1410, rfl⟩
abbrev main_while0b_v1090 : Ref sig .tc := ⟨.hbm, 1411, rfl⟩
abbrev main_while0b_v1091 : Ref sig .tc := ⟨.hbm, 1412, rfl⟩
abbrev main_while0b_v1092 : Ref sig .tc := ⟨.hbm, 1413, rfl⟩
abbrev main_while0b_v1093 : Ref sig .tc := ⟨.hbm, 1414, rfl⟩
abbrev main_while0b_v1094 : Ref sig .tc := ⟨.hbm, 1415, rfl⟩
abbrev main_while0b_v1095 : Ref sig .tc := ⟨.hbm, 1416, rfl⟩
abbrev main_while0b_v1096 : Ref sig .tc := ⟨.hbm, 1417, rfl⟩
abbrev main_while0b_v1097 : Ref sig .tc := ⟨.hbm, 1418, rfl⟩
abbrev main_while0b_v1098 : Ref sig .tc := ⟨.hbm, 1419, rfl⟩
abbrev main_while0b_c_145 : Ref sig .tc := ⟨.hbm, 1420, rfl⟩
abbrev main_while0b_v1099 : Ref sig .tc := ⟨.hbm, 1421, rfl⟩

abbrev nD : Nat := 1
abbrev τ : Topo := Topo.v7x

variable {F : FTy → Type} [FloatOps F]

abbrev main_while0_count : Scf.Loop 32 := ⟨0#32, 100#32, 1#32⟩
-- ==== Proof.Ideal.Region0.lean ====
/- The region of the first scale’s kernel, at any contents of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_pnet_s0` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x3x128x128 := Rect.unit (s := S1x3x128x128) ![0, 0, 0, 0] S1x3x128x128.size inb_S1x3x128x128_S1x3x128x128_0_0_0_0
abbrev r0_1 : Rect S10x27 := Rect.unit (s := S10x27) ![0, 0] S10x27.size inb_S10x27_S10x27_0_0
abbrev r0_2 : Rect S10x1x1 := Rect.unit (s := S10x1x1) ![0, 0, 0] S10x1x1.size inb_S10x1x1_S10x1x1_0_0_0
abbrev r0_3 : Rect S16x90 := Rect.unit (s := S16x90) ![0, 0] S16x90.size inb_S16x90_S16x90_0_0
abbrev r0_4 : Rect S16x1x1 := Rect.unit (s := S16x1x1) ![0, 0, 0] S16x1x1.size inb_S16x1x1_S16x1x1_0_0_0
abbrev r0_5 : Rect S32x144 := Rect.unit (s := S32x144) ![0, 0] S32x144.size inb_S32x144_S32x144_0_0
abbrev r0_6 : Rect S32x1x1 := Rect.unit (s := S32x1x1) ![0, 0, 0] S32x1x1.size inb_S32x1x1_S32x1x1_0_0_0
abbrev r0_7 : Rect S2x32 := Rect.unit (s := S2x32) ![0, 0] S2x32.size inb_S2x32_S2x32_0_0
abbrev r0_8 : Rect S2x1x1 := Rect.unit (s := S2x1x1) ![0, 0, 0] S2x1x1.size inb_S2x1x1_S2x1x1_0_0_0
abbrev r0_9 : Rect S4x32 := Rect.unit (s := S4x32) ![0, 0] S4x32.size inb_S4x32_S4x32_0_0
abbrev r0_10 : Rect S4x1x1 := Rect.unit (s := S4x1x1) ![0, 0, 0] S4x1x1.size inb_S4x1x1_S4x1x1_0_0_0
abbrev r0_11 : Rect S1x59x59 := Rect.unit (s := S1x59x59) ![0, 0, 0] S1x59x59.size inb_S1x59x59_S1x59x59_0_0_0
abbrev r0_12 : Rect S1x4x59x59 := Rect.unit (s := S1x4x59x59) ![0, 0, 0, 0] S1x4x59x59.size inb_S1x4x59x59_S1x4x59x59_0_0_0_0

/-! ## What the body leaves in each output window's buffer -/

/-! ### Values of the body that the stores' payloads, spelt out, would write more than once

    Each is a vector the body binds (often a part call's result), stated over the input windows' blocks and
    numbered on from the skeleton's payload functions (`k0_pay14` …, after `k0_pay13`), so that
    `out0_W` and the values after it name it instead of spelling it out (`unfold_out out0_W` opens a canon
    with them, `unfold_payloads` opens them with the payloads); the comment after each is the printed function's
    name for the value (a count appended where that name is bound again). -/

def k0_pay14 (x0 : Vec F S1x3x128x128 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x1x1 .f32 :=
  k0_pay2 (View.ld x8 r0_6) -- `v70`
def k0_pay15 (x0 : Vec F S1x3x128x128 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x1x1 .f32 :=
  k0_pay3 (View.ld x9 r0_6) -- `v72`
def k0_pay16 (x0 : Vec F S1x3x128x128 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x59x59 .f32 :=
  k0_pay4 (k0_pay1 (View.ld x0 r0_0) (View.ld x1 r0_1) (View.ld x2 r0_2) (View.ld x3 r0_2)) (View.ld x4 r0_3) (View.ld x5 r0_4) (View.ld x6 r0_4) (View.ld x7 r0_5) -- `v83`

/-- Window 14's staging buffer after the body, from the input windows' blocks: its 1 store as pieces, LAST
    FIRST (Lib/Pipeline/FrameBody.lean `View.canon`; the payloads are the skeleton's and the values stated above). -/
def out0_14 (x0 : Vec F S1x3x128x128 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : Vec F S1x59x59 .f32 :=
  View.canon [⟨r0_11, k0_pay12 (k0_pay6 (k0_pay14 x0 x1 x2 x3 x4 x5 x6 x7 x8 x9 x10 x11 x12 x13) (k0_pay15 x0 x1 x2 x3 x4 x5 x6 x7 x8 x9 x10 x11 x12 x13) (k0_pay16 x0 x1 x2 x3 x4 x5 x6 x7 x8 x9 x10 x11 x12 x13) (View.ld x10 r0_7) (View.ld x11 r0_8))⟩]

/-- Its stores tile the buffer (checked by evaluation), so they cover it. -/
theorem cover0_14 (p0 : Vec F S1x59x59 .f32) (y : S1x59x59.Idx) :
    ∃ pc ∈ ([⟨r0_11, p0⟩] : List (View.Piece (Elt F) S1x59x59 .f32)), y ∈ pc.1.set :=
  View.cover_of_tiled [⟨r0_11, p0⟩] S1x59x59.size (by rfl) y

/-- Window 15's staging buffer after the body, from the input windows' blocks: its 1 store as pieces, LAST
    FIRST (Lib/Pipeline/FrameBody.lean `View.canon`; the payloads are the skeleton's and the values stated above). -/
def out0_15 (x0 : Vec F S1x3x128x128 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : Vec F S1x4x59x59 .f32 :=
  View.canon [⟨r0_12, k0_pay13 (k0_pay7 (k0_pay14 x0 x1 x2 x3 x4 x5 x6 x7 x8 x9 x10 x11 x12 x13) (k0_pay15 x0 x1 x2 x3 x4 x5 x6 x7 x8 x9 x10 x11 x12 x13) (k0_pay16 x0 x1 x2 x3 x4 x5 x6 x7 x8 x9 x10 x11 x12 x13) (View.ld x12 r0_9) (View.ld x13 r0_10)) (k0_pay8 (F := F)) (k0_pay9 (F := F)) (k0_pay10 (F := F)) (k0_pay11 (F := F)) (Scalar.ofBits .f32 0x40800000#32)⟩]

/-- Its stores tile the buffer (checked by evaluation), so they cover it. -/
theorem cover0_15 (p0 : Vec F S1x4x59x59 .f32) (y : S1x4x59x59.Idx) :
    ∃ pc ∈ ([⟨r0_12, p0⟩] : List (View.Piece (Elt F) S1x4x59x59 .f32)), y ∈ pc.1.set :=
  View.cover_of_tiled [⟨r0_12, p0⟩] S1x4x59x59.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S1x3x128x128 .f32) (harg1 : arg1.IsWhole) (arg2 : Memref sig .tc .vmem S10x27 .f32) (harg2 : arg2.IsWhole) (arg3 : Memref sig .tc .vmem S10x1x1 .f32) (harg3 : arg3.IsWhole) (arg4 : Memref sig .tc .vmem S10x1x1 .f32) (harg4 : arg4.IsWhole) (arg5 : Memref sig .tc .vmem S16x90 .f32) (harg5 : arg5.IsWhole) (arg6 : Memref sig .tc .vmem S16x1x1 .f32) (harg6 : arg6.IsWhole) (arg7 : Memref sig .tc .vmem S16x1x1 .f32) (harg7 : arg7.IsWhole) (arg8 : Memref sig .tc .vmem S32x144 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S2x32 .f32) (harg11 : arg11.IsWhole) (arg12 : Memref sig .tc .vmem S2x1x1 .f32) (harg12 : arg12.IsWhole) (arg13 : Memref sig .tc .vmem S4x32 .f32) (harg13 : arg13.IsWhole) (arg14 : Memref sig .tc .vmem S4x1x1 .f32) (harg14 : arg14.IsWhole) (arg15 : Memref sig .tc .vmem S1x59x59 .f32) (harg15 : arg15.IsWhole) (arg16 : Memref sig .tc .vmem S1x4x59x59 .f32) (harg16 : arg16.IsWhole)
    (x0 : Vec F S1x3x128x128 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_pnet_s0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_pnet_s0_eq_skeleton]; unfold cc0_pnet_s0_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  iexists _; isplitr
  swap; · iexact H15
  ipureintro
  refine (View.read_writes_eq_canon _ _ _ (cover0_15 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Own

end
-- ==== Proof.Ideal.Region1.lean ====
/- The region of the second scale’s kernel, at any contents of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_pnet_s1` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x3x90x90 := Rect.unit (s := S1x3x90x90) ![0, 0, 0, 0] S1x3x90x90.size inb_S1x3x90x90_S1x3x90x90_0_0_0_0
abbrev r1_1 : Rect S10x27 := Rect.unit (s := S10x27) ![0, 0] S10x27.size inb_S10x27_S10x27_0_0
abbrev r1_2 : Rect S10x1x1 := Rect.unit (s := S10x1x1) ![0, 0, 0] S10x1x1.size inb_S10x1x1_S10x1x1_0_0_0
abbrev r1_3 : Rect S16x90 := Rect.unit (s := S16x90) ![0, 0] S16x90.size inb_S16x90_S16x90_0_0
abbrev r1_4 : Rect S16x1x1 := Rect.unit (s := S16x1x1) ![0, 0, 0] S16x1x1.size inb_S16x1x1_S16x1x1_0_0_0
abbrev r1_5 : Rect S32x144 := Rect.unit (s := S32x144) ![0, 0] S32x144.size inb_S32x144_S32x144_0_0
abbrev r1_6 : Rect S32x1x1 := Rect.unit (s := S32x1x1) ![0, 0, 0] S32x1x1.size inb_S32x1x1_S32x1x1_0_0_0
abbrev r1_7 : Rect S2x32 := Rect.unit (s := S2x32) ![0, 0] S2x32.size inb_S2x32_S2x32_0_0
abbrev r1_8 : Rect S2x1x1 := Rect.unit (s := S2x1x1) ![0, 0, 0] S2x1x1.size inb_S2x1x1_S2x1x1_0_0_0
abbrev r1_9 : Rect S4x32 := Rect.unit (s := S4x32) ![0, 0] S4x32.size inb_S4x32_S4x32_0_0
abbrev r1_10 : Rect S4x1x1 := Rect.unit (s := S4x1x1) ![0, 0, 0] S4x1x1.size inb_S4x1x1_S4x1x1_0_0_0
abbrev r1_11 : Rect S1x40x40 := Rect.unit (s := S1x40x40) ![0, 0, 0] S1x40x40.size inb_S1x40x40_S1x40x40_0_0_0
abbrev r1_12 : Rect S1x4x40x40 := Rect.unit (s := S1x4x40x40) ![0, 0, 0, 0] S1x4x40x40.size inb_S1x4x40x40_S1x4x40x40_0_0_0_0

/-! ## What the body leaves in each output window's buffer -/

/-! ### Values of the body that the stores' payloads, spelt out, would write more than once

    Each is a vector the body binds (often a part call's result), stated over the input windows' blocks and
    numbered on from the skeleton's payload functions (`k1_pay14` …, after `k1_pay13`), so that
    `out1_W` and the values after it name it instead of spelling it out (`unfold_out out1_W` opens a canon
    with them, `unfold_payloads` opens them with the payloads); the comment after each is the printed function's
    name for the value (a count appended where that name is bound again). -/

def k1_pay14 (x0 : Vec F S1x3x90x90 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x1x1 .f32 :=
  k1_pay2 (View.ld x8 r1_6) -- `v70`
def k1_pay15 (x0 : Vec F S1x3x90x90 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x1x1 .f32 :=
  k1_pay3 (View.ld x9 r1_6) -- `v72`
def k1_pay16 (x0 : Vec F S1x3x90x90 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x40x40 .f32 :=
  k1_pay4 (k1_pay1 (View.ld x0 r1_0) (View.ld x1 r1_1) (View.ld x2 r1_2) (View.ld x3 r1_2)) (View.ld x4 r1_3) (View.ld x5 r1_4) (View.ld x6 r1_4) (View.ld x7 r1_5) -- `v83`

/-- Window 14's staging buffer after the body, from the input windows' blocks: its 1 store as pieces, LAST
    FIRST (Lib/Pipeline/FrameBody.lean `View.canon`; the payloads are the skeleton's and the values stated above). -/
def out1_14 (x0 : Vec F S1x3x90x90 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : Vec F S1x40x40 .f32 :=
  View.canon [⟨r1_11, k1_pay12 (k1_pay6 (k1_pay14 x0 x1 x2 x3 x4 x5 x6 x7 x8 x9 x10 x11 x12 x13) (k1_pay15 x0 x1 x2 x3 x4 x5 x6 x7 x8 x9 x10 x11 x12 x13) (k1_pay16 x0 x1 x2 x3 x4 x5 x6 x7 x8 x9 x10 x11 x12 x13) (View.ld x10 r1_7) (View.ld x11 r1_8))⟩]

/-- Its stores tile the buffer (checked by evaluation), so they cover it. -/
theorem cover1_14 (p0 : Vec F S1x40x40 .f32) (y : S1x40x40.Idx) :
    ∃ pc ∈ ([⟨r1_11, p0⟩] : List (View.Piece (Elt F) S1x40x40 .f32)), y ∈ pc.1.set :=
  View.cover_of_tiled [⟨r1_11, p0⟩] S1x40x40.size (by rfl) y

/-- Window 15's staging buffer after the body, from the input windows' blocks: its 1 store as pieces, LAST
    FIRST (Lib/Pipeline/FrameBody.lean `View.canon`; the payloads are the skeleton's and the values stated above). -/
def out1_15 (x0 : Vec F S1x3x90x90 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : Vec F S1x4x40x40 .f32 :=
  View.canon [⟨r1_12, k1_pay13 (k1_pay7 (k1_pay14 x0 x1 x2 x3 x4 x5 x6 x7 x8 x9 x10 x11 x12 x13) (k1_pay15 x0 x1 x2 x3 x4 x5 x6 x7 x8 x9 x10 x11 x12 x13) (k1_pay16 x0 x1 x2 x3 x4 x5 x6 x7 x8 x9 x10 x11 x12 x13) (View.ld x12 r1_9) (View.ld x13 r1_10)) (k1_pay8 (F := F)) (k1_pay9 (F := F)) (k1_pay10 (F := F)) (k1_pay11 (F := F)) (Named.named κ "inv_0177" 0x40B4CA7C#32)⟩]

/-- Its stores tile the buffer (checked by evaluation), so they cover it. -/
theorem cover1_15 (p0 : Vec F S1x4x40x40 .f32) (y : S1x4x40x40.Idx) :
    ∃ pc ∈ ([⟨r1_12, p0⟩] : List (View.Piece (Elt F) S1x4x40x40 .f32)), y ∈ pc.1.set :=
  View.cover_of_tiled [⟨r1_12, p0⟩] S1x4x40x40.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs (Lib/Exec.lean), through every part call. -/
theorem sound_kernel1 (c : Dev nD) (E : Set ℕ) (i : grid1.Coords) (arg1 : Memref sig .tc .vmem S1x3x90x90 .f32) (harg1 : arg1.IsWhole) (arg2 : Memref sig .tc .vmem S10x27 .f32) (harg2 : arg2.IsWhole) (arg3 : Memref sig .tc .vmem S10x1x1 .f32) (harg3 : arg3.IsWhole) (arg4 : Memref sig .tc .vmem S10x1x1 .f32) (harg4 : arg4.IsWhole) (arg5 : Memref sig .tc .vmem S16x90 .f32) (harg5 : arg5.IsWhole) (arg6 : Memref sig .tc .vmem S16x1x1 .f32) (harg6 : arg6.IsWhole) (arg7 : Memref sig .tc .vmem S16x1x1 .f32) (harg7 : arg7.IsWhole) (arg8 : Memref sig .tc .vmem S32x144 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S2x32 .f32) (harg11 : arg11.IsWhole) (arg12 : Memref sig .tc .vmem S2x1x1 .f32) (harg12 : arg12.IsWhole) (arg13 : Memref sig .tc .vmem S4x32 .f32) (harg13 : arg13.IsWhole) (arg14 : Memref sig .tc .vmem S4x1x1 .f32) (harg14 : arg14.IsWhole) (arg15 : Memref sig .tc .vmem S1x40x40 .f32) (harg15 : arg15.IsWhole) (arg16 : Memref sig .tc .vmem S1x4x40x40 .f32) (harg16 : arg16.IsWhole)
    (x0 : Vec F S1x3x90x90 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out1_14 x0 x1 x2 x3 x4 x5 x6 x7 x8 x9 x10 x11 x12 x13) ∗ owns (c : Thread nD τ) arg16 fullShare (out1_15 x0 x1 x2 x3 x4 x5 x6 x7 x8 x9 x10 x11 x12 x13)) -∗ K ⟨⟩))
      ⊢ wp frame (wpE (defs₀ (F := F)) Variants.none c none) E (cc1_pnet_s1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_pnet_s1_eq_skeleton]; unfold cc1_pnet_s1_skel
  simp only [k1_part4_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover1_14 _)).trans ?_
    rfl
  iexists _; isplitr
  swap; · iexact H15
  ipureintro
  refine (View.read_writes_eq_canon _ _ _ (cover1_15 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    | ⟨_ + 16, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own

end
-- ==== Proof.Ideal.Region2.lean ====
/- The region of the third scale’s kernel, at any contents of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_pnet_s2` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x3x64x64 := Rect.unit (s := S1x3x64x64) ![0, 0, 0, 0] S1x3x64x64.size inb_S1x3x64x64_S1x3x64x64_0_0_0_0
abbrev r2_1 : Rect S10x27 := Rect.unit (s := S10x27) ![0, 0] S10x27.size inb_S10x27_S10x27_0_0
abbrev r2_2 : Rect S10x1x1 := Rect.unit (s := S10x1x1) ![0, 0, 0] S10x1x1.size inb_S10x1x1_S10x1x1_0_0_0
abbrev r2_3 : Rect S16x90 := Rect.unit (s := S16x90) ![0, 0] S16x90.size inb_S16x90_S16x90_0_0
abbrev r2_4 : Rect S16x1x1 := Rect.unit (s := S16x1x1) ![0, 0, 0] S16x1x1.size inb_S16x1x1_S16x1x1_0_0_0
abbrev r2_5 : Rect S32x144 := Rect.unit (s := S32x144) ![0, 0] S32x144.size inb_S32x144_S32x144_0_0
abbrev r2_6 : Rect S32x1x1 := Rect.unit (s := S32x1x1) ![0, 0, 0] S32x1x1.size inb_S32x1x1_S32x1x1_0_0_0
abbrev r2_7 : Rect S2x32 := Rect.unit (s := S2x32) ![0, 0] S2x32.size inb_S2x32_S2x32_0_0
abbrev r2_8 : Rect S2x1x1 := Rect.unit (s := S2x1x1) ![0, 0, 0] S2x1x1.size inb_S2x1x1_S2x1x1_0_0_0
abbrev r2_9 : Rect S4x32 := Rect.unit (s := S4x32) ![0, 0] S4x32.size inb_S4x32_S4x32_0_0
abbrev r2_10 : Rect S4x1x1 := Rect.unit (s := S4x1x1) ![0, 0, 0] S4x1x1.size inb_S4x1x1_S4x1x1_0_0_0
abbrev r2_11 : Rect S1x27x27 := Rect.unit (s := S1x27x27) ![0, 0, 0] S1x27x27.size inb_S1x27x27_S1x27x27_0_0_0
abbrev r2_12 : Rect S1x4x27x27 := Rect.unit (s := S1x4x27x27) ![0, 0, 0, 0] S1x4x27x27.size inb_S1x4x27x27_S1x4x27x27_0_0_0_0

/-! ## What the body leaves in each output window's buffer -/

/-! ### Values of the body that the stores' payloads, spelt out, would write more than once

    Each is a vector the body binds (often a part call's result), stated over the input windows' blocks and
    numbered on from the skeleton's payload functions (`k2_pay14` …, after `k2_pay13`), so that
    `out2_W` and the values after it name it instead of spelling it out (`unfold_out out2_W` opens a canon
    with them, `unfold_payloads` opens them with the payloads); the comment after each is the printed function's
    name for the value (a count appended where that name is bound again). -/

def k2_pay14 (x0 : Vec F S1x3x64x64 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x1x1 .f32 :=
  k2_pay2 (View.ld x8 r2_6) -- `v70`
def k2_pay15 (x0 : Vec F S1x3x64x64 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x1x1 .f32 :=
  k2_pay3 (View.ld x9 r2_6) -- `v72`
def k2_pay16 (x0 : Vec F S1x3x64x64 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : FVec F S32x27x27 .f32 :=
  k2_pay4 (k2_pay1 (View.ld x0 r2_0) (View.ld x1 r2_1) (View.ld x2 r2_2) (View.ld x3 r2_2)) (View.ld x4 r2_3) (View.ld x5 r2_4) (View.ld x6 r2_4) (View.ld x7 r2_5) -- `v83`

/-- Window 14's staging buffer after the body, from the input windows' blocks: its 1 store as pieces, LAST
    FIRST (Lib/Pipeline/FrameBody.lean `View.canon`; the payloads are the skeleton's and the values stated above). -/
def out2_14 (x0 : Vec F S1x3x64x64 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : Vec F S1x27x27 .f32 :=
  View.canon [⟨r2_11, k2_pay12 (k2_pay6 (k2_pay14 x0 x1 x2 x3 x4 x5 x6 x7 x8 x9 x10 x11 x12 x13) (k2_pay15 x0 x1 x2 x3 x4 x5 x6 x7 x8 x9 x10 x11 x12 x13) (k2_pay16 x0 x1 x2 x3 x4 x5 x6 x7 x8 x9 x10 x11 x12 x13) (View.ld x10 r2_7) (View.ld x11 r2_8))⟩]

/-- Its stores tile the buffer (checked by evaluation), so they cover it. -/
theorem cover2_14 (p0 : Vec F S1x27x27 .f32) (y : S1x27x27.Idx) :
    ∃ pc ∈ ([⟨r2_11, p0⟩] : List (View.Piece (Elt F) S1x27x27 .f32)), y ∈ pc.1.set :=
  View.cover_of_tiled [⟨r2_11, p0⟩] S1x27x27.size (by rfl) y

/-- Window 15's staging buffer after the body, from the input windows' blocks: its 1 store as pieces, LAST
    FIRST (Lib/Pipeline/FrameBody.lean `View.canon`; the payloads are the skeleton's and the values stated above). -/
def out2_15 (x0 : Vec F S1x3x64x64 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) : Vec F S1x4x27x27 .f32 :=
  View.canon [⟨r2_12, k2_pay13 (k2_pay7 (k2_pay14 x0 x1 x2 x3 x4 x5 x6 x7 x8 x9 x10 x11 x12 x13) (k2_pay15 x0 x1 x2 x3 x4 x5 x6 x7 x8 x9 x10 x11 x12 x13) (k2_pay16 x0 x1 x2 x3 x4 x5 x6 x7 x8 x9 x10 x11 x12 x13) (View.ld x12 r2_9) (View.ld x13 r2_10)) (k2_pay8 (F := F)) (k2_pay9 (F := F)) (k2_pay10 (F := F)) (k2_pay11 (F := F)) (Named.named κ "inv_01255" 0x40FEFAE7#32)⟩]

/-- Its stores tile the buffer (checked by evaluation), so they cover it. -/
theorem cover2_15 (p0 : Vec F S1x4x27x27 .f32) (y : S1x4x27x27.Idx) :
    ∃ pc ∈ ([⟨r2_12, p0⟩] : List (View.Piece (Elt F) S1x4x27x27 .f32)), y ∈ pc.1.set :=
  View.cover_of_tiled [⟨r2_12, p0⟩] S1x4x27x27.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`*_eq_skeleton`), which `sl_exec` runs (Lib/Exec.lean), through every part call. -/
theorem sound_kernel2 (c : Dev nD) (E : Set ℕ) (i : grid2.Coords) (arg1 : Memref sig .tc .vmem S1x3x64x64 .f32) (harg1 : arg1.IsWhole) (arg2 : Memref sig .tc .vmem S10x27 .f32) (harg2 : arg2.IsWhole) (arg3 : Memref sig .tc .vmem S10x1x1 .f32) (harg3 : arg3.IsWhole) (arg4 : Memref sig .tc .vmem S10x1x1 .f32) (harg4 : arg4.IsWhole) (arg5 : Memref sig .tc .vmem S16x90 .f32) (harg5 : arg5.IsWhole) (arg6 : Memref sig .tc .vmem S16x1x1 .f32) (harg6 : arg6.IsWhole) (arg7 : Memref sig .tc .vmem S16x1x1 .f32) (harg7 : arg7.IsWhole) (arg8 : Memref sig .tc .vmem S32x144 .f32) (harg8 : arg8.IsWhole) (arg9 : Memref sig .tc .vmem S32x1x1 .f32) (harg9 : arg9.IsWhole) (arg10 : Memref sig .tc .vmem S32x1x1 .f32) (harg10 : arg10.IsWhole) (arg11 : Memref sig .tc .vmem S2x32 .f32) (harg11 : arg11.IsWhole) (arg12 : Memref sig .tc .vmem S2x1x1 .f32) (harg12 : arg12.IsWhole) (arg13 : Memref sig .tc .vmem S4x32 .f32) (harg13 : arg13.IsWhole) (arg14 : Memref sig .tc .vmem S4x1x1 .f32) (harg14 : arg14.IsWhole) (arg15 : Memref sig .tc .vmem S1x27x27 .f32) (harg15 : arg15.IsWhole) (arg16 : Memref sig .tc .vmem S1x4x27x27 .f32) (harg16 : arg16.IsWhole)
    (x0 : Vec F S1x3x64x64 .f32) (x1 : Vec F S10x27 .f32) (x2 : Vec F S10x1x1 .f32) (x3 : Vec F S10x1x1 .f32) (x4 : Vec F S16x90 .f32) (x5 : Vec F S16x1x1 .f32) (x6 : Vec F S16x1x1 .f32) (x7 : Vec F S32x144 .f32) (x8 : Vec F S32x1x1 .f32) (x9 : Vec F S32x1x1 .f32) (x10 : Vec F S2x32 .f32) (x11 : Vec F S2x1x1 .f32) (x12 : Vec F S4x32 .f32) (x13 : Vec F S4x1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out2_14 x0 x1 x2 x3 x4 x5 x6 x7 x8 x9 x10 x11 x12 x13) ∗ owns (c : Thread nD τ) arg16 fullShare (out2_15 x0 x1 x2 x3 x4 x5 x6 x7 x8 x9 x10 x11 x12 x13)) -∗ K ⟨⟩))
      ⊢ wp frame (wpE (defs₀ (F := F)) Variants.none c none) E (cc2_pnet_s2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2_pnet_s2_eq_skeleton]; unfold cc2_pnet_s2_skel
  simp only [k2_part4_eq_skeleton, k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover2_14 _)).trans ?_
    rfl
  iexists _; isplitr
  swap; · iexact H15
  ipureintro
  refine (View.read_writes_eq_canon _ _ _ (cover2_15 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 16, h⟩ => absurd h (Nat.not_lt.2 (Nat.le_add_left _ _))
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Own

end
-- ==== Proof.Ideal.Nms.lean ====
/- The suppression loop of the last kernel: one round as a function of the carried values.

   The loop's region computes with vectors alone.  Its text is the same for the four batch rows, so one round is stated
   once, for one row, and the region's yield is the four rows' rounds side by side. -/
module

public import proofs.«01_k».proof.Proof.Gen.KernelIdeal.Loops

@[expose] public section

set_option maxRecDepth 65536

noncomputable section

namespace Cert.KernelIdeal.Own

open Cert.KernelIdeal.Gen
open Idealize.ShloMosaic Idealize.ShloMosaic.TcCoe Idealize.ShloMosaic.Tactic

variable {F : FTy → Type} [FloatOps F] [Named F]

/-- The four rows' marks: for each row the boxes kept so far and the boxes suppressed so far. -/
abbrev Marks (F : FTy → Type) : Type :=
  FVec F S1x128 .f32 × FVec F S1x128 .f32 × FVec F S1x128 .f32 × FVec F S1x128 .f32 × FVec F S1x128 .f32
    × FVec F S1x128 .f32 × FVec F S1x128 .f32 × FVec F S1x128 .f32

/-- Round `i` of one row: box `i` is kept if its score passes the threshold and it is not suppressed. -/
def keepStep (lane : IVec S1x128 32) (ss : FVec F S1x128 .f32) (i : BitVec 32) (kept supv : FVec F S1x128 .f32) :
    FVec F S1x128 .f32 :=
  select (andi (andi (cmpi .eq lane (broadcast S1x128 i))
      (cmpf .ogt ss (broadcast S1x128 (Scalar.ofBits .f32 0x3F19999A#32))))
      (cmpf .olt supv (broadcast S1x128 (Scalar.ofBits .f32 0x3F000000#32))))
    (broadcast S1x128 (Scalar.ofBits .f32 0x3F800000#32)) kept

/-- Row `i` of the overlap matrix. -/
def rowOf (sub : IVec S128x1 32) (M : FVec F S128x128 .f32) (i : BitVec 32) : FVec F S1x128 .f32 :=
  shapeCast S1x128
    (multiReduction .add [0] S128
      (mulf M (broadcastTo S128x128 (sitofp .f32 (extui 32 (cmpi .eq sub (broadcast S128x1 i)) natLt_1_32) : FVec F S128x1 .f32)
        broadcasts_S128x1_S128x128))
      0x00000000#32 reduces_S128x128_S128 (.inl rfl) rfl) shapeCasts_S128_S1x128

/-- Whether box `i` is marked kept, as a number. -/
def keptAt (lane : IVec S1x128 32) (i : BitVec 32) (kept : FVec F S1x128 .f32) : F .f32 :=
  extractAt ![0, 0, 0]
    (shapeCast S1x1x1
      (multiReduction .maximumf [1, 2] S1
        (shapeCast S1x1x128
          (mulf kept (sitofp .f32 (extui 32 (cmpi .eq lane (broadcast S1x128 i)) natLt_1_32))) shapeCasts_S1x128_S1x1x128)
        0xFF800000#32 reduces_S1x1x128_S1 (.inl rfl) rfl) shapeCasts_S1_S1x1x1) inpos_S1x1x1_p0_0_0

/-- Round `i` of one row: the boxes that overlap box `i` too much are suppressed if box `i` is kept. -/
def supStep (lane : IVec S1x128 32) (sub : IVec S128x1 32) (M : FVec F S128x128 .f32) (i : BitVec 32)
    (kept supv : FVec F S1x128 .f32) : FVec F S1x128 .f32 :=
  select (andi (cmpf .ogt (rowOf sub M i) (broadcast S1x128 (Scalar.ofBits .f32 0x3F000000#32)))
      (broadcast S1x128 (Scalar.cmpf .ogt (keptAt lane i kept) (Scalar.ofBits .f32 0x00000000#32))))
    (broadcast S1x128 (Scalar.ofBits .f32 0x3F800000#32)) supv

/-- Round `i` of the four rows. -/
def marksStep (lane : IVec S1x128 32) (sub : IVec S128x1 32) (s0 s1 s2 s3 : FVec F S1x128 .f32)
    (M0 M1 M2 M3 : FVec F S128x128 .f32) (i : BitVec 32) : Marks F → Marks F
  | (k0, p0, k1, p1, k2, p2, k3, p3) =>
    (keepStep lane s0 i k0 p0, supStep lane sub M0 i (keepStep lane s0 i k0 p0) p0,
     keepStep lane s1 i k1 p1, supStep lane sub M1 i (keepStep lane s1 i k1 p1) p1,
     keepStep lane s2 i k2 p2, supStep lane sub M2 i (keepStep lane s2 i k2 p2) p2,
     keepStep lane s3 i k3 p3, supStep lane sub M3 i (keepStep lane s3 i k3 p3) p3)

/-- The loop's region returns the round's marks. -/
theorem body_eq_marksStep (arg0 : Memref sig .tc .vmem S4x46x128 .f32) (harg0 : arg0.IsWhole)
    (arg1 : Memref sig .tc .vmem S4x4x46x128 .f32) (harg1 : arg1.IsWhole) (arg2 : Memref sig .tc .vmem S4x8x128 .f32)
    (harg2 : arg2.IsWhole) (lane : IVec S1x128 32) (s0 s1 s2 s3 : FVec F S1x128 .f32) (sub : IVec S128x1 32)
    (M0 M1 M2 M3 : FVec F S128x128 .f32) (z : BitVec 32) :
    k3_t2_body (F := F) arg0 harg0 arg1 harg1 arg2 harg2 lane s0 s1 s2 s3 sub M0 M1 M2 M3 z
      = fun k acc => .ret (marksStep lane sub s0 s1 s2 s3 M0 M1 M2 M3 (Scf.iv z 1#32 k) acc) := rfl

end Cert.KernelIdeal.Own

end
-- ==== Proof.Ideal.Region3.lean ====
/- The region of the selection and suppression kernel, at any contents of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

public import proofs.«01_k».proof.Proof.Ideal.Nms

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_topk_nms` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 2, through which its contents are stated (`View.read_writes_of_cover`: the
    choice does not matter). -/
abbrev VO3_2 : View sig .tc .vmem S4x8x128 .f32 := (Memref.whole cc3_stg2_0 : Memref sig .tc .vmem S4x8x128 .f32).view
/-- Each window's current staging memref at point `t`, spelled as the pipeline passes it (`bodyAt3`), and its wholeness. -/
abbrev ms3_0 (t : Fin cfg3.N) : Memref sig .tc .vmem S4x46x128 .f32 := win3_0.stage (cfg3.slots t 0)
abbrev hs3_0 (t : Fin cfg3.N) : (ms3_0 t).IsWhole := hstage3_0 0
abbrev ms3_1 (t : Fin cfg3.N) : Memref sig .tc .vmem S4x4x46x128 .f32 := win3_1.stage (cfg3.slots t 1)
abbrev hs3_1 (t : Fin cfg3.N) : (ms3_1 t).IsWhole := hstage3_1 0
abbrev ms3_2 (t : Fin cfg3.N) : Memref sig .tc .vmem S4x8x128 .f32 := win3_2.stage (cfg3.slots t 2)
abbrev hs3_2 (t : Fin cfg3.N) : (ms3_2 t).IsWhole := hstage3_2 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def kernelRun3_A (c : Dev nD) (arg0 : Memref sig .tc .vmem S4x46x128 .f32) (harg0 : arg0.IsWhole) (arg1 : Memref sig .tc .vmem S4x4x46x128 .f32) (harg1 : arg1.IsWhole) (arg2 : Memref sig .tc .vmem S4x8x128 .f32) (harg2 : arg2.IsWhole)
    (x0 : Vec F S4x46x128 .f32) (x1 : Vec F S4x4x46x128 .f32) :
    { L2 : List (View.Piece (Elt F) S4x8x128 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2)) -∗ K ⟨⟩))
          ⊢ wp frame (wpE (defs₀ (F := F)) Variants.none c none) E (cc3_topk_nms arg0 harg0 arg1 harg1 arg2 harg2) K } := by
  refine ⟨?_, fun E K => ?run⟩
  case run =>
    simp only [cc3_topk_nms_eq_skeleton]; unfold cc3_topk_nms_skel
    simp only [body_eq_marksStep]
    simp only [k3_part8_eq_skeleton, k3_part9_eq_skeleton, k3_part10_eq_skeleton, k3_part11_eq_skeleton]
    unfold owns
    iintro ⟨⟨%f0, %hf0, H0⟩, ⟨%f1, %hf1, H1⟩, ⟨%d2, %f2, -, H2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    iexists _; iexact H2

/-- The run's pieces for output 2 tile its block (4 stores of `S1x8x128`, checked by the kernel's evaluation: Lib/Ring.lean `Piece.tiledL`, linear in the pieces, through a loop's `@[irreducible]` trip theorem too), so they cover it. -/
theorem cover3_A_2 (c : Dev nD) (arg0 : Memref sig .tc .vmem S4x46x128 .f32) (harg0 : arg0.IsWhole) (arg1 : Memref sig .tc .vmem S4x4x46x128 .f32) (harg1 : arg1.IsWhole) (arg2 : Memref sig .tc .vmem S4x8x128 .f32) (harg2 : arg2.IsWhole)
    (x0 : Vec F S4x46x128 .f32) (x1 : Vec F S4x4x46x128 .f32) (y : S4x8x128.Idx) :
    ∃ pc ∈ (kernelRun3_A c arg0 harg0 arg1 harg1 arg2 harg2 x0 x1).1, y ∈ pc.1.set :=
  View.cover_of_tiledL (kernelRun3_A c arg0 harg0 arg1 harg1 arg2 harg2 x0 x1).1 S1x8x128.size (by sl_kernel_rfl) y

/-- What the run leaves in output 2's staging buffer: its pieces read back over junk. -/
def out3_A_2 (c : Dev nD) (arg0 : Memref sig .tc .vmem S4x46x128 .f32) (harg0 : arg0.IsWhole) (arg1 : Memref sig .tc .vmem S4x4x46x128 .f32) (harg1 : arg1.IsWhole) (arg2 : Memref sig .tc .vmem S4x8x128 .f32) (harg2 : arg2.IsWhole)
    (x0 : Vec F S4x46x128 .f32) (x1 : Vec F S4x4x46x128 .f32) : Vec F S4x8x128 .f32 :=
  VO3_2.read (Elt F) (VO3_2.writes (Elt F) VO3_2.junk (kernelRun3_A c arg0 harg0 arg1 harg1 arg2 harg2 x0 x1).1)

/-! ## What the outputs hold after each point -/

/-- What the outputs' staging buffers hold after the body at point `t`: the run's contents at
    the point's memrefs and input blocks. -/
def outsAt3 (c : Dev nD) (t : Fin cfg3.N) : Vec F S4x8x128 .f32 :=
  out3_A_2 c (ms3_0 t) (hs3_0 t) (ms3_1 t) (hs3_1 t) (ms3_2 t) (hs3_2 t) (iblk3 V c 0 t) (iblk3 V c 1 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  unfold outsAt3
  unfold out3_A_2
  iintro ⟨HΦ, Ho, ⟨%d0, H0⟩, ⟨%d1, H1⟩, ⟨%d2, H2⟩⟩
  iapply ((kernelRun3_A c _ _ _ _ _ _ (iblk3 V c 0 t) (iblk3 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover3_A_2 c _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Own

end
-- ==== Proof.Ideal.Hosts0.lean ====
/- The host stretches of @main: the buffers each writes, and that no argument is among them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_cst_0, main_v2, main_v3, main_v4, main_v5, main_v6, main_v7, main_v8, main_v9, main_v10, main_v11, main_v12, main_v13, main_v14, main_v15, main_v16, main_v17, main_v18, main_v19, main_cst_1, main_cst_2, main_v20, main_cst_3, main_v21, main_v22, main_cst_4, main_v23, main_v24, main_v25, main_v26, main_cst_5, main_v27, main_v28, main_v29, main_cst_6, main_v30, main_v31, main_v32, main_v33, main_v34, main_v35, main_v36, main_v37, main_v38, main_v39, main_v40, main_v41, main_cst_7, main_v42, main_v43, main_cst_8, main_v44, main_v45, main_cst_9, main_v46, main_v47, main_v48, main_cst_10, main_v49, main_v50, main_cst_11, main_v51, main_v52, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_v53]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v54, main_v55, main_c_12]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_v56]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_cst_13, main_v57, main_v58, main_cst_14, main_v59, main_v60, main_v61, main_v62, main_c_15]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_call2_v2, main_v63]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v64, main_v65, main_v66, main_v67, main_v68, main_cst_16, main_v69, main_v70, main_v71, main_v72, main_v73, main_v74, main_cst_17, main_v75]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v77, main_v78, main_cst_18, main_cst_19, main_v79, main_cst_20, main_v80, main_v81, main_cst_21, main_v82, main_v83, main_v84, main_v85, main_cst_22, main_v86, main_v87, main_v88, main_cst_23, main_v89, main_v90, main_v91, main_v92, main_v93, main_v94, main_v95, main_v96, main_v97, main_v98, main_v99, main_v100, main_cst_24, main_v101, main_v102, main_cst_25, main_v103, main_v104, main_cst_26, main_v105, main_v106, main_v107, main_cst_27, main_v108, main_v109, main_cst_28, main_v110, main_v111, main_c_29]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call3_v0, main_call3_v1, main_v112]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v113, main_v114, main_c_30]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call4_v0, main_call4_v1, main_call4_v2, main_v115]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_cst_31, main_v116, main_v117, main_cst_32, main_v118, main_v119, main_v120, main_v121, main_c_33]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call5_v0, main_call5_v1, main_call5_v2, main_v122]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v123, main_v124, main_v125, main_v126, main_v127, main_cst_34, main_v128, main_v129, main_v130, main_v131, main_v132, main_v133, main_cst_35, main_v134]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v136, main_v137, main_cst_36, main_cst_37, main_v138, main_cst_38, main_v139, main_v140, main_cst_39, main_v141, main_v142, main_v143, main_v144, main_cst_40, main_v145, main_v146, main_v147, main_cst_41, main_v148, main_v149, main_v150, main_v151, main_v152, main_v153, main_v154, main_v155, main_v156, main_v157, main_v158, main_v159, main_cst_42, main_v160, main_v161, main_cst_43, main_v162, main_v163, main_cst_44, main_v164, main_v165, main_v166, main_cst_45, main_v167, main_v168, main_cst_46, main_v169, main_v170, main_c_47]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call6_v0, main_call6_v1, main_v171]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v172, main_v173, main_c_48]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps2_3` allocates a buffer. -/
theorem hostOps2_3_fresh : (hostOps2_3 : List (HloOp τ sig (Elt F))).Forall fun op => op.fresh = ∅ := by
  simp only [List.Forall]; repeat' constructor
/-- The reference each operation of `hostOps2_3` writes, in order. -/
abbrev hostOps2_3_W : List (Ref sig .tc) := [main_call7_v0, main_call7_v1, main_call7_v2, main_v174]
theorem hostOps2_3_writes : (hostOps2_3 : List (HloOp τ sig (Elt F))).Forall fun op => op.writes ⊆ (hostOps2_3_W.map (Proc.devRef (τ := τ) .tc)).toFinset :=
  StableHlo.forall_writes_sub_of_map rfl
/-- `hostOps2_3` writes none of the argument arrays (checked: each argument against each reference it writes). -/
theorem hostOps2_3_args : ∀ a ∈ argRefs, a ∉ hostOps2_3_W := ListAll.forall_mem_of_all_decide (by decide +kernel)

/-- No operation of `hostOps2_4` allocates a buffer. -/
theorem hostOps2_4_fresh : (hostOps2_4 : List (HloOp τ sig (Elt F))).Forall fun op => op.fresh = ∅ := by
  simp only [List.Forall]; repeat' constructor
/-- The reference each operation of `hostOps2_4` writes, in order. -/
abbrev hostOps2_4_W : List (Ref sig .tc) := [main_cst_49, main_v175, main_v176, main_cst_50, main_v177, main_v178, main_v179, main_v180, main_c_51]
theorem hostOps2_4_writes : (hostOps2_4 : List (HloOp τ sig (Elt F))).Forall fun op => op.writes ⊆ (hostOps2_4_W.map (Proc.devRef (τ := τ) .tc)).toFinset :=
  StableHlo.forall_writes_sub_of_map rfl
/-- `hostOps2_4` writes none of the argument arrays (checked: each argument against each reference it writes). -/
theorem hostOps2_4_args : ∀ a ∈ argRefs, a ∉ hostOps2_4_W := ListAll.forall_mem_of_all_decide (by decide +kernel)

/-- No operation of `hostOps2_5` allocates a buffer. -/
theorem hostOps2_5_fresh : (hostOps2_5 : List (HloOp τ sig (Elt F))).Forall fun op => op.fresh = ∅ := by
  simp only [List.Forall]; repeat' constructor
/-- The reference each operation of `hostOps2_5` writes, in order. -/
abbrev hostOps2_5_W : List (Ref sig .tc) := [main_call8_v0, main_call8_v1, main_call8_v2, main_v181]
theorem hostOps2_5_writes : (hostOps2_5 : List (HloOp τ sig (Elt F))).Forall fun op => op.writes ⊆ (hostOps2_5_W.map (Proc.devRef (τ := τ) .tc)).toFinset :=
  StableHlo.forall_writes_sub_of_map rfl
/-- `hostOps2_5` writes none of the argument arrays (checked: each argument against each reference it writes). -/
theorem hostOps2_5_args : ∀ a ∈ argRefs, a ∉ hostOps2_5_W := ListAll.forall_mem_of_all_decide (by decide +kernel)

/-- No operation of `hostOps2_6` allocates a buffer. -/
theorem hostOps2_6_fresh : (hostOps2_6 : List (HloOp τ sig (Elt F))).Forall fun op => op.fresh = ∅ := by
  simp only [List.Forall]; repeat' constructor
/-- The reference each operation of `hostOps2_6` writes, in order. -/
abbrev hostOps2_6_W : List (Ref sig .tc) := [main_v182, main_v183, main_v184, main_v185, main_v186, main_cst_52, main_v187, main_v188, main_v189, main_v190, main_v191, main_v192, main_cst_53, main_v193]
theorem hostOps2_6_writes : (hostOps2_6 : List (HloOp τ sig (Elt F))).Forall fun op => op.writes ⊆ (hostOps2_6_W.map (Proc.devRef (τ := τ) .tc)).toFinset :=
  StableHlo.forall_writes_sub_of_map rfl
/-- `hostOps2_6` writes none of the argument arrays (checked: each argument against each reference it writes). -/
theorem hostOps2_6_args : ∀ a ∈ argRefs, a ∉ hostOps2_6_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v195, main_v196, main_v197, main_v198, main_c_54]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps3_1` allocates a buffer. -/
theorem hostOps3_1_fresh : (hostOps3_1 : List (HloOp τ sig (Elt F))).Forall fun op => op.fresh = ∅ := by
  simp only [List.Forall]; repeat' constructor
/-- The reference each operation of `hostOps3_1` writes, in order. -/
abbrev hostOps3_1_W : List (Ref sig .tc) := [main_call9_v0, main_v199]
theorem hostOps3_1_writes : (hostOps3_1 : List (HloOp τ sig (Elt F))).Forall fun op => op.writes ⊆ (hostOps3_1_W.map (Proc.devRef (τ := τ) .tc)).toFinset :=
  StableHlo.forall_writes_sub_of_map rfl
/-- `hostOps3_1` writes none of the argument arrays (checked: each argument against each reference it writes). -/
theorem hostOps3_1_args : ∀ a ∈ argRefs, a ∉ hostOps3_1_W := ListAll.forall_mem_of_all_decide (by decide +kernel)

/-- No operation of `hostOps3_2` allocates a buffer. -/
theorem hostOps3_2_fresh : (hostOps3_2 : List (HloOp τ sig (Elt F))).Forall fun op => op.fresh = ∅ := by
  simp only [List.Forall]; repeat' constructor
/-- The reference each operation of `hostOps3_2` writes, in order. -/
abbrev hostOps3_2_W : List (Ref sig .tc) := [main_v200, main_c_55]
theorem hostOps3_2_writes : (hostOps3_2 : List (HloOp τ sig (Elt F))).Forall fun op => op.writes ⊆ (hostOps3_2_W.map (Proc.devRef (τ := τ) .tc)).toFinset :=
  StableHlo.forall_writes_sub_of_map rfl
/-- `hostOps3_2` writes none of the argument arrays (checked: each argument against each reference it writes). -/
theorem hostOps3_2_args : ∀ a ∈ argRefs, a ∉ hostOps3_2_W := ListAll.forall_mem_of_all_decide (by decide +kernel)

/-- No operation of `hostOps3_3` allocates a buffer. -/
theorem hostOps3_3_fresh : (hostOps3_3 : List (HloOp τ sig (Elt F))).Forall fun op => op.fresh = ∅ := by
  simp only [List.Forall]; repeat' constructor
/-- The reference each operation of `hostOps3_3` writes, in order. -/
abbrev hostOps3_3_W : List (Ref sig .tc) := [main_call10_v0, main_v201]
theorem hostOps3_3_writes : (hostOps3_3 : List (HloOp τ sig (Elt F))).Forall fun op => op.writes ⊆ (hostOps3_3_W.map (Proc.devRef (τ := τ) .tc)).toFinset :=
  StableHlo.forall_writes_sub_of_map rfl
/-- `hostOps3_3` writes none of the argument arrays (checked: each argument against each reference it writes). -/
theorem hostOps3_3_args : ∀ a ∈ argRefs, a ∉ hostOps3_3_W := ListAll.forall_mem_of_all_decide (by decide +kernel)

/-- No operation of `hostOps3_4` allocates a buffer. -/
theorem hostOps3_4_fresh : (hostOps3_4 : List (HloOp τ sig (Elt F))).Forall fun op => op.fresh = ∅ := by
  simp only [List.Forall]; repeat' constructor
/-- The reference each operation of `hostOps3_4` writes, in order. -/
abbrev hostOps3_4_W : List (Ref sig .tc) := [main_v202]
theorem hostOps3_4_writes : (hostOps3_4 : List (HloOp τ sig (Elt F))).Forall fun op => op.writes ⊆ (hostOps3_4_W.map (Proc.devRef (τ := τ) .tc)).toFinset :=
  StableHlo.forall_writes_sub_of_map rfl
/-- `hostOps3_4` writes none of the argument arrays (checked: each argument against each reference it writes). -/
theorem hostOps3_4_args : ∀ a ∈ argRefs, a ∉ hostOps3_4_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v204, main_v205]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Own

end
-- ==== Proof.Ideal.Fold0.lean ====
/- The buffer contents at the boundaries between the items of @main, each from the one before. -/
module

public import proofs.«01_k».proof.Proof.Ideal.Region0
public import proofs.«01_k».proof.Proof.Ideal.Region1
public import proofs.«01_k».proof.Proof.Ideal.Region2
public import proofs.«01_k».proof.Proof.Ideal.Region3
public import proofs.«01_k».proof.Proof.Ideal.Hosts0

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6` (region 0's entry). -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- The same read at the TensorCore's references (what region 0's proof data take). -/
abbrev V7 : (c : Dev nD) → (b : Ref sig .tc) → Buf (Elt F) ((c : Thread nD τ).loc b) := fun c b => W7 m ρ c b
/-- At region 0's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- A reference that is none of region 0's OUTPUT arrays keeps its entry contents across it: an input window's
    array is never written back (`Dat.arrAt_in`, `A_eq0`); any other buffer is left as is. -/
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn0 a ha)).trans (W7_args m ρ c a ha)
/-- The same read at the TensorCore's references (region 0's exit contents). -/
abbrev V8 : (c : Dev nD) → (b : Ref sig .tc) → Buf (Elt F) ((c : Thread nD τ).loc b) := fun c b => W8 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

/-- After `hostOps1`. -/
abbrev W9 : Dev nD → Valuation τ sig (Elt F) := fun c => StableHlo.after hostOps1 (W8 m ρ c)
/-- A reference `hostOps1` does not write keeps its contents across it. -/
theorem W9_of (c : Dev nD) (r : Ref sig .tc) (h : r ∉ hostOps1_W) : W9 m ρ c (Proc.devRef .tc r) = W8 m ρ c (Proc.devRef .tc r) :=
  StableHlo.after_of_writes_sub hostOps1 _ hostOps1_writes h
theorem W9_args (c : Dev nD) : ∀ a ∈ argRefs, W9 m ρ c (Proc.devRef .tc a) = m ((c : Thread nD τ).loc a) :=
  fun a ha => (W9_of m ρ c a (hostOps1_args a ha)).trans (W8_args m ρ c a ha)
/-- After `hostOps1_1`. -/
abbrev W10 : Dev nD → Valuation τ sig (Elt F) := fun c => StableHlo.after hostOps1_1 (W9 m ρ c)
/-- A reference `hostOps1_1` does not write keeps its contents across it. -/
theorem W10_of (c : Dev nD) (r : Ref sig .tc) (h : r ∉ hostOps1_1_W) : W10 m ρ c (Proc.devRef .tc r) = W9 m ρ c (Proc.devRef .tc r) :=
  StableHlo.after_of_writes_sub hostOps1_1 _ hostOps1_1_writes h
theorem W10_args (c : Dev nD) : ∀ a ∈ argRefs, W10 m ρ c (Proc.devRef .tc a) = m ((c : Thread nD τ).loc a) :=
  fun a ha => (W10_of m ρ c a (hostOps1_1_args a ha)).trans (W9_args m ρ c a ha)
/-- After `hostOps1_2`. -/
abbrev W11 : Dev nD → Valuation τ sig (Elt F) := fun c => StableHlo.after hostOps1_2 (W10 m ρ c)
/-- A reference `hostOps1_2` does not write keeps its contents across it. -/
theorem W11_of (c : Dev nD) (r : Ref sig .tc) (h : r ∉ hostOps1_2_W) : W11 m ρ c (Proc.devRef .tc r) = W10 m ρ c (Proc.devRef .tc r) :=
  StableHlo.after_of_writes_sub hostOps1_2 _ hostOps1_2_writes h
theorem W11_args (c : Dev nD) : ∀ a ∈ argRefs, W11 m ρ c (Proc.devRef .tc a) = m ((c : Thread nD τ).loc a) :=
  fun a ha => (W11_of m ρ c a (hostOps1_2_args a ha)).trans (W10_args m ρ c a ha)
/-- After `hostOps1_3`. -/
abbrev W12 : Dev nD → Valuation τ sig (Elt F) := fun c => StableHlo.after hostOps1_3 (W11 m ρ c)
/-- A reference `hostOps1_3` does not write keeps its contents across it. -/
theorem W12_of (c : Dev nD) (r : Ref sig .tc) (h : r ∉ hostOps1_3_W) : W12 m ρ c (Proc.devRef .tc r) = W11 m ρ c (Proc.devRef .tc r) :=
  StableHlo.after_of_writes_sub hostOps1_3 _ hostOps1_3_writes h
theorem W12_args (c : Dev nD) : ∀ a ∈ argRefs, W12 m ρ c (Proc.devRef .tc a) = m ((c : Thread nD τ).loc a) :=
  fun a ha => (W12_of m ρ c a (hostOps1_3_args a ha)).trans (W11_args m ρ c a ha)
/-- After `hostOps1_4`. -/
abbrev W13 : Dev nD → Valuation τ sig (Elt F) := fun c => StableHlo.after hostOps1_4 (W12 m ρ c)
/-- A reference `hostOps1_4` does not write keeps its contents across it. -/
theorem W13_of (c : Dev nD) (r : Ref sig .tc) (h : r ∉ hostOps1_4_W) : W13 m ρ c (Proc.devRef .tc r) = W12 m ρ c (Proc.devRef .tc r) :=
  StableHlo.after_of_writes_sub hostOps1_4 _ hostOps1_4_writes h
theorem W13_args (c : Dev nD) : ∀ a ∈ argRefs, W13 m ρ c (Proc.devRef .tc a) = m ((c : Thread nD τ).loc a) :=
  fun a ha => (W13_of m ρ c a (hostOps1_4_args a ha)).trans (W12_args m ρ c a ha)
/-- After `hostOps1_5`. -/
abbrev W14 : Dev nD → Valuation τ sig (Elt F) := fun c => StableHlo.after hostOps1_5 (W13 m ρ c)
/-- A reference `hostOps1_5` does not write keeps its contents across it. -/
theorem W14_of (c : Dev nD) (r : Ref sig .tc) (h : r ∉ hostOps1_5_W) : W14 m ρ c (Proc.devRef .tc r) = W13 m ρ c (Proc.devRef .tc r) :=
  StableHlo.after_of_writes_sub hostOps1_5 _ hostOps1_5_writes h
theorem W14_args (c : Dev nD) : ∀ a ∈ argRefs, W14 m ρ c (Proc.devRef .tc a) = m ((c : Thread nD τ).loc a) :=
  fun a ha => (W14_of m ρ c a (hostOps1_5_args a ha)).trans (W13_args m ρ c a ha)
/-- After `hostOps1_6` (region 1's entry). -/
abbrev W15 : Dev nD → Valuation τ sig (Elt F) := fun c => StableHlo.after hostOps1_6 (W14 m ρ c)
/-- A reference `hostOps1_6` does not write keeps its contents across it. -/
theorem W15_of (c : Dev nD) (r : Ref sig .tc) (h : r ∉ hostOps1_6_W) : W15 m ρ c (Proc.devRef .tc r) = W14 m ρ c (Proc.devRef .tc r) :=
  StableHlo.after_of_writes_sub hostOps1_6 _ hostOps1_6_writes h
theorem W15_args (c : Dev nD) : ∀ a ∈ argRefs, W15 m ρ c (Proc.devRef .tc a) = m ((c : Thread nD τ).loc a) :=
  fun a ha => (W15_of m ρ c a (hostOps1_6_args a ha)).trans (W14_args m ρ c a ha)
/-- The same read at the TensorCore's references (what region 1's proof data take). -/
abbrev V15 : (c : Dev nD) → (b : Ref sig .tc) → Buf (Elt F) ((c : Thread nD τ).loc b) := fun c b => W15 m ρ c b
/-- At region 1's exit: its arrays at what the pipeline leaves (the inputs as entered, each output's write-backs
    folded: `Dat.arrAt … N`), every other buffer as entered (Lib/Pipeline/FrameSuffix.lean `withArrays`). -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- A reference that is none of region 1's OUTPUT arrays keeps its entry contents across it: an input window's
    array is never written back (`Dat.arrAt_in`, `A_eq1`); any other buffer is left as is. -/
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  by_cases hw : ∃ w : Fin cfg1.W, Pipeline.arrRef spec1 w = r
  · obtain ⟨w, rfl⟩ := hw
    exact (W16_arr m ρ c w).trans (((dat1 (V15 m ρ) c).arrAt_in w (h w rfl) _).trans (A_eq1 (V15 m ρ) c w))
  · exact W16_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn1 a ha)).trans (W15_args m ρ c a ha)
/-- The same read at the TensorCore's references (region 1's exit contents). -/
abbrev V16 : (c : Dev nD) → (b : Ref sig .tc) → Buf (Elt F) ((c : Thread nD τ).loc b) := fun c b => W16 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After `hostOps2`. -/
abbrev W17 : Dev nD → Valuation τ sig (Elt F) := fun c => StableHlo.after hostOps2 (W16 m ρ c)
/-- A reference `hostOps2` does not write keeps its contents across it. -/
theorem W17_of (c : Dev nD) (r : Ref sig .tc) (h : r ∉ hostOps2_W) : W17 m ρ c (Proc.devRef .tc r) = W16 m ρ c (Proc.devRef .tc r) :=
  StableHlo.after_of_writes_sub hostOps2 _ hostOps2_writes h
theorem W17_args (c : Dev nD) : ∀ a ∈ argRefs, W17 m ρ c (Proc.devRef .tc a) = m ((c : Thread nD τ).loc a) :=
  fun a ha => (W17_of m ρ c a (hostOps2_args a ha)).trans (W16_args m ρ c a ha)
/-- After `hostOps2_1`. -/
abbrev W18 : Dev nD → Valuation τ sig (Elt F) := fun c => StableHlo.after hostOps2_1 (W17 m ρ c)
/-- A reference `hostOps2_1` does not write keeps its contents across it. -/
theorem W18_of (c : Dev nD) (r : Ref sig .tc) (h : r ∉ hostOps2_1_W) : W18 m ρ c (Proc.devRef .tc r) = W17 m ρ c (Proc.devRef .tc r) :=
  StableHlo.after_of_writes_sub hostOps2_1 _ hostOps2_1_writes h
theorem W18_args (c : Dev nD) : ∀ a ∈ argRefs, W18 m ρ c (Proc.devRef .tc a) = m ((c : Thread nD τ).loc a) :=
  fun a ha => (W18_of m ρ c a (hostOps2_1_args a ha)).trans (W17_args m ρ c a ha)
/-- After `hostOps2_2`. -/
abbrev W19 : Dev nD → Valuation τ sig (Elt F) := fun c => StableHlo.after hostOps2_2 (W18 m ρ c)
/-- A reference `hostOps2_2` does not write keeps its contents across it. -/
theorem W19_of (c : Dev nD) (r : Ref sig .tc) (h : r ∉ hostOps2_2_W) : W19 m ρ c (Proc.devRef .tc r) = W18 m ρ c (Proc.devRef .tc r) :=
  StableHlo.after_of_writes_sub hostOps2_2 _ hostOps2_2_writes h
theorem W19_args (c : Dev nD) : ∀ a ∈ argRefs, W19 m ρ c (Proc.devRef .tc a) = m ((c : Thread nD τ).loc a) :=
  fun a ha => (W19_of m ρ c a (hostOps2_2_args a ha)).trans (W18_args m ρ c a ha)
/-- After `hostOps2_3`. -/
abbrev W20 : Dev nD → Valuation τ sig (Elt F) := fun c => StableHlo.after hostOps2_3 (W19 m ρ c)
/-- A reference `hostOps2_3` does not write keeps its contents across it. -/
theorem W20_of (c : Dev nD) (r : Ref sig .tc) (h : r ∉ hostOps2_3_W) : W20 m ρ c (Proc.devRef .tc r) = W19 m ρ c (Proc.devRef .tc r) :=
  StableHlo.after_of_writes_sub hostOps2_3 _ hostOps2_3_writes h
theorem W20_args (c : Dev nD) : ∀ a ∈ argRefs, W20 m ρ c (Proc.devRef .tc a) = m ((c : Thread nD τ).loc a) :=
  fun a ha => (W20_of m ρ c a (hostOps2_3_args a ha)).trans (W19_args m ρ c a ha)
/-- After `hostOps2_4`. -/
abbrev W21 : Dev nD → Valuation τ sig (Elt F) := fun c => StableHlo.after hostOps2_4 (W20 m ρ c)
/-- A reference `hostOps2_4` does not write keeps its contents across it. -/
theorem W21_of (c : Dev nD) (r : Ref sig .tc) (h : r ∉ hostOps2_4_W) : W21 m ρ c (Proc.devRef .tc r) = W20 m ρ c (Proc.devRef .tc r) :=
  StableHlo.after_of_writes_sub hostOps2_4 _ hostOps2_4_writes h
theorem W21_args (c : Dev nD) : ∀ a ∈ argRefs, W21 m ρ c (Proc.devRef .tc a) = m ((c : Thread nD τ).loc a) :=
  fun a ha => (W21_of m ρ c a (hostOps2_4_args a ha)).trans (W20_args m ρ c a ha)
/-- After `hostOps2_5`. -/
abbrev W22 : Dev nD → Valuation τ sig (Elt F) := fun c => StableHlo.after hostOps2_5 (W21 m ρ c)
/-- A reference `hostOps2_5` does not write keeps its contents across it. -/
theorem W22_of (c : Dev nD) (r : Ref sig .tc) (h : r ∉ hostOps2_5_W) : W22 m ρ c (Proc.devRef .tc r) = W21 m ρ c (Proc.devRef .tc r) :=
  StableHlo.after_of_writes_sub hostOps2_5 _ hostOps2_5_writes h
theorem W22_args (c : Dev nD) : ∀ a ∈ argRefs, W22 m ρ c (Proc.devRef .tc a) = m ((c : Thread nD τ).loc a) :=
  fun a ha => (W22_of m ρ c a (hostOps2_5_args a ha)).trans (W21_args m ρ c a ha)
/-- After `hostOps2_6` (region 2's entry). -/
abbrev W23 : Dev nD → Valuation τ sig (Elt F) := fun c => StableHlo.after hostOps2_6 (W22 m ρ c)
/-- A reference `hostOps2_6` does not write keeps its contents across it. -/
theorem W23_of (c : Dev nD) (r : Ref sig .tc) (h : r ∉ hostOps2_6_W) : W23 m ρ c (Proc.devRef .tc r) = W22 m ρ c (Proc.devRef .tc r) :=
  StableHlo.after_of_writes_sub hostOps2_6 _ hostOps2_6_writes h
theorem W23_args (c : Dev nD) : ∀ a ∈ argRefs, W23 m ρ c (Proc.devRef .tc a) = m ((c : Thread nD τ).loc a) :=
  fun a ha => (W23_of m ρ c a (hostOps2_6_args a ha)).trans (W22_args m ρ c a ha)
/-- The same read at the TensorCore's references (what region 2's proof data take). -/
abbrev V23 : (c : Dev nD) → (b : Ref sig .tc) → Buf (Elt F) ((c : Thread nD τ).loc b) := fun c b => W23 m ρ c b
/-- At region 2's exit: its arrays at what the pipeline leaves (the inputs as entered, each output's write-backs
    folded: `Dat.arrAt … N`), every other buffer as entered (Lib/Pipeline/FrameSuffix.lean `withArrays`). -/
def W24 (c : Dev nD) : Valuation τ sig (Elt F) :=
  Pipeline.withArrays spec2 c (W23 m ρ c) fun w => (dat2 (V23 m ρ) c).arrAt w cfg2.N
theorem W24_arr (c : Dev nD) (w : Fin cfg2.W) :
    W24 m ρ c (Proc.devRef .tc (Pipeline.arrRef spec2 w)) = (dat2 (V23 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
/-- A reference that is none of region 2's OUTPUT arrays keeps its entry contents across it: an input window's
    array is never written back (`Dat.arrAt_in`, `A_eq2`); any other buffer is left as is. -/
theorem W24_of (c : Dev nD) (r : Ref sig .tc) (h : ∀ w : Fin cfg2.W, Pipeline.arrRef spec2 w = r → (cfg2.win w).isOut = false) :
    W24 m ρ c (Proc.devRef .tc r) = W23 m ρ c (Proc.devRef .tc r) := by
  by_cases hw : ∃ w : Fin cfg2.W, Pipeline.arrRef spec2 w = r
  · obtain ⟨w, rfl⟩ := hw
    exact (W24_arr m ρ c w).trans (((dat2 (V23 m ρ) c).arrAt_in w (h w rfl) _).trans (A_eq2 (V23 m ρ) c w))
  · exact W24_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W24_args (c : Dev nD) : ∀ a ∈ argRefs, W24 m ρ c (Proc.devRef .tc a) = m ((c : Thread nD τ).loc a) :=
  fun a ha => (W24_of m ρ c a (argsIn2 a ha)).trans (W23_args m ρ c a ha)
/-- The same read at the TensorCore's references (region 2's exit contents). -/
abbrev V24 : (c : Dev nD) → (b : Ref sig .tc) → Buf (Elt F) ((c : Thread nD τ).loc b) := fun c b => W24 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V23 m ρ) c).arrAt w cfg2.N = V24 m ρ c (Pipeline.arrRef spec2 w) :=
  (W24_arr m ρ c w).symm
theorem hrest2 (c : Dev nD) : ∀ b, b ∉ Finset.univ.image (Pipeline.arrRef spec2) → V24 m ρ c b = V23 m ρ c b :=
  fun b hb => W24_of_ne m ρ c b fun w e => hb (Finset.mem_image.mpr ⟨w, Finset.mem_univ _, e⟩)

/-- After `hostOps3`. -/
abbrev W25 : Dev nD → Valuation τ sig (Elt F) := fun c => StableHlo.after hostOps3 (W24 m ρ c)
/-- A reference `hostOps3` does not write keeps its contents across it. -/
theorem W25_of (c : Dev nD) (r : Ref sig .tc) (h : r ∉ hostOps3_W) : W25 m ρ c (Proc.devRef .tc r) = W24 m ρ c (Proc.devRef .tc r) :=
  StableHlo.after_of_writes_sub hostOps3 _ hostOps3_writes h
theorem W25_args (c : Dev nD) : ∀ a ∈ argRefs, W25 m ρ c (Proc.devRef .tc a) = m ((c : Thread nD τ).loc a) :=
  fun a ha => (W25_of m ρ c a (hostOps3_args a ha)).trans (W24_args m ρ c a ha)
/-- After `hostOps3_1`. -/
abbrev W26 : Dev nD → Valuation τ sig (Elt F) := fun c => StableHlo.after hostOps3_1 (W25 m ρ c)
/-- A reference `hostOps3_1` does not write keeps its contents across it. -/
theorem W26_of (c : Dev nD) (r : Ref sig .tc) (h : r ∉ hostOps3_1_W) : W26 m ρ c (Proc.devRef .tc r) = W25 m ρ c (Proc.devRef .tc r) :=
  StableHlo.after_of_writes_sub hostOps3_1 _ hostOps3_1_writes h
theorem W26_args (c : Dev nD) : ∀ a ∈ argRefs, W26 m ρ c (Proc.devRef .tc a) = m ((c : Thread nD τ).loc a) :=
  fun a ha => (W26_of m ρ c a (hostOps3_1_args a ha)).trans (W25_args m ρ c a ha)
/-- After `hostOps3_2`. -/
abbrev W27 : Dev nD → Valuation τ sig (Elt F) := fun c => StableHlo.after hostOps3_2 (W26 m ρ c)
/-- A reference `hostOps3_2` does not write keeps its contents across it. -/
theorem W27_of (c : Dev nD) (r : Ref sig .tc) (h : r ∉ hostOps3_2_W) : W27 m ρ c (Proc.devRef .tc r) = W26 m ρ c (Proc.devRef .tc r) :=
  StableHlo.after_of_writes_sub hostOps3_2 _ hostOps3_2_writes h
theorem W27_args (c : Dev nD) : ∀ a ∈ argRefs, W27 m ρ c (Proc.devRef .tc a) = m ((c : Thread nD τ).loc a) :=
  fun a ha => (W27_of m ρ c a (hostOps3_2_args a ha)).trans (W26_args m ρ c a ha)
/-- After `hostOps3_3`. -/
abbrev W28 : Dev nD → Valuation τ sig (Elt F) := fun c => StableHlo.after hostOps3_3 (W27 m ρ c)
/-- A reference `hostOps3_3` does not write keeps its contents across it. -/
theorem W28_of (c : Dev nD) (r : Ref sig .tc) (h : r ∉ hostOps3_3_W) : W28 m ρ c (Proc.devRef .tc r) = W27 m ρ c (Proc.devRef .tc r) :=
  StableHlo.after_of_writes_sub hostOps3_3 _ hostOps3_3_writes h
theorem W28_args (c : Dev nD) : ∀ a ∈ argRefs, W28 m ρ c (Proc.devRef .tc a) = m ((c : Thread nD τ).loc a) :=
  fun a ha => (W28_of m ρ c a (hostOps3_3_args a ha)).trans (W27_args m ρ c a ha)
/-- After `hostOps3_4` (region 3's entry). -/
abbrev W29 : Dev nD → Valuation τ sig (Elt F) := fun c => StableHlo.after hostOps3_4 (W28 m ρ c)
/-- A reference `hostOps3_4` does not write keeps its contents across it. -/
theorem W29_of (c : Dev nD) (r : Ref sig .tc) (h : r ∉ hostOps3_4_W) : W29 m ρ c (Proc.devRef .tc r) = W28 m ρ c (Proc.devRef .tc r) :=
  StableHlo.after_of_writes_sub hostOps3_4 _ hostOps3_4_writes h
theorem W29_args (c : Dev nD) : ∀ a ∈ argRefs, W29 m ρ c (Proc.devRef .tc a) = m ((c : Thread nD τ).loc a) :=
  fun a ha => (W29_of m ρ c a (hostOps3_4_args a ha)).trans (W28_args m ρ c a ha)
/-- The same read at the TensorCore's references (what region 3's proof data take). -/
abbrev V29 : (c : Dev nD) → (b : Ref sig .tc) → Buf (Elt F) ((c : Thread nD τ).loc b) := fun c b => W29 m ρ c b
/-- At region 3's exit: its arrays at what the pipeline leaves (the inputs as entered, each output's write-backs
    folded: `Dat.arrAt … N`), every other buffer as entered (Lib/Pipeline/FrameSuffix.lean `withArrays`). -/
def W30 (c : Dev nD) : Valuation τ sig (Elt F) :=
  Pipeline.withArrays spec3 c (W29 m ρ c) fun w => (dat3 (V29 m ρ) c).arrAt w cfg3.N
theorem W30_arr (c : Dev nD) (w : Fin cfg3.W) :
    W30 m ρ c (Proc.devRef .tc (Pipeline.arrRef spec3 w)) = (dat3 (V29 m ρ) c).arrAt w cfg3.N := by
  unfold W30; exact Pipeline.withArrays_arr spec3 launch3.win.arr_inj c _ _ w
theorem W30_of_ne (c : Dev nD) (b : Ref sig .tc) (hb : ∀ w, Pipeline.arrRef spec3 w ≠ b) :
    W30 m ρ c (Proc.devRef .tc b) = W29 m ρ c (Proc.devRef .tc b) := by
  unfold W30; exact Pipeline.withArrays_of_ne spec3 c _ _ b hb
/-- A reference that is none of region 3's OUTPUT arrays keeps its entry contents across it: an input window's
    array is never written back (`Dat.arrAt_in`, `A_eq3`); any other buffer is left as is. -/
theorem W30_of (c : Dev nD) (r : Ref sig .tc) (h : ∀ w : Fin cfg3.W, Pipeline.arrRef spec3 w = r → (cfg3.win w).isOut = false) :
    W30 m ρ c (Proc.devRef .tc r) = W29 m ρ c (Proc.devRef .tc r) := by
  by_cases hw : ∃ w : Fin cfg3.W, Pipeline.arrRef spec3 w = r
  · obtain ⟨w, rfl⟩ := hw
    exact (W30_arr m ρ c w).trans (((dat3 (V29 m ρ) c).arrAt_in w (h w rfl) _).trans (A_eq3 (V29 m ρ) c w))
  · exact W30_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W30_args (c : Dev nD) : ∀ a ∈ argRefs, W30 m ρ c (Proc.devRef .tc a) = m ((c : Thread nD τ).loc a) :=
  fun a ha => (W30_of m ρ c a (argsIn3 a ha)).trans (W29_args m ρ c a ha)
/-- The same read at the TensorCore's references (region 3's exit contents). -/
abbrev V30 : (c : Dev nD) → (b : Ref sig .tc) → Buf (Elt F) ((c : Thread nD τ).loc b) := fun c b => W30 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V29 m ρ) c).arrAt w cfg3.N = V30 m ρ c (Pipeline.arrRef spec3 w) :=
  (W30_arr m ρ c w).symm
theorem hrest3 (c : Dev nD) : ∀ b, b ∉ Finset.univ.image (Pipeline.arrRef spec3) → V30 m ρ c b = V29 m ρ c b :=
  fun b hb => W30_of_ne m ρ c b fun w e => hb (Finset.mem_image.mpr ⟨w, Finset.mem_univ _, e⟩)

/-- After `hostOps4`. -/
abbrev W31 : Dev nD → Valuation τ sig (Elt F) := fun c => StableHlo.after hostOps4 (W30 m ρ c)
/-- A reference `hostOps4` does not write keeps its contents across it. -/
theorem W31_of (c : Dev nD) (r : Ref sig .tc) (h : r ∉ hostOps4_W) : W31 m ρ c (Proc.devRef .tc r) = W30 m ρ c (Proc.devRef .tc r) :=
  StableHlo.after_of_writes_sub hostOps4 _ hostOps4_writes h
theorem W31_args (c : Dev nD) : ∀ a ∈ argRefs, W31 m ρ c (Proc.devRef .tc a) = m ((c : Thread nD τ).loc a) :=
  fun a ha => (W31_of m ρ c a (hostOps4_args a ha)).trans (W30_args m ρ c a ha)

/-! ### The arguments end as launched: no host stretch writes one and no region may change one (a region reads it
    through an input window or bypasses it) -/

theorem W31_main_arg0 (c : Dev nD) : W31 m ρ c (Proc.devRef .tc main_arg0) = m ((c : Thread nD τ).loc main_arg0) :=
  W31_args m ρ c main_arg0 (by decide)
theorem W31_main_arg1 (c : Dev nD) : W31 m ρ c (Proc.devRef .tc main_arg1) = m ((c : Thread nD τ).loc main_arg1) :=
  W31_args m ρ c main_arg1 (by decide)
theorem W31_main_arg2 (c : Dev nD) : W31 m ρ c (Proc.devRef .tc main_arg2) = m ((c : Thread nD τ).loc main_arg2) :=
  W31_args m ρ c main_arg2 (by decide)
theorem W31_main_arg3 (c : Dev nD) : W31 m ρ c (Proc.devRef .tc main_arg3) = m ((c : Thread nD τ).loc main_arg3) :=
  W31_args m ρ c main_arg3 (by decide)
theorem W31_main_arg4 (c : Dev nD) : W31 m ρ c (Proc.devRef .tc main_arg4) = m ((c : Thread nD τ).loc main_arg4) :=
  W31_args m ρ c main_arg4 (by decide)
theorem W31_main_arg5 (c : Dev nD) : W31 m ρ c (Proc.devRef .tc main_arg5) = m ((c : Thread nD τ).loc main_arg5) :=
  W31_args m ρ c main_arg5 (by decide)
theorem W31_main_arg6 (c : Dev nD) : W31 m ρ c (Proc.devRef .tc main_arg6) = m ((c : Thread nD τ).loc main_arg6) :=
  W31_args m ρ c main_arg6 (by decide)
theorem W31_main_arg7 (c : Dev nD) : W31 m ρ c (Proc.devRef .tc main_arg7) = m ((c : Thread nD τ).loc main_arg7) :=
  W31_args m ρ c main_arg7 (by decide)
theorem W31_main_arg8 (c : Dev nD) : W31 m ρ c (Proc.devRef .tc main_arg8) = m ((c : Thread nD τ).loc main_arg8) :=
  W31_args m ρ c main_arg8 (by decide)
theorem W31_main_arg9 (c : Dev nD) : W31 m ρ c (Proc.devRef .tc main_arg9) = m ((c : Thread nD τ).loc main_arg9) :=
  W31_args m ρ c main_arg9 (by decide)
theorem W31_main_arg10 (c : Dev nD) : W31 m ρ c (Proc.devRef .tc main_arg10) = m ((c : Thread nD τ).loc main_arg10) :=
  W31_args m ρ c main_arg10 (by decide)
theorem W31_main_arg11 (c : Dev nD) : W31 m ρ c (Proc.devRef .tc main_arg11) = m ((c : Thread nD τ).loc main_arg11) :=
  W31_args m ρ c main_arg11 (by decide)
theorem W31_main_arg12 (c : Dev nD) : W31 m ρ c (Proc.devRef .tc main_arg12) = m ((c : Thread nD τ).loc main_arg12) :=
  W31_args m ρ c main_arg12 (by decide)
theorem W31_main_arg13 (c : Dev nD) : W31 m ρ c (Proc.devRef .tc main_arg13) = m ((c : Thread nD τ).loc main_arg13) :=
  W31_args m ρ c main_arg13 (by decide)
end Cert.KernelIdeal.Own

end
-- ==== Proof.Ideal.State.lean ====
/- The proof data of the four pipelines and the state a core carries from item to item. -/
module

public import proofs.«01_k».proof.Proof.Ideal.Fold0

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V15 m ρ) c
  | ⟨2, _⟩ => fun c => dat2 (V23 m ρ) c
  | ⟨3, _⟩ => fun c => dat3 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W31`, the generator register at some state. -/
abbrev Tₙ (c : Dev nD) : sProp 𝕄 := iprop(StableHlo.held (c : Thread nD τ) (Pipeline.ucRefs τ sig) (W31 m ρ c) ∗ ∃ r, prngReg c r)

end Cert.KernelIdeal.Own

end
-- ==== Proof.Ideal.Record0.lean ====
/- The first region as a segment of the run. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Record1.lean ====
/- The second region as a segment of the run. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W15`, left at `W16`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) (A_eq1 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Record2.lean ====
/- The third region as a segment of the run. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W23`, left at `W24`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V23 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (V23 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V23 m ρ c) (A_eq2 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V23 m ρ c) (V24 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Record3.lean ====
/- The fourth region as a segment of the run. -/
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W29`, left at `W30`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V29 m ρ) c).loose
  hwaits := Pipeline.hwaits_of_owed_zero _ _ _ _ L lv 3 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec3 c (V29 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V29 m ρ c) (A_eq3 (V29 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V29 m ρ c) (V30 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.Ideal.Frame.lean ====
/- The run of @main: it ends, the arguments are unchanged, every counter is zero, and every buffer holds
   what the last boundary says. -/
module

public import proofs.«01_k».proof.Proof.Ideal.Record0
public import proofs.«01_k».proof.Proof.Ideal.Record1
public import proofs.«01_k».proof.Proof.Ideal.Record2
public import proofs.«01_k».proof.Proof.Ideal.Record3

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 31 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .host (hseg hostOps1_4 hostOps1_4_sub hostOps1_4_fresh (W12 m ρ)),
    .host (hseg hostOps1_5 hostOps1_5_sub hostOps1_5_fresh (W13 m ρ)),
    .host (hseg hostOps1_6 hostOps1_6_sub hostOps1_6_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)),
    .host (hseg hostOps2_3 hostOps2_3_sub hostOps2_3_fresh (W19 m ρ)),
    .host (hseg hostOps2_4 hostOps2_4_sub hostOps2_4_fresh (W20 m ρ)),
    .host (hseg hostOps2_5 hostOps2_5_sub hostOps2_5_fresh (W21 m ρ)),
    .host (hseg hostOps2_6 hostOps2_6_sub hostOps2_6_fresh (W22 m ρ)),
    .region (reg2 m ρ),
    .host (hseg hostOps3 hostOps3_sub hostOps3_fresh (W24 m ρ)),
    .host (hseg hostOps3_1 hostOps3_1_sub hostOps3_1_fresh (W25 m ρ)),
    .host (hseg hostOps3_2 hostOps3_2_sub hostOps3_2_fresh (W26 m ρ)),
    .host (hseg hostOps3_3 hostOps3_3_sub hostOps3_3_fresh (W27 m ρ)),
    .host (hseg hostOps3_4 hostOps3_4_sub hostOps3_4_fresh (W28 m ρ)),
    .region (reg3 m ρ),
    .host (hseg hostOps4 hostOps4_sub hostOps4_fresh (W30 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main ends, and every final state has the
    arguments as launched, every counter at zero and every buffer at the last boundary's contents. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ (r.2.sem = fun _ => 0)
      ∧ ∀ c : Dev nD, ∀ b ∈ Pipeline.ucRefs τ sig, r.2.mem ((c : Thread nD τ).1, b) = W31 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h hz => ⟨(fun c =>
      ⟨(h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c),
       (h c _ (mem_uc main_arg12 (by decide))).trans (W31_main_arg12 m ρ c),
       (h c _ (mem_uc main_arg13 (by decide))).trans (W31_main_arg13 m ρ c)⟩), funext fun g => hz g (.inr (no_unscoped g.2)), h⟩)

/-- The frame: the run without the buffers' contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨h.1, h.2.1⟩) (run m ρ)

end Cert.KernelIdeal.Own

end
-- ==== Proof.Value.Softmax.lean ====
/- Numbers among the extended reals, and the softmax of two numbers. -/
module

public import Idealize.ShloMosaic.Lib.Pointwise

@[expose] public section

noncomputable section

namespace Cert.Value

open Idealize.ShloMosaic

/-- A value that is a number, not an infinity. -/
def IsReal (x : EReal) : Prop := ∃ r : ℝ, x = (r : EReal)

/-- A float word's number, from its fields. -/
theorem bits_val (b : BitVec 32) (ex fr : ℕ) (neg : Bool) (h1 : (b.extractLsb' 31 1 == 1#1) = neg)
    (h2 : (b.extractLsb' 23 8).toNat = ex) (h3 : (b.extractLsb' 0 23).toNat = fr) (hx : ex ≠ 255) (h0 : ex ≠ 0) :
    Ideal.ofBits FTy.f32 b =
      (((if neg then -1 else 1) * ((2 ^ 23 + fr : ℕ) : ℝ) * (2 : ℝ) ^ ((ex : ℤ) - 127 - 23) : ℝ) : EReal) := by
  subst h1 h2 h3
  have hx' : ¬ (b.extractLsb' 23 8).toNat = 2 ^ 8 - 1 := hx
  show Ideal.ieee 8 23 b = _
  unfold Ideal.ieee
  simp only [if_neg hx', if_neg h0]
  norm_num

theorem neg_inf_bits : Ideal.ofBits FTy.f32 4286578688#32 = ⊥ := by
  simp [Ideal.ofBits, Ideal.ieee]

/-- The softmax of two numbers at the second is the logistic of their difference. -/
theorem softmax_two (L : Fin 2 → EReal) (h0 : IsReal (L 0)) (h1 : IsReal (L 1)) :
    Ideal.div (Ideal.exp (L 1 - max (Ideal.ofBits FTy.f32 4286578688#32)
        (Finset.fold max (Ideal.ofBits FTy.f32 4286578688#32) L Finset.univ)))
      (∑ k, Ideal.exp (L k - max (Ideal.ofBits FTy.f32 4286578688#32)
        (Finset.fold max (Ideal.ofBits FTy.f32 4286578688#32) L Finset.univ))) =
    Ideal.logistic (L 1 - L 0) := by
  obtain ⟨a, ha⟩ := h0
  obtain ⟨b, hb⟩ := h1
  have hm : max (Ideal.ofBits FTy.f32 4286578688#32) (Finset.fold max (Ideal.ofBits FTy.f32 4286578688#32) L Finset.univ)
      = ((max a b : ℝ) : EReal) := by
    rw [neg_inf_bits]
    have hu : (Finset.univ : Finset (Fin 2)) = {0, 1} := by decide
    rw [hu, Finset.fold_insert (by decide), Finset.fold_singleton, ha, hb]
    simp [(EReal.coe_strictMono.monotone.map_max (a := a) (b := b)).symm]
  rw [hm, Fin.sum_univ_two, ha, hb]
  show Ideal.div (Real.exp (b - max a b) : ℝ) ((Real.exp (a - max a b) : ℝ) + (Real.exp (b - max a b) : ℝ)) =
    Ideal.div 1 (1 + (Real.exp (-(b - a)) : ℝ))
  have e0 : (Real.exp (a - max a b)) = Real.exp (b - max a b) * Real.exp (-(b - a)) := by
    rw [← Real.exp_add]; congr 1; ring
  have p1 := Real.exp_pos (b - max a b)
  have p2 := Real.exp_pos (-(b - a))
  have p3 : 0 < Real.exp (b - max a b) * Real.exp (-(b - a)) + Real.exp (b - max a b) := by positivity
  have p4 : 0 < 1 + Real.exp (-(b - a)) := by positivity
  have n3 : ((Real.exp (b - max a b) * Real.exp (-(b - a)) + Real.exp (b - max a b) : ℝ) : EReal) ≠ 0 :=
    by exact_mod_cast p3.ne'
  have n4 : ((1 + Real.exp (-(b - a)) : ℝ) : EReal) ≠ 0 := by exact_mod_cast p4.ne'
  rw [e0, ← EReal.coe_one, ← EReal.coe_add, ← EReal.coe_add, Ideal.div, Ideal.div, if_neg n3, if_neg n4,
    ← EReal.coe_inv, ← EReal.coe_inv, ← EReal.coe_mul, ← EReal.coe_mul]
  congr 1
  field_simp
  ring

end Cert.Value

end
-- ==== Proof.Value.Consts.lean ====
/- The inverse scales: a quotient by a scale is a product with its inverse. -/
module

public import proofs.«01_k».proof.Proof.Value.Softmax
public import proofs.«01_k».proof.KernelIdeal

@[expose] public section

set_option maxRecDepth 16384
set_option maxHeartbeats 1000000

noncomputable section

namespace Cert.Value

open Idealize.ShloMosaic

/-- A quotient by a number is the product with its inverse. -/
theorem div_inverse {x y : EReal} {r s : ℝ} (hx : x = r) (hy : y = s) (h : r * s = 1) (v : EReal) : Ideal.div v x = v * y := by
  have hr : r ≠ 0 := fun e => by rw [e, zero_mul] at h; exact zero_ne_one h
  subst hx hy
  rw [Ideal.div_coe hr, one_div, eq_inv_of_mul_eq_one_right h]

theorem inv_0177 : (Named.named Cert.KernelIdeal.κ "inv_0177" 0x40B4CA7C#32 : Ideal FTy.f32) = ((67108864 / 11878269 : ℝ) : EReal) :=
  IdealRules.named_const.ideal_named_scalar _ _ _ _ rfl
theorem inv_01255 : (Named.named Cert.KernelIdeal.κ "inv_01255" 0x40FEFAE7#32 : Ideal FTy.f32) = ((33554432 / 4211081 : ℝ) : EReal) :=
  IdealRules.named_const.ideal_named_scalar _ _ _ _ rfl

theorem scale0 (v : EReal) : Ideal.div v (Ideal.ofBits FTy.f32 1048576000#32) = v * Ideal.ofBits FTy.f32 1082130432#32 :=
  div_inverse (bits_val _ 125 0 false (by decide) (by decide) (by decide) (by decide) (by decide))
    (bits_val _ 129 0 false (by decide) (by decide) (by decide) (by decide) (by decide)) (by norm_num) v
theorem scale1 (v : EReal) : Ideal.div v (Ideal.ofBits FTy.f32 1043677053#32) = v * (Named.named Cert.KernelIdeal.κ "inv_0177" 0x40B4CA7C#32 : Ideal FTy.f32) :=
  div_inverse (bits_val _ 124 3489661 false (by decide) (by decide) (by decide) (by decide) (by decide)) inv_0177 (by norm_num) v
theorem scale2 (v : EReal) : Ideal.div v (Ideal.ofBits FTy.f32 1040220946#32) = v * (Named.named Cert.KernelIdeal.κ "inv_01255" 0x40FEFAE7#32 : Ideal FTy.f32) :=
  div_inverse (bits_val _ 124 33554 false (by decide) (by decide) (by decide) (by decide) (by decide)) inv_01255 (by norm_num) v

end Cert.Value

end
-- ==== Proof.Value.Spec.lean ====
/- The network's layers on arrays read at numbers: what both programs compute, said once for the three scales. -/
module

public import Idealize.ShloMosaic.Lib.Pointwise

@[expose] public section

set_option maxHeartbeats 4000000

noncomputable section

namespace Cert.Value

open Idealize.ShloMosaic

/-- A picture: its value at a channel, a row and a column. -/
abbrev Img := ℕ → ℕ → ℕ → EReal

/-- One tap of a 3×3 convolution: the sum over the `C` input channels. -/
def tap (C : ℕ) (w : ℕ → ℕ → ℕ → ℕ → EReal) (x : Img) (o di dj y z : ℕ) : EReal :=
  ∑ c : Fin C, w o c di dj * x c (y + di) (z + dj)

/-- The nine taps of a 3×3 convolution, in the order of the kernel's rows. -/
def taps (C : ℕ) (w : ℕ → ℕ → ℕ → ℕ → EReal) (x : Img) : Img := fun o y z =>
  tap C w x o 0 0 y z + tap C w x o 0 1 y z + tap C w x o 0 2 y z + tap C w x o 1 0 y z + tap C w x o 1 1 y z +
    tap C w x o 1 2 y z + tap C w x o 2 0 y z + tap C w x o 2 1 y z + tap C w x o 2 2 y z

/-- A 3×3 convolution without padding, with a bias. -/
def conv (C : ℕ) (w : ℕ → ℕ → ℕ → ℕ → EReal) (b : ℕ → EReal) (x : Img) : Img := fun o y z => taps C w x o y z + b o

/-- A 1×1 convolution with a bias. -/
def conv1 (C : ℕ) (w : ℕ → ℕ → EReal) (b : ℕ → EReal) (x : Img) : Img := fun o y z =>
  ∑ c : Fin C, w o c * x c y z + b o

/-- The rectifier with a slope per channel. -/
def prelu (a : ℕ → EReal) (x : Img) : Img := fun o y z => if 0 < x o y z then x o y z else a o * x o y z

/-- The maximum over blocks of two by two. -/
def pool (x : Img) : Img := fun c y z =>
  max (max (x c (2 * y) (2 * z)) (x c (2 * y + 1) (2 * z)))
    (max (x c (2 * y) (2 * z + 1)) (x c (2 * y + 1) (2 * z + 1)))

/-- Row `k` of the kernel's table of shifted pictures: nine pieces of `C` rows one below the other. -/
def col (C : ℕ) (x : Img) (k y z : ℕ) : EReal :=
  if k < C then x k y z
  else if k - C < C then x (k - C) y (1 + z)
  else if k - C - C < C then x (k - C - C) y (2 + z)
  else if k - C - C - C < C then x (k - C - C - C) (1 + y) z
  else if k - C - C - C - C < C then x (k - C - C - C - C) (1 + y) (1 + z)
  else if k - C - C - C - C - C < C then x (k - C - C - C - C - C) (1 + y) (2 + z)
  else if k - C - C - C - C - C - C < C then x (k - C - C - C - C - C - C) (2 + y) z
  else if k - C - C - C - C - C - C - C < C then x (k - C - C - C - C - C - C - C) (2 + y) (1 + z)
  else x (k - C - C - C - C - C - C - C - C) (2 + y) (2 + z)

/-- Row `c` of piece `q` is channel `c` shifted by the tap of that piece. -/
theorem col_piece (C : ℕ) (x : Img) (y z q c : ℕ) (hq : q < 9) (hc : c < C) :
    col C x (q * C + c) y z = x c (y + q / 3) (z + q % 3) := by
  unfold col
  interval_cases q <;> (split_ifs <;> first | (exfalso; omega) | (congr 1 <;> omega))

/-- The product with the table of shifted pictures is the sum of the nine taps. -/
theorem sum_col (C : ℕ) (w : ℕ → ℕ → ℕ → ℕ → EReal) (x : Img) (o y z n : ℕ) (hn : n = 9 * C) :
    ∑ k : Fin n, w o (k % C) (k / C / 3) (k / C % 3) * col C x k y z = taps C w x o y z := by
  subst hn
  have piece : ∀ q < 9, ∑ c ∈ Finset.range C, w o ((q * C + c) % C) ((q * C + c) / C / 3) ((q * C + c) / C % 3) *
      col C x (q * C + c) y z = tap C w x o (q / 3) (q % 3) y z := by
    intro q hq
    rw [tap, Fin.sum_univ_eq_sum_range (fun c => w o c (q / 3) (q % 3) * x c (y + q / 3) (z + q % 3)) C]
    refine Finset.sum_congr rfl fun c hc => ?_
    have hc' : c < C := Finset.mem_range.mp hc
    have h1 : (q * C + c) % C = c := by rw [Nat.add_comm, Nat.add_mul_mod_self_right, Nat.mod_eq_of_lt hc']
    have h2 : (q * C + c) / C = q := by
      rw [Nat.add_comm, Nat.add_mul_div_right _ _ (by omega), Nat.div_eq_of_lt hc', Nat.zero_add]
    rw [h1, h2, col_piece C x y z q c hq hc']
  rw [Fin.sum_univ_eq_sum_range (fun k => w o (k % C) (k / C / 3) (k / C % 3) * col C x k y z) (9 * C)]
  have cut : ∀ q, ∑ k ∈ Finset.range ((q + 1) * C), w o (k % C) (k / C / 3) (k / C % 3) * col C x k y z =
      ∑ k ∈ Finset.range (q * C), w o (k % C) (k / C / 3) (k / C % 3) * col C x k y z +
      ∑ c ∈ Finset.range C, w o ((q * C + c) % C) ((q * C + c) / C / 3) ((q * C + c) / C % 3) *
        col C x (q * C + c) y z := by
    intro q; rw [Nat.succ_mul, Finset.sum_range_add]
  rw [cut 8, cut 7, cut 6, cut 5, cut 4, cut 3, cut 2, cut 1, cut 0]
  rw [piece 8 (by omega), piece 7 (by omega), piece 6 (by omega), piece 5 (by omega), piece 4 (by omega),
    piece 3 (by omega), piece 2 (by omega), piece 1 (by omega), piece 0 (by omega)]
  simp [taps]

/-- The convolution from its nine sums, each a sum of products of a pixel and a weight. -/
theorem conv_of_sums (C : ℕ) (w : ℕ → ℕ → ℕ → ℕ → EReal) (b : ℕ → EReal) (x : Img) (o y z : ℕ) :
    ∑ c : Fin C, x c y z * w o c 0 0 + ∑ c : Fin C, x c y (1 + z) * w o c 0 1 + ∑ c : Fin C, x c y (2 + z) * w o c 0 2 +
      ∑ c : Fin C, x c (1 + y) z * w o c 1 0 + ∑ c : Fin C, x c (1 + y) (1 + z) * w o c 1 1 +
      ∑ c : Fin C, x c (1 + y) (2 + z) * w o c 1 2 + ∑ c : Fin C, x c (2 + y) z * w o c 2 0 +
      ∑ c : Fin C, x c (2 + y) (1 + z) * w o c 2 1 + ∑ c : Fin C, x c (2 + y) (2 + z) * w o c 2 2 + b o =
    conv C w b x o y z := by
  simp only [conv, taps, tap, Nat.add_zero, Nat.add_comm y, Nat.add_comm z, mul_comm (w _ _ _ _), Nat.zero_add]

/-- The selection matrix picks every second column. -/
theorem sum_select (n m : ℕ) (hm : 2 * m < n) (hn : n < 2 ^ 31) (f : Fin n → EReal) :
    ∑ k : Fin n, f k * FloatOps.sitofp (F := Ideal) FTy.f32
      (BitVec.setWidth 32 (IntOp.cmpi CmpIPredicate.eq (BitVec.ofNat 32 k) (IntOp.muli 2#32 (BitVec.ofNat 32 m)))) =
    f ⟨2 * m, hm⟩ := by
  rw [Finset.sum_eq_single ⟨2 * m, hm⟩]
  · have h : IntOp.cmpi CmpIPredicate.eq (BitVec.ofNat 32 (2 * m)) (IntOp.muli 2#32 (BitVec.ofNat 32 m)) = 1#1 := by
      have : IntOp.muli 2#32 (BitVec.ofNat 32 m) = BitVec.ofNat 32 (2 * m) := by
        apply BitVec.eq_of_toNat_eq; simp [IntOp.muli, BitVec.toNat_mul]
      rw [this]; simp [IntOp.cmpi]
    rw [h]
    have h1 : FloatOps.sitofp (F := Ideal) FTy.f32 (BitVec.setWidth 32 (1#1)) = (1 : EReal) := by
      simp [FloatOps.sitofp]
    rw [h1, mul_one]
  · intro k _ hk
    have hk' : k.val ≠ 2 * m := fun h => hk (Fin.ext h)
    have h : IntOp.cmpi CmpIPredicate.eq (BitVec.ofNat 32 k) (IntOp.muli 2#32 (BitVec.ofNat 32 m)) = 0#1 := by
      have h2 : IntOp.muli 2#32 (BitVec.ofNat 32 m) = BitVec.ofNat 32 (2 * m) := by
        apply BitVec.eq_of_toNat_eq; simp [IntOp.muli, BitVec.toNat_mul]
      rw [h2]
      have h3 : BitVec.ofNat 32 k.val ≠ BitVec.ofNat 32 (2 * m) := by
        intro h
        have := congrArg BitVec.toNat h
        simp only [BitVec.toNat_ofNat] at this
        have := k.isLt
        omega
      simp [IntOp.cmpi, beq_eq_false_iff_ne.mpr h3]
    rw [h]
    have h0 : FloatOps.sitofp (F := Ideal) FTy.f32 (BitVec.setWidth 32 (0#1)) = (0 : EReal) := by
      simp [FloatOps.sitofp]
    rw [h0, mul_zero]
  · intro h; exact absurd (Finset.mem_univ _) h

/-! ## Arrays of indices below their extents, read at numbers -/

def ext1 {a : ℕ} (f : Fin a → EReal) : ℕ → EReal := fun i => if h : i < a then f ⟨i, h⟩ else 0
def ext2 {a b : ℕ} (f : Fin a → Fin b → EReal) : ℕ → ℕ → EReal := fun i => if h : i < a then ext1 (f ⟨i, h⟩) else fun _ => 0
def ext3 {a b c : ℕ} (f : Fin a → Fin b → Fin c → EReal) : Img :=
  fun i => if h : i < a then ext2 (f ⟨i, h⟩) else fun _ _ => 0
def ext4 {a b c d : ℕ} (f : Fin a → Fin b → Fin c → Fin d → EReal) : ℕ → ℕ → ℕ → ℕ → EReal :=
  fun i => if h : i < a then ext3 (f ⟨i, h⟩) else fun _ _ _ => 0

theorem ext1_val {a : ℕ} (f : Fin a → EReal) (i : Fin a) : ext1 f i = f i := by simp [ext1]
theorem ext2_val {a b : ℕ} (f : Fin a → Fin b → EReal) (i : Fin a) (j : Fin b) : ext2 f i j = f i j := by
  simp [ext2, ext1_val]
theorem ext3_val {a b c : ℕ} (f : Fin a → Fin b → Fin c → EReal) (i : Fin a) (j : Fin b) (k : Fin c) :
    ext3 f i j k = f i j k := by simp [ext3, ext2_val]
theorem ext4_val {a b c d : ℕ} (f : Fin a → Fin b → Fin c → Fin d → EReal) (i : Fin a) (j : Fin b) (k : Fin c)
    (l : Fin d) : ext4 f i j k l = f i j k l := by simp [ext4, ext3_val]

/-! ## The network -/

/-- The weights, biases and slopes, read at numbers. -/
structure Net where
  w1 : ℕ → ℕ → ℕ → ℕ → EReal
  b1 : ℕ → EReal
  a1 : ℕ → EReal
  w2 : ℕ → ℕ → ℕ → ℕ → EReal
  b2 : ℕ → EReal
  a2 : ℕ → EReal
  w3 : ℕ → ℕ → ℕ → ℕ → EReal
  b3 : ℕ → EReal
  a3 : ℕ → EReal
  w41 : ℕ → ℕ → EReal
  b41 : ℕ → EReal
  w42 : ℕ → ℕ → EReal
  b42 : ℕ → EReal

/-- The first layer: convolution, rectifier, maximum. -/
def Net.layer1 (N : Net) (x : Img) : Img := pool (prelu N.a1 (conv 3 N.w1 N.b1 x))
/-- The second layer. -/
def Net.layer2 (N : Net) (x : Img) : Img := prelu N.a2 (conv 10 N.w2 N.b2 x)
/-- The third layer. -/
def Net.layer3 (N : Net) (x : Img) : Img := prelu N.a3 (conv 16 N.w3 N.b3 x)
/-- The features of a resized picture. -/
def Net.feat (N : Net) (x : Img) : Img := N.layer3 (N.layer2 (N.layer1 x))
/-- The two class logits. -/
def Net.logit (N : Net) (x : Img) : Img := conv1 32 N.w41 N.b41 (N.feat x)
/-- The four box corrections. -/
def Net.reg (N : Net) (x : Img) : Img := conv1 32 N.w42 N.b42 (N.feat x)
/-- The probability of a face: the logistic of the logits' difference. -/
def Net.score (N : Net) (x : Img) (y z : ℕ) : EReal := Ideal.logistic (N.logit x 1 y z - N.logit x 0 y z)

/-- The edge of a cell's window, `2 z + t` cells times the inverse scale. -/
def edge (inv t : EReal) (z : ℕ) : EReal :=
  (Ideal.ofBits FTy.f32 1073741824#32 * FloatOps.sitofp (F := Ideal) FTy.f32 (BitVec.ofNat 32 z) + t) * inv
/-- A coordinate of a corrected box: the edge plus the correction times the window's side. -/
def corner (inv t r : EReal) (z : ℕ) : EReal :=
  edge inv t z + r * (edge inv (Ideal.ofBits FTy.f32 1094713344#32) z - edge inv 1 z)
/-- The four coordinates of the box of cell `(y, z)`. -/
def Net.box (N : Net) (x : Img) (inv : EReal) (q y z : ℕ) : EReal :=
  if q < 1 then corner inv 1 (N.reg x 0 y z) z
  else if q - 1 < 1 then corner inv 1 (N.reg x 1 y z) y
  else if q - 1 - 1 < 1 then corner inv (Ideal.ofBits FTy.f32 1094713344#32) (N.reg x 2 y z) z
  else corner inv (Ideal.ofBits FTy.f32 1094713344#32) (N.reg x 3 y z) y

end Cert.Value

end
-- ==== Proof.Value.Args.lean ====
/- The fourteen arguments in one. -/
module

public import proofs.«01_k».proof.Proof.Gen.ReferenceIdeal.Step
public import proofs.«01_k».proof.Proof.Value.Spec

@[expose] public section

noncomputable section

namespace Cert.Value

open Idealize.ShloMosaic Cert.ReferenceIdeal Cert.ReferenceIdeal.Step

/-- The arguments: the pictures, then the weights, biases and slopes of the network. -/
structure Args where
  img : Vec Ideal S4x3x512x512 .f32
  w1 : Vec Ideal S10x3x3x3 .f32
  b1 : Vec Ideal S10 .f32
  a1 : Vec Ideal S10 .f32
  w2 : Vec Ideal S16x10x3x3 .f32
  b2 : Vec Ideal S16 .f32
  a2 : Vec Ideal S16 .f32
  w3 : Vec Ideal S32x16x3x3 .f32
  b3 : Vec Ideal S32 .f32
  a3 : Vec Ideal S32 .f32
  w41 : Vec Ideal S2x32x1x1 .f32
  b41 : Vec Ideal S2 .f32
  w42 : Vec Ideal S4x32x1x1 .f32
  b42 : Vec Ideal S4 .f32

/-- A function of the fourteen arguments at the arguments. -/
abbrev ap {β : Type} (f : Vec Ideal S4x3x512x512 .f32 → Vec Ideal S10x3x3x3 .f32 → Vec Ideal S10 .f32 →
    Vec Ideal S10 .f32 → Vec Ideal S16x10x3x3 .f32 → Vec Ideal S16 .f32 → Vec Ideal S16 .f32 →
    Vec Ideal S32x16x3x3 .f32 → Vec Ideal S32 .f32 → Vec Ideal S32 .f32 → Vec Ideal S2x32x1x1 .f32 →
    Vec Ideal S2 .f32 → Vec Ideal S4x32x1x1 .f32 → Vec Ideal S4 .f32 → β) (p : Args) : β :=
  f p.img p.w1 p.b1 p.a1 p.w2 p.b2 p.a2 p.w3 p.b3 p.a3 p.w41 p.b41 p.w42 p.b42

/-- The arguments' weights, biases and slopes, read at numbers. -/
def Args.net (p : Args) : Net where
  w1 := ext4 fun o c i j => p.w1 (ix4 o c i j)
  b1 := ext1 fun o => p.b1 (ix1 o)
  a1 := ext1 fun o => p.a1 (ix1 o)
  w2 := ext4 fun o c i j => p.w2 (ix4 o c i j)
  b2 := ext1 fun o => p.b2 (ix1 o)
  a2 := ext1 fun o => p.a2 (ix1 o)
  w3 := ext4 fun o c i j => p.w3 (ix4 o c i j)
  b3 := ext1 fun o => p.b3 (ix1 o)
  a3 := ext1 fun o => p.a3 (ix1 o)
  w41 := ext2 fun o c => p.w41 (ix4 o c 0 0)
  b41 := ext1 fun o => p.b41 (ix1 o)
  w42 := ext2 fun o c => p.w42 (ix4 o c 0 0)
  b42 := ext1 fun o => p.b42 (ix1 o)

variable (p : Args)

theorem Args.w1_at (o : Fin 10) (c : Fin 3) (i j : Fin 3) : p.w1 (ix4 o c i j) = p.net.w1 o c i j :=
  (ext4_val (fun o c i j => p.w1 (ix4 o c i j)) o c i j).symm
theorem Args.w2_at (o : Fin 16) (c : Fin 10) (i j : Fin 3) : p.w2 (ix4 o c i j) = p.net.w2 o c i j :=
  (ext4_val (fun o c i j => p.w2 (ix4 o c i j)) o c i j).symm
theorem Args.w3_at (o : Fin 32) (c : Fin 16) (i j : Fin 3) : p.w3 (ix4 o c i j) = p.net.w3 o c i j :=
  (ext4_val (fun o c i j => p.w3 (ix4 o c i j)) o c i j).symm
theorem Args.w41_at (o : Fin 2) (c : Fin 32) : p.w41 (ix4 o c 0 0) = p.net.w41 o c :=
  (ext2_val (fun o c => p.w41 (ix4 o c 0 0)) o c).symm
theorem Args.w42_at (o : Fin 4) (c : Fin 32) : p.w42 (ix4 o c 0 0) = p.net.w42 o c :=
  (ext2_val (fun o c => p.w42 (ix4 o c 0 0)) o c).symm
theorem Args.b1_at (o : Fin 10) : p.b1 (ix1 o) = p.net.b1 o :=
  (ext1_val (fun o => p.b1 (ix1 o)) o).symm
theorem Args.a1_at (o : Fin 10) : p.a1 (ix1 o) = p.net.a1 o :=
  (ext1_val (fun o => p.a1 (ix1 o)) o).symm
theorem Args.b2_at (o : Fin 16) : p.b2 (ix1 o) = p.net.b2 o :=
  (ext1_val (fun o => p.b2 (ix1 o)) o).symm
theorem Args.a2_at (o : Fin 16) : p.a2 (ix1 o) = p.net.a2 o :=
  (ext1_val (fun o => p.a2 (ix1 o)) o).symm
theorem Args.b3_at (o : Fin 32) : p.b3 (ix1 o) = p.net.b3 o :=
  (ext1_val (fun o => p.b3 (ix1 o)) o).symm
theorem Args.a3_at (o : Fin 32) : p.a3 (ix1 o) = p.net.a3 o :=
  (ext1_val (fun o => p.a3 (ix1 o)) o).symm
theorem Args.b41_at (o : Fin 2) : p.b41 (ix1 o) = p.net.b41 o :=
  (ext1_val (fun o => p.b41 (ix1 o)) o).symm
theorem Args.b42_at (o : Fin 4) : p.b42 (ix1 o) = p.net.b42 o :=
  (ext1_val (fun o => p.b42 (ix1 o)) o).symm

end Cert.Value

end
-- ==== Proof.Value.Real.lean ====
/- Values that are numbers: closed under everything the network computes. -/
module

public import proofs.«01_k».proof.Proof.Value.Softmax
public import proofs.«01_k».proof.Proof.Value.Args

@[expose] public section

set_option maxRecDepth 16384
set_option maxHeartbeats 400000

noncomputable section

namespace Cert.Value

open Idealize.ShloMosaic

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.div {x y : EReal} (hx : IsReal x) (hy : IsReal y) (h : y ≠ 0) : IsReal (Ideal.div x y) := by
  unfold Ideal.div
  rw [if_neg h]
  refine hx.mul ?_
  obtain ⟨b, rfl⟩ := hy
  exact ⟨b⁻¹, (EReal.coe_inv b).symm⟩
theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

/-! ## The network -/

variable {x : Img}

theorem tap_real {C : ℕ} {w : ℕ → ℕ → ℕ → ℕ → EReal} (hw : ∀ o c i j, IsReal (w o c i j)) (hx : ∀ k y z, IsReal (x k y z)) (o di dj y z : ℕ) :
    IsReal (tap C w x o di dj y z) := IsReal.sum _ fun c => (hw _ _ _ _).mul (hx _ _ _)

theorem conv_real {C : ℕ} {w : ℕ → ℕ → ℕ → ℕ → EReal} {b : ℕ → EReal} (hw : ∀ o c i j, IsReal (w o c i j)) (hb : ∀ o, IsReal (b o))
    (hx : ∀ k y z, IsReal (x k y z)) (o y z : ℕ) : IsReal (conv C w b x o y z) :=
  have t := fun di dj => tap_real (C := C) hw hx o di dj y z
  (((((((((t 0 0).add (t 0 1)).add (t 0 2)).add (t 1 0)).add (t 1 1)).add (t 1 2)).add (t 2 0)).add (t 2 1)).add (t 2 2)).add (hb o)

theorem prelu_real {a : ℕ → EReal} (ha : ∀ o, IsReal (a o)) (hx : ∀ k y z, IsReal (x k y z)) (o y z : ℕ) : IsReal (prelu a x o y z) := by
  unfold prelu
  split
  · exact hx _ _ _
  · exact (ha _).mul (hx _ _ _)

theorem pool_real (hx : ∀ k y z, IsReal (x k y z)) (o y z : ℕ) : IsReal (pool x o y z) :=
  ((hx _ _ _).max (hx _ _ _)).max ((hx _ _ _).max (hx _ _ _))

theorem conv1_real {C : ℕ} {w : ℕ → ℕ → EReal} {b : ℕ → EReal} (hw : ∀ o c, IsReal (w o c)) (hb : ∀ o, IsReal (b o))
    (hx : ∀ k y z, IsReal (x k y z)) (o y z : ℕ) : IsReal (conv1 C w b x o y z) :=
  (IsReal.sum _ fun c => (hw _ _).mul (hx _ _ _)).add (hb o)

theorem ext1_real {a : ℕ} {f : Fin a → EReal} (h : ∀ i, IsReal (f i)) (i : ℕ) : IsReal (ext1 f i) := by
  unfold ext1
  split
  · exact h _
  · exact IsReal.zero
theorem ext2_real {a b : ℕ} {f : Fin a → Fin b → EReal} (h : ∀ i j, IsReal (f i j)) (i j : ℕ) : IsReal (ext2 f i j) := by
  unfold ext2
  split
  · exact ext1_real (h _) _
  · exact IsReal.zero
theorem ext3_real {a b c : ℕ} {f : Fin a → Fin b → Fin c → EReal} (h : ∀ i j k, IsReal (f i j k)) (i j k : ℕ) : IsReal (ext3 f i j k) := by
  unfold ext3
  split
  · exact ext2_real (h _) _ _
  · exact IsReal.zero
theorem ext4_real {a b c d : ℕ} {f : Fin a → Fin b → Fin c → Fin d → EReal} (h : ∀ i j k l, IsReal (f i j k l)) (i j k l : ℕ) :
    IsReal (ext4 f i j k l) := by
  unfold ext4
  split
  · exact ext3_real (h _) _ _ _
  · exact IsReal.zero

/-- An array of numbers. -/
def AllReal {s : Shape} (x : FVec Ideal s .f32) : Prop := ∀ i, IsReal (x i)

/-- Arguments that are numbers. -/
structure Args.Real (p : Args) : Prop where
  img : AllReal p.img
  w1 : AllReal p.w1
  b1 : AllReal p.b1
  a1 : AllReal p.a1
  w2 : AllReal p.w2
  b2 : AllReal p.b2
  a2 : AllReal p.a2
  w3 : AllReal p.w3
  b3 : AllReal p.b3
  a3 : AllReal p.a3
  w41 : AllReal p.w41
  b41 : AllReal p.b41
  w42 : AllReal p.w42
  b42 : AllReal p.b42

/-- The logits of an image of numbers are numbers. -/
theorem logit_real {p : Args} (hp : p.Real) (hx : ∀ k y z, IsReal (x k y z)) (o y z : ℕ) : IsReal (p.net.logit x o y z) := by
  unfold Net.logit Net.feat Net.layer3 Net.layer2 Net.layer1
  have three := prelu_real (ext1_real fun o => hp.a1 (ix1 o)) (conv_real (C := 3) (ext4_real fun o c i j => hp.w1 (ix4 o c i j)) (ext1_real fun o => hp.b1 (ix1 o)) hx)
  have two := prelu_real (ext1_real fun o => hp.a2 (ix1 o)) (conv_real (C := 10) (ext4_real fun o c i j => hp.w2 (ix4 o c i j)) (ext1_real fun o => hp.b2 (ix1 o)) (pool_real three))
  have one := prelu_real (ext1_real fun o => hp.a3 (ix1 o)) (conv_real (C := 16) (ext4_real fun o c i j => hp.w3 (ix4 o c i j)) (ext1_real fun o => hp.b3 (ix1 o)) two)
  exact conv1_real (ext2_real fun o c => hp.w41 (ix4 o c 0 0)) (ext1_real fun o => hp.b41 (ix1 o)) one o y z

/-! ## Arrays -/

section
variable {s t : Shape} {a b : FVec Ideal s .f32}

theorem real_bcast {dims : Fin s.rank → Fin t.rank} {h : s.BroadcastsInDim t dims} (ha : AllReal a) : AllReal (broadcastInDim t dims h a) := fun _ => ha _
theorem real_add (ha : AllReal a) (hb : AllReal b) : AllReal (addf a b) := fun i => (ha i).add (hb i)
theorem real_sub (ha : AllReal a) (hb : AllReal b) : AllReal (subf a b) := fun i => (ha i).sub (hb i)
theorem real_mul (ha : AllReal a) (hb : AllReal b) : AllReal (mulf a b) := fun i => (ha i).mul (hb i)
theorem real_max (ha : AllReal a) (hb : AllReal b) : AllReal (maximumf a b) := fun i => (ha i).max (hb i)
theorem real_abs (ha : AllReal a) : AllReal (Host.absf a) := fun i => (ha i).max (ha i).neg
theorem real_div (ha : AllReal a) (hb : AllReal b) (h : ∀ i, b i ≠ 0) : AllReal (Host.divf a b) := fun i => (ha i).div (hb i) (h i)
theorem real_select {c : IVec s 1} (ha : AllReal a) (hb : AllReal b) : AllReal (select c a b) := fun i => by
  show IsReal (Scalar.select _ _ _)
  unfold Scalar.select
  split
  · exact ha i
  · exact hb i
theorem real_sitofp {w : ℕ} {c : IVec s w} : AllReal (sitofp .f32 c) := fun i => ⟨_, rfl⟩
theorem real_sum {axes : List (Fin s.rank)} {u : Shape} {v : FVec Ideal u .f32} {h : s.ReducesTo axes t} {hu : 0 < u.numel}
    (ha : AllReal a) (hv : AllReal v) : AllReal (Host.reduceAdd a v h hu) := fun i => (hv _).add (IsReal.sum _ fun _ => ha _)
theorem real_bits {w : BitVec 32} (h : (w.extractLsb' 23 8).toNat ≠ 255) : AllReal (constant s .f32 w : FVec Ideal s .f32) := fun i => by
  show IsReal (Ideal.ieee 8 23 w)
  unfold Ideal.ieee
  dsimp only
  rw [if_neg (show ¬ _ = 2 ^ 8 - 1 from h)]
  split <;> exact ⟨_, rfl⟩
theorem ne_bcast {dims : Fin s.rank → Fin t.rank} {h : s.BroadcastsInDim t dims} (ha : ∀ i, a i ≠ 0) : ∀ i, broadcastInDim t dims h a i ≠ 0 := fun _ => ha _
theorem ne_max (hb : ∀ i, 0 < b i) : ∀ i, maximumf a b i ≠ 0 := fun i => ne_of_gt (lt_of_lt_of_le (hb i) (le_max_right (a i) (b i)))
theorem pos_bits {w : BitVec 32} (h : 0 < Ideal.ofBits FTy.f32 w) : ∀ i, 0 < (constant s .f32 w : FVec Ideal s .f32) i := fun _ => h
theorem ne_bits {w : BitVec 32} (h : 0 < Ideal.ofBits FTy.f32 w) : ∀ i, (constant s .f32 w : FVec Ideal s .f32) i ≠ 0 := fun _ => ne_of_gt h
/-- A number, or one in place of zero, is not zero. -/
theorem ne_guard {z u : FVec Ideal s .f32} (hz : ∀ i, z i = 0) (hu : ∀ i, u i ≠ 0) : ∀ i, select (cmpf .une a z) a u i ≠ 0 := fun i => by
  show Scalar.select (FloatOps.cmpf .une (a i) (z i)) (a i) (u i) ≠ 0
  unfold Scalar.select
  split
  · next h =>
    intro h0
    rw [hz i, h0] at h
    exact absurd h (by show ¬ Ideal.cmp .une 0 0 = 1#1; simp [Ideal.cmp_une])
  · exact hu i
end

theorem positive_bits (w : BitVec 32) (ex fr : ℕ) (h1 : (w.extractLsb' 31 1 == 1#1) = false) (h2 : (w.extractLsb' 23 8).toNat = ex)
    (h3 : (w.extractLsb' 0 23).toNat = fr) (hx : ex ≠ 255) (h0 : ex ≠ 0) : 0 < Ideal.ofBits FTy.f32 w := by
  rw [bits_val w ex fr false h1 h2 h3 hx h0]
  refine EReal.coe_pos.mpr ?_
  simp only [Bool.false_eq_true, if_false]
  positivity

end Cert.Value

end
-- ==== Proof.Value.HostI0.lean ====
/- What the kernel's host operations leave for its regions: the resized image of scale 0. -/
module

public import proofs.«01_k».proof.Proof.Value.Args
public import proofs.«01_k».proof.Proof.Ideal.Frame
public import Idealize.ShloMosaic.Lib.StableHlo.RunRead
public import Idealize.ShloMosaic.Lib.Pointwise

@[expose] public section

set_option maxRecDepth 65536
set_option maxHeartbeats 4000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {V : Valuation τ sig (Elt Ideal)} {p : Args}

theorem weight0 : after hostOps0_5 (after hostOps0_4 (after hostOps0_3 (after hostOps0_2 (after hostOps0_1 (after hostOps0 V))))) (Proc.devRef .tc main_v63) = ReferenceIdeal.Step.K_main_v47 (F := Ideal) := by
  after_reads_simp
  rfl

/-- The resized image, as sums. -/
def image0 (p : Args) (n : Fin 4) (k : Fin 3) (y z : Fin 128) : EReal :=
  ∑ w : Fin 512, (∑ h : Fin 512, ap ReferenceIdeal.Step.A_main_v3 p (ix4 n k h w) * ReferenceIdeal.Step.K_main_v47 (F := Ideal) (ix2 h y)) * ReferenceIdeal.Step.K_main_v47 (F := Ideal) (ix2 w z)

theorem kimage0 (h3 : V (Proc.devRef .tc main_v3) = ap ReferenceIdeal.Step.A_main_v3 p) (hw : V (Proc.devRef .tc main_v63) = ReferenceIdeal.Step.K_main_v47 (F := Ideal)) (n : Fin 4) (k : Fin 3) (y z : Fin 128) :
    after hostOps0_6 V (Proc.devRef .tc main_v75) (ix4 n k y z) = image0 p n k y z := by
  after_reads_simp
  simp only [h3, hw]
  unfold image0
  pointwise

theorem rimage0 (n : Fin 4) (k : Fin 3) (y z : Fin 128) : ap ReferenceIdeal.Step.A_main_v50 p (ix4 n k y z) = image0 p n k y z := by
  unfold image0
  pointwise [ReferenceIdeal.Step.A_main_v50, ReferenceIdeal.Step.A_main_v49, ReferenceIdeal.Step.A_main_v48]
  simp only [mul_comm]

end Cert.Value

end
-- ==== Proof.Value.HostI1.lean ====
/- What the kernel's host operations leave for its regions: the resized image of scale 1. -/
module

public import proofs.«01_k».proof.Proof.Value.Args
public import proofs.«01_k».proof.Proof.Ideal.Frame
public import Idealize.ShloMosaic.Lib.StableHlo.RunRead
public import Idealize.ShloMosaic.Lib.Pointwise

@[expose] public section

set_option maxRecDepth 65536
set_option maxHeartbeats 4000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {V : Valuation τ sig (Elt Ideal)} {p : Args}

theorem weight1 : after hostOps1_5 (after hostOps1_4 (after hostOps1_3 (after hostOps1_2 (after hostOps1_1 (after hostOps1 V))))) (Proc.devRef .tc main_v122) = ReferenceIdeal.Step.K_main_v386 (F := Ideal) := by
  after_reads_simp
  rfl

/-- The resized image, as sums. -/
def image1 (p : Args) (n : Fin 4) (k : Fin 3) (y z : Fin 90) : EReal :=
  ∑ w : Fin 512, (∑ h : Fin 512, ap ReferenceIdeal.Step.A_main_v3 p (ix4 n k h w) * ReferenceIdeal.Step.K_main_v386 (F := Ideal) (ix2 h y)) * ReferenceIdeal.Step.K_main_v386 (F := Ideal) (ix2 w z)

theorem kimage1 (h3 : V (Proc.devRef .tc main_v3) = ap ReferenceIdeal.Step.A_main_v3 p) (hw : V (Proc.devRef .tc main_v122) = ReferenceIdeal.Step.K_main_v386 (F := Ideal)) (n : Fin 4) (k : Fin 3) (y z : Fin 90) :
    after hostOps1_6 V (Proc.devRef .tc main_v134) (ix4 n k y z) = image1 p n k y z := by
  after_reads_simp
  simp only [h3, hw]
  unfold image1
  pointwise

theorem rimage1 (n : Fin 4) (k : Fin 3) (y z : Fin 90) : ap ReferenceIdeal.Step.A_main_v389 p (ix4 n k y z) = image1 p n k y z := by
  unfold image1
  pointwise [ReferenceIdeal.Step.A_main_v389, ReferenceIdeal.Step.A_main_v388, ReferenceIdeal.Step.A_main_v387]
  simp only [mul_comm]

end Cert.Value

end
-- ==== Proof.Value.HostI2.lean ====
/- What the kernel's host operations leave for its regions: the resized image of scale 2. -/
module

public import proofs.«01_k».proof.Proof.Value.Args
public import proofs.«01_k».proof.Proof.Ideal.Frame
public import Idealize.ShloMosaic.Lib.StableHlo.RunRead
public import Idealize.ShloMosaic.Lib.Pointwise

@[expose] public section

set_option maxRecDepth 65536
set_option maxHeartbeats 4000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {V : Valuation τ sig (Elt Ideal)} {p : Args}

theorem weight2 : after hostOps2_5 (after hostOps2_4 (after hostOps2_3 (after hostOps2_2 (after hostOps2_1 (after hostOps2 V))))) (Proc.devRef .tc main_v181) = ReferenceIdeal.Step.K_main_v725 (F := Ideal) := by
  after_reads_simp
  rfl

/-- The resized image, as sums. -/
def image2 (p : Args) (n : Fin 4) (k : Fin 3) (y z : Fin 64) : EReal :=
  ∑ w : Fin 512, (∑ h : Fin 512, ap ReferenceIdeal.Step.A_main_v3 p (ix4 n k h w) * ReferenceIdeal.Step.K_main_v725 (F := Ideal) (ix2 h y)) * ReferenceIdeal.Step.K_main_v725 (F := Ideal) (ix2 w z)

theorem kimage2 (h3 : V (Proc.devRef .tc main_v3) = ap ReferenceIdeal.Step.A_main_v3 p) (hw : V (Proc.devRef .tc main_v181) = ReferenceIdeal.Step.K_main_v725 (F := Ideal)) (n : Fin 4) (k : Fin 3) (y z : Fin 64) :
    after hostOps2_6 V (Proc.devRef .tc main_v193) (ix4 n k y z) = image2 p n k y z := by
  after_reads_simp
  simp only [h3, hw]
  unfold image2
  pointwise

theorem rimage2 (n : Fin 4) (k : Fin 3) (y z : Fin 64) : ap ReferenceIdeal.Step.A_main_v728 p (ix4 n k y z) = image2 p n k y z := by
  unfold image2
  pointwise [ReferenceIdeal.Step.A_main_v728, ReferenceIdeal.Step.A_main_v727, ReferenceIdeal.Step.A_main_v726]
  simp only [mul_comm]

end Cert.Value

end
-- ==== Proof.Value.RealW.lean ====
/- The resizing weights and the resized pictures are numbers. -/
module

public import proofs.«01_k».proof.Proof.Value.Real
public import proofs.«01_k».proof.Proof.Value.HostI0
public import proofs.«01_k».proof.Proof.Value.HostI1
public import proofs.«01_k».proof.Proof.Value.HostI2

@[expose] public section

set_option maxRecDepth 16384
set_option maxHeartbeats 1000000

noncomputable section

namespace Cert.Value

open Idealize.ShloMosaic
open Cert.ReferenceIdeal.Step

theorem one_pos' : 0 < Ideal.ofBits FTy.f32 0x3F800000#32 :=
  positive_bits _ 127 0 (by decide) (by decide) (by decide) (by decide) (by decide)

theorem sitofp_one : (FloatOps.sitofp FTy.f32 (1#32 : BitVec 32) : Ideal FTy.f32) ≠ 0 := by
  show (((1#32 : BitVec 32).toInt : ℝ) : EReal) ≠ 0
  have : ((1#32 : BitVec 32).toInt) = 1 := by decide
  rw [this]
  norm_num

variable {p : Args}

/-- The centred picture. -/
theorem centred_real (hp : p.Real) : AllReal (ap A_main_v3 p) :=
  real_div (real_sub hp.img (real_bcast (real_bits (by decide)))) (real_bcast (real_bits (by decide)))
    (ne_bcast (ne_bits (positive_bits _ 134 0 (by decide) (by decide) (by decide) (by decide) (by decide))))

/-- Scale 0's weights. -/
theorem weights0_real : AllReal (K_main_v47 (F := Ideal)) :=
  have bits {u : Shape} {w : BitVec 32} (h : (w.extractLsb' 23 8).toNat ≠ 255) := real_bits (s := u) h
  have v4 : AllReal (K_main_v4 (F := Ideal)) := real_div (bits (by decide)) (bits (by decide))
    (ne_bits (positive_bits _ 125 0 (by decide) (by decide) (by decide) (by decide) (by decide)))
  have v15 : AllReal (K_main_v15 (F := Ideal)) := real_sub (real_sub (real_mul (real_add real_sitofp (real_bcast (bits (by decide)))) (real_bcast v4))
    (real_bcast (real_mul (bits (by decide)) v4))) (real_bcast (bits (by decide)))
  have v29 : AllReal (K_main_v29 (F := Ideal)) := real_max (real_bcast (bits (by decide))) (real_sub (real_bcast (bits (by decide)))
    (real_abs (real_div (real_abs (real_sub (real_bcast (real_bcast v15)) (real_bcast (real_bcast real_sitofp))))
      (real_bcast (real_max v4 (bits (by decide)))) (ne_bcast (ne_max (pos_bits one_pos'))))))
  have v31 : AllReal (K_main_v31 (F := Ideal)) := real_bcast (real_sum v29 (bits (by decide)))
  have v37 : AllReal (K_main_v37 (F := Ideal)) := real_select v31 (real_bcast real_sitofp)
  have n37 : ∀ i, K_main_v37 (F := Ideal) i ≠ 0 := ne_guard (fun _ => Ideal.ofBits_zero_f32) (ne_bcast fun _ => sitofp_one)
  real_select (real_select (real_div v29 (real_bcast v37) (ne_bcast n37)) (real_bcast real_sitofp)) (real_bcast real_sitofp)

theorem image0_real (hp : p.Real) (n : Fin 4) (k : Fin 3) (y z : Fin 128) : IsReal (image0 p n k y z) :=
  IsReal.sum _ fun _ => (IsReal.sum _ fun _ => (centred_real hp _).mul (weights0_real _)).mul (weights0_real _)

/-- Scale 1's weights. -/
theorem weights1_real : AllReal (K_main_v386 (F := Ideal)) :=
  have bits {u : Shape} {w : BitVec 32} (h : (w.extractLsb' 23 8).toNat ≠ 255) := real_bits (s := u) h
  have v4 : AllReal (K_main_v343 (F := Ideal)) := real_div (bits (by decide)) (bits (by decide))
    (ne_bits (positive_bits _ 124 3407872 (by decide) (by decide) (by decide) (by decide) (by decide)))
  have v15 : AllReal (K_main_v354 (F := Ideal)) := real_sub (real_sub (real_mul (real_add real_sitofp (real_bcast (bits (by decide)))) (real_bcast v4))
    (real_bcast (real_mul (bits (by decide)) v4))) (real_bcast (bits (by decide)))
  have v29 : AllReal (K_main_v368 (F := Ideal)) := real_max (real_bcast (bits (by decide))) (real_sub (real_bcast (bits (by decide)))
    (real_abs (real_div (real_abs (real_sub (real_bcast (real_bcast v15)) (real_bcast (real_bcast real_sitofp))))
      (real_bcast (real_max v4 (bits (by decide)))) (ne_bcast (ne_max (pos_bits one_pos'))))))
  have v31 : AllReal (K_main_v370 (F := Ideal)) := real_bcast (real_sum v29 (bits (by decide)))
  have v37 : AllReal (K_main_v376 (F := Ideal)) := real_select v31 (real_bcast real_sitofp)
  have n37 : ∀ i, K_main_v376 (F := Ideal) i ≠ 0 := ne_guard (fun _ => Ideal.ofBits_zero_f32) (ne_bcast fun _ => sitofp_one)
  real_select (real_select (real_div v29 (real_bcast v37) (ne_bcast n37)) (real_bcast real_sitofp)) (real_bcast real_sitofp)

theorem image1_real (hp : p.Real) (n : Fin 4) (k : Fin 3) (y z : Fin 90) : IsReal (image1 p n k y z) :=
  IsReal.sum _ fun _ => (IsReal.sum _ fun _ => (centred_real hp _).mul (weights1_real _)).mul (weights1_real _)

/-- Scale 2's weights. -/
theorem weights2_real : AllReal (K_main_v725 (F := Ideal)) :=
  have bits {u : Shape} {w : BitVec 32} (h : (w.extractLsb' 23 8).toNat ≠ 255) := real_bits (s := u) h
  have v4 : AllReal (K_main_v682 (F := Ideal)) := real_div (bits (by decide)) (bits (by decide))
    (ne_bits (positive_bits _ 124 0 (by decide) (by decide) (by decide) (by decide) (by decide)))
  have v15 : AllReal (K_main_v693 (F := Ideal)) := real_sub (real_sub (real_mul (real_add real_sitofp (real_bcast (bits (by decide)))) (real_bcast v4))
    (real_bcast (real_mul (bits (by decide)) v4))) (real_bcast (bits (by decide)))
  have v29 : AllReal (K_main_v707 (F := Ideal)) := real_max (real_bcast (bits (by decide))) (real_sub (real_bcast (bits (by decide)))
    (real_abs (real_div (real_abs (real_sub (real_bcast (real_bcast v15)) (real_bcast (real_bcast real_sitofp))))
      (real_bcast (real_max v4 (bits (by decide)))) (ne_bcast (ne_max (pos_bits one_pos'))))))
  have v31 : AllReal (K_main_v709 (F := Ideal)) := real_bcast (real_sum v29 (bits (by decide)))
  have v37 : AllReal (K_main_v715 (F := Ideal)) := real_select v31 (real_bcast real_sitofp)
  have n37 : ∀ i, K_main_v715 (F := Ideal) i ≠ 0 := ne_guard (fun _ => Ideal.ofBits_zero_f32) (ne_bcast fun _ => sitofp_one)
  real_select (real_select (real_div v29 (real_bcast v37) (ne_bcast n37)) (real_bcast real_sitofp)) (real_bcast real_sitofp)

theorem image2_real (hp : p.Real) (n : Fin 4) (k : Fin 3) (y z : Fin 64) : IsReal (image2 p n k y z) :=
  IsReal.sum _ fun _ => (IsReal.sum _ fun _ => (centred_real hp _).mul (weights2_real _)).mul (weights2_real _)

end Cert.Value

end
-- ==== Proof.Value.Weights.lean ====
/- The arrays the kernel's regions read their weights from. -/
module

public import proofs.«01_k».proof.Proof.Ideal.Frame
public import proofs.«01_k».proof.Proof.Value.Args
public import Idealize.ShloMosaic.Lib.Pipeline.ValueKit

@[expose] public section

set_option maxRecDepth 16384
set_option maxHeartbeats 1000000

noncomputable section

namespace Cert.Value

open Idealize.ShloMosaic Idealize.ShloMosaic.TcCoe Idealize.SL.Sem Idealize.ShloMosaic.Pipeline
open Cert.KernelIdeal Cert.KernelIdeal.Gen Cert.KernelIdeal.Own

/-- The arrays the regions read their weights from. -/
structure Weights (V : Valuation τ sig (Elt Ideal)) (N : Net) : Prop where
  h1 : ∀ (o : Fin 10) (k : Fin 27), V (Proc.devRef .tc main_v5) (ix2 o k) = N.w1 o (k % 3) (k / 3 / 3) (k / 3 % 3)
  h2 : ∀ o : Fin 10, V (Proc.devRef .tc main_v12) (ix3 o 0 0) = N.b1 o
  h3 : ∀ o : Fin 10, V (Proc.devRef .tc main_v13) (ix3 o 0 0) = N.a1 o
  h4 : ∀ (o : Fin 16) (k : Fin 90), V (Proc.devRef .tc main_v7) (ix2 o k) = N.w2 o (k % 10) (k / 10 / 3) (k / 10 % 3)
  h5 : ∀ o : Fin 16, V (Proc.devRef .tc main_v14) (ix3 o 0 0) = N.b2 o
  h6 : ∀ o : Fin 16, V (Proc.devRef .tc main_v15) (ix3 o 0 0) = N.a2 o
  h7 : ∀ (o : Fin 32) (k : Fin 144), V (Proc.devRef .tc main_v9) (ix2 o k) = N.w3 o (k % 16) (k / 16 / 3) (k / 16 % 3)
  h8 : ∀ o : Fin 32, V (Proc.devRef .tc main_v16) (ix3 o 0 0) = N.b3 o
  h9 : ∀ o : Fin 32, V (Proc.devRef .tc main_v17) (ix3 o 0 0) = N.a3 o
  h10 : ∀ (o : Fin 2) (k : Fin 32), V (Proc.devRef .tc main_v10) (ix2 o k) = N.w41 o k
  h11 : ∀ o : Fin 2, V (Proc.devRef .tc main_v18) (ix3 o 0 0) = N.b41 o
  h12 : ∀ (o : Fin 4) (k : Fin 32), V (Proc.devRef .tc main_v11) (ix2 o k) = N.w42 o k
  h13 : ∀ o : Fin 4, V (Proc.devRef .tc main_v19) (ix3 o 0 0) = N.b42 o

end Cert.Value

end
-- ==== Proof.Value.HostW.lean ====
/- What the kernel's host operations leave for its regions: the weights. -/
module

public import proofs.«01_k».proof.Proof.Value.Weights
public import Idealize.ShloMosaic.Lib.StableHlo.RunRead
public import Idealize.ShloMosaic.Lib.Pointwise

@[expose] public section

set_option maxRecDepth 65536
set_option maxHeartbeats 2000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {V : Valuation τ sig (Elt Ideal)} {p : Args}

/-- The contents of the kernel's arguments. -/
structure KArgs (V : Valuation τ sig (Elt Ideal)) (p : Args) : Prop where
  img : V (Proc.devRef .tc main_arg0) = p.img
  w1 : V (Proc.devRef .tc main_arg1) = p.w1
  b1 : V (Proc.devRef .tc main_arg2) = p.b1
  a1 : V (Proc.devRef .tc main_arg3) = p.a1
  w2 : V (Proc.devRef .tc main_arg4) = p.w2
  b2 : V (Proc.devRef .tc main_arg5) = p.b2
  a2 : V (Proc.devRef .tc main_arg6) = p.a2
  w3 : V (Proc.devRef .tc main_arg7) = p.w3
  b3 : V (Proc.devRef .tc main_arg8) = p.b3
  a3 : V (Proc.devRef .tc main_arg9) = p.a3
  w41 : V (Proc.devRef .tc main_arg10) = p.w41
  b41 : V (Proc.devRef .tc main_arg11) = p.b41
  w42 : V (Proc.devRef .tc main_arg12) = p.w42
  b42 : V (Proc.devRef .tc main_arg13) = p.b42

theorem host_img (h : KArgs V p) : after hostOps0 V (Proc.devRef .tc main_v3) = ap ReferenceIdeal.Step.A_main_v3 p := by
  after_reads_simp
  simp only [h.img]
  rfl

theorem host_weights (h : KArgs V p) : Weights (after hostOps0 V) p.net := by
  refine ⟨fun o k => ?_, fun o => ?_, fun o => ?_, fun o k => ?_, fun o => ?_, fun o => ?_, fun o k => ?_, fun o => ?_, fun o => ?_, fun o k => ?_, fun o => ?_, fun o k => ?_, fun o => ?_⟩ <;>
    (after_reads_simp; simp only [h.w1, h.b1, h.a1, h.w2, h.b2, h.a2, h.w3, h.b3, h.a3, h.w41, h.b41, h.w42, h.b42]; pointwise; simp only [Nat.div_div_eq_div_mul, Nat.reduceMul, Args.w1_at, Args.w2_at, Args.w3_at, Args.w41_at, Args.w42_at, Args.b1_at, Args.b2_at, Args.b3_at, Args.b41_at, Args.b42_at, Args.a1_at, Args.a2_at, Args.a3_at])

end Cert.Value

end
-- ==== Proof.Value.HostC.lean ====
/- What each of the kernel's regions finds, whichever scale it works on. -/
module

public import proofs.«01_k».proof.Proof.Value.HostW

@[expose] public section

set_option maxRecDepth 65536
set_option maxHeartbeats 1000000

noncomputable section

namespace Cert.Value

open Idealize.ShloMosaic Idealize.ShloMosaic.TcCoe Idealize.SL.Sem Idealize.ShloMosaic.StableHlo
open Cert.KernelIdeal Cert.KernelIdeal.Gen Cert.KernelIdeal.Own

/-- The references every scale reads and none writes. -/
abbrev keptRefs : List (Ref sig .tc) := [main_v3, main_v5, main_v12, main_v13, main_v7, main_v14, main_v15, main_v9, main_v16, main_v17, main_v10, main_v18, main_v11, main_v19]

/-- The normalised image and the weights are in place. -/
structure Stage (V : Valuation τ sig (Elt Ideal)) (p : Args) : Prop where
  img : V (Proc.devRef .tc main_v3) = ap ReferenceIdeal.Step.A_main_v3 p
  weights : Weights V p.net

variable {V V' : Valuation τ sig (Elt Ideal)} {p : Args}

theorem Stage.keep (h : Stage V p) (e : ∀ r ∈ keptRefs, V' (Proc.devRef .tc r) = V (Proc.devRef .tc r)) : Stage V' p where
  img := (e main_v3 (by decide +kernel)).trans h.img
  weights := ⟨fun o k => (congrFun (e main_v5 (by decide +kernel)) _).trans (h.weights.h1 o k),
    fun o => (congrFun (e main_v12 (by decide +kernel)) _).trans (h.weights.h2 o),
    fun o => (congrFun (e main_v13 (by decide +kernel)) _).trans (h.weights.h3 o),
    fun o k => (congrFun (e main_v7 (by decide +kernel)) _).trans (h.weights.h4 o k),
    fun o => (congrFun (e main_v14 (by decide +kernel)) _).trans (h.weights.h5 o),
    fun o => (congrFun (e main_v15 (by decide +kernel)) _).trans (h.weights.h6 o),
    fun o k => (congrFun (e main_v9 (by decide +kernel)) _).trans (h.weights.h7 o k),
    fun o => (congrFun (e main_v16 (by decide +kernel)) _).trans (h.weights.h8 o),
    fun o => (congrFun (e main_v17 (by decide +kernel)) _).trans (h.weights.h9 o),
    fun o k => (congrFun (e main_v10 (by decide +kernel)) _).trans (h.weights.h10 o k),
    fun o => (congrFun (e main_v18 (by decide +kernel)) _).trans (h.weights.h11 o),
    fun o k => (congrFun (e main_v11 (by decide +kernel)) _).trans (h.weights.h12 o k),
    fun o => (congrFun (e main_v19 (by decide +kernel)) _).trans (h.weights.h13 o)⟩

theorem Stage.first (h : KArgs V p) : Stage (after hostOps0 V) p := ⟨host_img h, host_weights h⟩

/-- Operations that write none of the references keep the stage. -/
theorem Stage.after (h : Stage V p) (ops : List (HloOp τ sig (Elt Ideal))) {L : List (Ref sig .tc)}
    (hw : ops.Forall fun op => op.writes ⊆ (L.map (Proc.devRef (τ := τ) .tc)).toFinset) (hL : ∀ r ∈ keptRefs, r ∉ L) :
    Stage (StableHlo.after ops V) p :=
  h.keep fun r hr => after_of_writes_sub ops V hw (hL r hr)

end Cert.Value

end
-- ==== Proof.Value.Kern0.lean ====
/- The network of the kernel at scale 0: what each grid point computes from its blocks. -/
module

public import proofs.«01_k».proof.Proof.Gen.KernelIdeal.Skeleton
public import proofs.«01_k».proof.Proof.Value.Spec

@[expose] public section

set_option maxRecDepth 16384
set_option maxHeartbeats 4000000

noncomputable section

namespace Cert.Value

open Idealize.ShloMosaic Cert.KernelIdeal Cert.KernelIdeal.Gen

/-- The first convolution before its rectifier. -/
def k0_lin1 (v0 : Vec Ideal S1x3x128x128 .f32) (v2 : Vec Ideal S10x27 .f32) (v4 : Vec Ideal S10x1x1 .f32) :
    FVec Ideal S10x126x126 .f32 :=
  have v1 : FVec Ideal S3x128x128 .f32 := shapeCast S3x128x128 v0 shapeCasts_S1x3x128x128_S3x128x128
  have v3 : FVec Ideal S10x27 .f32 := shapeCast S10x27 v2 shapeCasts_S10x27_S10x27
  have v5 : FVec Ideal S10x1x1 .f32 := shapeCast S10x1x1 v4 shapeCasts_S10x1x1_S10x1x1
  have v8 : FVec Ideal S3x126x126 .f32 := extractStridedSlice S3x126x126 ![0, 0, 0] v1 slices_S3x128x128_o0_0_0_S3x126x126
  have v9 : FVec Ideal S3x126x126 .f32 := extractStridedSlice S3x126x126 ![0, 0, 1] v1 slices_S3x128x128_o0_0_1_S3x126x126
  have v10 : FVec Ideal S3x126x126 .f32 := extractStridedSlice S3x126x126 ![0, 0, 2] v1 slices_S3x128x128_o0_0_2_S3x126x126
  have v11 : FVec Ideal S3x126x126 .f32 := extractStridedSlice S3x126x126 ![0, 1, 0] v1 slices_S3x128x128_o0_1_0_S3x126x126
  have v12 : FVec Ideal S3x126x126 .f32 := extractStridedSlice S3x126x126 ![0, 1, 1] v1 slices_S3x128x128_o0_1_1_S3x126x126
  have v13 : FVec Ideal S3x126x126 .f32 := extractStridedSlice S3x126x126 ![0, 1, 2] v1 slices_S3x128x128_o0_1_2_S3x126x126
  have v14 : FVec Ideal S3x126x126 .f32 := extractStridedSlice S3x126x126 ![0, 2, 0] v1 slices_S3x128x128_o0_2_0_S3x126x126
  have v15 : FVec Ideal S3x126x126 .f32 := extractStridedSlice S3x126x126 ![0, 2, 1] v1 slices_S3x128x128_o0_2_1_S3x126x126
  have v16 : FVec Ideal S3x126x126 .f32 := extractStridedSlice S3x126x126 ![0, 2, 2] v1 slices_S3x128x128_o0_2_2_S3x126x126
  have v17 : FVec Ideal S27x126x126 .f32 := concatenate S27x126x126 0 [⟨S3x126x126, v8⟩, ⟨S3x126x126, v9⟩, ⟨S3x126x126, v10⟩, ⟨S3x126x126, v11⟩, ⟨S3x126x126, v12⟩, ⟨S3x126x126, v13⟩, ⟨S3x126x126, v14⟩, ⟨S3x126x126, v15⟩, ⟨S3x126x126, v16⟩] concatenates_S3x126x126_S3x126x126_S3x126x126_S3x126x126_S3x126x126_S3x126x126_S3x126x126_S3x126x126_S3x126x126_S27x126x126_d0
  have cst : FVec Ideal S10x126x126 .f32 := constant S10x126x126 .f32 0x00000000#32
  have v18 : FVec Ideal S10x126x126 .f32 := matmul dot_S10x27_S27x126x126_S10x126x126_1_0_0_12_n_n none v3 v17 cst
  have v19 : FVec Ideal S10x126x126 .f32 := broadcastTo S10x126x126 v5 broadcasts_S10x1x1_S10x126x126
  have v20 : FVec Ideal S10x126x126 .f32 := addf v18 v19
  v20

/-- The first rectifier. -/
def k0_act1 (v6 : Vec Ideal S10x1x1 .f32) (v20 : FVec Ideal S10x126x126 .f32) : FVec Ideal S10x126x126 .f32 :=
  have v7 : FVec Ideal S10x1x1 .f32 := shapeCast S10x1x1 v6 shapeCasts_S10x1x1_S10x1x1
  have cst_11 : Ideal .f32 := Scalar.ofBits .f32 0x00000000#32
  have v21 : FVec Ideal S10x126x126 .f32 := broadcast S10x126x126 cst_11
  have v22 : IVec S10x126x126 1 := cmpf .ogt v20 v21
  have v23 : FVec Ideal S10x126x126 .f32 := broadcastTo S10x126x126 v7 broadcasts_S10x1x1_S10x126x126
  have v24 : FVec Ideal S10x126x126 .f32 := mulf v23 v20
  have v25 : FVec Ideal S10x126x126 .f32 := select v22 v20 v24
  v25

/-- The maximum over pairs of rows and of neighbouring columns. -/
def k0_max (v25 : FVec Ideal S10x126x126 .f32) : FVec Ideal S10x63x125 .f32 :=
  have v26 : FVec Ideal S10x63x2x126 .f32 := shapeCast S10x63x2x126 v25 shapeCasts_S10x126x126_S10x63x2x126
  have v27 : FVec Ideal S10x63x1x126 .f32 := extractStridedSlice S10x63x1x126 ![0, 0, 0, 0] v26 slices_S10x63x2x126_o0_0_0_0_S10x63x1x126
  have v28 : FVec Ideal S10x63x126 .f32 := shapeCast S10x63x126 v27 shapeCasts_S10x63x1x126_S10x63x126
  have v29 : FVec Ideal S10x63x1x126 .f32 := extractStridedSlice S10x63x1x126 ![0, 0, 1, 0] v26 slices_S10x63x2x126_o0_0_1_0_S10x63x1x126
  have v30 : FVec Ideal S10x63x126 .f32 := shapeCast S10x63x126 v29 shapeCasts_S10x63x1x126_S10x63x126
  have v31 : FVec Ideal S10x63x126 .f32 := maximumf v28 v30
  have v32 : FVec Ideal S10x63x125 .f32 := extractStridedSlice S10x63x125 ![0, 0, 0] v31 slices_S10x63x126_o0_0_0_S10x63x125
  have v33 : FVec Ideal S10x63x125 .f32 := extractStridedSlice S10x63x125 ![0, 0, 1] v31 slices_S10x63x126_o0_0_1_S10x63x125
  have v34 : FVec Ideal S10x63x125 .f32 := maximumf v32 v33
  v34

/-- Every second column, by the selection matrix. -/
def k0_sel (v34 : FVec Ideal S10x63x125 .f32) : FVec Ideal S10x63x63 .f32 :=
  have v35 : IVec S125x63 32 := iota .tc S125x63 32 [0] iota_S125x63_d0_w32
  have v36 : IVec S125x63 32 := iota .tc S125x63 32 [1] iota_S125x63_d1_w32
  have v37 : IVec S125x63 32 := broadcast S125x63 2#32
  have v38 : IVec S125x63 32 := muli v37 v36
  have v39 : IVec S125x63 1 := cmpi .eq v35 v38
  have v40 : IVec S125x63 32 := extui 32 v39 natLt_1_32
  have v41 : FVec Ideal S125x63 .f32 := sitofp .f32 v40
  have cst_12 : FVec Ideal S10x63x63 .f32 := constant S10x63x63 .f32 0x00000000#32
  have v42 : FVec Ideal S10x63x63 .f32 := matmul dot_S10x63x125_S125x63_S10x63x63_2_0_01_1_n_n (some .fp32) v34 v41 cst_12
  v42

/-- The second convolution before its rectifier. -/
def k0_lin2 (v42 : FVec Ideal S10x63x63 .f32) (v43 : Vec Ideal S16x90 .f32) (v45 : Vec Ideal S16x1x1 .f32) :
    FVec Ideal S16x61x61 .f32 :=
  have v44 : FVec Ideal S16x90 .f32 := shapeCast S16x90 v43 shapeCasts_S16x90_S16x90
  have v46 : FVec Ideal S16x1x1 .f32 := shapeCast S16x1x1 v45 shapeCasts_S16x1x1_S16x1x1
  have v49 : FVec Ideal S10x61x61 .f32 := extractStridedSlice S10x61x61 ![0, 0, 0] v42 slices_S10x63x63_o0_0_0_S10x61x61
  have v50 : FVec Ideal S10x61x61 .f32 := extractStridedSlice S10x61x61 ![0, 0, 1] v42 slices_S10x63x63_o0_0_1_S10x61x61
  have v51 : FVec Ideal S10x61x61 .f32 := extractStridedSlice S10x61x61 ![0, 0, 2] v42 slices_S10x63x63_o0_0_2_S10x61x61
  have v52 : FVec Ideal S10x61x61 .f32 := extractStridedSlice S10x61x61 ![0, 1, 0] v42 slices_S10x63x63_o0_1_0_S10x61x61
  have v53 : FVec Ideal S10x61x61 .f32 := extractStridedSlice S10x61x61 ![0, 1, 1] v42 slices_S10x63x63_o0_1_1_S10x61x61
  have v54 : FVec Ideal S10x61x61 .f32 := extractStridedSlice S10x61x61 ![0, 1, 2] v42 slices_S10x63x63_o0_1_2_S10x61x61
  have v55 : FVec Ideal S10x61x61 .f32 := extractStridedSlice S10x61x61 ![0, 2, 0] v42 slices_S10x63x63_o0_2_0_S10x61x61
  have v56 : FVec Ideal S10x61x61 .f32 := extractStridedSlice S10x61x61 ![0, 2, 1] v42 slices_S10x63x63_o0_2_1_S10x61x61
  have v57 : FVec Ideal S10x61x61 .f32 := extractStridedSlice S10x61x61 ![0, 2, 2] v42 slices_S10x63x63_o0_2_2_S10x61x61
  have v58 : FVec Ideal S90x61x61 .f32 := concatenate S90x61x61 0 [⟨S10x61x61, v49⟩, ⟨S10x61x61, v50⟩, ⟨S10x61x61, v51⟩, ⟨S10x61x61, v52⟩, ⟨S10x61x61, v53⟩, ⟨S10x61x61, v54⟩, ⟨S10x61x61, v55⟩, ⟨S10x61x61, v56⟩, ⟨S10x61x61, v57⟩] concatenates_S10x61x61_S10x61x61_S10x61x61_S10x61x61_S10x61x61_S10x61x61_S10x61x61_S10x61x61_S10x61x61_S90x61x61_d0
  have cst_21 : FVec Ideal S16x61x61 .f32 := constant S16x61x61 .f32 0x00000000#32
  have v59 : FVec Ideal S16x61x61 .f32 := matmul dot_S16x90_S90x61x61_S16x61x61_1_0_0_12_n_n none v44 v58 cst_21
  have v60 : FVec Ideal S16x61x61 .f32 := broadcastTo S16x61x61 v46 broadcasts_S16x1x1_S16x61x61
  have v61 : FVec Ideal S16x61x61 .f32 := addf v59 v60
  v61

/-- The second rectifier. -/
def k0_act2 (v47 : Vec Ideal S16x1x1 .f32) (v61 : FVec Ideal S16x61x61 .f32) : FVec Ideal S16x61x61 .f32 :=
  have v48 : FVec Ideal S16x1x1 .f32 := shapeCast S16x1x1 v47 shapeCasts_S16x1x1_S16x1x1
  have cst_22 : Ideal .f32 := Scalar.ofBits .f32 0x00000000#32
  have v62 : FVec Ideal S16x61x61 .f32 := broadcast S16x61x61 cst_22
  have v63 : IVec S16x61x61 1 := cmpf .ogt v61 v62
  have v64 : FVec Ideal S16x61x61 .f32 := broadcastTo S16x61x61 v48 broadcasts_S16x1x1_S16x61x61
  have v65 : FVec Ideal S16x61x61 .f32 := mulf v64 v61
  have v66 : FVec Ideal S16x61x61 .f32 := select v63 v61 v65
  v66

/-- The nine taps of the third convolution. -/
def k0_lin3 (v67 : Vec Ideal S32x144 .f32) (v66 : FVec Ideal S16x61x61 .f32) : FVec Ideal S32x59x59 .f32 :=
  have v68 : FVec Ideal S32x144 .f32 := shapeCast S32x144 v67 shapeCasts_S32x144_S32x144
  have v73 : FVec Ideal S16x59x59 .f32 := extractStridedSlice S16x59x59 ![0, 0, 0] v66 slices_S16x61x61_o0_0_0_S16x59x59
  have v74 : FVec Ideal S16x59x59 .f32 := extractStridedSlice S16x59x59 ![0, 0, 1] v66 slices_S16x61x61_o0_0_1_S16x59x59
  have v75 : FVec Ideal S16x59x59 .f32 := extractStridedSlice S16x59x59 ![0, 0, 2] v66 slices_S16x61x61_o0_0_2_S16x59x59
  have v76 : FVec Ideal S16x59x59 .f32 := extractStridedSlice S16x59x59 ![0, 1, 0] v66 slices_S16x61x61_o0_1_0_S16x59x59
  have v77 : FVec Ideal S16x59x59 .f32 := extractStridedSlice S16x59x59 ![0, 1, 1] v66 slices_S16x61x61_o0_1_1_S16x59x59
  have v78 : FVec Ideal S16x59x59 .f32 := extractStridedSlice S16x59x59 ![0, 1, 2] v66 slices_S16x61x61_o0_1_2_S16x59x59
  have v79 : FVec Ideal S16x59x59 .f32 := extractStridedSlice S16x59x59 ![0, 2, 0] v66 slices_S16x61x61_o0_2_0_S16x59x59
  have v80 : FVec Ideal S16x59x59 .f32 := extractStridedSlice S16x59x59 ![0, 2, 1] v66 slices_S16x61x61_o0_2_1_S16x59x59
  have v81 : FVec Ideal S16x59x59 .f32 := extractStridedSlice S16x59x59 ![0, 2, 2] v66 slices_S16x61x61_o0_2_2_S16x59x59
  have v82 : FVec Ideal S144x59x59 .f32 := concatenate S144x59x59 0 [⟨S16x59x59, v73⟩, ⟨S16x59x59, v74⟩, ⟨S16x59x59, v75⟩, ⟨S16x59x59, v76⟩, ⟨S16x59x59, v77⟩, ⟨S16x59x59, v78⟩, ⟨S16x59x59, v79⟩, ⟨S16x59x59, v80⟩, ⟨S16x59x59, v81⟩] concatenates_S16x59x59_S16x59x59_S16x59x59_S16x59x59_S16x59x59_S16x59x59_S16x59x59_S16x59x59_S16x59x59_S144x59x59_d0
  have cst_31 : FVec Ideal S32x59x59 .f32 := constant S32x59x59 .f32 0x00000000#32
  have v83 : FVec Ideal S32x59x59 .f32 := matmul dot_S32x144_S144x59x59_S32x59x59_1_0_0_12_n_n none v68 v82 cst_31
  v83

theorem k0_lin1_at {v0 v2 v4} {x : Img} {w : ℕ → ℕ → ℕ → ℕ → EReal} {b : ℕ → EReal}
    (hx : ∀ (k : Fin 3) (y z : Fin 128), v0 (ix4 0 k y z) = x k y z)
    (hw : ∀ (o : Fin 10) (k : Fin 27), v2 (ix2 o k) = w o (k % 3) (k / 3 / 3) (k / 3 % 3))
    (hb : ∀ o : Fin 10, v4 (ix3 o 0 0) = b o) (o : Fin 10) (y z : Fin 126) :
    k0_lin1 v0 v2 v4 (ix3 o y z) = conv 3 w b x o y z := by
  pointwise [k0_lin1]
  simp only [hx, hw, hb, dite_eq_ite]
  exact congrArg (· + b o) (sum_col 3 w x o y z 27 rfl)

theorem k0_act1_at {v6 v20} {x : Img} {a : ℕ → EReal} (ha : ∀ o : Fin 10, v6 (ix3 o 0 0) = a o)
    (hx : ∀ (o : Fin 10) (y z : Fin 126), v20 (ix3 o y z) = x o y z) (o : Fin 10) (y z : Fin 126) :
    k0_act1 v6 v20 (ix3 o y z) = prelu a x o y z := by
  pointwise [k0_act1]
  simp only [ha, hx]; rfl

theorem k0_pool_at {v25} {x : Img} (hx : ∀ (o : Fin 10) (y z : Fin 126), v25 (ix3 o y z) = x o y z) (o : Fin 10)
    (y z : Fin 63) : k0_sel (k0_max v25) (ix3 o y z) = pool x o y z := by
  pointwise [k0_sel]
  refine (sum_select 125 z (by omega) (by omega) fun k => k0_max v25 (ix3 o y k)).trans ?_
  pointwise [k0_max]
  simp only [hx, Nat.mul_comm _ 2, Nat.add_comm 1]; rfl

theorem k0_lin2_at {v42 v43 v45} {x : Img} {w : ℕ → ℕ → ℕ → ℕ → EReal} {b : ℕ → EReal}
    (hx : ∀ (k : Fin 10) (y z : Fin 63), v42 (ix3 k y z) = x k y z)
    (hw : ∀ (o : Fin 16) (k : Fin 90), v43 (ix2 o k) = w o (k % 10) (k / 10 / 3) (k / 10 % 3))
    (hb : ∀ o : Fin 16, v45 (ix3 o 0 0) = b o) (o : Fin 16) (y z : Fin 61) :
    k0_lin2 v42 v43 v45 (ix3 o y z) = conv 10 w b x o y z := by
  pointwise [k0_lin2]
  simp only [hx, hw, hb, dite_eq_ite]
  exact congrArg (· + b o) (sum_col 10 w x o y z 90 rfl)

theorem k0_act2_at {v47 v61} {x : Img} {a : ℕ → EReal} (ha : ∀ o : Fin 16, v47 (ix3 o 0 0) = a o)
    (hx : ∀ (o : Fin 16) (y z : Fin 61), v61 (ix3 o y z) = x o y z) (o : Fin 16) (y z : Fin 61) :
    k0_act2 v47 v61 (ix3 o y z) = prelu a x o y z := by
  pointwise [k0_act2]
  simp only [ha, hx]; rfl

theorem k0_lin3_at {v67 v66} {x : Img} {w : ℕ → ℕ → ℕ → ℕ → EReal}
    (hx : ∀ (k : Fin 16) (y z : Fin 61), v66 (ix3 k y z) = x k y z)
    (hw : ∀ (o : Fin 32) (k : Fin 144), v67 (ix2 o k) = w o (k % 16) (k / 16 / 3) (k / 16 % 3)) (o : Fin 32)
    (y z : Fin 59) : k0_lin3 v67 v66 (ix3 o y z) = taps 16 w x o y z := by
  pointwise [k0_lin3]
  simp only [hx, hw, dite_eq_ite]
  exact sum_col 16 w x o y z 144 rfl

theorem k0_act3_at {v69 v71 v83} {x : Img} {a b : ℕ → EReal} (hb : ∀ o : Fin 32, v69 (ix3 o 0 0) = b o)
    (ha : ∀ o : Fin 32, v71 (ix3 o 0 0) = a o) (hx : ∀ (o : Fin 32) (y z : Fin 59), v83 (ix3 o y z) = x o y z)
    (o : Fin 32) (y z : Fin 59) :
    k0_pay5 (F := Ideal) (k0_pay2 v69) (k0_pay3 v71) v83 (ix3 o y z) = prelu a (fun o y z => x o y z + b o) o y z := by
  pointwise [k0_pay5, k0_pay2, k0_pay3]
  simp only [ha, hb, hx]; rfl

/-- The blocks of a grid point, read as the picture and the network's numbers. -/
structure Reads0 (N : Net) (x : Img) (x0 : Vec Ideal S1x3x128x128 .f32) (x1 : Vec Ideal S10x27 .f32)
    (x2 x3 : Vec Ideal S10x1x1 .f32) (x4 : Vec Ideal S16x90 .f32) (x5 x6 : Vec Ideal S16x1x1 .f32)
    (x7 : Vec Ideal S32x144 .f32) (x8 x9 : Vec Ideal S32x1x1 .f32) : Prop where
  h0 : ∀ (k : Fin 3) (y z : Fin 128), x0 (ix4 0 k y z) = x k y z
  h1 : ∀ (o : Fin 10) (k : Fin 27), x1 (ix2 o k) = N.w1 o (k % 3) (k / 3 / 3) (k / 3 % 3)
  h2 : ∀ o : Fin 10, x2 (ix3 o 0 0) = N.b1 o
  h3 : ∀ o : Fin 10, x3 (ix3 o 0 0) = N.a1 o
  h4 : ∀ (o : Fin 16) (k : Fin 90), x4 (ix2 o k) = N.w2 o (k % 10) (k / 10 / 3) (k / 10 % 3)
  h5 : ∀ o : Fin 16, x5 (ix3 o 0 0) = N.b2 o
  h6 : ∀ o : Fin 16, x6 (ix3 o 0 0) = N.a2 o
  h7 : ∀ (o : Fin 32) (k : Fin 144), x7 (ix2 o k) = N.w3 o (k % 16) (k / 16 / 3) (k / 16 % 3)
  h8 : ∀ o : Fin 32, x8 (ix3 o 0 0) = N.b3 o
  h9 : ∀ o : Fin 32, x9 (ix3 o 0 0) = N.a3 o

theorem Reads0.feat {N : Net} {x : Img} {x0 x1 x2 x3 x4 x5 x6 x7 x8 x9}
    (h : Reads0 N x x0 x1 x2 x3 x4 x5 x6 x7 x8 x9) (o : Fin 32) (y z : Fin 59) :
    k0_pay5 (F := Ideal) (k0_pay2 x8) (k0_pay3 x9) (k0_pay4 (k0_pay1 x0 x1 x2 x3) x4 x5 x6 x7) (ix3 o y z) =
      N.feat x o y z :=
  k0_act3_at h.h8 h.h9 (k0_lin3_at (k0_act2_at h.h6 (k0_lin2_at
    (k0_pool_at (k0_act1_at h.h3 (k0_lin1_at h.h0 h.h1 h.h2))) h.h4 h.h5)) h.h7) o y z

/-- The score block of a grid point. -/
theorem Reads0.score {N : Net} {x : Img} {x0 x1 x2 x3 x4 x5 x6 x7 x8 x9 x10 x11}
    (h : Reads0 N x x0 x1 x2 x3 x4 x5 x6 x7 x8 x9) (hw : ∀ (o : Fin 2) (k : Fin 32), x10 (ix2 o k) = N.w41 o k)
    (hb : ∀ o : Fin 2, x11 (ix3 o 0 0) = N.b41 o) (y z : Fin 59) :
    k0_pay12 (F := Ideal) (k0_pay6 (k0_pay2 x8) (k0_pay3 x9) (k0_pay4 (k0_pay1 x0 x1 x2 x3) x4 x5 x6 x7)
      x10 x11) (ix3 0 y z) = N.score x y z := by
  pointwise [k0_pay12, k0_pay6]
  simp only [h.feat, hw, hb]; rfl

/-- The box block of a grid point. -/
theorem Reads0.box {N : Net} {x : Img} {x0 x1 x2 x3 x4 x5 x6 x7 x8 x9 x12 x13}
    (h : Reads0 N x x0 x1 x2 x3 x4 x5 x6 x7 x8 x9) (hw : ∀ (o : Fin 4) (k : Fin 32), x12 (ix2 o k) = N.w42 o k)
    (hb : ∀ o : Fin 4, x13 (ix3 o 0 0) = N.b42 o) (q : Fin 4) (y z : Fin 59) :
    k0_pay13 (F := Ideal) (k0_pay7 (k0_pay2 x8) (k0_pay3 x9) (k0_pay4 (k0_pay1 x0 x1 x2 x3) x4 x5 x6 x7)
      x12 x13) k0_pay8 k0_pay9 k0_pay10 k0_pay11 (Scalar.ofBits .f32 0x40800000#32) (ix4 0 q y z) =
      N.box x (Ideal.ofBits FTy.f32 1082130432#32) q y z := by
  pointwise [k0_pay13, k0_pay7, k0_pay8, k0_pay9, k0_pay10, k0_pay11]
  have w0 : ∀ k : Fin 32, x12 (ix2 0 k) = N.w42 0 k := hw 0
  have w1 : ∀ k : Fin 32, x12 (ix2 1 k) = N.w42 1 k := hw 1
  have w2 : ∀ k : Fin 32, x12 (ix2 2 k) = N.w42 2 k := hw 2
  have w3 : ∀ k : Fin 32, x12 (ix2 3 k) = N.w42 3 k := hw 3
  have b0 : x13 (ix3 0 0 0) = N.b42 0 := hb 0
  have b1 : x13 (ix3 1 0 0) = N.b42 1 := hb 1
  have b2 : x13 (ix3 2 0 0) = N.b42 2 := hb 2
  have b3 : x13 (ix3 3 0 0) = N.b42 3 := hb 3
  simp only [h.feat, w0, w1, w2, w3, b0, b1, b2, b3, dite_eq_ite, Net.box, corner, edge, Net.reg, conv1]

end Cert.Value

end
-- ==== Proof.Value.Out0.lean ====
/- Region 0's result arrays: the scores and boxes of the first scale. -/
module

public import proofs.«01_k».proof.Proof.Ideal.Region0
public import proofs.«01_k».proof.Proof.Value.Kern0
public import proofs.«01_k».proof.Proof.Value.Weights
public import Idealize.ShloMosaic.Lib.Pipeline.ValueKit

@[expose] public section

set_option maxRecDepth 16384
set_option maxHeartbeats 1000000

noncomputable section

namespace Cert.Value

open Idealize.ShloMosaic Idealize.ShloMosaic.TcCoe Idealize.SL.Sem Idealize.ShloMosaic.Pipeline
open Cert.KernelIdeal Cert.KernelIdeal.Gen Cert.KernelIdeal.Own

section
variable {W : Dev nD → Valuation τ sig (Elt Ideal)} {N : Net} {x : ℕ → Img} {c : Dev nD} (hw : Weights (W c) N)
  (hx : ∀ (n : Fin 4) (k : Fin 3) (y z : Fin 128), W c (Proc.devRef .tc main_v75) (ix4 n k y z) = x n k y z)

theorem index0_0 : ∀ t : Fin cfg0.N, win0_0.index t = ![t.val, 0, 0, 0] := (by decide +kernel : ∀ t : Fin grid0.N, _)
theorem index0_14 : ∀ t : Fin cfg0.N, win0_14.index t = ![t.val, 0, 0] := (by decide +kernel : ∀ t : Fin grid0.N, _)
theorem index0_15 : ∀ t : Fin cfg0.N, win0_15.index t = ![t.val, 0, 0, 0] := (by decide +kernel : ∀ t : Fin grid0.N, _)

/-- The weights' windows are the whole arrays at every grid point. -/
theorem whole0 : ∀ t : Fin cfg0.N, win0_1.index t = ![0, 0] ∧ win0_2.index t = ![0, 0, 0] ∧ win0_3.index t = ![0, 0, 0] ∧ win0_4.index t = ![0, 0] ∧ win0_5.index t = ![0, 0, 0] ∧ win0_6.index t = ![0, 0, 0] ∧ win0_7.index t = ![0, 0] ∧ win0_8.index t = ![0, 0, 0] ∧ win0_9.index t = ![0, 0, 0] ∧ win0_10.index t = ![0, 0] ∧ win0_11.index t = ![0, 0, 0] ∧ win0_12.index t = ![0, 0] ∧ win0_13.index t = ![0, 0, 0] :=
  (by decide +kernel : ∀ t : Fin grid0.N, _)

theorem blk0_1 (t : Fin cfg0.N) (o : Fin 10) (k : Fin 27) : iblk0 (fun c b => W c b) c 1 t (ix2 o k) = W c (Proc.devRef .tc main_v5) (ix2 o k) := by
  have e := (whole0 t).1
  blk_simp [iblk0]
  refine congrArg (W c (Proc.devRef .tc main_v5)) ?_
  blk_ext [e]

theorem blk0_2 (t : Fin cfg0.N) (o : Fin 10) : iblk0 (fun c b => W c b) c 2 t (ix3 o 0 0) = W c (Proc.devRef .tc main_v12) (ix3 o 0 0) := by
  have e := (whole0 t).2.1
  blk_simp [iblk0]
  refine congrArg (W c (Proc.devRef .tc main_v12)) ?_
  blk_ext [e]

theorem blk0_3 (t : Fin cfg0.N) (o : Fin 10) : iblk0 (fun c b => W c b) c 3 t (ix3 o 0 0) = W c (Proc.devRef .tc main_v13) (ix3 o 0 0) := by
  have e := (whole0 t).2.2.1
  blk_simp [iblk0]
  refine congrArg (W c (Proc.devRef .tc main_v13)) ?_
  blk_ext [e]

theorem blk0_4 (t : Fin cfg0.N) (o : Fin 16) (k : Fin 90) : iblk0 (fun c b => W c b) c 4 t (ix2 o k) = W c (Proc.devRef .tc main_v7) (ix2 o k) := by
  have e := (whole0 t).2.2.2.1
  blk_simp [iblk0]
  refine congrArg (W c (Proc.devRef .tc main_v7)) ?_
  blk_ext [e]

theorem blk0_5 (t : Fin cfg0.N) (o : Fin 16) : iblk0 (fun c b => W c b) c 5 t (ix3 o 0 0) = W c (Proc.devRef .tc main_v14) (ix3 o 0 0) := by
  have e := (whole0 t).2.2.2.2.1
  blk_simp [iblk0]
  refine congrArg (W c (Proc.devRef .tc main_v14)) ?_
  blk_ext [e]

theorem blk0_6 (t : Fin cfg0.N) (o : Fin 16) : iblk0 (fun c b => W c b) c 6 t (ix3 o 0 0) = W c (Proc.devRef .tc main_v15) (ix3 o 0 0) := by
  have e := (whole0 t).2.2.2.2.2.1
  blk_simp [iblk0]
  refine congrArg (W c (Proc.devRef .tc main_v15)) ?_
  blk_ext [e]

theorem blk0_7 (t : Fin cfg0.N) (o : Fin 32) (k : Fin 144) : iblk0 (fun c b => W c b) c 7 t (ix2 o k) = W c (Proc.devRef .tc main_v9) (ix2 o k) := by
  have e := (whole0 t).2.2.2.2.2.2.1
  blk_simp [iblk0]
  refine congrArg (W c (Proc.devRef .tc main_v9)) ?_
  blk_ext [e]

theorem blk0_8 (t : Fin cfg0.N) (o : Fin 32) : iblk0 (fun c b => W c b) c 8 t (ix3 o 0 0) = W c (Proc.devRef .tc main_v16) (ix3 o 0 0) := by
  have e := (whole0 t).2.2.2.2.2.2.2.1
  blk_simp [iblk0]
  refine congrArg (W c (Proc.devRef .tc main_v16)) ?_
  blk_ext [e]

theorem blk0_9 (t : Fin cfg0.N) (o : Fin 32) : iblk0 (fun c b => W c b) c 9 t (ix3 o 0 0) = W c (Proc.devRef .tc main_v17) (ix3 o 0 0) := by
  have e := (whole0 t).2.2.2.2.2.2.2.2.1
  blk_simp [iblk0]
  refine congrArg (W c (Proc.devRef .tc main_v17)) ?_
  blk_ext [e]

theorem blk0_10 (t : Fin cfg0.N) (o : Fin 2) (k : Fin 32) : iblk0 (fun c b => W c b) c 10 t (ix2 o k) = W c (Proc.devRef .tc main_v10) (ix2 o k) := by
  have e := (whole0 t).2.2.2.2.2.2.2.2.2.1
  blk_simp [iblk0]
  refine congrArg (W c (Proc.devRef .tc main_v10)) ?_
  blk_ext [e]

theorem blk0_11 (t : Fin cfg0.N) (o : Fin 2) : iblk0 (fun c b => W c b) c 11 t (ix3 o 0 0) = W c (Proc.devRef .tc main_v18) (ix3 o 0 0) := by
  have e := (whole0 t).2.2.2.2.2.2.2.2.2.2.1
  blk_simp [iblk0]
  refine congrArg (W c (Proc.devRef .tc main_v18)) ?_
  blk_ext [e]

theorem blk0_12 (t : Fin cfg0.N) (o : Fin 4) (k : Fin 32) : iblk0 (fun c b => W c b) c 12 t (ix2 o k) = W c (Proc.devRef .tc main_v11) (ix2 o k) := by
  have e := (whole0 t).2.2.2.2.2.2.2.2.2.2.2.1
  blk_simp [iblk0]
  refine congrArg (W c (Proc.devRef .tc main_v11)) ?_
  blk_ext [e]

theorem blk0_13 (t : Fin cfg0.N) (o : Fin 4) : iblk0 (fun c b => W c b) c 13 t (ix3 o 0 0) = W c (Proc.devRef .tc main_v19) (ix3 o 0 0) := by
  have e := (whole0 t).2.2.2.2.2.2.2.2.2.2.2.2
  blk_simp [iblk0]
  refine congrArg (W c (Proc.devRef .tc main_v19)) ?_
  blk_ext [e]

include hx in
theorem blk0_0 (t : Fin cfg0.N) (k : Fin 3) (y z : Fin 128) : iblk0 (fun c b => W c b) c 0 t (ix4 0 k y z) = x t k y z := by
  have e := index0_0 t
  refine Eq.trans ?_ (hx t k y z)
  blk_simp [iblk0]
  refine congrArg (W c (Proc.devRef .tc main_v75)) ?_
  blk_ext [e]

include hw hx

/-- A grid point's blocks. -/
theorem reads0 (t : Fin cfg0.N) : Reads0 N (x t) (iblk0 (fun c b => W c b) c 0 t) (iblk0 (fun c b => W c b) c 1 t)
    (iblk0 (fun c b => W c b) c 2 t) (iblk0 (fun c b => W c b) c 3 t) (iblk0 (fun c b => W c b) c 4 t) (iblk0 (fun c b => W c b) c 5 t)
    (iblk0 (fun c b => W c b) c 6 t) (iblk0 (fun c b => W c b) c 7 t) (iblk0 (fun c b => W c b) c 8 t) (iblk0 (fun c b => W c b) c 9 t) where
  h0 := blk0_0 hx t
  h1 o k := (blk0_1 t o k).trans (hw.h1 o k)
  h2 o := (blk0_2 t o).trans (hw.h2 o)
  h3 o := (blk0_3 t o).trans (hw.h3 o)
  h4 o k := (blk0_4 t o k).trans (hw.h4 o k)
  h5 o := (blk0_5 t o).trans (hw.h5 o)
  h6 o := (blk0_6 t o).trans (hw.h6 o)
  h7 o k := (blk0_7 t o k).trans (hw.h7 o k)
  h8 o := (blk0_8 t o).trans (hw.h8 o)
  h9 o := (blk0_9 t o).trans (hw.h9 o)

/-- The scores. -/
theorem score0 (n : Fin 4) (y z : Fin 59) :
    (dat0 (fun c b => W c b) c).arrAt 14 cfg0.N (ix3 n y z) = N.score (x n) y z := by
  refine congrFun (((dat0 (fun c b => W c b) c)).arrAt_eq_of_covers 14 (fun i : S4x59x59.Idx => N.score (x (i 0)) (i 1) (i 2))
    (by decide +kernel) fun t hf y => ?_) (ix3 n y z)
  have e := index0_14 t
  blk_simp [e]
  rw [after0_14]
  unfold out0_14 k0_pay14 k0_pay15 k0_pay16
  frame_out
  have key : ∀ u : S1x59x59.Idx, u = ix3 (0 : Fin 1) (u 1 : Fin 59) (u 2 : Fin 59) := fun u => by
    funext k
    fin_cases k
    · exact Subsingleton.elim (α := Fin 1) _ _
    · rfl
    · rfl
  refine (congrArg _ (key y)).trans (((reads0 hw hx t).score (fun o k => (blk0_10 t o k).trans (hw.h10 o k)) (fun o => (blk0_11 t o).trans (hw.h11 o)) (y 1) (y 2)).trans ?_)
  simp

/-- The boxes. -/
theorem box0 (n : Fin 4) (q : Fin 4) (y z : Fin 59) :
    (dat0 (fun c b => W c b) c).arrAt 15 cfg0.N (ix4 n q y z) = N.box (x n) (Ideal.ofBits FTy.f32 1082130432#32) q y z := by
  refine congrFun (((dat0 (fun c b => W c b) c)).arrAt_eq_of_covers 15 (fun i : S4x4x59x59.Idx => N.box (x (i 0)) (Ideal.ofBits FTy.f32 1082130432#32) (i 1) (i 2) (i 3))
    (by decide +kernel) fun t hf y => ?_) (ix4 n q y z)
  have e := index0_15 t
  blk_simp [e]
  rw [after0_15]
  unfold out0_15 k0_pay14 k0_pay15 k0_pay16
  frame_out
  have key : ∀ u : S1x4x59x59.Idx, u = ix4 (0 : Fin 1) (u 1 : Fin 4) (u 2 : Fin 59) (u 3 : Fin 59) := fun u => by
    funext k
    fin_cases k
    · exact Subsingleton.elim (α := Fin 1) _ _
    · rfl
    · rfl
    · rfl
  refine (congrArg _ (key y)).trans (((reads0 hw hx t).box (fun o k => (blk0_12 t o k).trans (hw.h12 o k)) (fun o => (blk0_13 t o).trans (hw.h13 o)) (y 1) (y 2) (y 3)).trans ?_)
  simp

end

end Cert.Value

end
-- ==== Proof.Value.Pool.lean ====
/- The host's maximum over windows of two by two, read at an index. -/
module

public import Idealize.ShloMosaic.Lib.Pointwise

@[expose] public section

set_option maxHeartbeats 4000000

noncomputable section

namespace Cert.Value

open Idealize.ShloMosaic

/-- The window's positions, counted in row-major order. -/
theorem window_pos (k : Fin 4) :
    (⟨4, ![1, 1, 2, 2]⟩ : Shape).rowMajor.symm (k.cast (by decide)) = ix4 0 0 ⟨k / 2, by omega⟩ ⟨k % 2, by omega⟩ := by
  rw [Equiv.symm_apply_eq]
  fin_cases k <;> decide

/-- A read at a position inside the operand. -/
theorem read_inside {A B M M' : ℕ} (x : (⟨4, ![A, B, M, M']⟩ : Shape).Idx → EReal) (v : EReal) (p : Fin 4 → ℕ) (a : Fin A)
    (b : Fin B) (c : Fin M) (d : Fin M') (h0 : p 0 = a) (h1 : p 1 = b) (h2 : p 2 = c) (h3 : p 3 = d) :
    (if hin : ∀ i : Fin 4, (![0, 0, 0, 0] : Fin 4 → ℕ) i ≤ p i ∧
        p i - (![0, 0, 0, 0] : Fin 4 → ℕ) i < (⟨4, ![A, B, M, M']⟩ : Shape).size i then
      x (fun i => ⟨p i - (![0, 0, 0, 0] : Fin 4 → ℕ) i, (hin i).2⟩) else v) = x (ix4 a b c d) := by
  have e : ∀ i : Fin 4, p i - (![0, 0, 0, 0] : Fin 4 → ℕ) i = ((ix4 a b c d : (⟨4, ![A, B, M, M']⟩ : Shape).Idx) i).val := by
    intro i
    match i with
    | ⟨0, _⟩ => exact h0
    | ⟨1, _⟩ => exact h1
    | ⟨2, _⟩ => exact h2
    | ⟨3, _⟩ => exact h3
  have hin : ∀ i : Fin 4, (![0, 0, 0, 0] : Fin 4 → ℕ) i ≤ p i ∧
      p i - (![0, 0, 0, 0] : Fin 4 → ℕ) i < (⟨4, ![A, B, M, M']⟩ : Shape).size i := fun i =>
    ⟨by match i with
        | ⟨0, _⟩ => exact Nat.zero_le _
        | ⟨1, _⟩ => exact Nat.zero_le _
        | ⟨2, _⟩ => exact Nat.zero_le _
        | ⟨3, _⟩ => exact Nat.zero_le _, by rw [e i]; exact (ix4 a b c d i).isLt⟩
  rw [dif_pos hin]
  exact congrArg x (funext fun i => Fin.ext (e i))

theorem fold_max4 (g : Fin 4 → EReal) :
    (List.finRange 4).foldl (fun r n => max r (g n)) ⊥ = max (max (g 0) (g 2)) (max (g 1) (g 3)) := by
  rw [show List.finRange 4 = [0, 1, 2, 3] from by decide]
  simp only [List.foldl_cons, List.foldl_nil, max_bot_left]
  rw [max_assoc (g 0), max_comm (g 1), ← max_assoc (g 0), max_assoc]

/-- The host's maximum over windows of two by two. -/
theorem reduceWindow_max {A B M P : ℕ} (x : (⟨4, ![A, B, M, M]⟩ : Shape).Idx → EReal)
    (init : (⟨0, ![]⟩ : Shape).Idx → EReal)
    (h : (⟨4, ![A, B, M, M]⟩ : Shape).ReduceWindows ![1, 1, 2, 2] ![1, 1, 2, 2] ![0, 0, 0, 0] ![0, 0, 0, 0]
      ⟨4, ![A, B, P, P]⟩)
    (hu : 0 < (⟨0, ![]⟩ : Shape).numel) (hi : init (Shape.Idx.first hu) = ⊥) (hP : 2 * P ≤ M) (n : Fin A)
    (o : Fin B) (y z : Fin P) :
    Host.reduceWindow (s := ⟨4, ![A, B, M, M]⟩) (t := ⟨4, ![A, B, P, P]⟩) (u := ⟨0, ![]⟩) max ![1, 1, 2, 2]
      ![1, 1, 2, 2] ![0, 0, 0, 0] ![0, 0, 0, 0] x init h hu (ix4 n o y z) =
    max (max (x (ix4 n o ⟨2 * y, by omega⟩ ⟨2 * z, by omega⟩)) (x (ix4 n o ⟨2 * y + 1, by omega⟩ ⟨2 * z, by omega⟩)))
      (max (x (ix4 n o ⟨2 * y, by omega⟩ ⟨2 * z + 1, by omega⟩))
        (x (ix4 n o ⟨2 * y + 1, by omega⟩ ⟨2 * z + 1, by omega⟩))) := by
  unfold Host.reduceWindow
  simp only [hi]
  refine (fold_max4 _).trans ?_
  refine congrArg₂ max (congrArg₂ max ?_ ?_) (congrArg₂ max ?_ ?_)
  · refine read_inside x _ _ n o _ _ ?_ ?_ ?_ ?_
    · exact (congrArg (fun i => n.val * 1 + ((i : (⟨4, ![1, 1, 2, 2]⟩ : Shape).Idx) 0).val) (window_pos 0)).trans (by simp)
    · exact (congrArg (fun i => o.val * 1 + ((i : (⟨4, ![1, 1, 2, 2]⟩ : Shape).Idx) 1).val) (window_pos 0)).trans (by simp)
    · exact (congrArg (fun i => y.val * 2 + ((i : (⟨4, ![1, 1, 2, 2]⟩ : Shape).Idx) 2).val) (window_pos 0)).trans (by simp [Nat.mul_comm])
    · exact (congrArg (fun i => z.val * 2 + ((i : (⟨4, ![1, 1, 2, 2]⟩ : Shape).Idx) 3).val) (window_pos 0)).trans (by simp [Nat.mul_comm])
  · refine read_inside x _ _ n o _ _ ?_ ?_ ?_ ?_
    · exact (congrArg (fun i => n.val * 1 + ((i : (⟨4, ![1, 1, 2, 2]⟩ : Shape).Idx) 0).val) (window_pos 2)).trans (by simp)
    · exact (congrArg (fun i => o.val * 1 + ((i : (⟨4, ![1, 1, 2, 2]⟩ : Shape).Idx) 1).val) (window_pos 2)).trans (by simp)
    · exact (congrArg (fun i => y.val * 2 + ((i : (⟨4, ![1, 1, 2, 2]⟩ : Shape).Idx) 2).val) (window_pos 2)).trans (by simp [Nat.mul_comm])
    · exact (congrArg (fun i => z.val * 2 + ((i : (⟨4, ![1, 1, 2, 2]⟩ : Shape).Idx) 3).val) (window_pos 2)).trans (by simp [Nat.mul_comm])
  · refine read_inside x _ _ n o _ _ ?_ ?_ ?_ ?_
    · exact (congrArg (fun i => n.val * 1 + ((i : (⟨4, ![1, 1, 2, 2]⟩ : Shape).Idx) 0).val) (window_pos 1)).trans (by simp)
    · exact (congrArg (fun i => o.val * 1 + ((i : (⟨4, ![1, 1, 2, 2]⟩ : Shape).Idx) 1).val) (window_pos 1)).trans (by simp)
    · exact (congrArg (fun i => y.val * 2 + ((i : (⟨4, ![1, 1, 2, 2]⟩ : Shape).Idx) 2).val) (window_pos 1)).trans (by simp [Nat.mul_comm])
    · exact (congrArg (fun i => z.val * 2 + ((i : (⟨4, ![1, 1, 2, 2]⟩ : Shape).Idx) 3).val) (window_pos 1)).trans (by simp [Nat.mul_comm])
  · refine read_inside x _ _ n o _ _ ?_ ?_ ?_ ?_
    · exact (congrArg (fun i => n.val * 1 + ((i : (⟨4, ![1, 1, 2, 2]⟩ : Shape).Idx) 0).val) (window_pos 3)).trans (by simp)
    · exact (congrArg (fun i => o.val * 1 + ((i : (⟨4, ![1, 1, 2, 2]⟩ : Shape).Idx) 1).val) (window_pos 3)).trans (by simp)
    · exact (congrArg (fun i => y.val * 2 + ((i : (⟨4, ![1, 1, 2, 2]⟩ : Shape).Idx) 2).val) (window_pos 3)).trans (by simp [Nat.mul_comm])
    · exact (congrArg (fun i => z.val * 2 + ((i : (⟨4, ![1, 1, 2, 2]⟩ : Shape).Idx) 3).val) (window_pos 3)).trans (by simp [Nat.mul_comm])

end Cert.Value

end
-- ==== Proof.Value.Ref0.lean ====
/- The network of the reference at scale 0: each layer read at an index. -/
module

public import proofs.«01_k».proof.Proof.Value.Args
public import proofs.«01_k».proof.Proof.Value.Pool
public import proofs.«01_k».proof.Proof.Value.Softmax

@[expose] public section

set_option maxRecDepth 16384
set_option maxHeartbeats 4000000

noncomputable section

namespace Cert.Value

open Idealize.ShloMosaic Cert.ReferenceIdeal Cert.ReferenceIdeal.Gen Cert.ReferenceIdeal.Step

variable (p : Args) (n : Fin 4)

theorem r0_lin1 {x : Img} (hx : ∀ (k : Fin 3) (y z : Fin 128), ap A_main_v50 p (ix4 n k y z) = x k y z)
    (o : Fin 10) (y z : Fin 126) : ap A_main_v108 p (ix4 n o y z) = conv 3 p.net.w1 p.net.b1 x o y z := by
  simp only [ap] at hx ⊢
  pointwise [
    A_main_v108, A_main_v105, A_main_v99, A_main_v93, A_main_v87, A_main_v81, A_main_v75, A_main_v69, A_main_v63,
    A_main_v57, K_main_v56, K_main_cst_16, A_main_v55, A_main_v54, A_main_v53, A_main_v52, A_main_v51, A_main_v62,
    A_main_v61, A_main_v60, A_main_v59, A_main_v58, A_main_v68, A_main_v67, A_main_v66, A_main_v65, A_main_v64,
    A_main_v74, A_main_v73, A_main_v72, A_main_v71, A_main_v70, A_main_v80, A_main_v79, A_main_v78, A_main_v77,
    A_main_v76, A_main_v86, A_main_v85, A_main_v84, A_main_v83, A_main_v82, A_main_v92, A_main_v91, A_main_v90,
    A_main_v89, A_main_v88, A_main_v98, A_main_v97, A_main_v96, A_main_v95, A_main_v94, A_main_v104, A_main_v103,
    A_main_v102, A_main_v101, A_main_v100, A_main_v107, A_main_v106]
  simp only [hx, p.w1_at, p.b1_at]
  exact conv_of_sums 3 p.net.w1 p.net.b1 x o y z

theorem r0_act1 {x : Img} (hx : ∀ (o : Fin 10) (y z : Fin 126), ap A_main_v108 p (ix4 n o y z) = x o y z)
    (o : Fin 10) (y z : Fin 126) : ap A_main_v114 p (ix4 n o y z) = prelu p.net.a1 x o y z := by
  simp only [ap] at hx ⊢
  pointwise [
    A_main_v114, A_main_v110, K_main_v109, K_main_cst_17, A_main_v113, A_main_v112, A_main_v111]
  simp only [hx, p.a1_at]; rfl

theorem r0_pool {x : Img} (hx : ∀ (o : Fin 10) (y z : Fin 126), ap A_main_v114 p (ix4 n o y z) = x o y z)
    (o : Fin 10) (y z : Fin 63) : ap A_main_v116 p (ix4 n o y z) = pool x o y z := by
  have h := reduceWindow_max (A := 4) (B := 10) (M := 126) (P := 63) (ap A_main_v114 p)
    (broadcastInDim S_ ![] bcast_S_S_ (constant (F := Ideal) S_ FTy.f32 4286578688#32))
    (by decide) (by decide) neg_inf_bits (by omega) n o y z
  simp only [hx] at h
  exact h

theorem r0_lin2 {x : Img} (hx : ∀ (k : Fin 10) (y z : Fin 63), ap A_main_v116 p (ix4 n k y z) = x k y z)
    (o : Fin 16) (y z : Fin 61) : ap A_main_v174 p (ix4 n o y z) = conv 10 p.net.w2 p.net.b2 x o y z := by
  simp only [ap] at hx ⊢
  pointwise [
    A_main_v174, A_main_v171, A_main_v165, A_main_v159, A_main_v153, A_main_v147, A_main_v141, A_main_v135,
    A_main_v129, A_main_v123, K_main_v122, K_main_cst_19, A_main_v121, A_main_v120, A_main_v119, A_main_v118,
    A_main_v117, A_main_v128, A_main_v127, A_main_v126, A_main_v125, A_main_v124, A_main_v134, A_main_v133,
    A_main_v132, A_main_v131, A_main_v130, A_main_v140, A_main_v139, A_main_v138, A_main_v137, A_main_v136,
    A_main_v146, A_main_v145, A_main_v144, A_main_v143, A_main_v142, A_main_v152, A_main_v151, A_main_v150,
    A_main_v149, A_main_v148, A_main_v158, A_main_v157, A_main_v156, A_main_v155, A_main_v154, A_main_v164,
    A_main_v163, A_main_v162, A_main_v161, A_main_v160, A_main_v170, A_main_v169, A_main_v168, A_main_v167,
    A_main_v166, A_main_v173, A_main_v172]
  simp only [hx, p.w2_at, p.b2_at]
  exact conv_of_sums 10 p.net.w2 p.net.b2 x o y z

theorem r0_act2 {x : Img} (hx : ∀ (o : Fin 16) (y z : Fin 61), ap A_main_v174 p (ix4 n o y z) = x o y z)
    (o : Fin 16) (y z : Fin 61) : ap A_main_v180 p (ix4 n o y z) = prelu p.net.a2 x o y z := by
  simp only [ap] at hx ⊢
  pointwise [
    A_main_v180, A_main_v176, K_main_v175, K_main_cst_20, A_main_v179, A_main_v178, A_main_v177]
  simp only [hx, p.a2_at]; rfl

theorem r0_lin3 {x : Img} (hx : ∀ (k : Fin 16) (y z : Fin 61), ap A_main_v180 p (ix4 n k y z) = x k y z)
    (o : Fin 32) (y z : Fin 59) : ap A_main_v238 p (ix4 n o y z) = conv 16 p.net.w3 p.net.b3 x o y z := by
  simp only [ap] at hx ⊢
  pointwise [
    A_main_v238, A_main_v235, A_main_v229, A_main_v223, A_main_v217, A_main_v211, A_main_v205, A_main_v199,
    A_main_v193, A_main_v187, K_main_v186, K_main_cst_21, A_main_v185, A_main_v184, A_main_v183, A_main_v182,
    A_main_v181, A_main_v192, A_main_v191, A_main_v190, A_main_v189, A_main_v188, A_main_v198, A_main_v197,
    A_main_v196, A_main_v195, A_main_v194, A_main_v204, A_main_v203, A_main_v202, A_main_v201, A_main_v200,
    A_main_v210, A_main_v209, A_main_v208, A_main_v207, A_main_v206, A_main_v216, A_main_v215, A_main_v214,
    A_main_v213, A_main_v212, A_main_v222, A_main_v221, A_main_v220, A_main_v219, A_main_v218, A_main_v228,
    A_main_v227, A_main_v226, A_main_v225, A_main_v224, A_main_v234, A_main_v233, A_main_v232, A_main_v231,
    A_main_v230, A_main_v237, A_main_v236]
  simp only [hx, p.w3_at, p.b3_at]
  exact conv_of_sums 16 p.net.w3 p.net.b3 x o y z

theorem r0_act3 {x : Img} (hx : ∀ (o : Fin 32) (y z : Fin 59), ap A_main_v238 p (ix4 n o y z) = x o y z)
    (o : Fin 32) (y z : Fin 59) : ap A_main_v244 p (ix4 n o y z) = prelu p.net.a3 x o y z := by
  simp only [ap] at hx ⊢
  pointwise [
    A_main_v244, A_main_v240, K_main_v239, K_main_cst_22, A_main_v243, A_main_v242, A_main_v241]
  simp only [hx, p.a3_at]; rfl

theorem r0_feat {x : Img} (hx : ∀ (k : Fin 3) (y z : Fin 128), ap A_main_v50 p (ix4 n k y z) = x k y z) (o : Fin 32)
    (y z : Fin 59) : ap A_main_v244 p (ix4 n o y z) = p.net.feat x o y z :=
  r0_act3 p n (r0_lin3 p n (r0_act2 p n (r0_lin2 p n (r0_pool p n (r0_act1 p n (r0_lin1 p n hx)))))) o y z

theorem r0_logit {x : Img} (hx : ∀ (k : Fin 3) (y z : Fin 128), ap A_main_v50 p (ix4 n k y z) = x k y z) (o : Fin 2)
    (y z : Fin 59) : ap A_main_v252 p (ix4 n o y z) = p.net.logit x o y z := by
  have h := r0_feat p n hx
  simp only [ap] at h ⊢
  pointwise [
    A_main_v252, A_main_v249, K_main_v248, K_main_cst_23, A_main_v247, A_main_v246, A_main_v245, A_main_v251,
    A_main_v250]
  simp only [h, p.w41_at, p.b41_at, mul_comm (p.net.feat _ _ _ _)]; rfl

theorem r0_reg {x : Img} (hx : ∀ (k : Fin 3) (y z : Fin 128), ap A_main_v50 p (ix4 n k y z) = x k y z) (o : Fin 4)
    (y z : Fin 59) : ap A_main_v271 p (ix4 n o y z) = p.net.reg x o y z := by
  have h := r0_feat p n hx
  simp only [ap] at h ⊢
  pointwise [
    A_main_v271, A_main_v268, K_main_v267, K_main_cst_27, A_main_v266, A_main_v265, A_main_v264, A_main_v270,
    A_main_v269]
  simp only [h, p.w42_at, p.b42_at, mul_comm (p.net.feat _ _ _ _)]; rfl

/-- The scores of the reference at this scale: where the logits are numbers, the logistic of their difference. -/
theorem r0_score {x : Img} (hx : ∀ (k : Fin 3) (y z : Fin 128), ap A_main_v50 p (ix4 n k y z) = x k y z)
    (hr : ∀ o y z, IsReal (p.net.logit x o y z)) (j : Fin 3481) :
    ap A_main_v342 p (ix2 n j) = p.net.score x (j / 59) (j % 59) := by
  have h := r0_logit p n hx
  simp only [ap] at h ⊢
  pointwise [
    A_main_v342, A_main_v273, A_main_v272, A_main_v263, A_main_v259, A_main_v258, A_main_v257, A_main_v256,
    A_main_v255, K_main_v254, K_main_cst_25, A_main_v253, K_main_cst_24, A_main_v262, A_main_v261, A_main_v260,
    K_main_cst_26]
  simp only [h]
  exact softmax_two (fun o => p.net.logit x o (j / 59) (j % 59)) (hr 0 _ _) (hr 1 _ _)

/-- The boxes of the reference at this scale. -/
theorem r0_box {x : Img} (hx : ∀ (k : Fin 3) (y z : Fin 128), ap A_main_v50 p (ix4 n k y z) = x k y z) {inv : EReal}
    (hi : ∀ v : EReal, Ideal.div v (Ideal.ofBits FTy.f32 1048576000#32) = v * inv) (j : Fin 3481) (q : Fin 4) :
    ap A_main_v341 p (ix3 n j q) = p.net.box x inv q (j / 59) (j % 59) := by
  have h := r0_reg p n hx
  have h0 : ∀ y z, ap A_main_v271 p (ix4 n 0 y z) = p.net.reg x 0 y z := h 0
  have h1 : ∀ y z, ap A_main_v271 p (ix4 n 1 y z) = p.net.reg x 1 y z := h 1
  have h2 : ∀ y z, ap A_main_v271 p (ix4 n 2 y z) = p.net.reg x 2 y z := h 2
  have h3 : ∀ y z, ap A_main_v271 p (ix4 n 3 y z) = p.net.reg x 3 y z := h 3
  simp only [ap] at h0 h1 h2 h3 ⊢
  pointwise [
    A_main_v341, A_main_v340, A_main_v336, A_main_v311, K_main_v310, K_main_v304, K_main_v283, K_main_v281,
    K_main_v279, K_main_v278, K_main_cst_28, K_main_v277, K_main_v275, K_main_v280, K_main_cst_29, K_main_v282,
    K_main_cst_30, A_main_v309, A_main_v306, A_main_v305, K_main_v308, K_main_v307, K_main_v302, K_main_v295,
    K_main_v293, K_main_v291, K_main_v290, K_main_cst_34, K_main_v292, K_main_cst_35, K_main_v294, K_main_cst_36,
    A_main_v337, A_main_v319, K_main_v318, K_main_v312, K_main_v289, K_main_v287, K_main_v285, K_main_v284,
    K_main_cst_31, K_main_v276, K_main_v274, K_main_v286, K_main_cst_32, K_main_v288, K_main_cst_33, A_main_v317,
    A_main_v314, A_main_v313, K_main_v316, K_main_v315, K_main_v303, K_main_v301, K_main_v299, K_main_v297,
    K_main_v296, K_main_cst_37, K_main_v298, K_main_cst_38, K_main_v300, K_main_cst_39, A_main_v338, A_main_v327,
    K_main_v326, K_main_v320, A_main_v325, A_main_v322, A_main_v321, K_main_v324, K_main_v323, A_main_v339,
    A_main_v335, K_main_v334, K_main_v328, A_main_v333, A_main_v330, A_main_v329, K_main_v332, K_main_v331]
  simp only [h0, h1, h2, h3, hi, dite_eq_ite, Net.box, corner, edge]

end Cert.Value

end
-- ==== Proof.Value.Chain0.lean ====
/- What the kernel leaves at scale 0. -/
module

public import proofs.«01_k».proof.Proof.Value.HostC
public import proofs.«01_k».proof.Proof.Value.HostI0
public import proofs.«01_k».proof.Proof.Value.Out0
public import proofs.«01_k».proof.Proof.Value.Ref0

@[expose] public section

set_option maxRecDepth 65536
set_option maxHeartbeats 1000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {m : (ℓ : Loc nD τ sig) → Buf (Elt Ideal) ℓ} {ρ : Dev nD → PrngReg} {c : Dev nD} {p : Args}

/-- The images of this scale. -/
def img0 (p : Args) : ℕ → Img := ext4 (image0 p)

theorem img0_at (n : Fin 4) (k : Fin 3) (y z : Fin 128) : ap ReferenceIdeal.Step.A_main_v50 p (ix4 n k y z) = img0 p n k y z :=
  (rimage0 n k y z).trans (ext4_val (image0 p) n k y z).symm

theorem enter0 (h : KArgs (W0 m ρ c) p) : Stage (W6 m ρ c) p :=
  ((((((Stage.first h).after hostOps0_1 hostOps0_1_writes (by decide +kernel)).after hostOps0_2 hostOps0_2_writes (by decide +kernel)).after hostOps0_3 hostOps0_3_writes (by decide +kernel)).after hostOps0_4 hostOps0_4_writes (by decide +kernel)).after hostOps0_5 hostOps0_5_writes (by decide +kernel))

theorem enter0_img (h : Stage (W6 m ρ c) p) (n : Fin 4) (k : Fin 3) (y z : Fin 128) :
    W7 m ρ c (Proc.devRef .tc main_v75) (ix4 n k y z) = img0 p n k y z :=
  (kimage0 h.img weight0 n k y z).trans (ext4_val (image0 p) n k y z).symm

theorem ready0 (h : Stage (W6 m ρ c) p) : Stage (W7 m ρ c) p := h.after hostOps0_6 hostOps0_6_writes (by decide +kernel)

theorem leave0 (h : Stage (W7 m ρ c) p) : Stage (W8 m ρ c) p :=
  h.keep fun r hr => W8_of m ρ c r ((by decide +kernel : ∀ r ∈ keptRefs, ∀ w : Fin cfg0.W, Pipeline.arrRef spec0 w = r → (cfg0.win w).isOut = false) r hr)

theorem leave0_score (h : Stage (W6 m ρ c) p) (n : Fin 4) (y z : Fin 59) :
    W8 m ρ c (Proc.devRef .tc main_v76_0) (ix3 n y z) = p.net.score (img0 p n) y z :=
  (congrFun (W8_arr m ρ c 14) (ix3 n y z)).trans (score0 (ready0 h).weights (enter0_img h) n y z)

theorem leave0_box (h : Stage (W6 m ρ c) p) (n q : Fin 4) (y z : Fin 59) :
    W8 m ρ c (Proc.devRef .tc main_v76_1) (ix4 n q y z) = p.net.box (img0 p n) (Ideal.ofBits FTy.f32 1082130432#32) q y z :=
  (congrFun (W8_arr m ρ c 15) (ix4 n q y z)).trans (box0 (ready0 h).weights (enter0_img h) n q y z)

/-- The scores of this scale in one row, as the reference has them. -/
theorem row0_score (h : Stage (W6 m ρ c) p) (hr : ∀ (n : Fin 4) o y z, IsReal (p.net.logit (img0 p n) o y z)) (n : Fin 4) (j : Fin 3481) :
    W9 m ρ c (Proc.devRef .tc main_v77) (ix2 n j) = ap ReferenceIdeal.Step.A_main_v342 p (ix2 n j) := by
  rw [r0_score p n (img0_at n) (hr n) j]
  have e := leave0_score h n
  after_reads_simp
  generalize W8 m ρ c = V at e ⊢
  pointwise
  simp only [e]

/-- The boxes of this scale in one row, as the reference has them. -/
theorem row0_box (h : Stage (W6 m ρ c) p) (hi : ∀ v : EReal, Ideal.div v (Ideal.ofBits FTy.f32 1048576000#32) = v * (Ideal.ofBits FTy.f32 1082130432#32)) (n q : Fin 4) (j : Fin 3481) :
    W9 m ρ c (Proc.devRef .tc main_v78) (ix3 n q j) = ap ReferenceIdeal.Step.A_main_v341 p (ix3 n j q) := by
  rw [r0_box p n (img0_at n) hi j q]
  have e := leave0_box h n q
  after_reads_simp
  generalize W8 m ρ c = V at e ⊢
  pointwise
  simp only [e]

end Cert.Value

end
-- ==== Proof.Value.Kern1.lean ====
/- The network of the kernel at scale 1: what each grid point computes from its blocks. -/
module

public import proofs.«01_k».proof.Proof.Gen.KernelIdeal.Skeleton
public import proofs.«01_k».proof.Proof.Value.Spec

@[expose] public section

set_option maxRecDepth 16384
set_option maxHeartbeats 4000000

noncomputable section

namespace Cert.Value

open Idealize.ShloMosaic Cert.KernelIdeal Cert.KernelIdeal.Gen

/-- The first convolution before its rectifier. -/
def k1_lin1 (v0 : Vec Ideal S1x3x90x90 .f32) (v2 : Vec Ideal S10x27 .f32) (v4 : Vec Ideal S10x1x1 .f32) :
    FVec Ideal S10x88x88 .f32 :=
  have v1 : FVec Ideal S3x90x90 .f32 := shapeCast S3x90x90 v0 shapeCasts_S1x3x90x90_S3x90x90
  have v3 : FVec Ideal S10x27 .f32 := shapeCast S10x27 v2 shapeCasts_S10x27_S10x27
  have v5 : FVec Ideal S10x1x1 .f32 := shapeCast S10x1x1 v4 shapeCasts_S10x1x1_S10x1x1
  have v8 : FVec Ideal S3x88x88 .f32 := extractStridedSlice S3x88x88 ![0, 0, 0] v1 slices_S3x90x90_o0_0_0_S3x88x88
  have v9 : FVec Ideal S3x88x88 .f32 := extractStridedSlice S3x88x88 ![0, 0, 1] v1 slices_S3x90x90_o0_0_1_S3x88x88
  have v10 : FVec Ideal S3x88x88 .f32 := extractStridedSlice S3x88x88 ![0, 0, 2] v1 slices_S3x90x90_o0_0_2_S3x88x88
  have v11 : FVec Ideal S3x88x88 .f32 := extractStridedSlice S3x88x88 ![0, 1, 0] v1 slices_S3x90x90_o0_1_0_S3x88x88
  have v12 : FVec Ideal S3x88x88 .f32 := extractStridedSlice S3x88x88 ![0, 1, 1] v1 slices_S3x90x90_o0_1_1_S3x88x88
  have v13 : FVec Ideal S3x88x88 .f32 := extractStridedSlice S3x88x88 ![0, 1, 2] v1 slices_S3x90x90_o0_1_2_S3x88x88
  have v14 : FVec Ideal S3x88x88 .f32 := extractStridedSlice S3x88x88 ![0, 2, 0] v1 slices_S3x90x90_o0_2_0_S3x88x88
  have v15 : FVec Ideal S3x88x88 .f32 := extractStridedSlice S3x88x88 ![0, 2, 1] v1 slices_S3x90x90_o0_2_1_S3x88x88
  have v16 : FVec Ideal S3x88x88 .f32 := extractStridedSlice S3x88x88 ![0, 2, 2] v1 slices_S3x90x90_o0_2_2_S3x88x88
  have v17 : FVec Ideal S27x88x88 .f32 := concatenate S27x88x88 0 [⟨S3x88x88, v8⟩, ⟨S3x88x88, v9⟩, ⟨S3x88x88, v10⟩, ⟨S3x88x88, v11⟩, ⟨S3x88x88, v12⟩, ⟨S3x88x88, v13⟩, ⟨S3x88x88, v14⟩, ⟨S3x88x88, v15⟩, ⟨S3x88x88, v16⟩] concatenates_S3x88x88_S3x88x88_S3x88x88_S3x88x88_S3x88x88_S3x88x88_S3x88x88_S3x88x88_S3x88x88_S27x88x88_d0
  have cst : FVec Ideal S10x88x88 .f32 := constant S10x88x88 .f32 0x00000000#32
  have v18 : FVec Ideal S10x88x88 .f32 := matmul dot_S10x27_S27x88x88_S10x88x88_1_0_0_12_n_n none v3 v17 cst
  have v19 : FVec Ideal S10x88x88 .f32 := broadcastTo S10x88x88 v5 broadcasts_S10x1x1_S10x88x88
  have v20 : FVec Ideal S10x88x88 .f32 := addf v18 v19
  v20

/-- The first rectifier. -/
def k1_act1 (v6 : Vec Ideal S10x1x1 .f32) (v20 : FVec Ideal S10x88x88 .f32) : FVec Ideal S10x88x88 .f32 :=
  have v7 : FVec Ideal S10x1x1 .f32 := shapeCast S10x1x1 v6 shapeCasts_S10x1x1_S10x1x1
  have cst_11 : Ideal .f32 := Scalar.ofBits .f32 0x00000000#32
  have v21 : FVec Ideal S10x88x88 .f32 := broadcast S10x88x88 cst_11
  have v22 : IVec S10x88x88 1 := cmpf .ogt v20 v21
  have v23 : FVec Ideal S10x88x88 .f32 := broadcastTo S10x88x88 v7 broadcasts_S10x1x1_S10x88x88
  have v24 : FVec Ideal S10x88x88 .f32 := mulf v23 v20
  have v25 : FVec Ideal S10x88x88 .f32 := select v22 v20 v24
  v25

/-- The maximum over pairs of rows and of neighbouring columns. -/
def k1_max (v25 : FVec Ideal S10x88x88 .f32) : FVec Ideal S10x44x87 .f32 :=
  have v26 : FVec Ideal S10x44x2x88 .f32 := shapeCast S10x44x2x88 v25 shapeCasts_S10x88x88_S10x44x2x88
  have v27 : FVec Ideal S10x44x1x88 .f32 := extractStridedSlice S10x44x1x88 ![0, 0, 0, 0] v26 slices_S10x44x2x88_o0_0_0_0_S10x44x1x88
  have v28 : FVec Ideal S10x44x88 .f32 := shapeCast S10x44x88 v27 shapeCasts_S10x44x1x88_S10x44x88
  have v29 : FVec Ideal S10x44x1x88 .f32 := extractStridedSlice S10x44x1x88 ![0, 0, 1, 0] v26 slices_S10x44x2x88_o0_0_1_0_S10x44x1x88
  have v30 : FVec Ideal S10x44x88 .f32 := shapeCast S10x44x88 v29 shapeCasts_S10x44x1x88_S10x44x88
  have v31 : FVec Ideal S10x44x88 .f32 := maximumf v28 v30
  have v32 : FVec Ideal S10x44x87 .f32 := extractStridedSlice S10x44x87 ![0, 0, 0] v31 slices_S10x44x88_o0_0_0_S10x44x87
  have v33 : FVec Ideal S10x44x87 .f32 := extractStridedSlice S10x44x87 ![0, 0, 1] v31 slices_S10x44x88_o0_0_1_S10x44x87
  have v34 : FVec Ideal S10x44x87 .f32 := maximumf v32 v33
  v34

/-- Every second column, by the selection matrix. -/
def k1_sel (v34 : FVec Ideal S10x44x87 .f32) : FVec Ideal S10x44x44 .f32 :=
  have v35 : IVec S87x44 32 := iota .tc S87x44 32 [0] iota_S87x44_d0_w32
  have v36 : IVec S87x44 32 := iota .tc S87x44 32 [1] iota_S87x44_d1_w32
  have v37 : IVec S87x44 32 := broadcast S87x44 2#32
  have v38 : IVec S87x44 32 := muli v37 v36
  have v39 : IVec S87x44 1 := cmpi .eq v35 v38
  have v40 : IVec S87x44 32 := extui 32 v39 natLt_1_32
  have v41 : FVec Ideal S87x44 .f32 := sitofp .f32 v40
  have cst_12 : FVec Ideal S10x44x44 .f32 := constant S10x44x44 .f32 0x00000000#32
  have v42 : FVec Ideal S10x44x44 .f32 := matmul dot_S10x44x87_S87x44_S10x44x44_2_0_01_1_n_n (some .fp32) v34 v41 cst_12
  v42

/-- The second convolution before its rectifier. -/
def k1_lin2 (v42 : FVec Ideal S10x44x44 .f32) (v43 : Vec Ideal S16x90 .f32) (v45 : Vec Ideal S16x1x1 .f32) :
    FVec Ideal S16x42x42 .f32 :=
  have v44 : FVec Ideal S16x90 .f32 := shapeCast S16x90 v43 shapeCasts_S16x90_S16x90
  have v46 : FVec Ideal S16x1x1 .f32 := shapeCast S16x1x1 v45 shapeCasts_S16x1x1_S16x1x1
  have v49 : FVec Ideal S10x42x42 .f32 := extractStridedSlice S10x42x42 ![0, 0, 0] v42 slices_S10x44x44_o0_0_0_S10x42x42
  have v50 : FVec Ideal S10x42x42 .f32 := extractStridedSlice S10x42x42 ![0, 0, 1] v42 slices_S10x44x44_o0_0_1_S10x42x42
  have v51 : FVec Ideal S10x42x42 .f32 := extractStridedSlice S10x42x42 ![0, 0, 2] v42 slices_S10x44x44_o0_0_2_S10x42x42
  have v52 : FVec Ideal S10x42x42 .f32 := extractStridedSlice S10x42x42 ![0, 1, 0] v42 slices_S10x44x44_o0_1_0_S10x42x42
  have v53 : FVec Ideal S10x42x42 .f32 := extractStridedSlice S10x42x42 ![0, 1, 1] v42 slices_S10x44x44_o0_1_1_S10x42x42
  have v54 : FVec Ideal S10x42x42 .f32 := extractStridedSlice S10x42x42 ![0, 1, 2] v42 slices_S10x44x44_o0_1_2_S10x42x42
  have v55 : FVec Ideal S10x42x42 .f32 := extractStridedSlice S10x42x42 ![0, 2, 0] v42 slices_S10x44x44_o0_2_0_S10x42x42
  have v56 : FVec Ideal S10x42x42 .f32 := extractStridedSlice S10x42x42 ![0, 2, 1] v42 slices_S10x44x44_o0_2_1_S10x42x42
  have v57 : FVec Ideal S10x42x42 .f32 := extractStridedSlice S10x42x42 ![0, 2, 2] v42 slices_S10x44x44_o0_2_2_S10x42x42
  have v58 : FVec Ideal S90x42x42 .f32 := concatenate S90x42x42 0 [⟨S10x42x42, v49⟩, ⟨S10x42x42, v50⟩, ⟨S10x42x42, v51⟩, ⟨S10x42x42, v52⟩, ⟨S10x42x42, v53⟩, ⟨S10x42x42, v54⟩, ⟨S10x42x42, v55⟩, ⟨S10x42x42, v56⟩, ⟨S10x42x42, v57⟩] concatenates_S10x42x42_S10x42x42_S10x42x42_S10x42x42_S10x42x42_S10x42x42_S10x42x42_S10x42x42_S10x42x42_S90x42x42_d0
  have cst_21 : FVec Ideal S16x42x42 .f32 := constant S16x42x42 .f32 0x00000000#32
  have v59 : FVec Ideal S16x42x42 .f32 := matmul dot_S16x90_S90x42x42_S16x42x42_1_0_0_12_n_n none v44 v58 cst_21
  have v60 : FVec Ideal S16x42x42 .f32 := broadcastTo S16x42x42 v46 broadcasts_S16x1x1_S16x42x42
  have v61 : FVec Ideal S16x42x42 .f32 := addf v59 v60
  v61

/-- The second rectifier. -/
def k1_act2 (v47 : Vec Ideal S16x1x1 .f32) (v61 : FVec Ideal S16x42x42 .f32) : FVec Ideal S16x42x42 .f32 :=
  have v48 : FVec Ideal S16x1x1 .f32 := shapeCast S16x1x1 v47 shapeCasts_S16x1x1_S16x1x1
  have cst_22 : Ideal .f32 := Scalar.ofBits .f32 0x00000000#32
  have v62 : FVec Ideal S16x42x42 .f32 := broadcast S16x42x42 cst_22
  have v63 : IVec S16x42x42 1 := cmpf .ogt v61 v62
  have v64 : FVec Ideal S16x42x42 .f32 := broadcastTo S16x42x42 v48 broadcasts_S16x1x1_S16x42x42
  have v65 : FVec Ideal S16x42x42 .f32 := mulf v64 v61
  have v66 : FVec Ideal S16x42x42 .f32 := select v63 v61 v65
  v66

/-- The nine taps of the third convolution. -/
def k1_lin3 (v67 : Vec Ideal S32x144 .f32) (v66 : FVec Ideal S16x42x42 .f32) : FVec Ideal S32x40x40 .f32 :=
  have v68 : FVec Ideal S32x144 .f32 := shapeCast S32x144 v67 shapeCasts_S32x144_S32x144
  have v73 : FVec Ideal S16x40x40 .f32 := extractStridedSlice S16x40x40 ![0, 0, 0] v66 slices_S16x42x42_o0_0_0_S16x40x40
  have v74 : FVec Ideal S16x40x40 .f32 := extractStridedSlice S16x40x40 ![0, 0, 1] v66 slices_S16x42x42_o0_0_1_S16x40x40
  have v75 : FVec Ideal S16x40x40 .f32 := extractStridedSlice S16x40x40 ![0, 0, 2] v66 slices_S16x42x42_o0_0_2_S16x40x40
  have v76 : FVec Ideal S16x40x40 .f32 := extractStridedSlice S16x40x40 ![0, 1, 0] v66 slices_S16x42x42_o0_1_0_S16x40x40
  have v77 : FVec Ideal S16x40x40 .f32 := extractStridedSlice S16x40x40 ![0, 1, 1] v66 slices_S16x42x42_o0_1_1_S16x40x40
  have v78 : FVec Ideal S16x40x40 .f32 := extractStridedSlice S16x40x40 ![0, 1, 2] v66 slices_S16x42x42_o0_1_2_S16x40x40
  have v79 : FVec Ideal S16x40x40 .f32 := extractStridedSlice S16x40x40 ![0, 2, 0] v66 slices_S16x42x42_o0_2_0_S16x40x40
  have v80 : FVec Ideal S16x40x40 .f32 := extractStridedSlice S16x40x40 ![0, 2, 1] v66 slices_S16x42x42_o0_2_1_S16x40x40
  have v81 : FVec Ideal S16x40x40 .f32 := extractStridedSlice S16x40x40 ![0, 2, 2] v66 slices_S16x42x42_o0_2_2_S16x40x40
  have v82 : FVec Ideal S144x40x40 .f32 := concatenate S144x40x40 0 [⟨S16x40x40, v73⟩, ⟨S16x40x40, v74⟩, ⟨S16x40x40, v75⟩, ⟨S16x40x40, v76⟩, ⟨S16x40x40, v77⟩, ⟨S16x40x40, v78⟩, ⟨S16x40x40, v79⟩, ⟨S16x40x40, v80⟩, ⟨S16x40x40, v81⟩] concatenates_S16x40x40_S16x40x40_S16x40x40_S16x40x40_S16x40x40_S16x40x40_S16x40x40_S16x40x40_S16x40x40_S144x40x40_d0
  have cst_31 : FVec Ideal S32x40x40 .f32 := constant S32x40x40 .f32 0x00000000#32
  have v83 : FVec Ideal S32x40x40 .f32 := matmul dot_S32x144_S144x40x40_S32x40x40_1_0_0_12_n_n none v68 v82 cst_31
  v83

theorem k1_lin1_at {v0 v2 v4} {x : Img} {w : ℕ → ℕ → ℕ → ℕ → EReal} {b : ℕ → EReal}
    (hx : ∀ (k : Fin 3) (y z : Fin 90), v0 (ix4 0 k y z) = x k y z)
    (hw : ∀ (o : Fin 10) (k : Fin 27), v2 (ix2 o k) = w o (k % 3) (k / 3 / 3) (k / 3 % 3))
    (hb : ∀ o : Fin 10, v4 (ix3 o 0 0) = b o) (o : Fin 10) (y z : Fin 88) :
    k1_lin1 v0 v2 v4 (ix3 o y z) = conv 3 w b x o y z := by
  pointwise [k1_lin1]
  simp only [hx, hw, hb, dite_eq_ite]
  exact congrArg (· + b o) (sum_col 3 w x o y z 27 rfl)

theorem k1_act1_at {v6 v20} {x : Img} {a : ℕ → EReal} (ha : ∀ o : Fin 10, v6 (ix3 o 0 0) = a o)
    (hx : ∀ (o : Fin 10) (y z : Fin 88), v20 (ix3 o y z) = x o y z) (o : Fin 10) (y z : Fin 88) :
    k1_act1 v6 v20 (ix3 o y z) = prelu a x o y z := by
  pointwise [k1_act1]
  simp only [ha, hx]; rfl

theorem k1_pool_at {v25} {x : Img} (hx : ∀ (o : Fin 10) (y z : Fin 88), v25 (ix3 o y z) = x o y z) (o : Fin 10)
    (y z : Fin 44) : k1_sel (k1_max v25) (ix3 o y z) = pool x o y z := by
  pointwise [k1_sel]
  refine (sum_select 87 z (by omega) (by omega) fun k => k1_max v25 (ix3 o y k)).trans ?_
  pointwise [k1_max]
  simp only [hx, Nat.mul_comm _ 2, Nat.add_comm 1]; rfl

theorem k1_lin2_at {v42 v43 v45} {x : Img} {w : ℕ → ℕ → ℕ → ℕ → EReal} {b : ℕ → EReal}
    (hx : ∀ (k : Fin 10) (y z : Fin 44), v42 (ix3 k y z) = x k y z)
    (hw : ∀ (o : Fin 16) (k : Fin 90), v43 (ix2 o k) = w o (k % 10) (k / 10 / 3) (k / 10 % 3))
    (hb : ∀ o : Fin 16, v45 (ix3 o 0 0) = b o) (o : Fin 16) (y z : Fin 42) :
    k1_lin2 v42 v43 v45 (ix3 o y z) = conv 10 w b x o y z := by
  pointwise [k1_lin2]
  simp only [hx, hw, hb, dite_eq_ite]
  exact congrArg (· + b o) (sum_col 10 w x o y z 90 rfl)

theorem k1_act2_at {v47 v61} {x : Img} {a : ℕ → EReal} (ha : ∀ o : Fin 16, v47 (ix3 o 0 0) = a o)
    (hx : ∀ (o : Fin 16) (y z : Fin 42), v61 (ix3 o y z) = x o y z) (o : Fin 16) (y z : Fin 42) :
    k1_act2 v47 v61 (ix3 o y z) = prelu a x o y z := by
  pointwise [k1_act2]
  simp only [ha, hx]; rfl

theorem k1_lin3_at {v67 v66} {x : Img} {w : ℕ → ℕ → ℕ → ℕ → EReal}
    (hx : ∀ (k : Fin 16) (y z : Fin 42), v66 (ix3 k y z) = x k y z)
    (hw : ∀ (o : Fin 32) (k : Fin 144), v67 (ix2 o k) = w o (k % 16) (k / 16 / 3) (k / 16 % 3)) (o : Fin 32)
    (y z : Fin 40) : k1_lin3 v67 v66 (ix3 o y z) = taps 16 w x o y z := by
  pointwise [k1_lin3]
  simp only [hx, hw, dite_eq_ite]
  exact sum_col 16 w x o y z 144 rfl

theorem k1_act3_at {v69 v71 v83} {x : Img} {a b : ℕ → EReal} (hb : ∀ o : Fin 32, v69 (ix3 o 0 0) = b o)
    (ha : ∀ o : Fin 32, v71 (ix3 o 0 0) = a o) (hx : ∀ (o : Fin 32) (y z : Fin 40), v83 (ix3 o y z) = x o y z)
    (o : Fin 32) (y z : Fin 40) :
    k1_pay5 (F := Ideal) (k1_pay2 v69) (k1_pay3 v71) v83 (ix3 o y z) = prelu a (fun o y z => x o y z + b o) o y z := by
  pointwise [k1_pay5, k1_pay2, k1_pay3]
  simp only [ha, hb, hx]; rfl

/-- The blocks of a grid point, read as the picture and the network's numbers. -/
structure Reads1 (N : Net) (x : Img) (x0 : Vec Ideal S1x3x90x90 .f32) (x1 : Vec Ideal S10x27 .f32)
    (x2 x3 : Vec Ideal S10x1x1 .f32) (x4 : Vec Ideal S16x90 .f32) (x5 x6 : Vec Ideal S16x1x1 .f32)
    (x7 : Vec Ideal S32x144 .f32) (x8 x9 : Vec Ideal S32x1x1 .f32) : Prop where
  h0 : ∀ (k : Fin 3) (y z : Fin 90), x0 (ix4 0 k y z) = x k y z
  h1 : ∀ (o : Fin 10) (k : Fin 27), x1 (ix2 o k) = N.w1 o (k % 3) (k / 3 / 3) (k / 3 % 3)
  h2 : ∀ o : Fin 10, x2 (ix3 o 0 0) = N.b1 o
  h3 : ∀ o : Fin 10, x3 (ix3 o 0 0) = N.a1 o
  h4 : ∀ (o : Fin 16) (k : Fin 90), x4 (ix2 o k) = N.w2 o (k % 10) (k / 10 / 3) (k / 10 % 3)
  h5 : ∀ o : Fin 16, x5 (ix3 o 0 0) = N.b2 o
  h6 : ∀ o : Fin 16, x6 (ix3 o 0 0) = N.a2 o
  h7 : ∀ (o : Fin 32) (k : Fin 144), x7 (ix2 o k) = N.w3 o (k % 16) (k / 16 / 3) (k / 16 % 3)
  h8 : ∀ o : Fin 32, x8 (ix3 o 0 0) = N.b3 o
  h9 : ∀ o : Fin 32, x9 (ix3 o 0 0) = N.a3 o

theorem Reads1.feat {N : Net} {x : Img} {x0 x1 x2 x3 x4 x5 x6 x7 x8 x9}
    (h : Reads1 N x x0 x1 x2 x3 x4 x5 x6 x7 x8 x9) (o : Fin 32) (y z : Fin 40) :
    k1_pay5 (F := Ideal) (k1_pay2 x8) (k1_pay3 x9) (k1_pay4 (k1_pay1 x0 x1 x2 x3) x4 x5 x6 x7) (ix3 o y z) =
      N.feat x o y z :=
  k1_act3_at h.h8 h.h9 (k1_lin3_at (k1_act2_at h.h6 (k1_lin2_at
    (k1_pool_at (k1_act1_at h.h3 (k1_lin1_at h.h0 h.h1 h.h2))) h.h4 h.h5)) h.h7) o y z

/-- The score block of a grid point. -/
theorem Reads1.score {N : Net} {x : Img} {x0 x1 x2 x3 x4 x5 x6 x7 x8 x9 x10 x11}
    (h : Reads1 N x x0 x1 x2 x3 x4 x5 x6 x7 x8 x9) (hw : ∀ (o : Fin 2) (k : Fin 32), x10 (ix2 o k) = N.w41 o k)
    (hb : ∀ o : Fin 2, x11 (ix3 o 0 0) = N.b41 o) (y z : Fin 40) :
    k1_pay12 (F := Ideal) (k1_pay6 (k1_pay2 x8) (k1_pay3 x9) (k1_pay4 (k1_pay1 x0 x1 x2 x3) x4 x5 x6 x7)
      x10 x11) (ix3 0 y z) = N.score x y z := by
  pointwise [k1_pay12, k1_pay6]
  simp only [h.feat, hw, hb]; rfl

/-- The box block of a grid point. -/
theorem Reads1.box {N : Net} {x : Img} {x0 x1 x2 x3 x4 x5 x6 x7 x8 x9 x12 x13}
    (h : Reads1 N x x0 x1 x2 x3 x4 x5 x6 x7 x8 x9) (hw : ∀ (o : Fin 4) (k : Fin 32), x12 (ix2 o k) = N.w42 o k)
    (hb : ∀ o : Fin 4, x13 (ix3 o 0 0) = N.b42 o) (q : Fin 4) (y z : Fin 40) :
    k1_pay13 (F := Ideal) (k1_pay7 (k1_pay2 x8) (k1_pay3 x9) (k1_pay4 (k1_pay1 x0 x1 x2 x3) x4 x5 x6 x7)
      x12 x13) k1_pay8 k1_pay9 k1_pay10 k1_pay11 (Named.named κ "inv_0177" 0x40B4CA7C#32 : Ideal FTy.f32) (ix4 0 q y z) =
      N.box x ((Named.named κ "inv_0177" 0x40B4CA7C#32 : Ideal FTy.f32)) q y z := by
  pointwise [k1_pay13, k1_pay7, k1_pay8, k1_pay9, k1_pay10, k1_pay11]
  have w0 : ∀ k : Fin 32, x12 (ix2 0 k) = N.w42 0 k := hw 0
  have w1 : ∀ k : Fin 32, x12 (ix2 1 k) = N.w42 1 k := hw 1
  have w2 : ∀ k : Fin 32, x12 (ix2 2 k) = N.w42 2 k := hw 2
  have w3 : ∀ k : Fin 32, x12 (ix2 3 k) = N.w42 3 k := hw 3
  have b0 : x13 (ix3 0 0 0) = N.b42 0 := hb 0
  have b1 : x13 (ix3 1 0 0) = N.b42 1 := hb 1
  have b2 : x13 (ix3 2 0 0) = N.b42 2 := hb 2
  have b3 : x13 (ix3 3 0 0) = N.b42 3 := hb 3
  simp only [h.feat, w0, w1, w2, w3, b0, b1, b2, b3, dite_eq_ite, Net.box, corner, edge, Net.reg, conv1]

end Cert.Value

end
-- ==== Proof.Value.Out1.lean ====
/- Region 1's result arrays: the scores and boxes of the second scale. -/
module

public import proofs.«01_k».proof.Proof.Ideal.Region1
public import proofs.«01_k».proof.Proof.Value.Kern1
public import proofs.«01_k».proof.Proof.Value.Weights
public import Idealize.ShloMosaic.Lib.Pipeline.ValueKit

@[expose] public section

set_option maxRecDepth 16384
set_option maxHeartbeats 1000000

noncomputable section

namespace Cert.Value

open Idealize.ShloMosaic Idealize.ShloMosaic.TcCoe Idealize.SL.Sem Idealize.ShloMosaic.Pipeline
open Cert.KernelIdeal Cert.KernelIdeal.Gen Cert.KernelIdeal.Own

section
variable {W : Dev nD → Valuation τ sig (Elt Ideal)} {N : Net} {x : ℕ → Img} {c : Dev nD} (hw : Weights (W c) N)
  (hx : ∀ (n : Fin 4) (k : Fin 3) (y z : Fin 90), W c (Proc.devRef .tc main_v134) (ix4 n k y z) = x n k y z)

theorem index1_0 : ∀ t : Fin cfg1.N, win1_0.index t = ![t.val, 0, 0, 0] := (by decide +kernel : ∀ t : Fin grid1.N, _)
theorem index1_14 : ∀ t : Fin cfg1.N, win1_14.index t = ![t.val, 0, 0] := (by decide +kernel : ∀ t : Fin grid1.N, _)
theorem index1_15 : ∀ t : Fin cfg1.N, win1_15.index t = ![t.val, 0, 0, 0] := (by decide +kernel : ∀ t : Fin grid1.N, _)

/-- The weights' windows are the whole arrays at every grid point. -/
theorem whole1 : ∀ t : Fin cfg1.N, win1_1.index t = ![0, 0] ∧ win1_2.index t = ![0, 0, 0] ∧ win1_3.index t = ![0, 0, 0] ∧ win1_4.index t = ![0, 0] ∧ win1_5.index t = ![0, 0, 0] ∧ win1_6.index t = ![0, 0, 0] ∧ win1_7.index t = ![0, 0] ∧ win1_8.index t = ![0, 0, 0] ∧ win1_9.index t = ![0, 0, 0] ∧ win1_10.index t = ![0, 0] ∧ win1_11.index t = ![0, 0, 0] ∧ win1_12.index t = ![0, 0] ∧ win1_13.index t = ![0, 0, 0] :=
  (by decide +kernel : ∀ t : Fin grid1.N, _)

theorem blk1_1 (t : Fin cfg1.N) (o : Fin 10) (k : Fin 27) : iblk1 (fun c b => W c b) c 1 t (ix2 o k) = W c (Proc.devRef .tc main_v5) (ix2 o k) := by
  have e := (whole1 t).1
  blk_simp [iblk1]
  refine congrArg (W c (Proc.devRef .tc main_v5)) ?_
  blk_ext [e]

theorem blk1_2 (t : Fin cfg1.N) (o : Fin 10) : iblk1 (fun c b => W c b) c 2 t (ix3 o 0 0) = W c (Proc.devRef .tc main_v12) (ix3 o 0 0) := by
  have e := (whole1 t).2.1
  blk_simp [iblk1]
  refine congrArg (W c (Proc.devRef .tc main_v12)) ?_
  blk_ext [e]

theorem blk1_3 (t : Fin cfg1.N) (o : Fin 10) : iblk1 (fun c b => W c b) c 3 t (ix3 o 0 0) = W c (Proc.devRef .tc main_v13) (ix3 o 0 0) := by
  have e := (whole1 t).2.2.1
  blk_simp [iblk1]
  refine congrArg (W c (Proc.devRef .tc main_v13)) ?_
  blk_ext [e]

theorem blk1_4 (t : Fin cfg1.N) (o : Fin 16) (k : Fin 90) : iblk1 (fun c b => W c b) c 4 t (ix2 o k) = W c (Proc.devRef .tc main_v7) (ix2 o k) := by
  have e := (whole1 t).2.2.2.1
  blk_simp [iblk1]
  refine congrArg (W c (Proc.devRef .tc main_v7)) ?_
  blk_ext [e]

theorem blk1_5 (t : Fin cfg1.N) (o : Fin 16) : iblk1 (fun c b => W c b) c 5 t (ix3 o 0 0) = W c (Proc.devRef .tc main_v14) (ix3 o 0 0) := by
  have e := (whole1 t).2.2.2.2.1
  blk_simp [iblk1]
  refine congrArg (W c (Proc.devRef .tc main_v14)) ?_
  blk_ext [e]

theorem blk1_6 (t : Fin cfg1.N) (o : Fin 16) : iblk1 (fun c b => W c b) c 6 t (ix3 o 0 0) = W c (Proc.devRef .tc main_v15) (ix3 o 0 0) := by
  have e := (whole1 t).2.2.2.2.2.1
  blk_simp [iblk1]
  refine congrArg (W c (Proc.devRef .tc main_v15)) ?_
  blk_ext [e]

theorem blk1_7 (t : Fin cfg1.N) (o : Fin 32) (k : Fin 144) : iblk1 (fun c b => W c b) c 7 t (ix2 o k) = W c (Proc.devRef .tc main_v9) (ix2 o k) := by
  have e := (whole1 t).2.2.2.2.2.2.1
  blk_simp [iblk1]
  refine congrArg (W c (Proc.devRef .tc main_v9)) ?_
  blk_ext [e]

theorem blk1_8 (t : Fin cfg1.N) (o : Fin 32) : iblk1 (fun c b => W c b) c 8 t (ix3 o 0 0) = W c (Proc.devRef .tc main_v16) (ix3 o 0 0) := by
  have e := (whole1 t).2.2.2.2.2.2.2.1
  blk_simp [iblk1]
  refine congrArg (W c (Proc.devRef .tc main_v16)) ?_
  blk_ext [e]

theorem blk1_9 (t : Fin cfg1.N) (o : Fin 32) : iblk1 (fun c b => W c b) c 9 t (ix3 o 0 0) = W c (Proc.devRef .tc main_v17) (ix3 o 0 0) := by
  have e := (whole1 t).2.2.2.2.2.2.2.2.1
  blk_simp [iblk1]
  refine congrArg (W c (Proc.devRef .tc main_v17)) ?_
  blk_ext [e]

theorem blk1_10 (t : Fin cfg1.N) (o : Fin 2) (k : Fin 32) : iblk1 (fun c b => W c b) c 10 t (ix2 o k) = W c (Proc.devRef .tc main_v10) (ix2 o k) := by
  have e := (whole1 t).2.2.2.2.2.2.2.2.2.1
  blk_simp [iblk1]
  refine congrArg (W c (Proc.devRef .tc main_v10)) ?_
  blk_ext [e]

theorem blk1_11 (t : Fin cfg1.N) (o : Fin 2) : iblk1 (fun c b => W c b) c 11 t (ix3 o 0 0) = W c (Proc.devRef .tc main_v18) (ix3 o 0 0) := by
  have e := (whole1 t).2.2.2.2.2.2.2.2.2.2.1
  blk_simp [iblk1]
  refine congrArg (W c (Proc.devRef .tc main_v18)) ?_
  blk_ext [e]

theorem blk1_12 (t : Fin cfg1.N) (o : Fin 4) (k : Fin 32) : iblk1 (fun c b => W c b) c 12 t (ix2 o k) = W c (Proc.devRef .tc main_v11) (ix2 o k) := by
  have e := (whole1 t).2.2.2.2.2.2.2.2.2.2.2.1
  blk_simp [iblk1]
  refine congrArg (W c (Proc.devRef .tc main_v11)) ?_
  blk_ext [e]

theorem blk1_13 (t : Fin cfg1.N) (o : Fin 4) : iblk1 (fun c b => W c b) c 13 t (ix3 o 0 0) = W c (Proc.devRef .tc main_v19) (ix3 o 0 0) := by
  have e := (whole1 t).2.2.2.2.2.2.2.2.2.2.2.2
  blk_simp [iblk1]
  refine congrArg (W c (Proc.devRef .tc main_v19)) ?_
  blk_ext [e]

include hx in
theorem blk1_0 (t : Fin cfg1.N) (k : Fin 3) (y z : Fin 90) : iblk1 (fun c b => W c b) c 0 t (ix4 0 k y z) = x t k y z := by
  have e := index1_0 t
  refine Eq.trans ?_ (hx t k y z)
  blk_simp [iblk1]
  refine congrArg (W c (Proc.devRef .tc main_v134)) ?_
  blk_ext [e]

include hw hx

/-- A grid point's blocks. -/
theorem reads1 (t : Fin cfg1.N) : Reads1 N (x t) (iblk1 (fun c b => W c b) c 0 t) (iblk1 (fun c b => W c b) c 1 t)
    (iblk1 (fun c b => W c b) c 2 t) (iblk1 (fun c b => W c b) c 3 t) (iblk1 (fun c b => W c b) c 4 t) (iblk1 (fun c b => W c b) c 5 t)
    (iblk1 (fun c b => W c b) c 6 t) (iblk1 (fun c b => W c b) c 7 t) (iblk1 (fun c b => W c b) c 8 t) (iblk1 (fun c b => W c b) c 9 t) where
  h0 := blk1_0 hx t
  h1 o k := (blk1_1 t o k).trans (hw.h1 o k)
  h2 o := (blk1_2 t o).trans (hw.h2 o)
  h3 o := (blk1_3 t o).trans (hw.h3 o)
  h4 o k := (blk1_4 t o k).trans (hw.h4 o k)
  h5 o := (blk1_5 t o).trans (hw.h5 o)
  h6 o := (blk1_6 t o).trans (hw.h6 o)
  h7 o k := (blk1_7 t o k).trans (hw.h7 o k)
  h8 o := (blk1_8 t o).trans (hw.h8 o)
  h9 o := (blk1_9 t o).trans (hw.h9 o)

/-- The scores. -/
theorem score1 (n : Fin 4) (y z : Fin 40) :
    (dat1 (fun c b => W c b) c).arrAt 14 cfg1.N (ix3 n y z) = N.score (x n) y z := by
  refine congrFun (((dat1 (fun c b => W c b) c)).arrAt_eq_of_covers 14 (fun i : S4x40x40.Idx => N.score (x (i 0)) (i 1) (i 2))
    (by decide +kernel) fun t hf y => ?_) (ix3 n y z)
  have e := index1_14 t
  blk_simp [e]
  rw [after1_14]
  unfold out1_14 k1_pay14 k1_pay15 k1_pay16
  frame_out
  have key : ∀ u : S1x40x40.Idx, u = ix3 (0 : Fin 1) (u 1 : Fin 40) (u 2 : Fin 40) := fun u => by
    funext k
    fin_cases k
    · exact Subsingleton.elim (α := Fin 1) _ _
    · rfl
    · rfl
  refine (congrArg _ (key y)).trans (((reads1 hw hx t).score (fun o k => (blk1_10 t o k).trans (hw.h10 o k)) (fun o => (blk1_11 t o).trans (hw.h11 o)) (y 1) (y 2)).trans ?_)
  simp

/-- The boxes. -/
theorem box1 (n : Fin 4) (q : Fin 4) (y z : Fin 40) :
    (dat1 (fun c b => W c b) c).arrAt 15 cfg1.N (ix4 n q y z) = N.box (x n) (Named.named κ "inv_0177" 0x40B4CA7C#32 : Ideal FTy.f32) q y z := by
  refine congrFun (((dat1 (fun c b => W c b) c)).arrAt_eq_of_covers 15 (fun i : S4x4x40x40.Idx => N.box (x (i 0)) (Named.named κ "inv_0177" 0x40B4CA7C#32 : Ideal FTy.f32) (i 1) (i 2) (i 3))
    (by decide +kernel) fun t hf y => ?_) (ix4 n q y z)
  have e := index1_15 t
  blk_simp [e]
  rw [after1_15]
  unfold out1_15 k1_pay14 k1_pay15 k1_pay16
  frame_out
  have key : ∀ u : S1x4x40x40.Idx, u = ix4 (0 : Fin 1) (u 1 : Fin 4) (u 2 : Fin 40) (u 3 : Fin 40) := fun u => by
    funext k
    fin_cases k
    · exact Subsingleton.elim (α := Fin 1) _ _
    · rfl
    · rfl
    · rfl
  refine (congrArg _ (key y)).trans (((reads1 hw hx t).box (fun o k => (blk1_12 t o k).trans (hw.h12 o k)) (fun o => (blk1_13 t o).trans (hw.h13 o)) (y 1) (y 2) (y 3)).trans ?_)
  simp

end

end Cert.Value

end
-- ==== Proof.Value.Ref1.lean ====
/- The network of the reference at scale 1: each layer read at an index. -/
module

public import proofs.«01_k».proof.Proof.Value.Args
public import proofs.«01_k».proof.Proof.Value.Pool
public import proofs.«01_k».proof.Proof.Value.Softmax

@[expose] public section

set_option maxRecDepth 16384
set_option maxHeartbeats 4000000

noncomputable section

namespace Cert.Value

open Idealize.ShloMosaic Cert.ReferenceIdeal Cert.ReferenceIdeal.Gen Cert.ReferenceIdeal.Step

variable (p : Args) (n : Fin 4)

theorem r1_lin1 {x : Img} (hx : ∀ (k : Fin 3) (y z : Fin 90), ap A_main_v389 p (ix4 n k y z) = x k y z)
    (o : Fin 10) (y z : Fin 88) : ap A_main_v447 p (ix4 n o y z) = conv 3 p.net.w1 p.net.b1 x o y z := by
  simp only [ap] at hx ⊢
  pointwise [
    A_main_v447, A_main_v444, A_main_v438, A_main_v432, A_main_v426, A_main_v420, A_main_v414, A_main_v408,
    A_main_v402, A_main_v396, K_main_v395, K_main_cst_56, A_main_v394, A_main_v393, A_main_v392, A_main_v391,
    A_main_v390, A_main_v401, A_main_v400, A_main_v399, A_main_v398, A_main_v397, A_main_v407, A_main_v406,
    A_main_v405, A_main_v404, A_main_v403, A_main_v413, A_main_v412, A_main_v411, A_main_v410, A_main_v409,
    A_main_v419, A_main_v418, A_main_v417, A_main_v416, A_main_v415, A_main_v425, A_main_v424, A_main_v423,
    A_main_v422, A_main_v421, A_main_v431, A_main_v430, A_main_v429, A_main_v428, A_main_v427, A_main_v437,
    A_main_v436, A_main_v435, A_main_v434, A_main_v433, A_main_v443, A_main_v442, A_main_v441, A_main_v440,
    A_main_v439, A_main_v446, A_main_v445]
  simp only [hx, p.w1_at, p.b1_at]
  exact conv_of_sums 3 p.net.w1 p.net.b1 x o y z

theorem r1_act1 {x : Img} (hx : ∀ (o : Fin 10) (y z : Fin 88), ap A_main_v447 p (ix4 n o y z) = x o y z)
    (o : Fin 10) (y z : Fin 88) : ap A_main_v453 p (ix4 n o y z) = prelu p.net.a1 x o y z := by
  simp only [ap] at hx ⊢
  pointwise [
    A_main_v453, A_main_v449, K_main_v448, K_main_cst_57, A_main_v452, A_main_v451, A_main_v450]
  simp only [hx, p.a1_at]; rfl

theorem r1_pool {x : Img} (hx : ∀ (o : Fin 10) (y z : Fin 88), ap A_main_v453 p (ix4 n o y z) = x o y z)
    (o : Fin 10) (y z : Fin 44) : ap A_main_v455 p (ix4 n o y z) = pool x o y z := by
  have h := reduceWindow_max (A := 4) (B := 10) (M := 88) (P := 44) (ap A_main_v453 p)
    (broadcastInDim S_ ![] bcast_S_S_ (constant (F := Ideal) S_ FTy.f32 4286578688#32))
    (by decide) (by decide) neg_inf_bits (by omega) n o y z
  simp only [hx] at h
  exact h

theorem r1_lin2 {x : Img} (hx : ∀ (k : Fin 10) (y z : Fin 44), ap A_main_v455 p (ix4 n k y z) = x k y z)
    (o : Fin 16) (y z : Fin 42) : ap A_main_v513 p (ix4 n o y z) = conv 10 p.net.w2 p.net.b2 x o y z := by
  simp only [ap] at hx ⊢
  pointwise [
    A_main_v513, A_main_v510, A_main_v504, A_main_v498, A_main_v492, A_main_v486, A_main_v480, A_main_v474,
    A_main_v468, A_main_v462, K_main_v461, K_main_cst_59, A_main_v460, A_main_v459, A_main_v458, A_main_v457,
    A_main_v456, A_main_v467, A_main_v466, A_main_v465, A_main_v464, A_main_v463, A_main_v473, A_main_v472,
    A_main_v471, A_main_v470, A_main_v469, A_main_v479, A_main_v478, A_main_v477, A_main_v476, A_main_v475,
    A_main_v485, A_main_v484, A_main_v483, A_main_v482, A_main_v481, A_main_v491, A_main_v490, A_main_v489,
    A_main_v488, A_main_v487, A_main_v497, A_main_v496, A_main_v495, A_main_v494, A_main_v493, A_main_v503,
    A_main_v502, A_main_v501, A_main_v500, A_main_v499, A_main_v509, A_main_v508, A_main_v507, A_main_v506,
    A_main_v505, A_main_v512, A_main_v511]
  simp only [hx, p.w2_at, p.b2_at]
  exact conv_of_sums 10 p.net.w2 p.net.b2 x o y z

theorem r1_act2 {x : Img} (hx : ∀ (o : Fin 16) (y z : Fin 42), ap A_main_v513 p (ix4 n o y z) = x o y z)
    (o : Fin 16) (y z : Fin 42) : ap A_main_v519 p (ix4 n o y z) = prelu p.net.a2 x o y z := by
  simp only [ap] at hx ⊢
  pointwise [
    A_main_v519, A_main_v515, K_main_v514, K_main_cst_60, A_main_v518, A_main_v517, A_main_v516]
  simp only [hx, p.a2_at]; rfl

theorem r1_lin3 {x : Img} (hx : ∀ (k : Fin 16) (y z : Fin 42), ap A_main_v519 p (ix4 n k y z) = x k y z)
    (o : Fin 32) (y z : Fin 40) : ap A_main_v577 p (ix4 n o y z) = conv 16 p.net.w3 p.net.b3 x o y z := by
  simp only [ap] at hx ⊢
  pointwise [
    A_main_v577, A_main_v574, A_main_v568, A_main_v562, A_main_v556, A_main_v550, A_main_v544, A_main_v538,
    A_main_v532, A_main_v526, K_main_v525, K_main_cst_61, A_main_v524, A_main_v523, A_main_v522, A_main_v521,
    A_main_v520, A_main_v531, A_main_v530, A_main_v529, A_main_v528, A_main_v527, A_main_v537, A_main_v536,
    A_main_v535, A_main_v534, A_main_v533, A_main_v543, A_main_v542, A_main_v541, A_main_v540, A_main_v539,
    A_main_v549, A_main_v548, A_main_v547, A_main_v546, A_main_v545, A_main_v555, A_main_v554, A_main_v553,
    A_main_v552, A_main_v551, A_main_v561, A_main_v560, A_main_v559, A_main_v558, A_main_v557, A_main_v567,
    A_main_v566, A_main_v565, A_main_v564, A_main_v563, A_main_v573, A_main_v572, A_main_v571, A_main_v570,
    A_main_v569, A_main_v576, A_main_v575]
  simp only [hx, p.w3_at, p.b3_at]
  exact conv_of_sums 16 p.net.w3 p.net.b3 x o y z

theorem r1_act3 {x : Img} (hx : ∀ (o : Fin 32) (y z : Fin 40), ap A_main_v577 p (ix4 n o y z) = x o y z)
    (o : Fin 32) (y z : Fin 40) : ap A_main_v583 p (ix4 n o y z) = prelu p.net.a3 x o y z := by
  simp only [ap] at hx ⊢
  pointwise [
    A_main_v583, A_main_v579, K_main_v578, K_main_cst_62, A_main_v582, A_main_v581, A_main_v580]
  simp only [hx, p.a3_at]; rfl

theorem r1_feat {x : Img} (hx : ∀ (k : Fin 3) (y z : Fin 90), ap A_main_v389 p (ix4 n k y z) = x k y z) (o : Fin 32)
    (y z : Fin 40) : ap A_main_v583 p (ix4 n o y z) = p.net.feat x o y z :=
  r1_act3 p n (r1_lin3 p n (r1_act2 p n (r1_lin2 p n (r1_pool p n (r1_act1 p n (r1_lin1 p n hx)))))) o y z

theorem r1_logit {x : Img} (hx : ∀ (k : Fin 3) (y z : Fin 90), ap A_main_v389 p (ix4 n k y z) = x k y z) (o : Fin 2)
    (y z : Fin 40) : ap A_main_v591 p (ix4 n o y z) = p.net.logit x o y z := by
  have h := r1_feat p n hx
  simp only [ap] at h ⊢
  pointwise [
    A_main_v591, A_main_v588, K_main_v587, K_main_cst_63, A_main_v586, A_main_v585, A_main_v584, A_main_v590,
    A_main_v589]
  simp only [h, p.w41_at, p.b41_at, mul_comm (p.net.feat _ _ _ _)]; rfl

theorem r1_reg {x : Img} (hx : ∀ (k : Fin 3) (y z : Fin 90), ap A_main_v389 p (ix4 n k y z) = x k y z) (o : Fin 4)
    (y z : Fin 40) : ap A_main_v610 p (ix4 n o y z) = p.net.reg x o y z := by
  have h := r1_feat p n hx
  simp only [ap] at h ⊢
  pointwise [
    A_main_v610, A_main_v607, K_main_v606, K_main_cst_67, A_main_v605, A_main_v604, A_main_v603, A_main_v609,
    A_main_v608]
  simp only [h, p.w42_at, p.b42_at, mul_comm (p.net.feat _ _ _ _)]; rfl

/-- The scores of the reference at this scale: where the logits are numbers, the logistic of their difference. -/
theorem r1_score {x : Img} (hx : ∀ (k : Fin 3) (y z : Fin 90), ap A_main_v389 p (ix4 n k y z) = x k y z)
    (hr : ∀ o y z, IsReal (p.net.logit x o y z)) (j : Fin 1600) :
    ap A_main_v681 p (ix2 n j) = p.net.score x (j / 40) (j % 40) := by
  have h := r1_logit p n hx
  simp only [ap] at h ⊢
  pointwise [
    A_main_v681, A_main_v612, A_main_v611, A_main_v602, A_main_v598, A_main_v597, A_main_v596, A_main_v595,
    A_main_v594, K_main_v593, K_main_cst_65, A_main_v592, K_main_cst_64, A_main_v601, A_main_v600, A_main_v599,
    K_main_cst_66]
  simp only [h]
  exact softmax_two (fun o => p.net.logit x o (j / 40) (j % 40)) (hr 0 _ _) (hr 1 _ _)

/-- The boxes of the reference at this scale. -/
theorem r1_box {x : Img} (hx : ∀ (k : Fin 3) (y z : Fin 90), ap A_main_v389 p (ix4 n k y z) = x k y z) {inv : EReal}
    (hi : ∀ v : EReal, Ideal.div v (Ideal.ofBits FTy.f32 1043677053#32) = v * inv) (j : Fin 1600) (q : Fin 4) :
    ap A_main_v680 p (ix3 n j q) = p.net.box x inv q (j / 40) (j % 40) := by
  have h := r1_reg p n hx
  have h0 : ∀ y z, ap A_main_v610 p (ix4 n 0 y z) = p.net.reg x 0 y z := h 0
  have h1 : ∀ y z, ap A_main_v610 p (ix4 n 1 y z) = p.net.reg x 1 y z := h 1
  have h2 : ∀ y z, ap A_main_v610 p (ix4 n 2 y z) = p.net.reg x 2 y z := h 2
  have h3 : ∀ y z, ap A_main_v610 p (ix4 n 3 y z) = p.net.reg x 3 y z := h 3
  simp only [ap] at h0 h1 h2 h3 ⊢
  pointwise [
    A_main_v680, A_main_v679, A_main_v675, A_main_v650, K_main_v649, K_main_v643, K_main_v622, K_main_v620,
    K_main_v618, K_main_v617, K_main_cst_68, K_main_v616, K_main_v614, K_main_v619, K_main_cst_69, K_main_v621,
    K_main_cst_70, A_main_v648, A_main_v645, A_main_v644, K_main_v647, K_main_v646, K_main_v641, K_main_v634,
    K_main_v632, K_main_v630, K_main_v629, K_main_cst_74, K_main_v631, K_main_cst_75, K_main_v633, K_main_cst_76,
    A_main_v676, A_main_v658, K_main_v657, K_main_v651, K_main_v628, K_main_v626, K_main_v624, K_main_v623,
    K_main_cst_71, K_main_v615, K_main_v613, K_main_v625, K_main_cst_72, K_main_v627, K_main_cst_73, A_main_v656,
    A_main_v653, A_main_v652, K_main_v655, K_main_v654, K_main_v642, K_main_v640, K_main_v638, K_main_v636,
    K_main_v635, K_main_cst_77, K_main_v637, K_main_cst_78, K_main_v639, K_main_cst_79, A_main_v677, A_main_v666,
    K_main_v665, K_main_v659, A_main_v664, A_main_v661, A_main_v660, K_main_v663, K_main_v662, A_main_v678,
    A_main_v674, K_main_v673, K_main_v667, A_main_v672, A_main_v669, A_main_v668, K_main_v671, K_main_v670]
  simp only [h0, h1, h2, h3, hi, dite_eq_ite, Net.box, corner, edge]

end Cert.Value

end
-- ==== Proof.Value.Chain1.lean ====
/- What the kernel leaves at scale 1. -/
module

public import proofs.«01_k».proof.Proof.Value.HostC
public import proofs.«01_k».proof.Proof.Value.HostI1
public import proofs.«01_k».proof.Proof.Value.Out1
public import proofs.«01_k».proof.Proof.Value.Ref1

@[expose] public section

set_option maxRecDepth 65536
set_option maxHeartbeats 1000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {m : (ℓ : Loc nD τ sig) → Buf (Elt Ideal) ℓ} {ρ : Dev nD → PrngReg} {c : Dev nD} {p : Args}

/-- The images of this scale. -/
def img1 (p : Args) : ℕ → Img := ext4 (image1 p)

theorem img1_at (n : Fin 4) (k : Fin 3) (y z : Fin 90) : ap ReferenceIdeal.Step.A_main_v389 p (ix4 n k y z) = img1 p n k y z :=
  (rimage1 n k y z).trans (ext4_val (image1 p) n k y z).symm

theorem enter1 (h : Stage (W8 m ρ c) p) : Stage (W14 m ρ c) p :=
  ((((((h.after hostOps1 hostOps1_writes (by decide +kernel)).after hostOps1_1 hostOps1_1_writes (by decide +kernel)).after hostOps1_2 hostOps1_2_writes (by decide +kernel)).after hostOps1_3 hostOps1_3_writes (by decide +kernel)).after hostOps1_4 hostOps1_4_writes (by decide +kernel)).after hostOps1_5 hostOps1_5_writes (by decide +kernel))

theorem enter1_img (h : Stage (W14 m ρ c) p) (n : Fin 4) (k : Fin 3) (y z : Fin 90) :
    W15 m ρ c (Proc.devRef .tc main_v134) (ix4 n k y z) = img1 p n k y z :=
  (kimage1 h.img weight1 n k y z).trans (ext4_val (image1 p) n k y z).symm

theorem ready1 (h : Stage (W14 m ρ c) p) : Stage (W15 m ρ c) p := h.after hostOps1_6 hostOps1_6_writes (by decide +kernel)

theorem leave1 (h : Stage (W15 m ρ c) p) : Stage (W16 m ρ c) p :=
  h.keep fun r hr => W16_of m ρ c r ((by decide +kernel : ∀ r ∈ keptRefs, ∀ w : Fin cfg1.W, Pipeline.arrRef spec1 w = r → (cfg1.win w).isOut = false) r hr)

theorem leave1_score (h : Stage (W14 m ρ c) p) (n : Fin 4) (y z : Fin 40) :
    W16 m ρ c (Proc.devRef .tc main_v135_0) (ix3 n y z) = p.net.score (img1 p n) y z :=
  (congrFun (W16_arr m ρ c 14) (ix3 n y z)).trans (score1 (ready1 h).weights (enter1_img h) n y z)

theorem leave1_box (h : Stage (W14 m ρ c) p) (n q : Fin 4) (y z : Fin 40) :
    W16 m ρ c (Proc.devRef .tc main_v135_1) (ix4 n q y z) = p.net.box (img1 p n) (Named.named κ "inv_0177" 0x40B4CA7C#32 : Ideal FTy.f32) q y z :=
  (congrFun (W16_arr m ρ c 15) (ix4 n q y z)).trans (box1 (ready1 h).weights (enter1_img h) n q y z)

/-- The scores of this scale in one row, as the reference has them. -/
theorem row1_score (h : Stage (W14 m ρ c) p) (hr : ∀ (n : Fin 4) o y z, IsReal (p.net.logit (img1 p n) o y z)) (n : Fin 4) (j : Fin 1600) :
    W17 m ρ c (Proc.devRef .tc main_v136) (ix2 n j) = ap ReferenceIdeal.Step.A_main_v681 p (ix2 n j) := by
  rw [r1_score p n (img1_at n) (hr n) j]
  have e := leave1_score h n
  after_reads_simp
  generalize W16 m ρ c = V at e ⊢
  pointwise
  simp only [e]

/-- The boxes of this scale in one row, as the reference has them. -/
theorem row1_box (h : Stage (W14 m ρ c) p) (hi : ∀ v : EReal, Ideal.div v (Ideal.ofBits FTy.f32 1043677053#32) = v * (Named.named κ "inv_0177" 0x40B4CA7C#32 : Ideal FTy.f32)) (n q : Fin 4) (j : Fin 1600) :
    W17 m ρ c (Proc.devRef .tc main_v137) (ix3 n q j) = ap ReferenceIdeal.Step.A_main_v680 p (ix3 n j q) := by
  rw [r1_box p n (img1_at n) hi j q]
  have e := leave1_box h n q
  after_reads_simp
  generalize W16 m ρ c = V at e ⊢
  pointwise
  simp only [e]

end Cert.Value

end
-- ==== Proof.Value.Kern2.lean ====
/- The network of the kernel at scale 2: what each grid point computes from its blocks. -/
module

public import proofs.«01_k».proof.Proof.Gen.KernelIdeal.Skeleton
public import proofs.«01_k».proof.Proof.Value.Spec

@[expose] public section

set_option maxRecDepth 16384
set_option maxHeartbeats 4000000

noncomputable section

namespace Cert.Value

open Idealize.ShloMosaic Cert.KernelIdeal Cert.KernelIdeal.Gen

/-- The first convolution before its rectifier. -/
def k2_lin1 (v0 : Vec Ideal S1x3x64x64 .f32) (v2 : Vec Ideal S10x27 .f32) (v4 : Vec Ideal S10x1x1 .f32) :
    FVec Ideal S10x62x62 .f32 :=
  have v1 : FVec Ideal S3x64x64 .f32 := shapeCast S3x64x64 v0 shapeCasts_S1x3x64x64_S3x64x64
  have v3 : FVec Ideal S10x27 .f32 := shapeCast S10x27 v2 shapeCasts_S10x27_S10x27
  have v5 : FVec Ideal S10x1x1 .f32 := shapeCast S10x1x1 v4 shapeCasts_S10x1x1_S10x1x1
  have v8 : FVec Ideal S3x62x62 .f32 := extractStridedSlice S3x62x62 ![0, 0, 0] v1 slices_S3x64x64_o0_0_0_S3x62x62
  have v9 : FVec Ideal S3x62x62 .f32 := extractStridedSlice S3x62x62 ![0, 0, 1] v1 slices_S3x64x64_o0_0_1_S3x62x62
  have v10 : FVec Ideal S3x62x62 .f32 := extractStridedSlice S3x62x62 ![0, 0, 2] v1 slices_S3x64x64_o0_0_2_S3x62x62
  have v11 : FVec Ideal S3x62x62 .f32 := extractStridedSlice S3x62x62 ![0, 1, 0] v1 slices_S3x64x64_o0_1_0_S3x62x62
  have v12 : FVec Ideal S3x62x62 .f32 := extractStridedSlice S3x62x62 ![0, 1, 1] v1 slices_S3x64x64_o0_1_1_S3x62x62
  have v13 : FVec Ideal S3x62x62 .f32 := extractStridedSlice S3x62x62 ![0, 1, 2] v1 slices_S3x64x64_o0_1_2_S3x62x62
  have v14 : FVec Ideal S3x62x62 .f32 := extractStridedSlice S3x62x62 ![0, 2, 0] v1 slices_S3x64x64_o0_2_0_S3x62x62
  have v15 : FVec Ideal S3x62x62 .f32 := extractStridedSlice S3x62x62 ![0, 2, 1] v1 slices_S3x64x64_o0_2_1_S3x62x62
  have v16 : FVec Ideal S3x62x62 .f32 := extractStridedSlice S3x62x62 ![0, 2, 2] v1 slices_S3x64x64_o0_2_2_S3x62x62
  have v17 : FVec Ideal S27x62x62 .f32 := concatenate S27x62x62 0 [⟨S3x62x62, v8⟩, ⟨S3x62x62, v9⟩, ⟨S3x62x62, v10⟩, ⟨S3x62x62, v11⟩, ⟨S3x62x62, v12⟩, ⟨S3x62x62, v13⟩, ⟨S3x62x62, v14⟩, ⟨S3x62x62, v15⟩, ⟨S3x62x62, v16⟩] concatenates_S3x62x62_S3x62x62_S3x62x62_S3x62x62_S3x62x62_S3x62x62_S3x62x62_S3x62x62_S3x62x62_S27x62x62_d0
  have cst : FVec Ideal S10x62x62 .f32 := constant S10x62x62 .f32 0x00000000#32
  have v18 : FVec Ideal S10x62x62 .f32 := matmul dot_S10x27_S27x62x62_S10x62x62_1_0_0_12_n_n none v3 v17 cst
  have v19 : FVec Ideal S10x62x62 .f32 := broadcastTo S10x62x62 v5 broadcasts_S10x1x1_S10x62x62
  have v20 : FVec Ideal S10x62x62 .f32 := addf v18 v19
  v20

/-- The first rectifier. -/
def k2_act1 (v6 : Vec Ideal S10x1x1 .f32) (v20 : FVec Ideal S10x62x62 .f32) : FVec Ideal S10x62x62 .f32 :=
  have v7 : FVec Ideal S10x1x1 .f32 := shapeCast S10x1x1 v6 shapeCasts_S10x1x1_S10x1x1
  have cst_11 : Ideal .f32 := Scalar.ofBits .f32 0x00000000#32
  have v21 : FVec Ideal S10x62x62 .f32 := broadcast S10x62x62 cst_11
  have v22 : IVec S10x62x62 1 := cmpf .ogt v20 v21
  have v23 : FVec Ideal S10x62x62 .f32 := broadcastTo S10x62x62 v7 broadcasts_S10x1x1_S10x62x62
  have v24 : FVec Ideal S10x62x62 .f32 := mulf v23 v20
  have v25 : FVec Ideal S10x62x62 .f32 := select v22 v20 v24
  v25

/-- The maximum over pairs of rows and of neighbouring columns. -/
def k2_max (v25 : FVec Ideal S10x62x62 .f32) : FVec Ideal S10x31x61 .f32 :=
  have v26 : FVec Ideal S10x31x2x62 .f32 := shapeCast S10x31x2x62 v25 shapeCasts_S10x62x62_S10x31x2x62
  have v27 : FVec Ideal S10x31x1x62 .f32 := extractStridedSlice S10x31x1x62 ![0, 0, 0, 0] v26 slices_S10x31x2x62_o0_0_0_0_S10x31x1x62
  have v28 : FVec Ideal S10x31x62 .f32 := shapeCast S10x31x62 v27 shapeCasts_S10x31x1x62_S10x31x62
  have v29 : FVec Ideal S10x31x1x62 .f32 := extractStridedSlice S10x31x1x62 ![0, 0, 1, 0] v26 slices_S10x31x2x62_o0_0_1_0_S10x31x1x62
  have v30 : FVec Ideal S10x31x62 .f32 := shapeCast S10x31x62 v29 shapeCasts_S10x31x1x62_S10x31x62
  have v31 : FVec Ideal S10x31x62 .f32 := maximumf v28 v30
  have v32 : FVec Ideal S10x31x61 .f32 := extractStridedSlice S10x31x61 ![0, 0, 0] v31 slices_S10x31x62_o0_0_0_S10x31x61
  have v33 : FVec Ideal S10x31x61 .f32 := extractStridedSlice S10x31x61 ![0, 0, 1] v31 slices_S10x31x62_o0_0_1_S10x31x61
  have v34 : FVec Ideal S10x31x61 .f32 := maximumf v32 v33
  v34

/-- Every second column, by the selection matrix. -/
def k2_sel (v34 : FVec Ideal S10x31x61 .f32) : FVec Ideal S10x31x31 .f32 :=
  have v35 : IVec S61x31 32 := iota .tc S61x31 32 [0] iota_S61x31_d0_w32
  have v36 : IVec S61x31 32 := iota .tc S61x31 32 [1] iota_S61x31_d1_w32
  have v37 : IVec S61x31 32 := broadcast S61x31 2#32
  have v38 : IVec S61x31 32 := muli v37 v36
  have v39 : IVec S61x31 1 := cmpi .eq v35 v38
  have v40 : IVec S61x31 32 := extui 32 v39 natLt_1_32
  have v41 : FVec Ideal S61x31 .f32 := sitofp .f32 v40
  have cst_12 : FVec Ideal S10x31x31 .f32 := constant S10x31x31 .f32 0x00000000#32
  have v42 : FVec Ideal S10x31x31 .f32 := matmul dot_S10x31x61_S61x31_S10x31x31_2_0_01_1_n_n (some .fp32) v34 v41 cst_12
  v42

/-- The second convolution before its rectifier. -/
def k2_lin2 (v42 : FVec Ideal S10x31x31 .f32) (v43 : Vec Ideal S16x90 .f32) (v45 : Vec Ideal S16x1x1 .f32) :
    FVec Ideal S16x29x29 .f32 :=
  have v44 : FVec Ideal S16x90 .f32 := shapeCast S16x90 v43 shapeCasts_S16x90_S16x90
  have v46 : FVec Ideal S16x1x1 .f32 := shapeCast S16x1x1 v45 shapeCasts_S16x1x1_S16x1x1
  have v49 : FVec Ideal S10x29x29 .f32 := extractStridedSlice S10x29x29 ![0, 0, 0] v42 slices_S10x31x31_o0_0_0_S10x29x29
  have v50 : FVec Ideal S10x29x29 .f32 := extractStridedSlice S10x29x29 ![0, 0, 1] v42 slices_S10x31x31_o0_0_1_S10x29x29
  have v51 : FVec Ideal S10x29x29 .f32 := extractStridedSlice S10x29x29 ![0, 0, 2] v42 slices_S10x31x31_o0_0_2_S10x29x29
  have v52 : FVec Ideal S10x29x29 .f32 := extractStridedSlice S10x29x29 ![0, 1, 0] v42 slices_S10x31x31_o0_1_0_S10x29x29
  have v53 : FVec Ideal S10x29x29 .f32 := extractStridedSlice S10x29x29 ![0, 1, 1] v42 slices_S10x31x31_o0_1_1_S10x29x29
  have v54 : FVec Ideal S10x29x29 .f32 := extractStridedSlice S10x29x29 ![0, 1, 2] v42 slices_S10x31x31_o0_1_2_S10x29x29
  have v55 : FVec Ideal S10x29x29 .f32 := extractStridedSlice S10x29x29 ![0, 2, 0] v42 slices_S10x31x31_o0_2_0_S10x29x29
  have v56 : FVec Ideal S10x29x29 .f32 := extractStridedSlice S10x29x29 ![0, 2, 1] v42 slices_S10x31x31_o0_2_1_S10x29x29
  have v57 : FVec Ideal S10x29x29 .f32 := extractStridedSlice S10x29x29 ![0, 2, 2] v42 slices_S10x31x31_o0_2_2_S10x29x29
  have v58 : FVec Ideal S90x29x29 .f32 := concatenate S90x29x29 0 [⟨S10x29x29, v49⟩, ⟨S10x29x29, v50⟩, ⟨S10x29x29, v51⟩, ⟨S10x29x29, v52⟩, ⟨S10x29x29, v53⟩, ⟨S10x29x29, v54⟩, ⟨S10x29x29, v55⟩, ⟨S10x29x29, v56⟩, ⟨S10x29x29, v57⟩] concatenates_S10x29x29_S10x29x29_S10x29x29_S10x29x29_S10x29x29_S10x29x29_S10x29x29_S10x29x29_S10x29x29_S90x29x29_d0
  have cst_21 : FVec Ideal S16x29x29 .f32 := constant S16x29x29 .f32 0x00000000#32
  have v59 : FVec Ideal S16x29x29 .f32 := matmul dot_S16x90_S90x29x29_S16x29x29_1_0_0_12_n_n none v44 v58 cst_21
  have v60 : FVec Ideal S16x29x29 .f32 := broadcastTo S16x29x29 v46 broadcasts_S16x1x1_S16x29x29
  have v61 : FVec Ideal S16x29x29 .f32 := addf v59 v60
  v61

/-- The second rectifier. -/
def k2_act2 (v47 : Vec Ideal S16x1x1 .f32) (v61 : FVec Ideal S16x29x29 .f32) : FVec Ideal S16x29x29 .f32 :=
  have v48 : FVec Ideal S16x1x1 .f32 := shapeCast S16x1x1 v47 shapeCasts_S16x1x1_S16x1x1
  have cst_22 : Ideal .f32 := Scalar.ofBits .f32 0x00000000#32
  have v62 : FVec Ideal S16x29x29 .f32 := broadcast S16x29x29 cst_22
  have v63 : IVec S16x29x29 1 := cmpf .ogt v61 v62
  have v64 : FVec Ideal S16x29x29 .f32 := broadcastTo S16x29x29 v48 broadcasts_S16x1x1_S16x29x29
  have v65 : FVec Ideal S16x29x29 .f32 := mulf v64 v61
  have v66 : FVec Ideal S16x29x29 .f32 := select v63 v61 v65
  v66

/-- The nine taps of the third convolution. -/
def k2_lin3 (v67 : Vec Ideal S32x144 .f32) (v66 : FVec Ideal S16x29x29 .f32) : FVec Ideal S32x27x27 .f32 :=
  have v68 : FVec Ideal S32x144 .f32 := shapeCast S32x144 v67 shapeCasts_S32x144_S32x144
  have v73 : FVec Ideal S16x27x27 .f32 := extractStridedSlice S16x27x27 ![0, 0, 0] v66 slices_S16x29x29_o0_0_0_S16x27x27
  have v74 : FVec Ideal S16x27x27 .f32 := extractStridedSlice S16x27x27 ![0, 0, 1] v66 slices_S16x29x29_o0_0_1_S16x27x27
  have v75 : FVec Ideal S16x27x27 .f32 := extractStridedSlice S16x27x27 ![0, 0, 2] v66 slices_S16x29x29_o0_0_2_S16x27x27
  have v76 : FVec Ideal S16x27x27 .f32 := extractStridedSlice S16x27x27 ![0, 1, 0] v66 slices_S16x29x29_o0_1_0_S16x27x27
  have v77 : FVec Ideal S16x27x27 .f32 := extractStridedSlice S16x27x27 ![0, 1, 1] v66 slices_S16x29x29_o0_1_1_S16x27x27
  have v78 : FVec Ideal S16x27x27 .f32 := extractStridedSlice S16x27x27 ![0, 1, 2] v66 slices_S16x29x29_o0_1_2_S16x27x27
  have v79 : FVec Ideal S16x27x27 .f32 := extractStridedSlice S16x27x27 ![0, 2, 0] v66 slices_S16x29x29_o0_2_0_S16x27x27
  have v80 : FVec Ideal S16x27x27 .f32 := extractStridedSlice S16x27x27 ![0, 2, 1] v66 slices_S16x29x29_o0_2_1_S16x27x27
  have v81 : FVec Ideal S16x27x27 .f32 := extractStridedSlice S16x27x27 ![0, 2, 2] v66 slices_S16x29x29_o0_2_2_S16x27x27
  have v82 : FVec Ideal S144x27x27 .f32 := concatenate S144x27x27 0 [⟨S16x27x27, v73⟩, ⟨S16x27x27, v74⟩, ⟨S16x27x27, v75⟩, ⟨S16x27x27, v76⟩, ⟨S16x27x27, v77⟩, ⟨S16x27x27, v78⟩, ⟨S16x27x27, v79⟩, ⟨S16x27x27, v80⟩, ⟨S16x27x27, v81⟩] concatenates_S16x27x27_S16x27x27_S16x27x27_S16x27x27_S16x27x27_S16x27x27_S16x27x27_S16x27x27_S16x27x27_S144x27x27_d0
  have cst_31 : FVec Ideal S32x27x27 .f32 := constant S32x27x27 .f32 0x00000000#32
  have v83 : FVec Ideal S32x27x27 .f32 := matmul dot_S32x144_S144x27x27_S32x27x27_1_0_0_12_n_n none v68 v82 cst_31
  v83

theorem k2_lin1_at {v0 v2 v4} {x : Img} {w : ℕ → ℕ → ℕ → ℕ → EReal} {b : ℕ → EReal}
    (hx : ∀ (k : Fin 3) (y z : Fin 64), v0 (ix4 0 k y z) = x k y z)
    (hw : ∀ (o : Fin 10) (k : Fin 27), v2 (ix2 o k) = w o (k % 3) (k / 3 / 3) (k / 3 % 3))
    (hb : ∀ o : Fin 10, v4 (ix3 o 0 0) = b o) (o : Fin 10) (y z : Fin 62) :
    k2_lin1 v0 v2 v4 (ix3 o y z) = conv 3 w b x o y z := by
  pointwise [k2_lin1]
  simp only [hx, hw, hb, dite_eq_ite]
  exact congrArg (· + b o) (sum_col 3 w x o y z 27 rfl)

theorem k2_act1_at {v6 v20} {x : Img} {a : ℕ → EReal} (ha : ∀ o : Fin 10, v6 (ix3 o 0 0) = a o)
    (hx : ∀ (o : Fin 10) (y z : Fin 62), v20 (ix3 o y z) = x o y z) (o : Fin 10) (y z : Fin 62) :
    k2_act1 v6 v20 (ix3 o y z) = prelu a x o y z := by
  pointwise [k2_act1]
  simp only [ha, hx]; rfl

theorem k2_pool_at {v25} {x : Img} (hx : ∀ (o : Fin 10) (y z : Fin 62), v25 (ix3 o y z) = x o y z) (o : Fin 10)
    (y z : Fin 31) : k2_sel (k2_max v25) (ix3 o y z) = pool x o y z := by
  pointwise [k2_sel]
  refine (sum_select 61 z (by omega) (by omega) fun k => k2_max v25 (ix3 o y k)).trans ?_
  pointwise [k2_max]
  simp only [hx, Nat.mul_comm _ 2, Nat.add_comm 1]; rfl

theorem k2_lin2_at {v42 v43 v45} {x : Img} {w : ℕ → ℕ → ℕ → ℕ → EReal} {b : ℕ → EReal}
    (hx : ∀ (k : Fin 10) (y z : Fin 31), v42 (ix3 k y z) = x k y z)
    (hw : ∀ (o : Fin 16) (k : Fin 90), v43 (ix2 o k) = w o (k % 10) (k / 10 / 3) (k / 10 % 3))
    (hb : ∀ o : Fin 16, v45 (ix3 o 0 0) = b o) (o : Fin 16) (y z : Fin 29) :
    k2_lin2 v42 v43 v45 (ix3 o y z) = conv 10 w b x o y z := by
  pointwise [k2_lin2]
  simp only [hx, hw, hb, dite_eq_ite]
  exact congrArg (· + b o) (sum_col 10 w x o y z 90 rfl)

theorem k2_act2_at {v47 v61} {x : Img} {a : ℕ → EReal} (ha : ∀ o : Fin 16, v47 (ix3 o 0 0) = a o)
    (hx : ∀ (o : Fin 16) (y z : Fin 29), v61 (ix3 o y z) = x o y z) (o : Fin 16) (y z : Fin 29) :
    k2_act2 v47 v61 (ix3 o y z) = prelu a x o y z := by
  pointwise [k2_act2]
  simp only [ha, hx]; rfl

theorem k2_lin3_at {v67 v66} {x : Img} {w : ℕ → ℕ → ℕ → ℕ → EReal}
    (hx : ∀ (k : Fin 16) (y z : Fin 29), v66 (ix3 k y z) = x k y z)
    (hw : ∀ (o : Fin 32) (k : Fin 144), v67 (ix2 o k) = w o (k % 16) (k / 16 / 3) (k / 16 % 3)) (o : Fin 32)
    (y z : Fin 27) : k2_lin3 v67 v66 (ix3 o y z) = taps 16 w x o y z := by
  pointwise [k2_lin3]
  simp only [hx, hw, dite_eq_ite]
  exact sum_col 16 w x o y z 144 rfl

theorem k2_act3_at {v69 v71 v83} {x : Img} {a b : ℕ → EReal} (hb : ∀ o : Fin 32, v69 (ix3 o 0 0) = b o)
    (ha : ∀ o : Fin 32, v71 (ix3 o 0 0) = a o) (hx : ∀ (o : Fin 32) (y z : Fin 27), v83 (ix3 o y z) = x o y z)
    (o : Fin 32) (y z : Fin 27) :
    k2_pay5 (F := Ideal) (k2_pay2 v69) (k2_pay3 v71) v83 (ix3 o y z) = prelu a (fun o y z => x o y z + b o) o y z := by
  pointwise [k2_pay5, k2_pay2, k2_pay3]
  simp only [ha, hb, hx]; rfl

/-- The blocks of a grid point, read as the picture and the network's numbers. -/
structure Reads2 (N : Net) (x : Img) (x0 : Vec Ideal S1x3x64x64 .f32) (x1 : Vec Ideal S10x27 .f32)
    (x2 x3 : Vec Ideal S10x1x1 .f32) (x4 : Vec Ideal S16x90 .f32) (x5 x6 : Vec Ideal S16x1x1 .f32)
    (x7 : Vec Ideal S32x144 .f32) (x8 x9 : Vec Ideal S32x1x1 .f32) : Prop where
  h0 : ∀ (k : Fin 3) (y z : Fin 64), x0 (ix4 0 k y z) = x k y z
  h1 : ∀ (o : Fin 10) (k : Fin 27), x1 (ix2 o k) = N.w1 o (k % 3) (k / 3 / 3) (k / 3 % 3)
  h2 : ∀ o : Fin 10, x2 (ix3 o 0 0) = N.b1 o
  h3 : ∀ o : Fin 10, x3 (ix3 o 0 0) = N.a1 o
  h4 : ∀ (o : Fin 16) (k : Fin 90), x4 (ix2 o k) = N.w2 o (k % 10) (k / 10 / 3) (k / 10 % 3)
  h5 : ∀ o : Fin 16, x5 (ix3 o 0 0) = N.b2 o
  h6 : ∀ o : Fin 16, x6 (ix3 o 0 0) = N.a2 o
  h7 : ∀ (o : Fin 32) (k : Fin 144), x7 (ix2 o k) = N.w3 o (k % 16) (k / 16 / 3) (k / 16 % 3)
  h8 : ∀ o : Fin 32, x8 (ix3 o 0 0) = N.b3 o
  h9 : ∀ o : Fin 32, x9 (ix3 o 0 0) = N.a3 o

theorem Reads2.feat {N : Net} {x : Img} {x0 x1 x2 x3 x4 x5 x6 x7 x8 x9}
    (h : Reads2 N x x0 x1 x2 x3 x4 x5 x6 x7 x8 x9) (o : Fin 32) (y z : Fin 27) :
    k2_pay5 (F := Ideal) (k2_pay2 x8) (k2_pay3 x9) (k2_pay4 (k2_pay1 x0 x1 x2 x3) x4 x5 x6 x7) (ix3 o y z) =
      N.feat x o y z :=
  k2_act3_at h.h8 h.h9 (k2_lin3_at (k2_act2_at h.h6 (k2_lin2_at
    (k2_pool_at (k2_act1_at h.h3 (k2_lin1_at h.h0 h.h1 h.h2))) h.h4 h.h5)) h.h7) o y z

/-- The score block of a grid point. -/
theorem Reads2.score {N : Net} {x : Img} {x0 x1 x2 x3 x4 x5 x6 x7 x8 x9 x10 x11}
    (h : Reads2 N x x0 x1 x2 x3 x4 x5 x6 x7 x8 x9) (hw : ∀ (o : Fin 2) (k : Fin 32), x10 (ix2 o k) = N.w41 o k)
    (hb : ∀ o : Fin 2, x11 (ix3 o 0 0) = N.b41 o) (y z : Fin 27) :
    k2_pay12 (F := Ideal) (k2_pay6 (k2_pay2 x8) (k2_pay3 x9) (k2_pay4 (k2_pay1 x0 x1 x2 x3) x4 x5 x6 x7)
      x10 x11) (ix3 0 y z) = N.score x y z := by
  pointwise [k2_pay12, k2_pay6]
  simp only [h.feat, hw, hb]; rfl

/-- The box block of a grid point. -/
theorem Reads2.box {N : Net} {x : Img} {x0 x1 x2 x3 x4 x5 x6 x7 x8 x9 x12 x13}
    (h : Reads2 N x x0 x1 x2 x3 x4 x5 x6 x7 x8 x9) (hw : ∀ (o : Fin 4) (k : Fin 32), x12 (ix2 o k) = N.w42 o k)
    (hb : ∀ o : Fin 4, x13 (ix3 o 0 0) = N.b42 o) (q : Fin 4) (y z : Fin 27) :
    k2_pay13 (F := Ideal) (k2_pay7 (k2_pay2 x8) (k2_pay3 x9) (k2_pay4 (k2_pay1 x0 x1 x2 x3) x4 x5 x6 x7)
      x12 x13) k2_pay8 k2_pay9 k2_pay10 k2_pay11 (Named.named κ "inv_01255" 0x40FEFAE7#32) (ix4 0 q y z) =
      N.box x ((Named.named κ "inv_01255" 0x40FEFAE7#32 : Ideal FTy.f32)) q y z := by
  pointwise [k2_pay13, k2_pay7, k2_pay8, k2_pay9, k2_pay10, k2_pay11]
  have w0 : ∀ k : Fin 32, x12 (ix2 0 k) = N.w42 0 k := hw 0
  have w1 : ∀ k : Fin 32, x12 (ix2 1 k) = N.w42 1 k := hw 1
  have w2 : ∀ k : Fin 32, x12 (ix2 2 k) = N.w42 2 k := hw 2
  have w3 : ∀ k : Fin 32, x12 (ix2 3 k) = N.w42 3 k := hw 3
  have b0 : x13 (ix3 0 0 0) = N.b42 0 := hb 0
  have b1 : x13 (ix3 1 0 0) = N.b42 1 := hb 1
  have b2 : x13 (ix3 2 0 0) = N.b42 2 := hb 2
  have b3 : x13 (ix3 3 0 0) = N.b42 3 := hb 3
  simp only [h.feat, w0, w1, w2, w3, b0, b1, b2, b3, dite_eq_ite, Net.box, corner, edge, Net.reg, conv1]

end Cert.Value

end
-- ==== Proof.Value.Out2.lean ====
/- Region 2's result arrays: the scores and boxes of the third scale. -/
module

public import proofs.«01_k».proof.Proof.Ideal.Region2
public import proofs.«01_k».proof.Proof.Value.Kern2
public import proofs.«01_k».proof.Proof.Value.Weights
public import Idealize.ShloMosaic.Lib.Pipeline.ValueKit

@[expose] public section

set_option maxRecDepth 16384
set_option maxHeartbeats 1000000

noncomputable section

namespace Cert.Value

open Idealize.ShloMosaic Idealize.ShloMosaic.TcCoe Idealize.SL.Sem Idealize.ShloMosaic.Pipeline
open Cert.KernelIdeal Cert.KernelIdeal.Gen Cert.KernelIdeal.Own

section
variable {W : Dev nD → Valuation τ sig (Elt Ideal)} {N : Net} {x : ℕ → Img} {c : Dev nD} (hw : Weights (W c) N)
  (hx : ∀ (n : Fin 4) (k : Fin 3) (y z : Fin 64), W c (Proc.devRef .tc main_v193) (ix4 n k y z) = x n k y z)

theorem index2_0 : ∀ t : Fin cfg2.N, win2_0.index t = ![t.val, 0, 0, 0] := (by decide +kernel : ∀ t : Fin grid2.N, _)
theorem index2_14 : ∀ t : Fin cfg2.N, win2_14.index t = ![t.val, 0, 0] := (by decide +kernel : ∀ t : Fin grid2.N, _)
theorem index2_15 : ∀ t : Fin cfg2.N, win2_15.index t = ![t.val, 0, 0, 0] := (by decide +kernel : ∀ t : Fin grid2.N, _)

/-- The weights' windows are the whole arrays at every grid point. -/
theorem whole2 : ∀ t : Fin cfg2.N, win2_1.index t = ![0, 0] ∧ win2_2.index t = ![0, 0, 0] ∧ win2_3.index t = ![0, 0, 0] ∧ win2_4.index t = ![0, 0] ∧ win2_5.index t = ![0, 0, 0] ∧ win2_6.index t = ![0, 0, 0] ∧ win2_7.index t = ![0, 0] ∧ win2_8.index t = ![0, 0, 0] ∧ win2_9.index t = ![0, 0, 0] ∧ win2_10.index t = ![0, 0] ∧ win2_11.index t = ![0, 0, 0] ∧ win2_12.index t = ![0, 0] ∧ win2_13.index t = ![0, 0, 0] :=
  (by decide +kernel : ∀ t : Fin grid2.N, _)

theorem blk2_1 (t : Fin cfg2.N) (o : Fin 10) (k : Fin 27) : iblk2 (fun c b => W c b) c 1 t (ix2 o k) = W c (Proc.devRef .tc main_v5) (ix2 o k) := by
  have e := (whole2 t).1
  blk_simp [iblk2]
  refine congrArg (W c (Proc.devRef .tc main_v5)) ?_
  blk_ext [e]

theorem blk2_2 (t : Fin cfg2.N) (o : Fin 10) : iblk2 (fun c b => W c b) c 2 t (ix3 o 0 0) = W c (Proc.devRef .tc main_v12) (ix3 o 0 0) := by
  have e := (whole2 t).2.1
  blk_simp [iblk2]
  refine congrArg (W c (Proc.devRef .tc main_v12)) ?_
  blk_ext [e]

theorem blk2_3 (t : Fin cfg2.N) (o : Fin 10) : iblk2 (fun c b => W c b) c 3 t (ix3 o 0 0) = W c (Proc.devRef .tc main_v13) (ix3 o 0 0) := by
  have e := (whole2 t).2.2.1
  blk_simp [iblk2]
  refine congrArg (W c (Proc.devRef .tc main_v13)) ?_
  blk_ext [e]

theorem blk2_4 (t : Fin cfg2.N) (o : Fin 16) (k : Fin 90) : iblk2 (fun c b => W c b) c 4 t (ix2 o k) = W c (Proc.devRef .tc main_v7) (ix2 o k) := by
  have e := (whole2 t).2.2.2.1
  blk_simp [iblk2]
  refine congrArg (W c (Proc.devRef .tc main_v7)) ?_
  blk_ext [e]

theorem blk2_5 (t : Fin cfg2.N) (o : Fin 16) : iblk2 (fun c b => W c b) c 5 t (ix3 o 0 0) = W c (Proc.devRef .tc main_v14) (ix3 o 0 0) := by
  have e := (whole2 t).2.2.2.2.1
  blk_simp [iblk2]
  refine congrArg (W c (Proc.devRef .tc main_v14)) ?_
  blk_ext [e]

theorem blk2_6 (t : Fin cfg2.N) (o : Fin 16) : iblk2 (fun c b => W c b) c 6 t (ix3 o 0 0) = W c (Proc.devRef .tc main_v15) (ix3 o 0 0) := by
  have e := (whole2 t).2.2.2.2.2.1
  blk_simp [iblk2]
  refine congrArg (W c (Proc.devRef .tc main_v15)) ?_
  blk_ext [e]

theorem blk2_7 (t : Fin cfg2.N) (o : Fin 32) (k : Fin 144) : iblk2 (fun c b => W c b) c 7 t (ix2 o k) = W c (Proc.devRef .tc main_v9) (ix2 o k) := by
  have e := (whole2 t).2.2.2.2.2.2.1
  blk_simp [iblk2]
  refine congrArg (W c (Proc.devRef .tc main_v9)) ?_
  blk_ext [e]

theorem blk2_8 (t : Fin cfg2.N) (o : Fin 32) : iblk2 (fun c b => W c b) c 8 t (ix3 o 0 0) = W c (Proc.devRef .tc main_v16) (ix3 o 0 0) := by
  have e := (whole2 t).2.2.2.2.2.2.2.1
  blk_simp [iblk2]
  refine congrArg (W c (Proc.devRef .tc main_v16)) ?_
  blk_ext [e]

theorem blk2_9 (t : Fin cfg2.N) (o : Fin 32) : iblk2 (fun c b => W c b) c 9 t (ix3 o 0 0) = W c (Proc.devRef .tc main_v17) (ix3 o 0 0) := by
  have e := (whole2 t).2.2.2.2.2.2.2.2.1
  blk_simp [iblk2]
  refine congrArg (W c (Proc.devRef .tc main_v17)) ?_
  blk_ext [e]

theorem blk2_10 (t : Fin cfg2.N) (o : Fin 2) (k : Fin 32) : iblk2 (fun c b => W c b) c 10 t (ix2 o k) = W c (Proc.devRef .tc main_v10) (ix2 o k) := by
  have e := (whole2 t).2.2.2.2.2.2.2.2.2.1
  blk_simp [iblk2]
  refine congrArg (W c (Proc.devRef .tc main_v10)) ?_
  blk_ext [e]

theorem blk2_11 (t : Fin cfg2.N) (o : Fin 2) : iblk2 (fun c b => W c b) c 11 t (ix3 o 0 0) = W c (Proc.devRef .tc main_v18) (ix3 o 0 0) := by
  have e := (whole2 t).2.2.2.2.2.2.2.2.2.2.1
  blk_simp [iblk2]
  refine congrArg (W c (Proc.devRef .tc main_v18)) ?_
  blk_ext [e]

theorem blk2_12 (t : Fin cfg2.N) (o : Fin 4) (k : Fin 32) : iblk2 (fun c b => W c b) c 12 t (ix2 o k) = W c (Proc.devRef .tc main_v11) (ix2 o k) := by
  have e := (whole2 t).2.2.2.2.2.2.2.2.2.2.2.1
  blk_simp [iblk2]
  refine congrArg (W c (Proc.devRef .tc main_v11)) ?_
  blk_ext [e]

theorem blk2_13 (t : Fin cfg2.N) (o : Fin 4) : iblk2 (fun c b => W c b) c 13 t (ix3 o 0 0) = W c (Proc.devRef .tc main_v19) (ix3 o 0 0) := by
  have e := (whole2 t).2.2.2.2.2.2.2.2.2.2.2.2
  blk_simp [iblk2]
  refine congrArg (W c (Proc.devRef .tc main_v19)) ?_
  blk_ext [e]

include hx in
theorem blk2_0 (t : Fin cfg2.N) (k : Fin 3) (y z : Fin 64) : iblk2 (fun c b => W c b) c 0 t (ix4 0 k y z) = x t k y z := by
  have e := index2_0 t
  refine Eq.trans ?_ (hx t k y z)
  blk_simp [iblk2]
  refine congrArg (W c (Proc.devRef .tc main_v193)) ?_
  blk_ext [e]

include hw hx

/-- A grid point's blocks. -/
theorem reads2 (t : Fin cfg2.N) : Reads2 N (x t) (iblk2 (fun c b => W c b) c 0 t) (iblk2 (fun c b => W c b) c 1 t)
    (iblk2 (fun c b => W c b) c 2 t) (iblk2 (fun c b => W c b) c 3 t) (iblk2 (fun c b => W c b) c 4 t) (iblk2 (fun c b => W c b) c 5 t)
    (iblk2 (fun c b => W c b) c 6 t) (iblk2 (fun c b => W c b) c 7 t) (iblk2 (fun c b => W c b) c 8 t) (iblk2 (fun c b => W c b) c 9 t) where
  h0 := blk2_0 hx t
  h1 o k := (blk2_1 t o k).trans (hw.h1 o k)
  h2 o := (blk2_2 t o).trans (hw.h2 o)
  h3 o := (blk2_3 t o).trans (hw.h3 o)
  h4 o k := (blk2_4 t o k).trans (hw.h4 o k)
  h5 o := (blk2_5 t o).trans (hw.h5 o)
  h6 o := (blk2_6 t o).trans (hw.h6 o)
  h7 o k := (blk2_7 t o k).trans (hw.h7 o k)
  h8 o := (blk2_8 t o).trans (hw.h8 o)
  h9 o := (blk2_9 t o).trans (hw.h9 o)

/-- The scores. -/
theorem score2 (n : Fin 4) (y z : Fin 27) :
    (dat2 (fun c b => W c b) c).arrAt 14 cfg2.N (ix3 n y z) = N.score (x n) y z := by
  refine congrFun (((dat2 (fun c b => W c b) c)).arrAt_eq_of_covers 14 (fun i : S4x27x27.Idx => N.score (x (i 0)) (i 1) (i 2))
    (by decide +kernel) fun t hf y => ?_) (ix3 n y z)
  have e := index2_14 t
  blk_simp [e]
  rw [after2_14]
  unfold out2_14 k2_pay14 k2_pay15 k2_pay16
  frame_out
  have key : ∀ u : S1x27x27.Idx, u = ix3 (0 : Fin 1) (u 1 : Fin 27) (u 2 : Fin 27) := fun u => by
    funext k
    fin_cases k
    · exact Subsingleton.elim (α := Fin 1) _ _
    · rfl
    · rfl
  refine (congrArg _ (key y)).trans (((reads2 hw hx t).score (fun o k => (blk2_10 t o k).trans (hw.h10 o k)) (fun o => (blk2_11 t o).trans (hw.h11 o)) (y 1) (y 2)).trans ?_)
  simp

/-- The boxes. -/
theorem box2 (n : Fin 4) (q : Fin 4) (y z : Fin 27) :
    (dat2 (fun c b => W c b) c).arrAt 15 cfg2.N (ix4 n q y z) = N.box (x n) (Named.named κ "inv_01255" 0x40FEFAE7#32 : Ideal FTy.f32) q y z := by
  refine congrFun (((dat2 (fun c b => W c b) c)).arrAt_eq_of_covers 15 (fun i : S4x4x27x27.Idx => N.box (x (i 0)) (Named.named κ "inv_01255" 0x40FEFAE7#32 : Ideal FTy.f32) (i 1) (i 2) (i 3))
    (by decide +kernel) fun t hf y => ?_) (ix4 n q y z)
  have e := index2_15 t
  blk_simp [e]
  rw [after2_15]
  unfold out2_15 k2_pay14 k2_pay15 k2_pay16
  frame_out
  have key : ∀ u : S1x4x27x27.Idx, u = ix4 (0 : Fin 1) (u 1 : Fin 4) (u 2 : Fin 27) (u 3 : Fin 27) := fun u => by
    funext k
    fin_cases k
    · exact Subsingleton.elim (α := Fin 1) _ _
    · rfl
    · rfl
    · rfl
  refine (congrArg _ (key y)).trans (((reads2 hw hx t).box (fun o k => (blk2_12 t o k).trans (hw.h12 o k)) (fun o => (blk2_13 t o).trans (hw.h13 o)) (y 1) (y 2) (y 3)).trans ?_)
  simp

end

end Cert.Value

end
-- ==== Proof.Value.Ref2.lean ====
/- The network of the reference at scale 2: each layer read at an index. -/
module

public import proofs.«01_k».proof.Proof.Value.Args
public import proofs.«01_k».proof.Proof.Value.Pool
public import proofs.«01_k».proof.Proof.Value.Softmax

@[expose] public section

set_option maxRecDepth 16384
set_option maxHeartbeats 4000000

noncomputable section

namespace Cert.Value

open Idealize.ShloMosaic Cert.ReferenceIdeal Cert.ReferenceIdeal.Gen Cert.ReferenceIdeal.Step

variable (p : Args) (n : Fin 4)

theorem r2_lin1 {x : Img} (hx : ∀ (k : Fin 3) (y z : Fin 64), ap A_main_v728 p (ix4 n k y z) = x k y z)
    (o : Fin 10) (y z : Fin 62) : ap A_main_v786 p (ix4 n o y z) = conv 3 p.net.w1 p.net.b1 x o y z := by
  simp only [ap] at hx ⊢
  pointwise [
    A_main_v786, A_main_v783, A_main_v777, A_main_v771, A_main_v765, A_main_v759, A_main_v753, A_main_v747,
    A_main_v741, A_main_v735, K_main_v734, K_main_cst_96, A_main_v733, A_main_v732, A_main_v731, A_main_v730,
    A_main_v729, A_main_v740, A_main_v739, A_main_v738, A_main_v737, A_main_v736, A_main_v746, A_main_v745,
    A_main_v744, A_main_v743, A_main_v742, A_main_v752, A_main_v751, A_main_v750, A_main_v749, A_main_v748,
    A_main_v758, A_main_v757, A_main_v756, A_main_v755, A_main_v754, A_main_v764, A_main_v763, A_main_v762,
    A_main_v761, A_main_v760, A_main_v770, A_main_v769, A_main_v768, A_main_v767, A_main_v766, A_main_v776,
    A_main_v775, A_main_v774, A_main_v773, A_main_v772, A_main_v782, A_main_v781, A_main_v780, A_main_v779,
    A_main_v778, A_main_v785, A_main_v784]
  simp only [hx, p.w1_at, p.b1_at]
  exact conv_of_sums 3 p.net.w1 p.net.b1 x o y z

theorem r2_act1 {x : Img} (hx : ∀ (o : Fin 10) (y z : Fin 62), ap A_main_v786 p (ix4 n o y z) = x o y z)
    (o : Fin 10) (y z : Fin 62) : ap A_main_v792 p (ix4 n o y z) = prelu p.net.a1 x o y z := by
  simp only [ap] at hx ⊢
  pointwise [
    A_main_v792, A_main_v788, K_main_v787, K_main_cst_97, A_main_v791, A_main_v790, A_main_v789]
  simp only [hx, p.a1_at]; rfl

theorem r2_pool {x : Img} (hx : ∀ (o : Fin 10) (y z : Fin 62), ap A_main_v792 p (ix4 n o y z) = x o y z)
    (o : Fin 10) (y z : Fin 31) : ap A_main_v794 p (ix4 n o y z) = pool x o y z := by
  have h := reduceWindow_max (A := 4) (B := 10) (M := 62) (P := 31) (ap A_main_v792 p)
    (broadcastInDim S_ ![] bcast_S_S_ (constant (F := Ideal) S_ FTy.f32 4286578688#32))
    (by decide) (by decide) neg_inf_bits (by omega) n o y z
  simp only [hx] at h
  exact h

theorem r2_lin2 {x : Img} (hx : ∀ (k : Fin 10) (y z : Fin 31), ap A_main_v794 p (ix4 n k y z) = x k y z)
    (o : Fin 16) (y z : Fin 29) : ap A_main_v852 p (ix4 n o y z) = conv 10 p.net.w2 p.net.b2 x o y z := by
  simp only [ap] at hx ⊢
  pointwise [
    A_main_v852, A_main_v849, A_main_v843, A_main_v837, A_main_v831, A_main_v825, A_main_v819, A_main_v813,
    A_main_v807, A_main_v801, K_main_v800, K_main_cst_99, A_main_v799, A_main_v798, A_main_v797, A_main_v796,
    A_main_v795, A_main_v806, A_main_v805, A_main_v804, A_main_v803, A_main_v802, A_main_v812, A_main_v811,
    A_main_v810, A_main_v809, A_main_v808, A_main_v818, A_main_v817, A_main_v816, A_main_v815, A_main_v814,
    A_main_v824, A_main_v823, A_main_v822, A_main_v821, A_main_v820, A_main_v830, A_main_v829, A_main_v828,
    A_main_v827, A_main_v826, A_main_v836, A_main_v835, A_main_v834, A_main_v833, A_main_v832, A_main_v842,
    A_main_v841, A_main_v840, A_main_v839, A_main_v838, A_main_v848, A_main_v847, A_main_v846, A_main_v845,
    A_main_v844, A_main_v851, A_main_v850]
  simp only [hx, p.w2_at, p.b2_at]
  exact conv_of_sums 10 p.net.w2 p.net.b2 x o y z

theorem r2_act2 {x : Img} (hx : ∀ (o : Fin 16) (y z : Fin 29), ap A_main_v852 p (ix4 n o y z) = x o y z)
    (o : Fin 16) (y z : Fin 29) : ap A_main_v858 p (ix4 n o y z) = prelu p.net.a2 x o y z := by
  simp only [ap] at hx ⊢
  pointwise [
    A_main_v858, A_main_v854, K_main_v853, K_main_cst_100, A_main_v857, A_main_v856, A_main_v855]
  simp only [hx, p.a2_at]; rfl

theorem r2_lin3 {x : Img} (hx : ∀ (k : Fin 16) (y z : Fin 29), ap A_main_v858 p (ix4 n k y z) = x k y z)
    (o : Fin 32) (y z : Fin 27) : ap A_main_v916 p (ix4 n o y z) = conv 16 p.net.w3 p.net.b3 x o y z := by
  simp only [ap] at hx ⊢
  pointwise [
    A_main_v916, A_main_v913, A_main_v907, A_main_v901, A_main_v895, A_main_v889, A_main_v883, A_main_v877,
    A_main_v871, A_main_v865, K_main_v864, K_main_cst_101, A_main_v863, A_main_v862, A_main_v861, A_main_v860,
    A_main_v859, A_main_v870, A_main_v869, A_main_v868, A_main_v867, A_main_v866, A_main_v876, A_main_v875,
    A_main_v874, A_main_v873, A_main_v872, A_main_v882, A_main_v881, A_main_v880, A_main_v879, A_main_v878,
    A_main_v888, A_main_v887, A_main_v886, A_main_v885, A_main_v884, A_main_v894, A_main_v893, A_main_v892,
    A_main_v891, A_main_v890, A_main_v900, A_main_v899, A_main_v898, A_main_v897, A_main_v896, A_main_v906,
    A_main_v905, A_main_v904, A_main_v903, A_main_v902, A_main_v912, A_main_v911, A_main_v910, A_main_v909,
    A_main_v908, A_main_v915, A_main_v914]
  simp only [hx, p.w3_at, p.b3_at]
  exact conv_of_sums 16 p.net.w3 p.net.b3 x o y z

theorem r2_act3 {x : Img} (hx : ∀ (o : Fin 32) (y z : Fin 27), ap A_main_v916 p (ix4 n o y z) = x o y z)
    (o : Fin 32) (y z : Fin 27) : ap A_main_v922 p (ix4 n o y z) = prelu p.net.a3 x o y z := by
  simp only [ap] at hx ⊢
  pointwise [
    A_main_v922, A_main_v918, K_main_v917, K_main_cst_102, A_main_v921, A_main_v920, A_main_v919]
  simp only [hx, p.a3_at]; rfl

theorem r2_feat {x : Img} (hx : ∀ (k : Fin 3) (y z : Fin 64), ap A_main_v728 p (ix4 n k y z) = x k y z) (o : Fin 32)
    (y z : Fin 27) : ap A_main_v922 p (ix4 n o y z) = p.net.feat x o y z :=
  r2_act3 p n (r2_lin3 p n (r2_act2 p n (r2_lin2 p n (r2_pool p n (r2_act1 p n (r2_lin1 p n hx)))))) o y z

theorem r2_logit {x : Img} (hx : ∀ (k : Fin 3) (y z : Fin 64), ap A_main_v728 p (ix4 n k y z) = x k y z) (o : Fin 2)
    (y z : Fin 27) : ap A_main_v930 p (ix4 n o y z) = p.net.logit x o y z := by
  have h := r2_feat p n hx
  simp only [ap] at h ⊢
  pointwise [
    A_main_v930, A_main_v927, K_main_v926, K_main_cst_103, A_main_v925, A_main_v924, A_main_v923, A_main_v929,
    A_main_v928]
  simp only [h, p.w41_at, p.b41_at, mul_comm (p.net.feat _ _ _ _)]; rfl

theorem r2_reg {x : Img} (hx : ∀ (k : Fin 3) (y z : Fin 64), ap A_main_v728 p (ix4 n k y z) = x k y z) (o : Fin 4)
    (y z : Fin 27) : ap A_main_v949 p (ix4 n o y z) = p.net.reg x o y z := by
  have h := r2_feat p n hx
  simp only [ap] at h ⊢
  pointwise [
    A_main_v949, A_main_v946, K_main_v945, K_main_cst_107, A_main_v944, A_main_v943, A_main_v942, A_main_v948,
    A_main_v947]
  simp only [h, p.w42_at, p.b42_at, mul_comm (p.net.feat _ _ _ _)]; rfl

/-- The scores of the reference at this scale: where the logits are numbers, the logistic of their difference. -/
theorem r2_score {x : Img} (hx : ∀ (k : Fin 3) (y z : Fin 64), ap A_main_v728 p (ix4 n k y z) = x k y z)
    (hr : ∀ o y z, IsReal (p.net.logit x o y z)) (j : Fin 729) :
    ap A_main_v1020 p (ix2 n j) = p.net.score x (j / 27) (j % 27) := by
  have h := r2_logit p n hx
  simp only [ap] at h ⊢
  pointwise [
    A_main_v1020, A_main_v951, A_main_v950, A_main_v941, A_main_v937, A_main_v936, A_main_v935, A_main_v934,
    A_main_v933, K_main_v932, K_main_cst_105, A_main_v931, K_main_cst_104, A_main_v940, A_main_v939, A_main_v938,
    K_main_cst_106]
  simp only [h]
  exact softmax_two (fun o => p.net.logit x o (j / 27) (j % 27)) (hr 0 _ _) (hr 1 _ _)

/-- The boxes of the reference at this scale. -/
theorem r2_box {x : Img} (hx : ∀ (k : Fin 3) (y z : Fin 64), ap A_main_v728 p (ix4 n k y z) = x k y z) {inv : EReal}
    (hi : ∀ v : EReal, Ideal.div v (Ideal.ofBits FTy.f32 1040220946#32) = v * inv) (j : Fin 729) (q : Fin 4) :
    ap A_main_v1019 p (ix3 n j q) = p.net.box x inv q (j / 27) (j % 27) := by
  have h := r2_reg p n hx
  have h0 : ∀ y z, ap A_main_v949 p (ix4 n 0 y z) = p.net.reg x 0 y z := h 0
  have h1 : ∀ y z, ap A_main_v949 p (ix4 n 1 y z) = p.net.reg x 1 y z := h 1
  have h2 : ∀ y z, ap A_main_v949 p (ix4 n 2 y z) = p.net.reg x 2 y z := h 2
  have h3 : ∀ y z, ap A_main_v949 p (ix4 n 3 y z) = p.net.reg x 3 y z := h 3
  simp only [ap] at h0 h1 h2 h3 ⊢
  pointwise [
    A_main_v1019, A_main_v1018, A_main_v1014, A_main_v989, K_main_v988, K_main_v982, K_main_v961, K_main_v959,
    K_main_v957, K_main_v956, K_main_cst_108, K_main_v955, K_main_v953, K_main_v958, K_main_cst_109, K_main_v960,
    K_main_cst_110, A_main_v987, A_main_v984, A_main_v983, K_main_v986, K_main_v985, K_main_v980, K_main_v973,
    K_main_v971, K_main_v969, K_main_v968, K_main_cst_114, K_main_v970, K_main_cst_115, K_main_v972, K_main_cst_116,
    A_main_v1015, A_main_v997, K_main_v996, K_main_v990, K_main_v967, K_main_v965, K_main_v963, K_main_v962,
    K_main_cst_111, K_main_v954, K_main_v952, K_main_v964, K_main_cst_112, K_main_v966, K_main_cst_113, A_main_v995,
    A_main_v992, A_main_v991, K_main_v994, K_main_v993, K_main_v981, K_main_v979, K_main_v977, K_main_v975,
    K_main_v974, K_main_cst_117, K_main_v976, K_main_cst_118, K_main_v978, K_main_cst_119, A_main_v1016,
    A_main_v1005, K_main_v1004, K_main_v998, A_main_v1003, A_main_v1000, A_main_v999, K_main_v1002, K_main_v1001,
    A_main_v1017, A_main_v1013, K_main_v1012, K_main_v1006, A_main_v1011, A_main_v1008, A_main_v1007, K_main_v1010,
    K_main_v1009]
  simp only [h0, h1, h2, h3, hi, dite_eq_ite, Net.box, corner, edge]

end Cert.Value

end
-- ==== Proof.Value.Chain2.lean ====
/- What the kernel leaves at scale 2. -/
module

public import proofs.«01_k».proof.Proof.Value.HostC
public import proofs.«01_k».proof.Proof.Value.HostI2
public import proofs.«01_k».proof.Proof.Value.Out2
public import proofs.«01_k».proof.Proof.Value.Ref2

@[expose] public section

set_option maxRecDepth 65536
set_option maxHeartbeats 1000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {m : (ℓ : Loc nD τ sig) → Buf (Elt Ideal) ℓ} {ρ : Dev nD → PrngReg} {c : Dev nD} {p : Args}

/-- The images of this scale. -/
def img2 (p : Args) : ℕ → Img := ext4 (image2 p)

theorem img2_at (n : Fin 4) (k : Fin 3) (y z : Fin 64) : ap ReferenceIdeal.Step.A_main_v728 p (ix4 n k y z) = img2 p n k y z :=
  (rimage2 n k y z).trans (ext4_val (image2 p) n k y z).symm

theorem enter2 (h : Stage (W16 m ρ c) p) : Stage (W22 m ρ c) p :=
  ((((((h.after hostOps2 hostOps2_writes (by decide +kernel)).after hostOps2_1 hostOps2_1_writes (by decide +kernel)).after hostOps2_2 hostOps2_2_writes (by decide +kernel)).after hostOps2_3 hostOps2_3_writes (by decide +kernel)).after hostOps2_4 hostOps2_4_writes (by decide +kernel)).after hostOps2_5 hostOps2_5_writes (by decide +kernel))

theorem enter2_img (h : Stage (W22 m ρ c) p) (n : Fin 4) (k : Fin 3) (y z : Fin 64) :
    W23 m ρ c (Proc.devRef .tc main_v193) (ix4 n k y z) = img2 p n k y z :=
  (kimage2 h.img weight2 n k y z).trans (ext4_val (image2 p) n k y z).symm

theorem ready2 (h : Stage (W22 m ρ c) p) : Stage (W23 m ρ c) p := h.after hostOps2_6 hostOps2_6_writes (by decide +kernel)

theorem leave2 (h : Stage (W23 m ρ c) p) : Stage (W24 m ρ c) p :=
  h.keep fun r hr => W24_of m ρ c r ((by decide +kernel : ∀ r ∈ keptRefs, ∀ w : Fin cfg2.W, Pipeline.arrRef spec2 w = r → (cfg2.win w).isOut = false) r hr)

theorem leave2_score (h : Stage (W22 m ρ c) p) (n : Fin 4) (y z : Fin 27) :
    W24 m ρ c (Proc.devRef .tc main_v194_0) (ix3 n y z) = p.net.score (img2 p n) y z :=
  (congrFun (W24_arr m ρ c 14) (ix3 n y z)).trans (score2 (ready2 h).weights (enter2_img h) n y z)

theorem leave2_box (h : Stage (W22 m ρ c) p) (n q : Fin 4) (y z : Fin 27) :
    W24 m ρ c (Proc.devRef .tc main_v194_1) (ix4 n q y z) = p.net.box (img2 p n) (Named.named κ "inv_01255" 0x40FEFAE7#32 : Ideal FTy.f32) q y z :=
  (congrFun (W24_arr m ρ c 15) (ix4 n q y z)).trans (box2 (ready2 h).weights (enter2_img h) n q y z)

/-- The scores of this scale in one row, as the reference has them. -/
theorem row2_score (h : Stage (W22 m ρ c) p) (hr : ∀ (n : Fin 4) o y z, IsReal (p.net.logit (img2 p n) o y z)) (n : Fin 4) (j : Fin 729) :
    after (hostOps3.take 2) (W24 m ρ c) (Proc.devRef .tc main_v195) (ix2 n j) = ap ReferenceIdeal.Step.A_main_v1020 p (ix2 n j) := by
  rw [r2_score p n (img2_at n) (hr n) j]
  have e := leave2_score h n
  simp only [hostOps3, List.take_succ_cons, List.take_zero]
  after_reads_simp
  generalize W24 m ρ c = V at e ⊢
  pointwise
  simp only [e]

/-- The boxes of this scale in one row, as the reference has them. -/
theorem row2_box (h : Stage (W22 m ρ c) p) (hi : ∀ v : EReal, Ideal.div v (Ideal.ofBits FTy.f32 1040220946#32) = v * (Named.named κ "inv_01255" 0x40FEFAE7#32 : Ideal FTy.f32)) (n q : Fin 4) (j : Fin 729) :
    after (hostOps3.take 2) (W24 m ρ c) (Proc.devRef .tc main_v196) (ix3 n q j) = ap ReferenceIdeal.Step.A_main_v1019 p (ix3 n j q) := by
  rw [r2_box p n (img2_at n) hi j q]
  have e := leave2_box h n q
  simp only [hostOps3, List.take_succ_cons, List.take_zero]
  after_reads_simp
  generalize W24 m ρ c = V at e ⊢
  pointwise
  simp only [e]

end Cert.Value

end
-- ==== Proof.Value.Rounds.lean ====
/- The last kernel, a batch row at a time: the rounds of its top-k loop and of its suppression loop, and the rows it
   writes. -/
module

public import proofs.«01_k».proof.Proof.Ideal.Region3

@[expose] public section

set_option maxRecDepth 65536
set_option maxHeartbeats 4000000

noncomputable section

namespace Cert.Value

open Cert.KernelIdeal.Own Cert.KernelIdeal Cert.KernelIdeal.Gen
open Idealize.ShloMosaic Idealize.ShloMosaic.TcCoe Idealize.ShloMosaic.Tactic

variable {F : FTy → Type} [FloatOps F] [Named F]

/-- What a row of the top-k loop carries: the scores left, and the picked boxes' corners and scores. -/
abbrev Row (F : FTy → Type) : Type :=
  FVec F S46x128 .f32 × FVec F S1x128 .f32 × FVec F S1x128 .f32 × FVec F S1x128 .f32 × FVec F S1x128 .f32 × FVec F S1x128 .f32

/-- The four rows' values side by side, as the loop carries them. -/
abbrev flat (r0 r1 r2 r3 : Row F) :=
  (r0.1, r0.2.1, r0.2.2.1, r0.2.2.2.1, r0.2.2.2.2.1, r0.2.2.2.2.2,
   r1.1, r1.2.1, r1.2.2.1, r1.2.2.2.1, r1.2.2.2.2.1, r1.2.2.2.2.2,
   r2.1, r2.2.1, r2.2.2.1, r2.2.2.2.1, r2.2.2.2.2.1, r2.2.2.2.2.2,
   r3.1, r3.2.1, r3.2.2.1, r3.2.2.2.1, r3.2.2.2.2.1, r3.2.2.2.2.2)

/-- The number of each lane. -/
abbrev lanes : IVec S1x128 32 := iota .tc S1x128 32 [1] iota_S1x128_d1_w32

/-- The number of each line. -/
abbrev lines : IVec S128x1 32 := iota .tc S128x1 32 [0] iota_S128x1_d0_w32

/-- One round of a row: the greatest score left and the lowest position that has it; its box and score go to lane `k`. -/
def topRow (b0 b1 b2 b3 : Vec F S1x1x46x128 .f32) (k : ℕ) (r : Row F) : Row F :=
  let hit : IVec S1x128 1 := cmpi .eq lanes (broadcast S1x128 (Scf.iv 0#32 1#32 k))
  (k3_pay19 r.1 (k3_pay9 k3_pay60 r.1),
   k3_pay14 r.2.1 hit (k3_pay11 k3_pay60 r.1 b0), k3_pay14 r.2.2.1 hit (k3_pay11 k3_pay60 r.1 b1),
   k3_pay14 r.2.2.2.1 hit (k3_pay11 k3_pay60 r.1 b2), k3_pay14 r.2.2.2.2.1 hit (k3_pay11 k3_pay60 r.1 b3),
   k3_pay18 r.2.2.2.2.2 hit (k3_pay8 r.1))

/-- A row after `k` rounds. -/
def topIter (b0 b1 b2 b3 : Vec F S1x1x46x128 .f32) (r : Row F) : ℕ → Row F
  | 0 => r
  | k + 1 => topRow b0 b1 b2 b3 k (topIter b0 b1 b2 b3 r k)

/-- A row of the suppression loop after `k` rounds: the boxes kept and the boxes suppressed. -/
def markIter (s : FVec F S1x128 .f32) (M : FVec F S128x128 .f32) : ℕ → FVec F S1x128 .f32 × FVec F S1x128 .f32
  | 0 => (k3_pay61, k3_pay61)
  | k + 1 =>
    let p := markIter s M k
    (keepStep lanes s (Scf.iv 0#32 1#32 k) p.1 p.2,
      supStep lanes lines M (Scf.iv 0#32 1#32 k) (keepStep lanes s (Scf.iv 0#32 1#32 k) p.1 p.2) p.2)

/-- What the kernel loads of the boxes for a row and a corner. -/
abbrev boxRow (arg1 : Memref sig .tc .vmem S4x4x46x128 .f32) (X : BufTy.Contents (Elt F) arg1.view.ty)
    (o : Fin S4x4x46x128.rank → ℕ) (h : ∀ a, o a + S1x1x46x128.size a ≤ S4x4x46x128.size a) : Vec F S1x1x46x128 .f32 :=
  View.readAt (Elt F) arg1.view (Rect.unit (s := S4x4x46x128) o S1x1x46x128.size h).toLoadRect X

/-- What the kernel loads of the scores for a row. -/
abbrev scoreRow (arg0 : Memref sig .tc .vmem S4x46x128 .f32) (X : BufTy.Contents (Elt F) arg0.view.ty)
    (o : Fin S4x46x128.rank → ℕ) (h : ∀ a, o a + S1x46x128.size a ≤ S4x46x128.size a) : Vec F S1x46x128 .f32 :=
  View.readAt (Elt F) arg0.view (Rect.unit (s := S4x46x128) o S1x46x128.size h).toLoadRect X

/-- What the kernel writes for a row. -/
def rowOut (b0 b1 b2 b3 : Vec F S1x1x46x128 .f32) (S : FVec F S46x128 .f32) : FVec F S1x8x128 .f32 :=
  let r := topIter b0 b1 b2 b3 (S, k3_pay61, k3_pay61, k3_pay61, k3_pay61, k3_pay61) 100
  k3_pay3 r.2.1 r.2.2.1 r.2.2.2.1 r.2.2.2.2.1 r.2.2.2.2.2
    (markIter r.2.2.2.2.2 (k3_pay72 r.2.1 r.2.2.1 r.2.2.2.1 r.2.2.2.2.1) 100).1

section
variable (𝒱 : Variants) (c : Dev nD) (bd : Option 𝒱.V) (arg0 : Memref sig .tc .vmem S4x46x128 .f32) (harg0 : arg0.IsWhole)
  (arg1 : Memref sig .tc .vmem S4x4x46x128 .f32) (harg1 : arg1.IsWhole) (arg2 : Memref sig .tc .vmem S4x8x128 .f32)
  (harg2 : arg2.IsWhole) (X : BufTy.Contents (Elt F) arg1.view.ty)

/-- A round of the loop is a round of each row. -/
theorem trip_flat (k : Fin k3_t1_loop.trips) (r0 r1 r2 r3 : Row F) :
    (trip_k3_t1 (F := F) 𝒱 c bd arg0 harg0 arg1 harg1 arg2 harg2 lanes X k).1 (flat r0 r1 r2 r3) =
      flat
        (topRow (boxRow arg1 X ![0, 0, 0, 0] inb_S4x4x46x128_S1x1x46x128_0_0_0_0) (boxRow arg1 X ![0, 1, 0, 0] inb_S4x4x46x128_S1x1x46x128_0_1_0_0) (boxRow arg1 X ![0, 2, 0, 0] inb_S4x4x46x128_S1x1x46x128_0_2_0_0) (boxRow arg1 X ![0, 3, 0, 0] inb_S4x4x46x128_S1x1x46x128_0_3_0_0) k r0)
        (topRow (boxRow arg1 X ![1, 0, 0, 0] inb_S4x4x46x128_S1x1x46x128_1_0_0_0) (boxRow arg1 X ![1, 1, 0, 0] inb_S4x4x46x128_S1x1x46x128_1_1_0_0) (boxRow arg1 X ![1, 2, 0, 0] inb_S4x4x46x128_S1x1x46x128_1_2_0_0) (boxRow arg1 X ![1, 3, 0, 0] inb_S4x4x46x128_S1x1x46x128_1_3_0_0) k r1)
        (topRow (boxRow arg1 X ![2, 0, 0, 0] inb_S4x4x46x128_S1x1x46x128_2_0_0_0) (boxRow arg1 X ![2, 1, 0, 0] inb_S4x4x46x128_S1x1x46x128_2_1_0_0) (boxRow arg1 X ![2, 2, 0, 0] inb_S4x4x46x128_S1x1x46x128_2_2_0_0) (boxRow arg1 X ![2, 3, 0, 0] inb_S4x4x46x128_S1x1x46x128_2_3_0_0) k r2)
        (topRow (boxRow arg1 X ![3, 0, 0, 0] inb_S4x4x46x128_S1x1x46x128_3_0_0_0) (boxRow arg1 X ![3, 1, 0, 0] inb_S4x4x46x128_S1x1x46x128_3_1_0_0) (boxRow arg1 X ![3, 2, 0, 0] inb_S4x4x46x128_S1x1x46x128_3_2_0_0) (boxRow arg1 X ![3, 3, 0, 0] inb_S4x4x46x128_S1x1x46x128_3_3_0_0) k r3) := by
  unfold trip_k3_t1
  rfl

/-- The loop's state is the rows' states. -/
theorem st_flat (r0 r1 r2 r3 : Row F) (k : ℕ) (hk : k ≤ 100) :
    st_k3_t1 (F := F) 𝒱 c bd arg0 harg0 arg1 harg1 arg2 harg2 lanes X (flat r0 r1 r2 r3) k =
      flat
        (topIter (boxRow arg1 X ![0, 0, 0, 0] inb_S4x4x46x128_S1x1x46x128_0_0_0_0) (boxRow arg1 X ![0, 1, 0, 0] inb_S4x4x46x128_S1x1x46x128_0_1_0_0) (boxRow arg1 X ![0, 2, 0, 0] inb_S4x4x46x128_S1x1x46x128_0_2_0_0) (boxRow arg1 X ![0, 3, 0, 0] inb_S4x4x46x128_S1x1x46x128_0_3_0_0) r0 k)
        (topIter (boxRow arg1 X ![1, 0, 0, 0] inb_S4x4x46x128_S1x1x46x128_1_0_0_0) (boxRow arg1 X ![1, 1, 0, 0] inb_S4x4x46x128_S1x1x46x128_1_1_0_0) (boxRow arg1 X ![1, 2, 0, 0] inb_S4x4x46x128_S1x1x46x128_1_2_0_0) (boxRow arg1 X ![1, 3, 0, 0] inb_S4x4x46x128_S1x1x46x128_1_3_0_0) r1 k)
        (topIter (boxRow arg1 X ![2, 0, 0, 0] inb_S4x4x46x128_S1x1x46x128_2_0_0_0) (boxRow arg1 X ![2, 1, 0, 0] inb_S4x4x46x128_S1x1x46x128_2_1_0_0) (boxRow arg1 X ![2, 2, 0, 0] inb_S4x4x46x128_S1x1x46x128_2_2_0_0) (boxRow arg1 X ![2, 3, 0, 0] inb_S4x4x46x128_S1x1x46x128_2_3_0_0) r2 k)
        (topIter (boxRow arg1 X ![3, 0, 0, 0] inb_S4x4x46x128_S1x1x46x128_3_0_0_0) (boxRow arg1 X ![3, 1, 0, 0] inb_S4x4x46x128_S1x1x46x128_3_1_0_0) (boxRow arg1 X ![3, 2, 0, 0] inb_S4x4x46x128_S1x1x46x128_3_2_0_0) (boxRow arg1 X ![3, 3, 0, 0] inb_S4x4x46x128_S1x1x46x128_3_3_0_0) r3 k) := by
  induction k with
  | zero => rfl
  | succ k ih =>
    have hk' : k < k3_t1_loop.trips := by
      have : k3_t1_loop.trips = 100 := by decide
      omega
    have h := st_k3_t1_succ (F := F) 𝒱 c bd arg0 harg0 arg1 harg1 arg2 harg2 lanes X (flat r0 r1 r2 r3) ⟨k, hk'⟩
    rw [show ((⟨k, hk'⟩ : Fin k3_t1_loop.trips).val + 1) = k + 1 from rfl] at h
    rw [h, ih (by omega)]
    exact trip_flat 𝒱 c bd arg0 harg0 arg1 harg1 arg2 harg2 X ⟨k, hk'⟩ _ _ _ _

/-- The suppression loop is the rows' loops. -/
theorem marks_fold (s0 s1 s2 s3 : FVec F S1x128 .f32) (M0 M1 M2 M3 : FVec F S128x128 .f32) (n : ℕ) :
    Scf.fold (n := n) (fun k acc => marksStep lanes lines s0 s1 s2 s3 M0 M1 M2 M3 (Scf.iv 0#32 1#32 k) acc)
      (k3_pay61, k3_pay61, k3_pay61, k3_pay61, k3_pay61, k3_pay61, k3_pay61, k3_pay61) =
      ((markIter s0 M0 n).1, (markIter s0 M0 n).2, (markIter s1 M1 n).1, (markIter s1 M1 n).2,
       (markIter s2 M2 n).1, (markIter s2 M2 n).2, (markIter s3 M3 n).1, (markIter s3 M3 n).2) := by
  rw [Scf.fold_eq]
  induction n with
  | zero => rfl
  | succ n ih =>
    rw [List.finRange_succ_last, List.foldl_append, List.foldl_map]
    simp only [Fin.val_castSucc, List.foldl_cons, List.foldl_nil, Fin.val_last]
    rw [ih]
    rfl

end

section
variable (c : Dev nD) (arg0 : Memref sig .tc .vmem S4x46x128 .f32) (harg0 : arg0.IsWhole)
  (arg1 : Memref sig .tc .vmem S4x4x46x128 .f32) (harg1 : arg1.IsWhole) (arg2 : Memref sig .tc .vmem S4x8x128 .f32)
  (harg2 : arg2.IsWhole) (x0 : Vec F S4x46x128 .f32) (x1 : Vec F S4x4x46x128 .f32)

/-- The pieces that the kernel stores: for each batch row what the row's rounds leave. -/
theorem pieces3 : (kernelRun3_A c arg0 harg0 arg1 harg1 arg2 harg2 x0 x1).1 =
    [⟨Rect.unit ![3, 0, 0] ![1, 8, 128] inb_S4x8x128_S1x8x128_3_0_0,
      rowOut (boxRow arg1 (harg1.unread x1) ![3, 0, 0, 0] inb_S4x4x46x128_S1x1x46x128_3_0_0_0) (boxRow arg1 (harg1.unread x1) ![3, 1, 0, 0] inb_S4x4x46x128_S1x1x46x128_3_1_0_0) (boxRow arg1 (harg1.unread x1) ![3, 2, 0, 0] inb_S4x4x46x128_S1x1x46x128_3_2_0_0) (boxRow arg1 (harg1.unread x1) ![3, 3, 0, 0] inb_S4x4x46x128_S1x1x46x128_3_3_0_0)
        (k3_pay62 (scoreRow arg0 (harg0.unread x0) ![3, 0, 0] inb_S4x46x128_S1x46x128_3_0_0))⟩,
     ⟨Rect.unit ![2, 0, 0] ![1, 8, 128] inb_S4x8x128_S1x8x128_2_0_0,
      rowOut (boxRow arg1 (harg1.unread x1) ![2, 0, 0, 0] inb_S4x4x46x128_S1x1x46x128_2_0_0_0) (boxRow arg1 (harg1.unread x1) ![2, 1, 0, 0] inb_S4x4x46x128_S1x1x46x128_2_1_0_0) (boxRow arg1 (harg1.unread x1) ![2, 2, 0, 0] inb_S4x4x46x128_S1x1x46x128_2_2_0_0) (boxRow arg1 (harg1.unread x1) ![2, 3, 0, 0] inb_S4x4x46x128_S1x1x46x128_2_3_0_0)
        (k3_pay62 (scoreRow arg0 (harg0.unread x0) ![2, 0, 0] inb_S4x46x128_S1x46x128_2_0_0))⟩,
     ⟨Rect.unit ![1, 0, 0] ![1, 8, 128] inb_S4x8x128_S1x8x128_1_0_0,
      rowOut (boxRow arg1 (harg1.unread x1) ![1, 0, 0, 0] inb_S4x4x46x128_S1x1x46x128_1_0_0_0) (boxRow arg1 (harg1.unread x1) ![1, 1, 0, 0] inb_S4x4x46x128_S1x1x46x128_1_1_0_0) (boxRow arg1 (harg1.unread x1) ![1, 2, 0, 0] inb_S4x4x46x128_S1x1x46x128_1_2_0_0) (boxRow arg1 (harg1.unread x1) ![1, 3, 0, 0] inb_S4x4x46x128_S1x1x46x128_1_3_0_0)
        (k3_pay62 (scoreRow arg0 (harg0.unread x0) ![1, 0, 0] inb_S4x46x128_S1x46x128_1_0_0))⟩,
     ⟨Rect.unit ![0, 0, 0] ![1, 8, 128] inb_S4x8x128_S1x8x128_0_0_0,
      rowOut (boxRow arg1 (harg1.unread x1) ![0, 0, 0, 0] inb_S4x4x46x128_S1x1x46x128_0_0_0_0) (boxRow arg1 (harg1.unread x1) ![0, 1, 0, 0] inb_S4x4x46x128_S1x1x46x128_0_1_0_0) (boxRow arg1 (harg1.unread x1) ![0, 2, 0, 0] inb_S4x4x46x128_S1x1x46x128_0_2_0_0) (boxRow arg1 (harg1.unread x1) ![0, 3, 0, 0] inb_S4x4x46x128_S1x1x46x128_0_3_0_0)
        (k3_pay62 (scoreRow arg0 (harg0.unread x0) ![0, 0, 0] inb_S4x46x128_S1x46x128_0_0_0))⟩] := by
  have hst : (Scf.trips k3_t1_loop.lb k3_t1_loop.ub k3_t1_loop.st) = 100 := by decide
  have hs := st_flat Variants.none c none arg0 harg0 arg1 harg1 arg2 harg2 (harg1.unread x1)
    (k3_pay62 (scoreRow arg0 (harg0.unread x0) ![0, 0, 0] inb_S4x46x128_S1x46x128_0_0_0), k3_pay61, k3_pay61, k3_pay61, k3_pay61, k3_pay61)
    (k3_pay62 (scoreRow arg0 (harg0.unread x0) ![1, 0, 0] inb_S4x46x128_S1x46x128_1_0_0), k3_pay61, k3_pay61, k3_pay61, k3_pay61, k3_pay61)
    (k3_pay62 (scoreRow arg0 (harg0.unread x0) ![2, 0, 0] inb_S4x46x128_S1x46x128_2_0_0), k3_pay61, k3_pay61, k3_pay61, k3_pay61, k3_pay61)
    (k3_pay62 (scoreRow arg0 (harg0.unread x0) ![3, 0, 0] inb_S4x46x128_S1x46x128_3_0_0), k3_pay61, k3_pay61, k3_pay61, k3_pay61, k3_pay61) 100 le_rfl
  have hs' : st_k3_t1 (F := F) Variants.none c none arg0 harg0 arg1 harg1 arg2 harg2 lanes (harg1.unread x1)
    (k3_pay62 (scoreRow arg0 (harg0.unread x0) ![0, 0, 0] inb_S4x46x128_S1x46x128_0_0_0), k3_pay61, k3_pay61, k3_pay61, k3_pay61, k3_pay61,
    k3_pay63 (scoreRow arg0 (harg0.unread x0) ![1, 0, 0] inb_S4x46x128_S1x46x128_1_0_0), k3_pay61, k3_pay61, k3_pay61, k3_pay61, k3_pay61,
    k3_pay64 (scoreRow arg0 (harg0.unread x0) ![2, 0, 0] inb_S4x46x128_S1x46x128_2_0_0), k3_pay61, k3_pay61, k3_pay61, k3_pay61, k3_pay61,
    k3_pay65 (scoreRow arg0 (harg0.unread x0) ![3, 0, 0] inb_S4x46x128_S1x46x128_3_0_0), k3_pay61, k3_pay61, k3_pay61, k3_pay61, k3_pay61) 100 = _ := hs
  unfold kernelRun3_A
  dsimp only
  simp only [kernelRun3_A.sl.r, kernelRun3_A.sl.r_1, kernelRun3_A.sl.r_2, kernelRun3_A.sl.r_3, kernelRun3_A.sl.r_4, kernelRun3_A.sl.r_5, kernelRun3_A.sl.r_6, kernelRun3_A.sl.r_7, kernelRun3_A.sl.r_8, kernelRun3_A.sl.r_9, kernelRun3_A.sl.r_10, kernelRun3_A.sl.r_11, kernelRun3_A.sl.r_12, kernelRun3_A.sl.r_13, kernelRun3_A.sl.r_14, kernelRun3_A.sl.r_15, kernelRun3_A.sl.r_16, kernelRun3_A.sl.r_17, kernelRun3_A.sl.r_18, kernelRun3_A.sl.r_19, kernelRun3_A.sl.r_20, kernelRun3_A.sl.r_21, kernelRun3_A.sl.r_22, kernelRun3_A.sl.r_23, kernelRun3_A.sl.r_24, kernelRun3_A.sl.r_25, kernelRun3_A.sl.r_26, kernelRun3_A.sl.r_27, kernelRun3_A.sl.r_28, kernelRun3_A.sl.r_29, kernelRun3_A.sl.r_30, kernelRun3_A.sl.r_31, kernelRun3_A.sl.r_32, kernelRun3_A.sl.r_33, kernelRun3_A.sl.r_34, hst, kernelRun3_A.sl.v6, kernelRun3_A.sl.v34]
  simp only [hs']
  simp only [rowOut, marks_fold]
  generalize topIter (boxRow arg1 (harg1.unread x1) ![0, 0, 0, 0] inb_S4x4x46x128_S1x1x46x128_0_0_0_0) (boxRow arg1 (harg1.unread x1) ![0, 1, 0, 0] inb_S4x4x46x128_S1x1x46x128_0_1_0_0) (boxRow arg1 (harg1.unread x1) ![0, 2, 0, 0] inb_S4x4x46x128_S1x1x46x128_0_2_0_0) (boxRow arg1 (harg1.unread x1) ![0, 3, 0, 0] inb_S4x4x46x128_S1x1x46x128_0_3_0_0)
    (k3_pay62 (scoreRow arg0 (harg0.unread x0) ![0, 0, 0] inb_S4x46x128_S1x46x128_0_0_0), k3_pay61, k3_pay61, k3_pay61,
      k3_pay61, k3_pay61) 100 = R0
  generalize topIter (boxRow arg1 (harg1.unread x1) ![1, 0, 0, 0] inb_S4x4x46x128_S1x1x46x128_1_0_0_0) (boxRow arg1 (harg1.unread x1) ![1, 1, 0, 0] inb_S4x4x46x128_S1x1x46x128_1_1_0_0) (boxRow arg1 (harg1.unread x1) ![1, 2, 0, 0] inb_S4x4x46x128_S1x1x46x128_1_2_0_0) (boxRow arg1 (harg1.unread x1) ![1, 3, 0, 0] inb_S4x4x46x128_S1x1x46x128_1_3_0_0)
    (k3_pay62 (scoreRow arg0 (harg0.unread x0) ![1, 0, 0] inb_S4x46x128_S1x46x128_1_0_0), k3_pay61, k3_pay61, k3_pay61,
      k3_pay61, k3_pay61) 100 = R1
  generalize topIter (boxRow arg1 (harg1.unread x1) ![2, 0, 0, 0] inb_S4x4x46x128_S1x1x46x128_2_0_0_0) (boxRow arg1 (harg1.unread x1) ![2, 1, 0, 0] inb_S4x4x46x128_S1x1x46x128_2_1_0_0) (boxRow arg1 (harg1.unread x1) ![2, 2, 0, 0] inb_S4x4x46x128_S1x1x46x128_2_2_0_0) (boxRow arg1 (harg1.unread x1) ![2, 3, 0, 0] inb_S4x4x46x128_S1x1x46x128_2_3_0_0)
    (k3_pay62 (scoreRow arg0 (harg0.unread x0) ![2, 0, 0] inb_S4x46x128_S1x46x128_2_0_0), k3_pay61, k3_pay61, k3_pay61,
      k3_pay61, k3_pay61) 100 = R2
  generalize topIter (boxRow arg1 (harg1.unread x1) ![3, 0, 0, 0] inb_S4x4x46x128_S1x1x46x128_3_0_0_0) (boxRow arg1 (harg1.unread x1) ![3, 1, 0, 0] inb_S4x4x46x128_S1x1x46x128_3_1_0_0) (boxRow arg1 (harg1.unread x1) ![3, 2, 0, 0] inb_S4x4x46x128_S1x1x46x128_3_2_0_0) (boxRow arg1 (harg1.unread x1) ![3, 3, 0, 0] inb_S4x4x46x128_S1x1x46x128_3_3_0_0)
    (k3_pay62 (scoreRow arg0 (harg0.unread x0) ![3, 0, 0] inb_S4x46x128_S1x46x128_3_0_0), k3_pay61, k3_pay61, k3_pay61,
      k3_pay61, k3_pay61) 100 = R3
  rfl

end

end Cert.Value

end
-- ==== Proof.Value.Order.lean ====
/- A stable sort by falling score: where two positions have the same score, the lower position is first. -/
module

public import Idealize.ShloMosaic.Lib.SortFacts
public import Idealize.ShloMosaic.Lib.Pointwise

@[expose] public section

noncomputable section

namespace Cert.Value

open Idealize.ShloMosaic

variable {n : ℕ} (s : Fin n → EReal)

/-- Position `i` has the greater score. -/
def greater (i j : Fin n) : Bool := decide (s j < s i)

/-- Position `i` has the greater score, or the same score and is the lower position. -/
def ahead (i j : Fin n) : Bool := decide (s j < s i ∨ (s i = s j ∧ i < j))

theorem stableSort_ahead (l : List (Fin n)) (hl : l.Pairwise (· < ·)) :
    stableSort (greater s) l = stableSort (ahead s) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    have : ¬ b < a := not_lt.mpr hab.le
    simp [greater, ahead, this]

theorem sortedFrom_ahead : sortedFrom (greater s) = sortedFrom (ahead s) := by
  funext k
  have h : sortPositions n (greater s) = sortPositions n (ahead s) :=
    stableSort_ahead s _ (List.pairwise_lt_finRange n)
  unfold sortedFrom
  rw [List.get_of_eq h]
  rfl

/-- The positions in the order of the sort: of two, the earlier has the greater score, or the same score and is lower. -/
theorem sorted_spec (i j : Fin n) (hij : i < j) :
    s (sortedFrom (greater s) j) < s (sortedFrom (greater s) i) ∨
      (s (sortedFrom (greater s) i) = s (sortedFrom (greater s) j) ∧
        sortedFrom (greater s) i < sortedFrom (greater s) j) := by
  have h := sortedFrom_noInversion (ahead s) (ahead s) (by
      intro a b h
      simp only [ahead, decide_eq_true_eq, decide_eq_false_iff_not, not_or, not_and, not_lt] at h ⊢
      rcases h with h | ⟨h, h'⟩
      · exact ⟨h.le, fun e => absurd e h.ne⟩
      · exact ⟨h.ge, fun _ => h'.le⟩)
    (fun _ _ h => h) (by
      intro a b c h h'
      simp only [ahead, decide_eq_false_iff_not, not_or, not_and, not_lt] at h h' ⊢
      refine ⟨h.1.trans h'.1, fun e => ?_⟩
      have e1 : s a = s b := le_antisymm h.1 (h'.1.trans_eq e.symm)
      exact (h'.2 (e1.symm.trans e)).trans (h.2 e1)) i j hij
  rw [sortedFrom_ahead]
  simp only [ahead, decide_eq_false_iff_not, not_or, not_and, not_lt] at h
  rcases lt_or_eq_of_le h.1 with h1 | h1
  · exact .inl h1
  · refine .inr ⟨h1.symm, lt_of_le_of_ne (h.2 h1) fun e => ?_⟩
    exact absurd (sortedFrom_injective _ e) hij.ne

/-- A position that none of the first `r` is has a score no greater than that of number `r`, and if the same it is not
lower. -/
theorem sorted_rest (r : Fin n) (i : Fin n) (hi : ∀ j < r, sortedFrom (greater s) j ≠ i) :
    s i ≤ s (sortedFrom (greater s) r) ∧ (s i = s (sortedFrom (greater s) r) → sortedFrom (greater s) r ≤ i) := by
  obtain ⟨k, rfl⟩ := sortedFrom_surjective (greater s) i
  rcases lt_trichotomy k r with h | rfl | h
  · exact absurd rfl (hi k h)
  · exact ⟨le_rfl, fun _ => le_rfl⟩
  · rcases sorted_spec s r k h with h | ⟨h, h'⟩
    · exact ⟨h.le, fun e => absurd e h.ne⟩
    · exact ⟨h.symm.le, fun _ => h'.le⟩

end Cert.Value

end
-- ==== Proof.Value.KRow.lean ====
/- The top-k rounds of a batch row over the extended reals: round `k` picks the position that a stable sort by falling score
   puts at `k`. -/
module

public import proofs.«01_k».proof.Proof.Value.Rounds
public import proofs.«01_k».proof.Proof.Value.Order
public import proofs.«01_k».proof.Proof.Value.Softmax

@[expose] public section

set_option maxRecDepth 16384
set_option maxHeartbeats 4000000

noncomputable section

namespace Cert.Value

open Cert.KernelIdeal.Own Cert.KernelIdeal Cert.KernelIdeal.Gen Idealize.ShloMosaic

/-! ## Words -/

theorem sitofp_val {w : ℕ} (b : BitVec w) : FloatOps.sitofp (F := Ideal) FTy.f32 b = ((b.toInt : ℝ) : EReal) := rfl

theorem ofBool_toNat_sitofp (p : Prop) [Decidable p] :
    FloatOps.sitofp (F := Ideal) FTy.f32 (BitVec.setWidth 32 (BitVec.ofBool (decide p))) = if p then 1 else 0 := by
  rw [sitofp_val]
  by_cases h : p
  · have : ((BitVec.setWidth 32 (BitVec.ofBool true)).toInt : ℤ) = 1 := by decide
    simp [h]
  · simp [h]

theorem toInt_ofNat (m : ℕ) (h : m < 2 ^ 31) : (BitVec.ofNat 32 m).toInt = m := by
  rw [BitVec.toInt_eq_toNat_of_lt (by rw [BitVec.toNat_ofNat]; omega), BitVec.toNat_ofNat, Nat.mod_eq_of_lt (by omega)]

theorem posWord (r l : ℕ) :
    IntOp.addi (IntOp.muli (BitVec.ofNat 32 r) 128#32) (BitVec.ofNat 32 l) = BitVec.ofNat 32 (r * 128 + l) := by
  show BitVec.ofNat 32 r * BitVec.ofNat 32 128 + BitVec.ofNat 32 l = _
  rw [← BitVec.ofNat_mul, ← BitVec.ofNat_add]

theorem posf_val (r : Fin 46) (l : Fin 128) :
    FloatOps.sitofp (F := Ideal) FTy.f32 (IntOp.addi (IntOp.muli (BitVec.ofNat 32 r) 128#32) (BitVec.ofNat 32 l))
      = (((r * 128 + l : ℕ) : ℝ) : EReal) := by
  have := r.isLt; have := l.isLt
  rw [posWord, sitofp_val, toInt_ofNat _ (by omega)]
  norm_cast

theorem iv_val (k : ℕ) : Scf.iv 0#32 1#32 k = BitVec.ofNat 32 k := by
  show 0#32 + BitVec.ofNat 32 k * 1#32 = _
  rw [BitVec.mul_one, BitVec.zero_add]

theorem cmpi_eq_ofNat (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [beq_eq_decide]
  congr 1
  refine propext ⟨fun h => ?_, fun h => by rw [h]⟩
  have := congrArg BitVec.toNat h
  simp only [BitVec.toNat_ofNat] at this
  rwa [Nat.mod_eq_of_lt ha, Nat.mod_eq_of_lt hb] at this

theorem cmpi_slt_ofNat (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  rw [BitVec.slt_eq_decide, toInt_ofNat a ha, toInt_ofNat b hb]
  simp

theorem select_ofBool {α : Type} (p : Prop) [Decidable p] (a b : α) :
    Scalar.select (BitVec.ofBool (decide p)) a b = if p then a else b := by
  by_cases h : p <;> simp [Scalar.select, h]

/-! ## The positions in the order of the sort -/

section
variable (s : Fin 5810 → EReal)

/-- The position at `k` in the order of the sort. -/
def pick (k : ℕ) : Fin 5810 := if h : k < 5810 then sortedFrom (greater s) ⟨k, h⟩ else ⟨0, by omega⟩

theorem pick_inj {i j : ℕ} (hi : i < 5810) (hj : j < 5810) (h : pick s i = pick s j) : i = j := by
  rw [pick, pick, dif_pos hi, dif_pos hj] at h
  exact congrArg Fin.val (sortedFrom_injective _ h)

theorem pick_rest {k : ℕ} (hk : k < 5810) (i : Fin 5810) (hi : ∀ j < k, pick s j ≠ i) :
    s i ≤ s (pick s k) ∧ (s i = s (pick s k) → pick s k ≤ i) := by
  have h := sorted_rest s ⟨k, hk⟩ i fun j hj => by
    have := hi j.val hj
    rwa [pick, dif_pos j.isLt] at this
  rwa [pick, dif_pos hk]

theorem pick_antitone {i j : ℕ} (hj : j < 5810) (hij : i ≤ j) : s (pick s j) ≤ s (pick s i) := by
  refine (pick_rest s (by omega) (pick s j) fun k hk h => ?_).1
  have := pick_inj s (by omega) hj h
  omega

/-- The value that the kernel puts where a score is out of the running. -/
def gone : EReal := Ideal.ofBits FTy.f32 4048155338#32

theorem gone_neg : gone < 0 := by
  rw [gone, bits_val 4048155338#32 226 4846282 true (by decide) (by decide) (by decide) (by decide) (by decide)]
  rw [← EReal.coe_zero, EReal.coe_lt_coe_iff]
  norm_num

/-- The scores left after `k` rounds, by position. -/
def left (k : ℕ) (p : ℕ) : EReal :=
  if h : p < 5810 then (if ∃ j < k, (pick s j : ℕ) = p then gone else s ⟨p, h⟩) else gone

variable (hs : ∀ i, 0 ≤ s i) {k : ℕ} (hk : k < 5810)
include hk

theorem left_pick : left s k (pick s k) = s (pick s k) := by
  rw [left, dif_pos (pick s k).isLt, if_neg]
  rintro ⟨j, hj, e⟩
  have := pick_inj s (by omega) hk (Fin.ext e)
  omega

include hs

theorem left_le (p : ℕ) : left s k p ≤ s (pick s k) ∧ (left s k p = s (pick s k) → (pick s k : ℕ) ≤ p) := by
  have hg : gone < s (pick s k) := gone_neg.trans_le (hs _)
  rw [left]
  split
  · rename_i h
    split
    · exact ⟨hg.le, fun e => absurd e hg.ne⟩
    · rename_i hn
      have := pick_rest s hk ⟨p, h⟩ fun j hj e => hn ⟨j, hj, congrArg Fin.val e⟩
      exact ⟨this.1, fun e => this.2 e⟩
  · exact ⟨hg.le, fun e => absurd e hg.ne⟩

end

/-! ## One round -/

/-- The line and the lane of a position. -/
def spot (p : Fin 5810) : Fin 46 × Fin 128 := (⟨p / 128, by omega⟩, ⟨p % 128, by omega⟩)

theorem spot_pos (p : Fin 5810) : ((spot p).1 * 128 + (spot p).2 : ℕ) = p := by
  show (p : ℕ) / 128 * 128 + p % 128 = p
  omega

theorem spot_unique (p : Fin 5810) (r : Fin 46) (l : Fin 128) (h : (r * 128 + l : ℕ) = p) : r = (spot p).1 ∧ l = (spot p).2 := by
  have := r.isLt; have := l.isLt
  refine ⟨Fin.ext ?_, Fin.ext ?_⟩
  · show (r : ℕ) = p / 128
    omega
  · show (l : ℕ) = p % 128
    omega

section
variable (s : Fin 5810 → EReal) (hs : ∀ i, 0 ≤ s i) {k : ℕ} (hk : k < 5810) (S : FVec Ideal S46x128 .f32)
  (hS : ∀ (r : Fin 46) (l : Fin 128), S (ix2 r l) = left s k (r * 128 + l))

theorem fold_min_spot (p : Fin 5810) (f : Fin 46 × Fin 128 → EReal) (h1 : f (spot p) = (((p : ℕ) : ℝ) : EReal))
    (h2 : ∀ x, (((p : ℕ) : ℝ) : EReal) ≤ f x) :
    Finset.fold min (Ideal.ofBits FTy.f32 2139095040#32) f Finset.univ = (((p : ℕ) : ℝ) : EReal) := by
  refine le_antisymm (Finset.fold_min_le _ |>.mpr (.inr ⟨spot p, Finset.mem_univ _, h1.le⟩))
    (Finset.le_fold_min _ |>.mpr ⟨?_, fun x _ => h2 x⟩)
  have : Ideal.ofBits FTy.f32 2139095040#32 = ⊤ := by simp [Ideal.ofBits, Ideal.ieee]
  rw [this]
  exact le_top

theorem pos_le (p : Fin 5810) : (((p : ℕ) : ℝ) : EReal) ≤ ((5810 : ℝ) : EReal) := by
  have := p.isLt
  rw [EReal.coe_le_coe_iff]
  exact_mod_cast this.le

theorem big_le : ((5810 : ℝ) : EReal) ≤ Ideal.ofBits FTy.f32 1315859240#32 := by
  rw [bits_val 1315859240#32 156 7236392 false (by decide) (by decide) (by decide) (by decide) (by decide)]
  rw [EReal.coe_le_coe_iff]
  norm_num

include hs hk hS

theorem round_max : k3_pay8 S = s (pick s k) := by
  pointwise [k3_pay8]
  refine le_antisymm (Finset.fold_max_le _ |>.mpr ⟨by rw [neg_inf_bits]; exact bot_le, fun x _ => ?_⟩)
    (Finset.le_fold_max _ |>.mpr (.inr ⟨spot (pick s k), Finset.mem_univ _, ?_⟩))
  · rw [hS]; exact (left_le s hs hk _).1
  · rw [hS, spot_pos, left_pick s hk]

theorem round_hit (r : Fin 46) (l : Fin 128) :
    k3_pay9 k3_pay60 S (ix2 r l) = BitVec.ofBool (decide ((r * 128 + l : ℕ) = pick s k)) := by
  have hm := round_max s hs hk S hS
  pointwise [k3_pay9, k3_pay60, k3_pay59]
  simp only [posf_val, hm, hS]
  have hbig : (((pick s k : ℕ) : ℝ) : EReal) ≤ Ideal.ofBits FTy.f32 1315859240#32 := (pos_le (pick s k)).trans big_le
  rw [fold_min_spot (pick s k) _ (by rw [spot_pos, if_pos (left_pick s hk)]) (fun x => by
    split
    · rename_i e
      have := (left_le s hs hk _).2 e
      exact EReal.coe_le_coe_iff.mpr (Nat.cast_le.mpr this)
    · exact hbig)]
  simp only [EReal.coe_eq_coe_iff, Nat.cast_inj]

theorem round_box (b : Vec Ideal S1x1x46x128 .f32) (B : Fin 5810 → EReal)
    (hb : ∀ (r : Fin 46) (l : Fin 128), b (ix4 0 0 r l) = if h : (r * 128 + l : ℕ) < 5810 then B ⟨_, h⟩ else 0) :
    k3_pay11 k3_pay60 S b = B (pick s k) := by
  have hh := round_hit s hs hk S hS
  pointwise [k3_pay11, k3_pay10]
  simp only [hh, ofBool_toNat_sitofp, hb]
  rw [Finset.sum_eq_single (spot (pick s k)).1, Finset.sum_eq_single (spot (pick s k)).2]
  · rw [if_pos (spot_pos _), one_mul, dif_pos ((spot_pos _).trans_lt (pick s k).isLt)]
    congr 1
    exact Fin.ext (spot_pos _)
  · intro l _ hl
    rw [if_neg fun e => hl (spot_unique _ _ _ e).2, zero_mul]
  · intro h; exact absurd (Finset.mem_univ _) h
  · intro r _ hr
    refine Finset.sum_eq_zero fun l _ => ?_
    rw [if_neg fun e => hr (spot_unique _ _ _ e).1, zero_mul]
  · intro h; exact absurd (Finset.mem_univ _) h

theorem round_left (r : Fin 46) (l : Fin 128) :
    k3_pay19 S (k3_pay9 k3_pay60 S) (ix2 r l) = left s (k + 1) (r * 128 + l) := by
  have hh := round_hit s hs hk S hS
  pointwise [k3_pay19]
  rw [hh, hS, select_ofBool]
  show (if (r * 128 + l : ℕ) = pick s k then gone else _) = _
  by_cases e : (r * 128 + l : ℕ) = pick s k
  · rw [if_pos e, left, dif_pos (e.trans_lt (pick s k).isLt), if_pos ⟨k, by omega, e.symm⟩]
  · rw [if_neg e]
    simp only [left]
    have : (∃ j < k + 1, (pick s j : ℕ) = r * 128 + l) ↔ ∃ j < k, (pick s j : ℕ) = r * 128 + l :=
      ⟨fun ⟨j, hj, h⟩ => ⟨j, lt_of_le_of_ne (by omega) fun e' => e (by rw [← h, e']), h⟩, fun ⟨j, hj, h⟩ => ⟨j, by omega, h⟩⟩
    simp only [this]

end

/-- The lanes after a round. -/
theorem lane_step (x : FVec Ideal S1x128 .f32) (v : EReal) (k : ℕ) (hk : k < 100) (W : ℕ → EReal) (hv : v = W k)
    (hx : ∀ l : Fin 128, x (ix2 0 l) = if (l : ℕ) < k then W l else 0) (l : Fin 128) :
    k3_pay14 x (cmpi .eq lanes (broadcast S1x128 (Scf.iv 0#32 1#32 k))) v (ix2 0 l) = if (l : ℕ) < k + 1 then W l else 0 := by
  have := l.isLt
  pointwise [k3_pay14]
  rw [iv_val, cmpi_eq_ofNat _ _ (by omega) (by omega), select_ofBool, hx, hv]
  by_cases e : (l : ℕ) = k
  · rw [if_pos e, if_pos (by omega), e]
  · rw [if_neg e]
    by_cases h : (l : ℕ) < k
    · rw [if_pos h, if_pos (by omega)]
    · rw [if_neg h, if_neg (by omega)]

/-- What a row carries after `k` rounds. -/
structure After (s : Fin 5810 → EReal) (B : Fin 4 → Fin 5810 → EReal) (k : ℕ) (r : Row Ideal) : Prop where
  hS : ∀ (i : Fin 46) (l : Fin 128), r.1 (ix2 i l) = left s k (i * 128 + l)
  h0 : ∀ l : Fin 128, r.2.1 (ix2 0 l) = if (l : ℕ) < k then B 0 (pick s l) else 0
  h1 : ∀ l : Fin 128, r.2.2.1 (ix2 0 l) = if (l : ℕ) < k then B 1 (pick s l) else 0
  h2 : ∀ l : Fin 128, r.2.2.2.1 (ix2 0 l) = if (l : ℕ) < k then B 2 (pick s l) else 0
  h3 : ∀ l : Fin 128, r.2.2.2.2.1 (ix2 0 l) = if (l : ℕ) < k then B 3 (pick s l) else 0
  hs : ∀ l : Fin 128, r.2.2.2.2.2 (ix2 0 l) = if (l : ℕ) < k then s (pick s l) else 0

theorem topRow_fst (b0 b1 b2 b3 : Vec Ideal S1x1x46x128 .f32) (k : ℕ) (r : Row Ideal) :
    (topRow b0 b1 b2 b3 k r).1 = k3_pay19 r.1 (k3_pay9 k3_pay60 r.1) := by
  unfold topRow
  with_reducible rfl

theorem topIter_after (s : Fin 5810 → EReal) (hs : ∀ i, 0 ≤ s i) (B : Fin 4 → Fin 5810 → EReal)
    (b0 b1 b2 b3 : Vec Ideal S1x1x46x128 .f32)
    (hb0 : ∀ (r : Fin 46) (l : Fin 128), b0 (ix4 0 0 r l) = if h : (r * 128 + l : ℕ) < 5810 then B 0 ⟨_, h⟩ else 0)
    (hb1 : ∀ (r : Fin 46) (l : Fin 128), b1 (ix4 0 0 r l) = if h : (r * 128 + l : ℕ) < 5810 then B 1 ⟨_, h⟩ else 0)
    (hb2 : ∀ (r : Fin 46) (l : Fin 128), b2 (ix4 0 0 r l) = if h : (r * 128 + l : ℕ) < 5810 then B 2 ⟨_, h⟩ else 0)
    (hb3 : ∀ (r : Fin 46) (l : Fin 128), b3 (ix4 0 0 r l) = if h : (r * 128 + l : ℕ) < 5810 then B 3 ⟨_, h⟩ else 0)
    (S : FVec Ideal S46x128 .f32)
    (hS : ∀ (r : Fin 46) (l : Fin 128), S (ix2 r l) = if h : (r * 128 + l : ℕ) < 5810 then s ⟨_, h⟩ else gone)
    (k : ℕ) (hk : k ≤ 100) :
    After s B k (topIter b0 b1 b2 b3 (S, k3_pay61, k3_pay61, k3_pay61, k3_pay61, k3_pay61) k) := by
  induction k with
  | zero =>
    have hz : ∀ l : Fin 128, k3_pay61 (F := Ideal) (ix2 0 l) = 0 := fun l => by pointwise [k3_pay61]
    refine ⟨fun r l => ?_, fun l => ?_, fun l => ?_, fun l => ?_, fun l => ?_, fun l => ?_⟩
    · show S (ix2 r l) = _
      rw [hS, left]
      have : ¬ ∃ j < 0, (pick s j : ℕ) = r * 128 + l := by rintro ⟨j, hj, -⟩; omega
      simp only [if_neg this]
    all_goals rw [if_neg (Nat.not_lt_zero _)]; exact hz l
  | succ k ih =>
    have h := ih (by omega)
    have hk' : k < 5810 := by omega
    show After s B (k + 1) (topRow b0 b1 b2 b3 k (topIter b0 b1 b2 b3 _ k))
    revert h
    generalize topIter b0 b1 b2 b3 (S, k3_pay61, k3_pay61, k3_pay61, k3_pay61, k3_pay61) k = R
    intro h
    refine ⟨?_, ?_, ?_, ?_, ?_, ?_⟩
    · have h' := round_left s hs hk' R.1 h.hS
      intro r l
      refine Eq.trans ?_ (h' r l)
      exact congrFun (topRow_fst b0 b1 b2 b3 k R) (ix2 r l)
    · exact lane_step R.2.1 _ k (by omega) (fun j => B 0 (pick s j)) (round_box s hs hk' R.1 h.hS b0 (B 0) hb0) h.h0
    · exact lane_step R.2.2.1 _ k (by omega) (fun j => B 1 (pick s j)) (round_box s hs hk' R.1 h.hS b1 (B 1) hb1) h.h1
    · exact lane_step R.2.2.2.1 _ k (by omega) (fun j => B 2 (pick s j)) (round_box s hs hk' R.1 h.hS b2 (B 2) hb2) h.h2
    · exact lane_step R.2.2.2.2.1 _ k (by omega) (fun j => B 3 (pick s j)) (round_box s hs hk' R.1 h.hS b3 (B 3) hb3) h.h3
    · exact lane_step R.2.2.2.2.2 _ k (by omega) (fun j => s (pick s j)) (round_max s hs hk' R.1 h.hS) h.hs

end Cert.Value

end
-- ==== Proof.Value.RTop.lean ====
/- The reference's choice of the best scores and their boxes: score `k` of a batch row is the one its sort puts at `k`. -/
module

public import proofs.«01_k».proof.Proof.Value.Args
public import proofs.«01_k».proof.Proof.Value.KRow

@[expose] public section

set_option maxRecDepth 16384
set_option maxHeartbeats 4000000

noncomputable section

namespace Cert.Value

open Cert.ReferenceIdeal Cert.ReferenceIdeal.Gen Cert.ReferenceIdeal.Step Idealize.ShloMosaic

theorem along_last (n : Fin 4) (i k : Fin 5810) (hd : 1 < S4x5810.rank) :
    (ix2 n i : S4x5810.Idx).along ⟨1, hd⟩ k = ix2 n k := by
  funext a
  fin_cases a <;> rfl

/-- The sort along the last axis at an entry. -/
theorem sort2_at {β : Type} (x : FVec Ideal S4x5810 .f32) (y : S4x5810.Idx → β) (n : Fin 4) (i : Fin 5810) :
    (Host.sort2 S4x5810 1 (fun l r => FloatOps.cmpfTotal (F := Ideal) (φ := .f32) .gt l.1 r.1) x y).1 (ix2 n i) =
        x (ix2 n (sortedFrom (greater fun i => x (ix2 n i)) i)) ∧
      (Host.sort2 S4x5810 1 (fun l r => FloatOps.cmpfTotal (F := Ideal) (φ := .f32) .gt l.1 r.1) x y).2 (ix2 n i) =
        y (ix2 n (sortedFrom (greater fun i => x (ix2 n i)) i)) := by
  have hd : 1 < S4x5810.rank := by decide
  have hg : (fun a b : Fin 5810 => (FloatOps.cmpfTotal (F := Ideal) (φ := .f32) .gt
      (x ((ix2 n i : S4x5810.Idx).along ⟨1, hd⟩ a)) (x ((ix2 n i : S4x5810.Idx).along ⟨1, hd⟩ b)) == 1#1)) =
      greater (fun i => x (ix2 n i)) := by
    funext a b
    rw [along_last, along_last]
    show (BitVec.ofBool (decide (x (ix2 n b) < x (ix2 n a))) == 1#1) = decide _
    by_cases h : x (ix2 n b) < x (ix2 n a) <;> simp [h]
  have hp : sortedFrom (fun a b : Fin 5810 => (FloatOps.cmpfTotal (F := Ideal) (φ := .f32) .gt
      (x ((ix2 n i : S4x5810.Idx).along ⟨1, hd⟩ a)) (x ((ix2 n i : S4x5810.Idx).along ⟨1, hd⟩ b)) == 1#1)) i =
      sortedFrom (greater fun i => x (ix2 n i)) i := congrFun (congrArg sortedFrom hg) i
  have hs : Host.sort2 S4x5810 1 (fun l r => FloatOps.cmpfTotal (F := Ideal) (φ := .f32) .gt l.1 r.1) x y =
      (fun j => x (j.along ⟨1, hd⟩ (sortedFrom (fun a b => FloatOps.cmpfTotal (F := Ideal) (φ := .f32) .gt
        (x (j.along ⟨1, hd⟩ a)) (x (j.along ⟨1, hd⟩ b)) == 1#1) (j ⟨1, hd⟩))),
       fun j => y (j.along ⟨1, hd⟩ (sortedFrom (fun a b => FloatOps.cmpfTotal (F := Ideal) (φ := .f32) .gt
        (x (j.along ⟨1, hd⟩ a)) (x (j.along ⟨1, hd⟩ b)) == 1#1) (j ⟨1, hd⟩)))) := dif_pos hd
  rw [hs]
  exact ⟨(congrArg x (along_last n i _ hd)).trans (congrArg (fun j => x (ix2 n j)) hp),
    (congrArg y (along_last n i _ hd)).trans (congrArg (fun j => y (ix2 n j)) hp)⟩

theorem slice_at {β : Type} (f : S4x5810.Idx → β) (n : Fin 4) (k : Fin 100) (hk : (k : ℕ) < 5810) :
    extractStridedSlice S4x100 (fun _ => 0) f sliceFits_S4x5810_S4x100 (ix2 n k) = f (ix2 n ⟨k, hk⟩) := by
  show f _ = f _
  congr 1
  funext a
  fin_cases a <;> exact Fin.ext (Nat.zero_add _)

theorem topK_at (x : FVec Ideal S4x5810 .f32) (n : Fin 4) (k : Fin 100) :
    (Host.topK S4x100 1 (FloatOps.cmpfTotal .gt) x sliceFits_S4x5810_S4x100).1 (ix2 n k) =
        x (ix2 n (pick (fun i => x (ix2 n i)) k)) ∧
      (Host.topK S4x100 1 (FloatOps.cmpfTotal .gt) x sliceFits_S4x5810_S4x100).2 (ix2 n k) =
        BitVec.ofNat 32 (pick (fun i => x (ix2 n i)) k : Fin 5810) := by
  have hk : (k : ℕ) < 5810 := by have := k.isLt; omega
  have he : (pick (fun i => x (ix2 n i)) k : Fin 5810) = sortedFrom (greater fun i => x (ix2 n i)) ⟨k, hk⟩ := dif_pos hk
  rw [he]
  have hd : 1 < S4x5810.rank := by decide
  have h2 := sort2_at x (fun i => if hd : 1 < S4x5810.rank then iotaInDim S4x5810 32 ⟨1, hd⟩ i else 0#32) n ⟨k, hk⟩
  have hi : ∀ j : Fin 5810, (if hd : 1 < S4x5810.rank then iotaInDim S4x5810 32 ⟨1, hd⟩ (ix2 n j) else 0#32) = BitVec.ofNat 32 j :=
    fun j => (dif_pos hd).trans rfl
  exact ⟨(slice_at _ n k hk).trans h2.1, (slice_at _ n k hk).trans (h2.2.trans (hi _))⟩

/-- A gather that takes, in each batch row, one place of axis 1 and all of axis 2. -/
theorem gather_rows (x : FVec Ideal S4x5810x4 .f32) (idx : IVec S4x100x1 32) (n : Fin 4) (k : Fin 100) (q : Fin 4) (i : Fin 5810)
    (h : idx (ix3 n k 0) = BitVec.ofNat 32 i) :
    Host.gather gather_S4x5810x4_S4x100x1_S4x100x4_2_1_0_0_1_2_114 x idx (ix3 n k q) = x (ix3 n i q) := by
  set d := gather_S4x5810x4_S4x100x1_S4x100x4_2_1_0_0_1_2_114 with hd
  unfold Host.gather
  congr 1
  funext a
  refine Fin.ext ?_
  show d.start (ix3 n k q) idx a + d.batchCoord (ix3 n k q) a + d.offCoord (ix3 n k q) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 n k q) ⟨List.idxOf (1 : Fin 3) d.startIndexMap,
        List.idxOf_lt_length_iff.2 (List.mem_singleton.mpr rfl)⟩ = ix3 n k 0 := by
      funext b
      refine Fin.ext ?_
      match b with
      | ⟨0, _⟩ => rfl
      | ⟨1, _⟩ => rfl
      | ⟨2, _⟩ => rfl
    rw [hsi, h]
    have hi := i.isLt
    show min (BitVec.ofNat 32 i).toInt.toNat (5810 - 1) = (i : ℕ)
    rw [toInt_ofNat _ (by omega), Int.toNat_natCast]
    omega
  · rw [GatherDims.batchCoord_eq_zero _ _ _ (fun h => absurd (List.mem_singleton.mp h) (by decide))]
    unfold GatherDims.start
    rw [dif_neg (show ¬ (2 : Fin 3) ∈ d.startIndexMap from fun h => absurd (List.mem_singleton.mp h) (by decide))]
    simp only [Nat.zero_add, Nat.add_zero]
    rfl

section
variable (p : Args)

/-- A batch row of all scores, and of all boxes. -/
def scoreAt (n : Fin 4) (i : Fin 5810) : EReal := ap A_main_v1022 p (ix2 n i)
def boxAt (n : Fin 4) (q : Fin 4) (i : Fin 5810) : EReal := ap A_main_v1021 p (ix3 n i q)

theorem values_at (n : Fin 4) (k : Fin 100) : ap A_main_values p (ix2 n k) = scoreAt p n (pick (scoreAt p n) k) :=
  (topK_at (ap A_main_v1022 p) n k).1

theorem indices_at (n : Fin 4) (k : Fin 100) :
    ap A_main_indices p (ix2 n k) = BitVec.ofNat 32 (pick (scoreAt p n) k : Fin 5810) :=
  (topK_at (ap A_main_v1022 p) n k).2

theorem select_ofBool' {w : ℕ} (c : Prop) [Decidable c] (a b : BitVec w) :
    Scalar.select (BitVec.ofBool (decide c)) a b = if c then a else b := by
  by_cases h : c <;> simp [Scalar.select, h]

theorem cmpi_slt_zero (a : ℕ) (ha : a < 2 ^ 31) : IntOp.cmpi .slt (BitVec.ofNat 32 a) 0#32 = 0#1 := by
  have h := cmpi_slt_ofNat a 0 ha (by norm_num)
  rw [decide_eq_false (Nat.not_lt_zero a)] at h
  exact h

theorem cmpi_sge_zero (a : ℕ) (ha : a < 2 ^ 31) : IntOp.cmpi .sge (BitVec.ofNat 32 a) 0#32 = 1#1 := by
  show BitVec.ofBool (decide ((0#32).toInt ≤ (BitVec.ofNat 32 a).toInt)) = 1#1
  rw [toInt_ofNat _ ha, decide_eq_true (by simp)]
  rfl

theorem cmpi_sle_of (a b : ℕ) (ha : a < 2 ^ 31) (hb : b < 2 ^ 31) (h : a ≤ b) :
    IntOp.cmpi .sle (BitVec.ofNat 32 a) (BitVec.ofNat 32 b) = 1#1 := by
  show BitVec.ofBool (decide ((BitVec.ofNat 32 a).toInt ≤ (BitVec.ofNat 32 b).toInt)) = 1#1
  rw [toInt_ofNat _ ha, toInt_ofNat _ hb, decide_eq_true (by exact_mod_cast h)]
  rfl

theorem select_one {α : Type} (a b : α) : Scalar.select 1#1 a b = a := rfl

theorem starts_at (n : Fin 4) (k : Fin 100) (z : Fin 1) :
    ap A_main_call18_v4 p (ix3 n k z) = BitVec.ofNat 32 (pick (scoreAt p n) k : Fin 5810) := by
  have hi := indices_at p n k
  have := (pick (scoreAt p n) k).isLt
  pointwise [A_main_call18_v4, A_main_call18_v1, A_main_call18_v3, A_main_v1023, K_main_call18_v0, K_main_call18_c]
  simp only [hi]
  rw [cmpi_slt_zero _ (by omega)]
  rfl

theorem fits_at (n : Fin 4) (k : Fin 100) : ap A_main_call18_v11 p (ix2 n k) = 1#1 := by
  have := (pick (scoreAt p n) k).isLt
  pointwise [A_main_call18_v11, A_main_call18_v10, A_main_call18_v9, A_main_call18_v6, K_main_call18_v5, K_main_call18_v8,
    K_main_call18_v7, K_main_call18_c_1, K_main_call18_c_2, K_main_call18_c_3]
  simp only [starts_at p n k]
  rw [cmpi_sge_zero _ (by omega), cmpi_sle_of _ 5809 (by omega) (by norm_num) (by omega)]
  rfl

theorem boxes_at (n : Fin 4) (k : Fin 100) (q : Fin 4) :
    ap A_main_v1024 p (ix3 n k q) = boxAt p n q (pick (scoreAt p n) k) := by
  pointwise [A_main_v1024, A_main_call18_v13]
  simp only [fits_at p n k]
  rw [select_one]
  unfold A_main_call18_v12 boxAt
  exact gather_rows _ _ n k q _ (starts_at p n k 0)

end

end Cert.Value

end
-- ==== Proof.Value.Scores.lean ====
/- The scores are not negative. -/
module

public import proofs.«01_k».proof.Proof.Value.RealW
public import proofs.«01_k».proof.Proof.Value.Chain0
public import proofs.«01_k».proof.Proof.Value.Chain1
public import proofs.«01_k».proof.Proof.Value.Chain2
public import proofs.«01_k».proof.Proof.Value.RTop

@[expose] public section

set_option maxRecDepth 16384
set_option maxHeartbeats 1000000

noncomputable section

namespace Cert.Value

open Idealize.ShloMosaic
open Cert.ReferenceIdeal.Step Cert.ReferenceIdeal Cert.ReferenceIdeal.Gen

theorem logistic_nonneg {x : EReal} (h : IsReal x) : 0 ≤ Ideal.logistic x := by
  obtain ⟨r, rfl⟩ := h
  rw [Ideal.logistic_coe]
  have := Real.exp_pos (-r)
  exact EReal.coe_nonneg.mpr (by positivity)

variable {p : Args}

theorem logit0_real (hp : p.Real) (n : Fin 4) (o y z : ℕ) : IsReal (p.net.logit (img0 p n) o y z) :=
  logit_real hp (fun k y z => ext4_real (fun i j k l => image0_real hp i j k l) n k y z) o y z

theorem row0_nonneg (hp : p.Real) (n : Fin 4) (j : Fin 3481) : 0 ≤ ap A_main_v342 p (ix2 n j) := by
  rw [r0_score p n (img0_at n) (logit0_real hp n) j]
  exact logistic_nonneg ((logit0_real hp n _ _ _).sub (logit0_real hp n _ _ _))

theorem logit1_real (hp : p.Real) (n : Fin 4) (o y z : ℕ) : IsReal (p.net.logit (img1 p n) o y z) :=
  logit_real hp (fun k y z => ext4_real (fun i j k l => image1_real hp i j k l) n k y z) o y z

theorem row1_nonneg (hp : p.Real) (n : Fin 4) (j : Fin 1600) : 0 ≤ ap A_main_v681 p (ix2 n j) := by
  rw [r1_score p n (img1_at n) (logit1_real hp n) j]
  exact logistic_nonneg ((logit1_real hp n _ _ _).sub (logit1_real hp n _ _ _))

theorem logit2_real (hp : p.Real) (n : Fin 4) (o y z : ℕ) : IsReal (p.net.logit (img2 p n) o y z) :=
  logit_real hp (fun k y z => ext4_real (fun i j k l => image2_real hp i j k l) n k y z) o y z

theorem row2_nonneg (hp : p.Real) (n : Fin 4) (j : Fin 729) : 0 ≤ ap A_main_v1020 p (ix2 n j) := by
  rw [r2_score p n (img2_at n) (logit2_real hp n) j]
  exact logistic_nonneg ((logit2_real hp n _ _ _).sub (logit2_real hp n _ _ _))

theorem join_nonneg {x0 : (⟨S4x3481, .f32⟩ : BufTy).Contents (Elt Ideal)} {x1 : (⟨S4x1600, .f32⟩ : BufTy).Contents (Elt Ideal)}
    {x2 : (⟨S4x729, .f32⟩ : BufTy).Contents (Elt Ideal)} (n : Fin 4) (h0 : ∀ j : Fin 3481, (0 : EReal) ≤ x0 (ix2 n j))
    (h1 : ∀ j : Fin 1600, (0 : EReal) ≤ x1 (ix2 n j)) (h2 : ∀ j : Fin 729, (0 : EReal) ≤ x2 (ix2 n j)) (i : Fin 5810) :
    (0 : EReal) ≤ (concatenate S4x5810 1 [⟨S4x3481, x0⟩, ⟨S4x1600, x1⟩, ⟨S4x729, x2⟩] concatenates_S4x3481_S4x1600_S4x729_S4x5810_d1 : (⟨S4x5810, .f32⟩ : BufTy).Contents (Elt Ideal)) (ix2 n i) := by
  pointwise
  split_ifs <;> first | exact h0 _ | exact h1 _ | exact h2 _

theorem score_nonneg (hp : p.Real) (n : Fin 4) (i : Fin 5810) : 0 ≤ scoreAt p n i := by
  have h := join_nonneg n (row0_nonneg hp n) (row1_nonneg hp n) (row2_nonneg hp n) i
  unfold scoreAt
  simp only [ap] at h ⊢
  unfold A_main_v1022
  exact h

end Cert.Value

end
-- ==== Proof.Value.Greedy.lean ====
/- Greedy suppression, stated once: box `j` is kept if it is valid and no kept box before it overlaps it too much. -/
module

public import proofs.«01_k».proof.Proof.Value.Softmax

@[expose] public section

noncomputable section

namespace Cert.Value

open Idealize.ShloMosaic

/-- Box `j` is kept: it is valid and no kept box before it overlaps it. -/
def kept (V : ℕ → Prop) (O : ℕ → ℕ → Prop) (j : ℕ) : Prop := V j ∧ ∀ k : Fin j, kept V O k → ¬ O k j
termination_by j
decreasing_by exact k.isLt

theorem kept_iff (V : ℕ → Prop) (O : ℕ → ℕ → Prop) (j : ℕ) :
    kept V O j ↔ V j ∧ ¬ ∃ k < j, kept V O k ∧ O k j := by
  rw [kept]
  refine and_congr_right fun _ => ⟨fun h ⟨k, hk, h1, h2⟩ => h ⟨k, hk⟩ h1 h2, fun h k h1 h2 => h ⟨k, k.isLt, h1, h2⟩⟩

/-- Whether a box is kept depends on the boxes up to it alone. -/
theorem kept_congr {V V' : ℕ → Prop} {O O' : ℕ → ℕ → Prop} (n : ℕ) (hV : ∀ j < n, V j ↔ V' j)
    (hO : ∀ i < n, ∀ j < n, O i j ↔ O' i j) (j : ℕ) (hj : j < n) : kept V O j ↔ kept V' O' j := by
  induction j using Nat.strong_induction_on with
  | _ j ih =>
    rw [kept_iff, kept_iff, hV j hj]
    refine and_congr_right fun _ => not_congr ⟨?_, ?_⟩
    · rintro ⟨k, hk, h1, h2⟩
      exact ⟨k, hk, (ih k hk (by omega)).mp h1, (hO k (by omega) j hj).mp h2⟩
    · rintro ⟨k, hk, h1, h2⟩
      exact ⟨k, hk, (ih k hk (by omega)).mpr h1, (hO k (by omega) j hj).mpr h2⟩

/-- The intersection of two boxes over their union, as the programs compute it. -/
def iou (a b : Fin 4 → EReal) : EReal :=
  Ideal.div (max 0 (min (a 2) (b 2) - max (a 0) (b 0)) * max 0 (min (a 3) (b 3) - max (a 1) (b 1)))
    ((a 2 - a 0) * (a 3 - a 1) + (b 2 - b 0) * (b 3 - b 1) -
      max 0 (min (a 2) (b 2) - max (a 0) (b 0)) * max 0 (min (a 3) (b 3) - max (a 1) (b 1)) +
      Ideal.ofBits FTy.f32 814313567#32)

/-- Two boxes overlap too much. -/
def over (a b : Fin 4 → EReal) : Prop := Ideal.ofBits FTy.f32 1060320051#32 < iou a b

/-- A score passes the threshold. -/
def pass (s : EReal) : Prop := Ideal.ofBits FTy.f32 1058642330#32 < s

end Cert.Value

end
-- ==== Proof.Value.KNms.lean ====
/- The suppression rounds of a batch row over the extended reals, and what the last kernel writes for the row. -/
module

public import proofs.«01_k».proof.Proof.Value.KRow
public import proofs.«01_k».proof.Proof.Value.Greedy

@[expose] public section

set_option maxRecDepth 16384
set_option maxHeartbeats 4000000

noncomputable section

namespace Cert.Value

open scoped Classical

open Cert.KernelIdeal.Own Cert.KernelIdeal Cert.KernelIdeal.Gen Idealize.ShloMosaic

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem half_val : Ideal.ofBits FTy.f32 1056964608#32 = ((1 / 2 : ℝ) : EReal) := by
  rw [bits_val 1056964608#32 126 0 false (by decide) (by decide) (by decide) (by decide) (by decide)]
  congr 1
  norm_num

/-- A mark: 1 where the condition holds. -/
def mark (p : Prop) : EReal := if p then 1 else 0

theorem mark_pos {p : Prop} (h : p) : mark p = 1 := if_pos h
theorem mark_neg {p : Prop} (h : ¬ p) : mark p = 0 := if_neg h
theorem mark_congr {p q : Prop} (h : p ↔ q) : mark p = mark q := by rw [propext h]

theorem mark_lt_half (p : Prop) : mark p < ((1 / 2 : ℝ) : EReal) ↔ ¬ p := by
  by_cases h : p
  · rw [mark_pos h, ← EReal.coe_one, EReal.coe_lt_coe_iff]
    norm_num [h]
  · rw [mark_neg h, ← EReal.coe_zero, EReal.coe_lt_coe_iff]
    norm_num [h]

theorem half_lt_mark (p : Prop) : ((1 / 2 : ℝ) : EReal) < mark p ↔ p := by
  by_cases h : p
  · rw [mark_pos h, ← EReal.coe_one, EReal.coe_lt_coe_iff]
    norm_num [h]
  · rw [mark_neg h, ← EReal.coe_zero, EReal.coe_lt_coe_iff]
    norm_num [h]

theorem mark_nonneg (p : Prop) : 0 ≤ mark p := by
  by_cases h : p
  · rw [mark_pos h]; exact zero_le_one
  · rw [mark_neg h]

theorem ofBool_sitofp_mark (p : Prop) [Decidable p] :
    FloatOps.sitofp (F := Ideal) FTy.f32 (BitVec.setWidth 32 (BitVec.ofBool (decide p))) = mark p := by
  rw [ofBool_toNat_sitofp]
  by_cases h : p
  · rw [if_pos h, mark_pos h]
  · rw [if_neg h, mark_neg h]

section
variable (s : FVec Ideal S1x128 .f32) (M : FVec Ideal S128x128 .f32) (V : ℕ → Prop) (O : ℕ → ℕ → Prop)
  (hV : ∀ l : Fin 128, pass (s (ix2 0 l)) ↔ V l) (hM : ∀ i l : Fin 128, M (ix2 i l) = mark (O i l))
include hV

theorem keep_at (t : ℕ) (ht : t < 128) (x y : FVec Ideal S1x128 .f32)
    (hx : ∀ l : Fin 128, x (ix2 0 l) = mark ((l : ℕ) < t ∧ kept V O l))
    (hy : ∀ l : Fin 128, y (ix2 0 l) = mark (∃ k < t, kept V O k ∧ O k l)) (l : Fin 128) :
    keepStep lanes s (Scf.iv 0#32 1#32 t) x y (ix2 0 l) = mark ((l : ℕ) < t + 1 ∧ kept V O l) := by
  have := l.isLt
  pointwise [keepStep]
  rw [iv_val, cmpi_eq_ofNat _ _ (by omega) (by omega), andi_ofBool, andi_ofBool, select_ofBool, hx, hy, half_val]
  have e : Ideal.ofBits FTy.f32 1058642330#32 < s (ix2 0 l) ↔ V l := hV l
  refine (if_congr (and_congr (and_congr_right fun _ => e) (mark_lt_half _)) rfl rfl).trans ?_
  by_cases hl : (l : ℕ) = t
  · have hk := kept_iff V O l
    rw [hl] at hk ⊢
    by_cases h : kept V O t
    · rw [if_pos ⟨⟨rfl, (hk.mp h).1⟩, (hk.mp h).2⟩, mark_pos ⟨by omega, h⟩]
    · rw [if_neg fun h' => h (hk.mpr ⟨h'.1.2, h'.2⟩), mark_neg fun h' => h h'.2, mark_neg fun h' => h h'.2]
  · rw [if_neg fun h => hl h.1.1]
    refine mark_congr (and_congr_left fun _ => ?_)
    omega

omit hV in
include hM in
theorem sup_at (t : ℕ) (ht : t < 128) (x y : FVec Ideal S1x128 .f32)
    (hx : ∀ l : Fin 128, x (ix2 0 l) = mark ((l : ℕ) < t + 1 ∧ kept V O l))
    (hy : ∀ l : Fin 128, y (ix2 0 l) = mark (∃ k < t, kept V O k ∧ O k l)) (l : Fin 128) :
    supStep lanes lines M (Scf.iv 0#32 1#32 t) x y (ix2 0 l) = mark (∃ k < t + 1, kept V O k ∧ O k l) := by
  have hi : ∀ a : Fin 128, IntOp.cmpi .eq (BitVec.ofNat 32 a) (BitVec.ofNat 32 t) = BitVec.ofBool (decide ((a : ℕ) = t)) :=
    fun a => cmpi_eq_ofNat _ _ (by have := a.isLt; omega) (by omega)
  pointwise [supStep, rowOf, keptAt]
  simp only [iv_val, hi, ofBool_sitofp_mark, hM, hx, hy, half_val]
  rw [Finset.sum_eq_single (⟨t, ht⟩ : Fin 128)
    (fun a _ ha => by rw [mark_neg fun e => ha (Fin.ext e), mul_zero]) (fun h => absurd (Finset.mem_univ _) h),
    mark_pos (p := ((⟨t, ht⟩ : Fin 128) : ℕ) = t) rfl, mul_one, andi_ofBool, select_ofBool]
  have hk : (0 : EReal) < Finset.fold max (Ideal.ofBits FTy.f32 4286578688#32)
      (fun a : Fin 1 × Fin 128 => mark ((a.2 : ℕ) < t + 1 ∧ kept V O a.2) * mark ((a.2 : ℕ) = t)) Finset.univ ↔ kept V O t := by
    rw [Finset.lt_fold_max, neg_inf_bits]
    constructor
    · rintro (h | ⟨a, -, h⟩)
      · exact absurd h not_lt_bot
      · by_cases e : (a.2 : ℕ) = t
        · rw [mark_pos e, mul_one] at h
          by_contra hn
          rw [mark_neg (by rw [e]; exact fun h' => hn h'.2)] at h
          exact lt_irrefl _ h
        · rw [mark_neg e, mul_zero] at h
          exact absurd h (lt_irrefl _)
    · intro h
      refine .inr ⟨(0, ⟨t, ht⟩), Finset.mem_univ _, ?_⟩
      rw [mark_pos (p := ((⟨t, ht⟩ : Fin 128) : ℕ) = t) rfl, mul_one, mark_pos ⟨Nat.lt_succ_self t, h⟩]
      exact zero_lt_one
  refine (if_congr (and_congr (half_lt_mark _) hk) rfl rfl).trans ?_
  have hex : (∃ k < t + 1, kept V O k ∧ O k l) ↔ (O t l ∧ kept V O t) ∨ ∃ k < t, kept V O k ∧ O k l := by
    constructor
    · rintro ⟨k, hk, h1, h2⟩
      rcases Nat.lt_succ_iff_lt_or_eq.mp hk with h | rfl
      · exact .inr ⟨k, h, h1, h2⟩
      · exact .inl ⟨h2, h1⟩
    · rintro (⟨h1, h2⟩ | ⟨k, hk, h⟩)
      · exact ⟨t, Nat.lt_succ_self t, h2, h1⟩
      · exact ⟨k, by omega, h⟩
  split
  · rename_i h
    rw [mark_pos (hex.mpr (.inl h))]
  · rename_i h
    refine mark_congr ?_
    rw [hex]
    exact ⟨.inr, fun h' => h'.resolve_left h⟩

include hM in
theorem markIter_at (t : ℕ) (ht : t ≤ 128) :
    (∀ l : Fin 128, (markIter s M t).1 (ix2 0 l) = mark ((l : ℕ) < t ∧ kept V O l)) ∧
      ∀ l : Fin 128, (markIter s M t).2 (ix2 0 l) = mark (∃ k < t, kept V O k ∧ O k l) := by
  induction t with
  | zero =>
    have hz : ∀ l : Fin 128, k3_pay61 (F := Ideal) (ix2 0 l) = 0 := fun l => by pointwise [k3_pay61]
    refine ⟨fun l => (hz l).trans (mark_neg fun h => Nat.not_lt_zero _ h.1).symm,
      fun l => (hz l).trans (mark_neg fun ⟨k, hk, _⟩ => Nat.not_lt_zero _ hk).symm⟩
  | succ t ih =>
    have h := ih (by omega)
    have hk := keep_at s V O hV t (by omega) _ _ h.1 h.2
    exact ⟨hk, sup_at M V O hM t (by omega) _ _ hk h.2⟩

end

/-- The box of a lane after the rounds. -/
def laneBox (s : Fin 5810 → EReal) (B : Fin 4 → Fin 5810 → EReal) (l : ℕ) (q : Fin 4) : EReal :=
  if l < 100 then B q (pick s l) else 0

/-- What a row keeps. -/
def keeps (s : Fin 5810 → EReal) (B : Fin 4 → Fin 5810 → EReal) (l : ℕ) : Prop :=
  kept (fun j => pass (s (pick s j))) (fun i j => over (fun q => B q (pick s i)) (fun q => B q (pick s j))) l

section
variable {s : Fin 5810 → EReal} {B : Fin 4 → Fin 5810 → EReal} {r : Row Ideal} (h : After s B 100 r)
include h

theorem after_marks (l : Fin 128) (hl : (l : ℕ) < 100) :
    (markIter r.2.2.2.2.2 (k3_pay72 r.2.1 r.2.2.1 r.2.2.2.1 r.2.2.2.2.1) 100).1 (ix2 0 l) = mark (keeps s B l) := by
  have hm := (markIter_at r.2.2.2.2.2 (k3_pay72 r.2.1 r.2.2.1 r.2.2.2.1 r.2.2.2.2.1)
    (fun j => pass (if j < 100 then s (pick s j) else 0)) (fun i j => over (laneBox s B i) (laneBox s B j))
    (fun l => by rw [h.hs]) (fun i l => by
      have e0 : ∀ l : Fin 128, r.2.1 (ix2 0 l) = laneBox s B l 0 := h.h0
      have e1 : ∀ l : Fin 128, r.2.2.1 (ix2 0 l) = laneBox s B l 1 := h.h1
      have e2 : ∀ l : Fin 128, r.2.2.2.1 (ix2 0 l) = laneBox s B l 2 := h.h2
      have e3 : ∀ l : Fin 128, r.2.2.2.2.1 (ix2 0 l) = laneBox s B l 3 := h.h3
      pointwise [k3_pay72]
      simp only [e0, e1, e2, e3, ofBool_sitofp_mark]
      rfl) 100 (by omega)).1 l
  rw [hm]
  refine mark_congr ((and_iff_right hl).trans (kept_congr 100 (fun j hj => by rw [if_pos hj]) (fun i hi j hj => ?_) l hl))
  have ei : laneBox s B i = fun q => B q (pick s i) := funext fun q => if_pos hi
  have ej : laneBox s B j = fun q => B q (pick s j) := funext fun q => if_pos hj
  rw [ei, ej]

end

/-- What the kernel writes in the first 100 lanes of a row: the picked boxes' corners, and their scores where kept. -/
theorem rowOut_at (s : Fin 5810 → EReal) (hs : ∀ i, 0 ≤ s i) (B : Fin 4 → Fin 5810 → EReal)
    (b0 b1 b2 b3 : Vec Ideal S1x1x46x128 .f32)
    (hb0 : ∀ (r : Fin 46) (l : Fin 128), b0 (ix4 0 0 r l) = if h : (r * 128 + l : ℕ) < 5810 then B 0 ⟨_, h⟩ else 0)
    (hb1 : ∀ (r : Fin 46) (l : Fin 128), b1 (ix4 0 0 r l) = if h : (r * 128 + l : ℕ) < 5810 then B 1 ⟨_, h⟩ else 0)
    (hb2 : ∀ (r : Fin 46) (l : Fin 128), b2 (ix4 0 0 r l) = if h : (r * 128 + l : ℕ) < 5810 then B 2 ⟨_, h⟩ else 0)
    (hb3 : ∀ (r : Fin 46) (l : Fin 128), b3 (ix4 0 0 r l) = if h : (r * 128 + l : ℕ) < 5810 then B 3 ⟨_, h⟩ else 0)
    (X : Vec Ideal S1x46x128 .f32)
    (hX : ∀ (r : Fin 46) (l : Fin 128), X (ix3 0 r l) = if h : (r * 128 + l : ℕ) < 5810 then s ⟨_, h⟩ else 0)
    (q : Fin 8) (l : Fin 128) (hl : (l : ℕ) < 100) :
    rowOut b0 b1 b2 b3 (k3_pay62 X) (ix3 0 q l) =
      if h : (q : ℕ) < 4 then B ⟨q, h⟩ (pick s l) else if (q : ℕ) = 4 then s (pick s l) * mark (keeps s B l) else 0 := by
  have hS : ∀ (r : Fin 46) (l : Fin 128), k3_pay62 X (ix2 r l) = if h : (r * 128 + l : ℕ) < 5810 then s ⟨_, h⟩ else gone := by
    intro r l
    have := r.isLt; have := l.isLt
    pointwise [k3_pay62, k3_pay59]
    rw [posWord, cmpi_slt_ofNat _ _ (by omega) (by omega), select_ofBool, hX]
    by_cases h : (r * 128 + l : ℕ) < 5810
    · rw [if_pos h, dif_pos h, dif_pos h]
    · rw [if_neg h, dif_neg h]; rfl
  have h := topIter_after s hs B b0 b1 b2 b3 hb0 hb1 hb2 hb3 _ hS 100 le_rfl
  unfold rowOut
  revert h
  generalize topIter b0 b1 b2 b3 (k3_pay62 X, k3_pay61, k3_pay61, k3_pay61, k3_pay61, k3_pay61) 100 = R
  intro h
  have hm := after_marks h l hl
  revert hm
  show _ → k3_pay3 R.2.1 R.2.2.1 R.2.2.2.1 R.2.2.2.2.1 R.2.2.2.2.2
    (markIter R.2.2.2.2.2 (k3_pay72 R.2.1 R.2.2.1 R.2.2.2.1 R.2.2.2.2.1) 100).1 (ix3 0 q l) = _
  generalize (markIter R.2.2.2.2.2 (k3_pay72 R.2.1 R.2.2.1 R.2.2.2.1 R.2.2.2.2.1) 100).1 = K
  intro hm
  have e0 := h.h0 l
  have e1 := h.h1 l
  have e2 := h.h2 l
  have e3 := h.h3 l
  have e4 := h.hs l
  rw [if_pos hl] at e0 e1 e2 e3 e4
  pointwise [k3_pay3]
  obtain ⟨q, hq⟩ := q
  interval_cases q <;> simp [e0, e1, e2, e3, e4, hm]

end Cert.Value

end
-- ==== Proof.Value.Reg3.lean ====
/- Region 3: the kernel's rows, read off its last region. -/
module

public import proofs.«01_k».proof.Proof.Value.KNms
public import proofs.«01_k».proof.Proof.Value.Rounds
public import proofs.«01_k».proof.Proof.Ideal.Region3
public import Idealize.ShloMosaic.Lib.Pipeline.ValueKit
public import Idealize.ShloMosaic.Lib.WritesUnit
public import Idealize.ShloMosaic.Lib.WholeRead

@[expose] public section

set_option maxRecDepth 16384
set_option maxHeartbeats 1000000

noncomputable section

namespace Cert.Value

open Idealize.ShloMosaic Idealize.ShloMosaic.TcCoe Idealize.SL.Sem Idealize.ShloMosaic.Pipeline
open Cert.KernelIdeal Cert.KernelIdeal.Gen Cert.KernelIdeal.Own

/-- Four pieces, one for each batch row: a cell is what its row's piece holds. -/
theorem four (v : View sig .tc .vmem S4x8x128 .f32) (f) (w3 w2 w1 w0 : S1x8x128.Idx → EReal) (P : Fin 4 → EReal → Prop)
    (n : Fin 4) (q : Fin 8) (l : Fin 128) (h3 : P 3 (w3 (ix3 0 q l))) (h2 : P 2 (w2 (ix3 0 q l))) (h1 : P 1 (w1 (ix3 0 q l)))
    (h0 : P 0 (w0 (ix3 0 q l))) :
    P n (v.read (Elt Ideal) (v.writes (Elt Ideal) f
      [⟨Rect.unit ![3, 0, 0] ![1, 8, 128] inb_S4x8x128_S1x8x128_3_0_0, w3⟩, ⟨Rect.unit ![2, 0, 0] ![1, 8, 128] inb_S4x8x128_S1x8x128_2_0_0, w2⟩,
       ⟨Rect.unit ![1, 0, 0] ![1, 8, 128] inb_S4x8x128_S1x8x128_1_0_0, w1⟩, ⟨Rect.unit ![0, 0, 0] ![1, 8, 128] inb_S4x8x128_S1x8x128_0_0_0, w0⟩])
      (ix3 n q l)) := by
  have hit : ∀ (k : ℕ) (n' : Fin 4), n'.val = k → ∀ a : Fin 3,
      ((ix3 n' q l : S4x8x128.Idx) a).val = (![k, 0, 0] : Fin 3 → ℕ) a + ((ix3 (0 : Fin 1) q l : S1x8x128.Idx) a).val := by
    intro k n' hk a
    fin_cases a
    · exact hk
    · exact (Nat.zero_add _).symm
    · exact (Nat.zero_add _).symm
  have skip : ∀ (k : ℕ), n.val ≠ k → (n.val < k ∨ k + 1 ≤ n.val) := fun k hk => by omega
  by_cases c3 : n = 3
  · subst c3
    have e := View.read_writes_cons_unit_of_mem (Val := Elt Ideal) v f inb_S4x8x128_S1x8x128_3_0_0 w3
      [⟨Rect.unit ![2, 0, 0] ![1, 8, 128] inb_S4x8x128_S1x8x128_2_0_0, w2⟩,
       ⟨Rect.unit ![1, 0, 0] ![1, 8, 128] inb_S4x8x128_S1x8x128_1_0_0, w1⟩, ⟨Rect.unit ![0, 0, 0] ![1, 8, 128] inb_S4x8x128_S1x8x128_0_0_0, w0⟩]
      (ix3 3 q l) (ix3 0 q l) rfl (hit 3 3 rfl)
    rw [e]
    exact h3
  rw [View.read_writes_cons_unit_of_not_mem (Val := Elt Ideal) v f inb_S4x8x128_S1x8x128_3_0_0 w3 _ (ix3 n q l) rfl 0 (skip 3 (fun e => c3 (Fin.ext e)))]
  by_cases c2 : n = 2
  · subst c2
    have e := View.read_writes_cons_unit_of_mem (Val := Elt Ideal) v f inb_S4x8x128_S1x8x128_2_0_0 w2
      [⟨Rect.unit ![1, 0, 0] ![1, 8, 128] inb_S4x8x128_S1x8x128_1_0_0, w1⟩, ⟨Rect.unit ![0, 0, 0] ![1, 8, 128] inb_S4x8x128_S1x8x128_0_0_0, w0⟩]
      (ix3 2 q l) (ix3 0 q l) rfl (hit 2 2 rfl)
    rw [e]
    exact h2
  rw [View.read_writes_cons_unit_of_not_mem (Val := Elt Ideal) v f inb_S4x8x128_S1x8x128_2_0_0 w2 _ (ix3 n q l) rfl 0 (skip 2 (fun e => c2 (Fin.ext e)))]
  by_cases c1 : n = 1
  · subst c1
    have e := View.read_writes_cons_unit_of_mem (Val := Elt Ideal) v f inb_S4x8x128_S1x8x128_1_0_0 w1
      [⟨Rect.unit ![0, 0, 0] ![1, 8, 128] inb_S4x8x128_S1x8x128_0_0_0, w0⟩] (ix3 1 q l) (ix3 0 q l) rfl (hit 1 1 rfl)
    rw [e]
    exact h1
  rw [View.read_writes_cons_unit_of_not_mem (Val := Elt Ideal) v f inb_S4x8x128_S1x8x128_1_0_0 w1 _ (ix3 n q l) rfl 0 (skip 1 (fun e => c1 (Fin.ext e)))]
  have c0 : n = 0 := by
    have e3 : n.val ≠ 3 := fun e => c3 (Fin.ext e)
    have e2 : n.val ≠ 2 := fun e => c2 (Fin.ext e)
    have e1 : n.val ≠ 1 := fun e => c1 (Fin.ext e)
    exact Fin.ext (by show n.val = 0; omega)
  subst c0
  have e := View.read_writes_cons_unit_of_mem (Val := Elt Ideal) v f inb_S4x8x128_S1x8x128_0_0_0 w0
    [] (ix3 0 q l) (ix3 0 q l) rfl (hit 0 0 rfl)
  rw [e]
  exact h0

section
variable {c : Dev nD} {arg0 : Memref sig .tc .vmem S4x46x128 .f32} {harg0 : arg0.IsWhole} {arg1 : Memref sig .tc .vmem S4x4x46x128 .f32}
  {harg1 : arg1.IsWhole} {arg2 : Memref sig .tc .vmem S4x8x128 .f32} {harg2 : arg2.IsWhole}
  {x0 : Vec Ideal S4x46x128 .f32} {x1 : Vec Ideal S4x4x46x128 .f32}

theorem scoreRow_at (n : Fin 4) (o : Fin 3 → ℕ) (ho : o = ![n.val, 0, 0]) (h) (r : Fin 46) (l : Fin 128) :
    scoreRow arg0 (harg0.unread x0) o h (ix3 0 r l) = x0 (ix3 n r l) := by
  subst ho
  refine (Memref.IsWhole.readAt_unread harg0 x0 _ _).trans (congrArg x0 ?_)
  funext a
  apply Fin.ext
  fin_cases a <;> simp [Rect.toLoadRect, LoadRect.idx, Rect.unit]

theorem boxRow_at (n q : Fin 4) (o : Fin 4 → ℕ) (ho : o = ![n.val, q.val, 0, 0]) (h) (r : Fin 46) (l : Fin 128) :
    boxRow arg1 (harg1.unread x1) o h (ix4 0 0 r l) = x1 (ix4 n q r l) := by
  subst ho
  refine (Memref.IsWhole.readAt_unread harg1 x1 _ _).trans (congrArg x1 ?_)
  funext a
  apply Fin.ext
  fin_cases a <;> simp [Rect.toLoadRect, LoadRect.idx, Rect.unit]

variable (s : Fin 4 → Fin 5810 → EReal) (hs : ∀ n i, 0 ≤ s n i) (B : Fin 4 → Fin 4 → Fin 5810 → EReal)
  (h0 : ∀ (n : Fin 4) (r : Fin 46) (l : Fin 128), x0 (ix3 n r l) = if h : (r * 128 + l : ℕ) < 5810 then s n ⟨_, h⟩ else 0)
  (h1 : ∀ (n q : Fin 4) (r : Fin 46) (l : Fin 128), x1 (ix4 n q r l) = if h : (r * 128 + l : ℕ) < 5810 then B n q ⟨_, h⟩ else 0)

include hs h0 h1

/-- A batch row's rows as its piece stores them. -/
theorem piece_at (n : Fin 4) (o : Fin 3 → ℕ) (ho : o = ![n.val, 0, 0]) (h)
    (o0 o1 o2 o3 : Fin 4 → ℕ) (e0 : o0 = ![n.val, 0, 0, 0]) (e1 : o1 = ![n.val, 1, 0, 0]) (e2 : o2 = ![n.val, 2, 0, 0])
    (e3 : o3 = ![n.val, 3, 0, 0]) (g0 g1 g2 g3) (q : Fin 8) (l : Fin 128) (hl : (l : ℕ) < 100) :
    rowOut (boxRow arg1 (harg1.unread x1) o0 g0) (boxRow arg1 (harg1.unread x1) o1 g1) (boxRow arg1 (harg1.unread x1) o2 g2)
      (boxRow arg1 (harg1.unread x1) o3 g3) (k3_pay62 (scoreRow arg0 (harg0.unread x0) o h)) (ix3 0 q l) =
      if h : (q : ℕ) < 4 then B n ⟨q, h⟩ (pick (s n) l) else if (q : ℕ) = 4 then s n (pick (s n) l) * mark (keeps (s n) (B n) l) else 0 :=
  rowOut_at (s n) (hs n) (B n) _ _ _ _
    (fun r l => (boxRow_at n 0 _ e0 _ r l).trans (h1 n 0 r l)) (fun r l => (boxRow_at n 1 _ e1 _ r l).trans (h1 n 1 r l))
    (fun r l => (boxRow_at n 2 _ e2 _ r l).trans (h1 n 2 r l)) (fun r l => (boxRow_at n 3 _ e3 _ r l).trans (h1 n 3 r l))
    _ (fun r l => (scoreRow_at n _ ho _ r l).trans (h0 n r l)) q l hl

/-- What the region's body leaves in its output block. -/
theorem block3 (n : Fin 4) (q : Fin 8) (l : Fin 128) (hl : (l : ℕ) < 100) :
    out3_A_2 c arg0 harg0 arg1 harg1 arg2 harg2 x0 x1 (ix3 n q l) =
      if h : (q : ℕ) < 4 then B n ⟨q, h⟩ (pick (s n) l) else if (q : ℕ) = 4 then s n (pick (s n) l) * mark (keeps (s n) (B n) l) else 0 := by
  unfold out3_A_2
  rw [pieces3]
  refine four _ _ _ _ _ _ (fun n e => e = if h : (q : ℕ) < 4 then B n ⟨q, h⟩ (pick (s n) l) else if (q : ℕ) = 4 then s n (pick (s n) l) * mark (keeps (s n) (B n) l) else 0) n q l ?_ ?_ ?_ ?_
  · exact piece_at s hs B h0 h1 3 _ rfl _ _ _ _ _ rfl rfl rfl rfl _ _ _ _ q l hl
  · exact piece_at s hs B h0 h1 2 _ rfl _ _ _ _ _ rfl rfl rfl rfl _ _ _ _ q l hl
  · exact piece_at s hs B h0 h1 1 _ rfl _ _ _ _ _ rfl rfl rfl rfl _ _ _ _ q l hl
  · exact piece_at s hs B h0 h1 0 _ rfl _ _ _ _ _ rfl rfl rfl rfl _ _ _ _ q l hl

end

section
variable {W : Dev nD → Valuation τ sig (Elt Ideal)} {c : Dev nD}

theorem whole3 : ∀ t : Fin cfg3.N, win3_0.index t = ![0, 0, 0] ∧ win3_1.index t = ![0, 0, 0, 0] := (by decide +kernel : ∀ t : Fin grid3.N, _)

theorem blk3_0 (t : Fin cfg3.N) (n : Fin 4) (r : Fin 46) (l : Fin 128) :
    iblk3 (fun c b => W c b) c 0 t (ix3 n r l) = W c (Proc.devRef .tc main_v200) (ix3 n r l) := by
  have e := (whole3 t).1
  blk_simp [iblk3]
  refine congrArg (W c (Proc.devRef .tc main_v200)) ?_
  blk_ext [e]

theorem blk3_1 (t : Fin cfg3.N) (n q : Fin 4) (r : Fin 46) (l : Fin 128) :
    iblk3 (fun c b => W c b) c 1 t (ix4 n q r l) = W c (Proc.devRef .tc main_v202) (ix4 n q r l) := by
  have e := (whole3 t).2
  blk_simp [iblk3]
  refine congrArg (W c (Proc.devRef .tc main_v202)) ?_
  blk_ext [e]

/-- The region's result array. -/
theorem rows3 (s : Fin 4 → Fin 5810 → EReal) (hs : ∀ n i, 0 ≤ s n i) (B : Fin 4 → Fin 4 → Fin 5810 → EReal)
    (h0 : ∀ (n : Fin 4) (r : Fin 46) (l : Fin 128), W c (Proc.devRef .tc main_v200) (ix3 n r l) = if h : (r * 128 + l : ℕ) < 5810 then s n ⟨_, h⟩ else 0)
    (h1 : ∀ (n q : Fin 4) (r : Fin 46) (l : Fin 128), W c (Proc.devRef .tc main_v202) (ix4 n q r l) = if h : (r * 128 + l : ℕ) < 5810 then B n q ⟨_, h⟩ else 0)
    (n : Fin 4) (q : Fin 8) (l : Fin 128) (hl : (l : ℕ) < 100) :
    (dat3 (fun c b => W c b) c).arrAt 2 cfg3.N (ix3 n q l) =
      if h : (q : ℕ) < 4 then B n ⟨q, h⟩ (pick (s n) l) else if (q : ℕ) = 4 then s n (pick (s n) l) * mark (keeps (s n) (B n) l) else 0 := by
  have a := (dat3 (fun c b => W c b) c).arrAt_emb_eq_after_last 2 ⟨0, by decide⟩ (by decide +kernel) (ix3 n q l : S4x8x128.Idx)
  rw [after3_2] at a
  exact a.trans (block3 s hs B (fun n r l => (blk3_0 _ n r l).trans (h0 n r l)) (fun n q r l => (blk3_1 _ n q r l).trans (h1 n q r l)) n q l hl)

end

end Cert.Value

end
-- ==== Proof.Value.HostD.lean ====
/- The arrays the kernel's last region reads: the scores and the boxes of all scales, padded. -/
module

public import proofs.«01_k».proof.Proof.Value.Chain0
public import proofs.«01_k».proof.Proof.Value.Chain1
public import proofs.«01_k».proof.Proof.Value.Chain2
public import proofs.«01_k».proof.Proof.Value.RTop

@[expose] public section

set_option maxRecDepth 65536
set_option maxHeartbeats 1000000

noncomputable section

namespace Cert.Value

open Idealize.ShloMosaic Idealize.ShloMosaic.TcCoe Idealize.SL.Sem Idealize.ShloMosaic.StableHlo
open Cert.KernelIdeal Cert.KernelIdeal.Gen Cert.KernelIdeal.Own

variable {V : Valuation τ sig (Elt Ideal)} {p : Args}

theorem join_scores {x0 : (⟨S4x3481, .f32⟩ : BufTy).Contents (Elt Ideal)} {x1 : (⟨S4x1600, .f32⟩ : BufTy).Contents (Elt Ideal)} {x2 : (⟨S4x729, .f32⟩ : BufTy).Contents (Elt Ideal)}
    (h0 : x0 = ap ReferenceIdeal.Step.A_main_v342 p) (h1 : x1 = ap ReferenceIdeal.Step.A_main_v681 p) (h2 : x2 = ap ReferenceIdeal.Step.A_main_v1020 p) :
    (concatenate S4x5810 1 [⟨S4x3481, x0⟩, ⟨S4x1600, x1⟩, ⟨S4x729, x2⟩] concatenates_S4x3481_S4x1600_S4x729_S4x5810_d1 : (⟨S4x5810, .f32⟩ : BufTy).Contents (Elt Ideal)) = ap ReferenceIdeal.Step.A_main_v1022 p := by
  subst h0 h1 h2
  rfl

theorem join_boxes {x0 : (⟨S4x4x3481, .f32⟩ : BufTy).Contents (Elt Ideal)} {x1 : (⟨S4x4x1600, .f32⟩ : BufTy).Contents (Elt Ideal)} {x2 : (⟨S4x4x729, .f32⟩ : BufTy).Contents (Elt Ideal)}
    (h0 : ∀ (n q : Fin 4) (j : Fin 3481), x0 (ix3 n q j) = ap ReferenceIdeal.Step.A_main_v341 p (ix3 n j q))
    (h1 : ∀ (n q : Fin 4) (j : Fin 1600), x1 (ix3 n q j) = ap ReferenceIdeal.Step.A_main_v680 p (ix3 n j q))
    (h2 : ∀ (n q : Fin 4) (j : Fin 729), x2 (ix3 n q j) = ap ReferenceIdeal.Step.A_main_v1019 p (ix3 n j q)) (n q : Fin 4) (i : Fin 5810) :
    (concatenate S4x4x5810 2 [⟨S4x4x3481, x0⟩, ⟨S4x4x1600, x1⟩, ⟨S4x4x729, x2⟩] concatenates_S4x4x3481_S4x4x1600_S4x4x729_S4x4x5810_d2 : (⟨S4x4x5810, .f32⟩ : BufTy).Contents (Elt Ideal)) (ix3 n q i) =
      boxAt p n q i := by
  unfold boxAt
  simp only [ap] at h0 h1 h2 ⊢
  pointwise [ReferenceIdeal.Step.A_main_v1021]
  simp only [h0, h1, h2]

/-- The rows of the three scales, as the reference has them. -/
structure Rows (V : Valuation τ sig (Elt Ideal)) (p : Args) : Prop where
  s0 : V (Proc.devRef .tc main_v77) = ap ReferenceIdeal.Step.A_main_v342 p
  s1 : V (Proc.devRef .tc main_v136) = ap ReferenceIdeal.Step.A_main_v681 p
  s2 : V (Proc.devRef .tc main_v195) = ap ReferenceIdeal.Step.A_main_v1020 p
  b0 : ∀ (n q : Fin 4) (j : Fin 3481), V (Proc.devRef .tc main_v78) (ix3 n q j) = ap ReferenceIdeal.Step.A_main_v341 p (ix3 n j q)
  b1 : ∀ (n q : Fin 4) (j : Fin 1600), V (Proc.devRef .tc main_v137) (ix3 n q j) = ap ReferenceIdeal.Step.A_main_v680 p (ix3 n j q)
  b2 : ∀ (n q : Fin 4) (j : Fin 729), V (Proc.devRef .tc main_v196) (ix3 n q j) = ap ReferenceIdeal.Step.A_main_v1019 p (ix3 n j q)

theorem all_scores (h : Rows V p) : after (hostOps3.drop 2) V (Proc.devRef .tc main_v197) = ap ReferenceIdeal.Step.A_main_v1022 p := by
  simp only [hostOps3, List.drop_succ_cons, List.drop_zero]
  after_reads_simp
  exact join_scores h.s0 h.s1 h.s2

theorem all_boxes (h : Rows V p) (n q : Fin 4) (i : Fin 5810) : after (hostOps3.drop 2) V (Proc.devRef .tc main_v198) (ix3 n q i) = boxAt p n q i := by
  simp only [hostOps3, List.drop_succ_cons, List.drop_zero]
  after_reads_simp
  exact join_boxes h.b0 h.b1 h.b2 n q i

theorem zero_pad (h : Rows V p) : after (hostOps3.drop 2) V (Proc.devRef .tc main_c_54) = constantI S_ 32 0#32 := by
  simp only [hostOps3, List.drop_succ_cons, List.drop_zero]
  after_reads_simp

theorem sitofp_zero : (FloatOps.sitofp FTy.f32 0#32 : Ideal FTy.f32) = 0 := by
  change (((BitVec.toInt 0#32 : ℝ)) : EReal) = 0
  simp

theorem pad_boxes {x : (⟨S4x4x5810, .f32⟩ : BufTy).Contents (Elt Ideal)} (h : ∀ (n q : Fin 4) (i : Fin 5810), x (ix3 n q i) = boxAt p n q i)
    (n q : Fin 4) (r : Fin 46) (l : Fin 128) :
    shapeCast S4x4x46x128 (pad S4x4x5888 ![0, 0, 0] ![0, 0, 78] ![0, 0, 0] x (sitofp (F := Ideal) .f32 (constantI S_ 32 0#32)) pads_S4x4x5810_S4x4x5888_000_000_0780 h_S_) shapeCasts_S4x4x5888_S4x4x46x128 (ix4 n q r l) =
      if h : r.val * 128 + l.val < 5810 then boxAt p n q ⟨r.val * 128 + l.val, h⟩ else 0 := by
  pointwise
  rw [sitofp_zero]
  simp only [h]

/-- The padded scores. -/
theorem padded_scores (hc : V (Proc.devRef .tc main_c_54) = constantI S_ 32 0#32) (h : V (Proc.devRef .tc main_v197) = ap ReferenceIdeal.Step.A_main_v1022 p)
    (n : Fin 4) (r : Fin 46) (l : Fin 128) :
    after hostOps3_4 (after hostOps3_3 (after hostOps3_2 (after hostOps3_1 V))) (Proc.devRef .tc main_v200) (ix3 n r l) =
      if h : r.val * 128 + l.val < 5810 then scoreAt p n ⟨r.val * 128 + l.val, h⟩ else 0 := by
  after_reads_simp
  simp only [TRef.ofBuf_toBuf, h, hc]
  unfold scoreAt
  generalize ap ReferenceIdeal.Step.A_main_v1022 p = x
  change shapeCast _ (pad S4x5888 ![0, 0] ![0, 78] ![0, 0] x (sitofp (F := Ideal) .f32 (constantI S_ 32 0#32)) pads_S4x5810_S4x5888_000_0780 h_S_) shapeCasts_S4x5888_S4x46x128 (ix3 n r l) = _
  pointwise
  rw [sitofp_zero]

/-- The padded boxes. -/
theorem padded_boxes (h : ∀ (n q : Fin 4) (i : Fin 5810), V (Proc.devRef .tc main_v198) (ix3 n q i) = boxAt p n q i)
    (n q : Fin 4) (r : Fin 46) (l : Fin 128) :
    after hostOps3_4 (after hostOps3_3 (after hostOps3_2 (after hostOps3_1 V))) (Proc.devRef .tc main_v202) (ix4 n q r l) =
      if h : r.val * 128 + l.val < 5810 then boxAt p n q ⟨r.val * 128 + l.val, h⟩ else 0 := by
  after_reads_simp
  simp only [TRef.ofBuf_toBuf]
  exact pad_boxes h n q r l

end Cert.Value

end
-- ==== Proof.Value.Entry.lean ====
/- What the reference's operations before its loop leave, layer by layer: each stretch of operations takes the values it reads to the
   values it leaves. -/
module

public import proofs.«01_k».proof.Proof.Gen.ReferenceIdeal.Run
public import proofs.«01_k».proof.Proof.Value.Args

@[expose] public section

set_option maxRecDepth 65536
set_option maxHeartbeats 4000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- A valuation holds the arguments. -/
structure Holds (V : Valuation τ sig (Elt Ideal)) (p : Args) : Prop where
  img : V (Proc.devRef .tc main_arg0) = p.img
  w1 : V (Proc.devRef .tc main_arg1) = p.w1
  b1 : V (Proc.devRef .tc main_arg2) = p.b1
  a1 : V (Proc.devRef .tc main_arg3) = p.a1
  w2 : V (Proc.devRef .tc main_arg4) = p.w2
  b2 : V (Proc.devRef .tc main_arg5) = p.b2
  a2 : V (Proc.devRef .tc main_arg6) = p.a2
  w3 : V (Proc.devRef .tc main_arg7) = p.w3
  b3 : V (Proc.devRef .tc main_arg8) = p.b3
  a3 : V (Proc.devRef .tc main_arg9) = p.a3
  w41 : V (Proc.devRef .tc main_arg10) = p.w41
  b41 : V (Proc.devRef .tc main_arg11) = p.b41
  w42 : V (Proc.devRef .tc main_arg12) = p.w42
  b42 : V (Proc.devRef .tc main_arg13) = p.b42

theorem Holds.after {V : Valuation τ sig (Elt Ideal)} {p : Args} (h : Holds V p) {W : List (Ref sig .tc)}
    (ops : List (HloOp τ sig (Elt Ideal)))
    (hW : ops.Forall fun op => op.writes ⊆ (W.map (Proc.devRef (τ := τ) .tc)).toFinset)
    (hd : ∀ r ∈ [main_arg0, main_arg1, main_arg2, main_arg3, main_arg4, main_arg5, main_arg6, main_arg7, main_arg8, main_arg9, main_arg10, main_arg11, main_arg12, main_arg13], r ∉ W) :
    Holds (StableHlo.after ops V) p where
  img := (after_of_writes_sub ops V hW (hd main_arg0 (by decide +kernel))).trans h.img
  w1 := (after_of_writes_sub ops V hW (hd main_arg1 (by decide +kernel))).trans h.w1
  b1 := (after_of_writes_sub ops V hW (hd main_arg2 (by decide +kernel))).trans h.b1
  a1 := (after_of_writes_sub ops V hW (hd main_arg3 (by decide +kernel))).trans h.a1
  w2 := (after_of_writes_sub ops V hW (hd main_arg4 (by decide +kernel))).trans h.w2
  b2 := (after_of_writes_sub ops V hW (hd main_arg5 (by decide +kernel))).trans h.b2
  a2 := (after_of_writes_sub ops V hW (hd main_arg6 (by decide +kernel))).trans h.a2
  w3 := (after_of_writes_sub ops V hW (hd main_arg7 (by decide +kernel))).trans h.w3
  b3 := (after_of_writes_sub ops V hW (hd main_arg8 (by decide +kernel))).trans h.b3
  a3 := (after_of_writes_sub ops V hW (hd main_arg9 (by decide +kernel))).trans h.a3
  w41 := (after_of_writes_sub ops V hW (hd main_arg10 (by decide +kernel))).trans h.w41
  b41 := (after_of_writes_sub ops V hW (hd main_arg11 (by decide +kernel))).trans h.b41
  w42 := (after_of_writes_sub ops V hW (hd main_arg12 (by decide +kernel))).trans h.w42
  b42 := (after_of_writes_sub ops V hW (hd main_arg13 (by decide +kernel))).trans h.b42

section
variable {V : Valuation τ sig (Elt Ideal)} {p : Args}

/-- After: the image in [-1, 1] and the first scale's weights. -/
structure Left0 (V : Valuation τ sig (Elt Ideal)) (p : Args) : Prop where
  args : Holds V p
  v3 : V (Proc.devRef .tc main_v3) = ap A_main_v3 p
  v47 : V (Proc.devRef .tc main_v47) = K_main_v47

/-- After: first scale, first layer. -/
structure Left1 (V : Valuation τ sig (Elt Ideal)) (p : Args) : Prop where
  args : Holds V p
  v3 : V (Proc.devRef .tc main_v3) = ap A_main_v3 p
  v114 : V (Proc.devRef .tc main_v114) = ap A_main_v114 p

/-- After: first scale, second layer. -/
structure Left2 (V : Valuation τ sig (Elt Ideal)) (p : Args) : Prop where
  args : Holds V p
  v3 : V (Proc.devRef .tc main_v3) = ap A_main_v3 p
  v180 : V (Proc.devRef .tc main_v180) = ap A_main_v180 p

/-- After: first scale, third layer. -/
structure Left3 (V : Valuation τ sig (Elt Ideal)) (p : Args) : Prop where
  args : Holds V p
  v3 : V (Proc.devRef .tc main_v3) = ap A_main_v3 p
  v244 : V (Proc.devRef .tc main_v244) = ap A_main_v244 p

/-- After: first scale, boxes and scores; second scale, weights. -/
structure Left4 (V : Valuation τ sig (Elt Ideal)) (p : Args) : Prop where
  args : Holds V p
  v3 : V (Proc.devRef .tc main_v3) = ap A_main_v3 p
  v341 : V (Proc.devRef .tc main_v341) = ap A_main_v341 p
  v342 : V (Proc.devRef .tc main_v342) = ap A_main_v342 p
  v386 : V (Proc.devRef .tc main_v386) = K_main_v386

/-- After: second scale, first layer. -/
structure Left5 (V : Valuation τ sig (Elt Ideal)) (p : Args) : Prop where
  args : Holds V p
  v3 : V (Proc.devRef .tc main_v3) = ap A_main_v3 p
  v341 : V (Proc.devRef .tc main_v341) = ap A_main_v341 p
  v342 : V (Proc.devRef .tc main_v342) = ap A_main_v342 p
  v453 : V (Proc.devRef .tc main_v453) = ap A_main_v453 p

/-- After: second scale, second layer. -/
structure Left6 (V : Valuation τ sig (Elt Ideal)) (p : Args) : Prop where
  args : Holds V p
  v3 : V (Proc.devRef .tc main_v3) = ap A_main_v3 p
  v341 : V (Proc.devRef .tc main_v341) = ap A_main_v341 p
  v342 : V (Proc.devRef .tc main_v342) = ap A_main_v342 p
  v519 : V (Proc.devRef .tc main_v519) = ap A_main_v519 p

/-- After: second scale, third layer. -/
structure Left7 (V : Valuation τ sig (Elt Ideal)) (p : Args) : Prop where
  args : Holds V p
  v3 : V (Proc.devRef .tc main_v3) = ap A_main_v3 p
  v341 : V (Proc.devRef .tc main_v341) = ap A_main_v341 p
  v342 : V (Proc.devRef .tc main_v342) = ap A_main_v342 p
  v583 : V (Proc.devRef .tc main_v583) = ap A_main_v583 p

/-- After: second scale, boxes and scores; third scale, weights. -/
structure Left8 (V : Valuation τ sig (Elt Ideal)) (p : Args) : Prop where
  args : Holds V p
  v3 : V (Proc.devRef .tc main_v3) = ap A_main_v3 p
  v341 : V (Proc.devRef .tc main_v341) = ap A_main_v341 p
  v342 : V (Proc.devRef .tc main_v342) = ap A_main_v342 p
  v680 : V (Proc.devRef .tc main_v680) = ap A_main_v680 p
  v681 : V (Proc.devRef .tc main_v681) = ap A_main_v681 p
  v725 : V (Proc.devRef .tc main_v725) = K_main_v725

/-- After: third scale, first layer. -/
structure Left9 (V : Valuation τ sig (Elt Ideal)) (p : Args) : Prop where
  args : Holds V p
  v341 : V (Proc.devRef .tc main_v341) = ap A_main_v341 p
  v342 : V (Proc.devRef .tc main_v342) = ap A_main_v342 p
  v680 : V (Proc.devRef .tc main_v680) = ap A_main_v680 p
  v681 : V (Proc.devRef .tc main_v681) = ap A_main_v681 p
  v792 : V (Proc.devRef .tc main_v792) = ap A_main_v792 p

/-- After: third scale, second layer. -/
structure Left10 (V : Valuation τ sig (Elt Ideal)) (p : Args) : Prop where
  args : Holds V p
  v341 : V (Proc.devRef .tc main_v341) = ap A_main_v341 p
  v342 : V (Proc.devRef .tc main_v342) = ap A_main_v342 p
  v680 : V (Proc.devRef .tc main_v680) = ap A_main_v680 p
  v681 : V (Proc.devRef .tc main_v681) = ap A_main_v681 p
  v858 : V (Proc.devRef .tc main_v858) = ap A_main_v858 p

/-- After: third scale, third layer. -/
structure Left11 (V : Valuation τ sig (Elt Ideal)) (p : Args) : Prop where
  args : Holds V p
  v341 : V (Proc.devRef .tc main_v341) = ap A_main_v341 p
  v342 : V (Proc.devRef .tc main_v342) = ap A_main_v342 p
  v680 : V (Proc.devRef .tc main_v680) = ap A_main_v680 p
  v681 : V (Proc.devRef .tc main_v681) = ap A_main_v681 p
  v922 : V (Proc.devRef .tc main_v922) = ap A_main_v922 p

/-- After: third scale, boxes and scores; all boxes, all scores, the best scores. -/
structure Left12 (V : Valuation τ sig (Elt Ideal)) (p : Args) : Prop where
  args : Holds V p
  v1021 : V (Proc.devRef .tc main_v1021) = ap A_main_v1021 p
  v1023 : V (Proc.devRef .tc main_v1023) = ap A_main_v1023 p
  values : V (Proc.devRef .tc main_values) = ap A_main_values p

/-- After: the best boxes. -/
structure Left13 (V : Valuation τ sig (Elt Ideal)) (p : Args) : Prop where
  args : Holds V p
  v1024 : V (Proc.devRef .tc main_v1024) = ap A_main_v1024 p
  values : V (Proc.devRef .tc main_values) = ap A_main_values p

/-- After everything before the loop: the state the loop starts from. -/
structure Left14 (V : Valuation τ sig (Elt Ideal)) (p : Args) : Prop where
  v1045_10 : V (Proc.devRef .tc main_v1045_10) = (ap init p).main_v1045_10
  v1045_11 : V (Proc.devRef .tc main_v1045_11) = (ap init p).main_v1045_11
  v1045_0 : V (Proc.devRef .tc main_v1045_0) = (ap init p).main_v1045_0
  v1045_2 : V (Proc.devRef .tc main_v1045_2) = (ap init p).main_v1045_2
  v1045_3 : V (Proc.devRef .tc main_v1045_3) = (ap init p).main_v1045_3
  v1045_4 : V (Proc.devRef .tc main_v1045_4) = (ap init p).main_v1045_4
  v1045_5 : V (Proc.devRef .tc main_v1045_5) = (ap init p).main_v1045_5
  v1045_6 : V (Proc.devRef .tc main_v1045_6) = (ap init p).main_v1045_6
  v1045_7 : V (Proc.devRef .tc main_v1045_7) = (ap init p).main_v1045_7
  v1045_8 : V (Proc.devRef .tc main_v1045_8) = constantI S_ 32 (BitVec.ofNat 32 0)
  v1045_9 : V (Proc.devRef .tc main_v1045_9) = constantI S_ 32 (BitVec.ofNat 32 0)
  v1045_1 : V (Proc.devRef .tc main_v1045_1) = K_main_v1039

end

end Cert.Value

end
-- ==== Proof.Value.EntryA.lean ====
/- Stretches of the reference's operations before its loop. -/
module

public import proofs.«01_k».proof.Proof.Gen.ReferenceIdeal.Run
public import proofs.«01_k».proof.Proof.Value.Entry

@[expose] public section

set_option maxRecDepth 65536
set_option maxHeartbeats 4000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

theorem left0 (h : Holds V p) : Left0 (afterL [hostOps0, hostOps0_1, hostOps0_2, hostOps0_3, hostOps0_4, hostOps0_5] V) p := by
  refine ⟨(((((h.after hostOps0 hostOps0_writes (by decide +kernel)).after hostOps0_1 hostOps0_1_writes (by decide +kernel)).after hostOps0_2 hostOps0_2_writes (by decide +kernel)).after hostOps0_3 hostOps0_3_writes (by decide +kernel)).after hostOps0_4 hostOps0_4_writes (by decide +kernel)).after hostOps0_5 hostOps0_5_writes (by decide +kernel), ?_, ?_⟩ <;>
    (simp only [afterL_cons, afterL_nil]; after_reads_simp; try simp only [h.img]) <;> rfl

end Cert.Value

end
-- ==== Proof.Value.EntryB.lean ====
/- Stretches of the reference's operations before its loop. -/
module

public import proofs.«01_k».proof.Proof.Gen.ReferenceIdeal.Run
public import proofs.«01_k».proof.Proof.Value.Entry

@[expose] public section

set_option maxRecDepth 65536
set_option maxHeartbeats 4000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

theorem left1 (h : Left0 V p) : Left1 (afterL [hostOps0_6, hostOps0_7] V) p := by
  refine ⟨(h.args.after hostOps0_6 hostOps0_6_writes (by decide +kernel)).after hostOps0_7 hostOps0_7_writes (by decide +kernel), ?_, ?_⟩ <;>
    (simp only [afterL_cons, afterL_nil]; after_reads_simp; try simp only [h.v3, h.v47, h.args.w1, h.args.b1, h.args.a1]) <;> rfl

theorem left2 (h : Left1 V p) : Left2 (afterL [hostOps0_8, hostOps0_9] V) p := by
  refine ⟨(h.args.after hostOps0_8 hostOps0_8_writes (by decide +kernel)).after hostOps0_9 hostOps0_9_writes (by decide +kernel), ?_, ?_⟩ <;>
    (simp only [afterL_cons, afterL_nil]; after_reads_simp; try simp only [h.v3, h.v114, h.args.w2, h.args.b2, h.args.a2]) <;> rfl

theorem left3 (h : Left2 V p) : Left3 (afterL [hostOps0_10, hostOps0_11] V) p := by
  refine ⟨(h.args.after hostOps0_10 hostOps0_10_writes (by decide +kernel)).after hostOps0_11 hostOps0_11_writes (by decide +kernel), ?_, ?_⟩ <;>
    (simp only [afterL_cons, afterL_nil]; after_reads_simp; try simp only [h.v3, h.v180, h.args.w3, h.args.b3, h.args.a3]) <;> rfl

end Cert.Value

end
-- ==== Proof.Value.EntryC.lean ====
/- Stretches of the reference's operations before its loop. -/
module

public import proofs.«01_k».proof.Proof.Gen.ReferenceIdeal.Run
public import proofs.«01_k».proof.Proof.Value.Entry

@[expose] public section

set_option maxRecDepth 65536
set_option maxHeartbeats 1000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- A stretch, cut in two. -/
theorem cut (ops : List (HloOp τ sig (Elt Ideal))) (n : ℕ) (V : Valuation τ sig (Elt Ideal)) :
    after ops V = after (ops.drop n) (after (ops.take n) V) := by
  rw [← after_append, List.take_append_drop]

variable {V : Valuation τ sig (Elt Ideal)} {p : Args}

/-- Before the boxes are joined. -/
structure Mid4 (V : Valuation τ sig (Elt Ideal)) (p : Args) : Prop where
  args : Holds V p
  v3 : V (Proc.devRef .tc main_v3) = ap A_main_v3 p
  v273 : V (Proc.devRef .tc main_v273) = ap A_main_v273 p
  v336 : V (Proc.devRef .tc main_v336) = ap A_main_v336 p
  v337 : V (Proc.devRef .tc main_v337) = ap A_main_v337 p
  v338 : V (Proc.devRef .tc main_v338) = ap A_main_v338 p
  v339 : V (Proc.devRef .tc main_v339) = ap A_main_v339 p

theorem mid4 (h : Left3 V p) : Mid4 (after (hostOps0_12.take 112) V) p := by
  refine ⟨h.args.after _ (List.forall_iff_forall_mem.mpr fun op ho => List.forall_iff_forall_mem.mp hostOps0_12_writes op (List.mem_of_mem_take ho)) (by decide +kernel), ?_, ?_, ?_, ?_, ?_, ?_⟩ <;>
    (simp only [hostOps0_12, List.take_succ_cons, List.take_zero]; after_reads_simp; try simp only [h.v3, h.v244, h.args.w41, h.args.b41, h.args.w42, h.args.b42]) <;> rfl

theorem boxes4 {x0 : (⟨S4x59x59x1, .f32⟩ : BufTy).Contents (Elt Ideal)} {x1 : (⟨S4x59x59x1, .f32⟩ : BufTy).Contents (Elt Ideal)} {x2 : (⟨S4x59x59x1, .f32⟩ : BufTy).Contents (Elt Ideal)} {x3 : (⟨S4x59x59x1, .f32⟩ : BufTy).Contents (Elt Ideal)}
    (h0 : x0 = ap A_main_v336 p) (h1 : x1 = ap A_main_v337 p) (h2 : x2 = ap A_main_v338 p) (h3 : x3 = ap A_main_v339 p) :
    shapeCast S4x3481x4 ((concatenate S4x59x59x4 3 [⟨S4x59x59x1, x0⟩, ⟨S4x59x59x1, x1⟩, ⟨S4x59x59x1, x2⟩, ⟨S4x59x59x1, x3⟩] concatenates_S4x59x59x1_S4x59x59x1_S4x59x59x1_S4x59x59x1_S4x59x59x4_d3 : (⟨S4x59x59x4, .f32⟩ : BufTy).Contents (Elt Ideal))) shapeCasts_S4x59x59x4_S4x3481x4 = ap A_main_v341 p := by
  subst h0 h1 h2 h3
  rfl

theorem left4 (h : Left3 V p) : Left4 (afterL [hostOps0_12, hostOps0_13, hostOps0_14, hostOps0_15, hostOps0_16, hostOps0_17] V) p := by
  rw [afterL_cons, cut hostOps0_12 112]
  replace h := mid4 h
  generalize after (hostOps0_12.take 112) V = V at h ⊢
  refine ⟨((((((h.args.after _ (List.forall_iff_forall_mem.mpr fun op ho => List.forall_iff_forall_mem.mp hostOps0_12_writes op (List.mem_of_mem_drop ho)) (by decide +kernel)).after hostOps0_13 hostOps0_13_writes (by decide +kernel)).after hostOps0_14 hostOps0_14_writes (by decide +kernel)).after hostOps0_15 hostOps0_15_writes (by decide +kernel)).after hostOps0_16 hostOps0_16_writes (by decide +kernel)).after hostOps0_17 hostOps0_17_writes (by decide +kernel)), ?_, ?_, ?_, ?_⟩
  · simp only [afterL_cons, afterL_nil, hostOps0_12, List.drop_succ_cons, List.drop_zero]; after_reads_simp; exact h.v3
  · simp only [afterL_cons, afterL_nil, hostOps0_12, List.drop_succ_cons, List.drop_zero]; after_reads_simp; exact boxes4 h.v336 h.v337 h.v338 h.v339
  · simp only [afterL_cons, afterL_nil, hostOps0_12, List.drop_succ_cons, List.drop_zero]; after_reads_simp; simp only [h.v273]; rfl
  · simp only [afterL_cons, afterL_nil, hostOps0_12, List.drop_succ_cons, List.drop_zero]; after_reads_simp; rfl

end Cert.Value

end
-- ==== Proof.Value.EntryD.lean ====
/- Stretches of the reference's operations before its loop. -/
module

public import proofs.«01_k».proof.Proof.Gen.ReferenceIdeal.Run
public import proofs.«01_k».proof.Proof.Value.Entry

@[expose] public section

set_option maxRecDepth 65536
set_option maxHeartbeats 4000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

theorem left5 (h : Left4 V p) : Left5 (afterL [hostOps0_18, hostOps0_19] V) p := by
  refine ⟨(h.args.after hostOps0_18 hostOps0_18_writes (by decide +kernel)).after hostOps0_19 hostOps0_19_writes (by decide +kernel), ?_, ?_, ?_, ?_⟩ <;>
    (simp only [afterL_cons, afterL_nil]; after_reads_simp; try simp only [h.v3, h.v341, h.v342, h.v386, h.args.w1, h.args.b1, h.args.a1]) <;> rfl

theorem left6 (h : Left5 V p) : Left6 (afterL [hostOps0_20, hostOps0_21] V) p := by
  refine ⟨(h.args.after hostOps0_20 hostOps0_20_writes (by decide +kernel)).after hostOps0_21 hostOps0_21_writes (by decide +kernel), ?_, ?_, ?_, ?_⟩ <;>
    (simp only [afterL_cons, afterL_nil]; after_reads_simp; try simp only [h.v3, h.v341, h.v342, h.v453, h.args.w2, h.args.b2, h.args.a2]) <;> rfl

theorem left7 (h : Left6 V p) : Left7 (afterL [hostOps0_22, hostOps0_23] V) p := by
  refine ⟨(h.args.after hostOps0_22 hostOps0_22_writes (by decide +kernel)).after hostOps0_23 hostOps0_23_writes (by decide +kernel), ?_, ?_, ?_, ?_⟩ <;>
    (simp only [afterL_cons, afterL_nil]; after_reads_simp; try simp only [h.v3, h.v341, h.v342, h.v519, h.args.w3, h.args.b3, h.args.a3]) <;> rfl

end Cert.Value

end
-- ==== Proof.Value.EntryE.lean ====
/- Stretches of the reference's operations before its loop. -/
module

public import proofs.«01_k».proof.Proof.Gen.ReferenceIdeal.Run
public import proofs.«01_k».proof.Proof.Value.EntryC

@[expose] public section

set_option maxRecDepth 65536
set_option maxHeartbeats 1000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

/-- Before the boxes are joined. -/
structure Mid8 (V : Valuation τ sig (Elt Ideal)) (p : Args) : Prop where
  args : Holds V p
  v3 : V (Proc.devRef .tc main_v3) = ap A_main_v3 p
  v341 : V (Proc.devRef .tc main_v341) = ap A_main_v341 p
  v342 : V (Proc.devRef .tc main_v342) = ap A_main_v342 p
  v612 : V (Proc.devRef .tc main_v612) = ap A_main_v612 p
  v675 : V (Proc.devRef .tc main_v675) = ap A_main_v675 p
  v676 : V (Proc.devRef .tc main_v676) = ap A_main_v676 p
  v677 : V (Proc.devRef .tc main_v677) = ap A_main_v677 p
  v678 : V (Proc.devRef .tc main_v678) = ap A_main_v678 p

theorem mid8 (h : Left7 V p) : Mid8 (after (hostOps0_24.take 112) V) p := by
  refine ⟨h.args.after _ (List.forall_iff_forall_mem.mpr fun op ho => List.forall_iff_forall_mem.mp hostOps0_24_writes op (List.mem_of_mem_take ho)) (by decide +kernel), ?_, ?_, ?_, ?_, ?_, ?_, ?_, ?_⟩ <;>
    (simp only [hostOps0_24, List.take_succ_cons, List.take_zero]; after_reads_simp; try simp only [h.v3, h.v341, h.v342, h.v583, h.args.w41, h.args.b41, h.args.w42, h.args.b42]) <;> rfl

theorem boxes8 {x0 : (⟨S4x40x40x1, .f32⟩ : BufTy).Contents (Elt Ideal)} {x1 : (⟨S4x40x40x1, .f32⟩ : BufTy).Contents (Elt Ideal)} {x2 : (⟨S4x40x40x1, .f32⟩ : BufTy).Contents (Elt Ideal)} {x3 : (⟨S4x40x40x1, .f32⟩ : BufTy).Contents (Elt Ideal)}
    (h0 : x0 = ap A_main_v675 p) (h1 : x1 = ap A_main_v676 p) (h2 : x2 = ap A_main_v677 p) (h3 : x3 = ap A_main_v678 p) :
    shapeCast S4x1600x4 ((concatenate S4x40x40x4 3 [⟨S4x40x40x1, x0⟩, ⟨S4x40x40x1, x1⟩, ⟨S4x40x40x1, x2⟩, ⟨S4x40x40x1, x3⟩] concatenates_S4x40x40x1_S4x40x40x1_S4x40x40x1_S4x40x40x1_S4x40x40x4_d3 : (⟨S4x40x40x4, .f32⟩ : BufTy).Contents (Elt Ideal))) shapeCasts_S4x40x40x4_S4x1600x4 = ap A_main_v680 p := by
  subst h0 h1 h2 h3
  rfl

theorem left8 (h : Left7 V p) : Left8 (afterL [hostOps0_24, hostOps0_25, hostOps0_26, hostOps0_27, hostOps0_28, hostOps0_29] V) p := by
  rw [afterL_cons, cut hostOps0_24 112]
  replace h := mid8 h
  generalize after (hostOps0_24.take 112) V = V at h ⊢
  refine ⟨((((((h.args.after _ (List.forall_iff_forall_mem.mpr fun op ho => List.forall_iff_forall_mem.mp hostOps0_24_writes op (List.mem_of_mem_drop ho)) (by decide +kernel)).after hostOps0_25 hostOps0_25_writes (by decide +kernel)).after hostOps0_26 hostOps0_26_writes (by decide +kernel)).after hostOps0_27 hostOps0_27_writes (by decide +kernel)).after hostOps0_28 hostOps0_28_writes (by decide +kernel)).after hostOps0_29 hostOps0_29_writes (by decide +kernel)), ?_, ?_, ?_, ?_, ?_, ?_⟩
  · simp only [afterL_cons, afterL_nil, hostOps0_24, List.drop_succ_cons, List.drop_zero]; after_reads_simp; exact h.v3
  · simp only [afterL_cons, afterL_nil, hostOps0_24, List.drop_succ_cons, List.drop_zero]; after_reads_simp; exact h.v341
  · simp only [afterL_cons, afterL_nil, hostOps0_24, List.drop_succ_cons, List.drop_zero]; after_reads_simp; exact h.v342
  · simp only [afterL_cons, afterL_nil, hostOps0_24, List.drop_succ_cons, List.drop_zero]; after_reads_simp; exact boxes8 h.v675 h.v676 h.v677 h.v678
  · simp only [afterL_cons, afterL_nil, hostOps0_24, List.drop_succ_cons, List.drop_zero]; after_reads_simp; simp only [h.v612]; rfl
  · simp only [afterL_cons, afterL_nil, hostOps0_24, List.drop_succ_cons, List.drop_zero]; after_reads_simp; rfl

end Cert.Value

end
-- ==== Proof.Value.EntryF.lean ====
/- Stretches of the reference's operations before its loop. -/
module

public import proofs.«01_k».proof.Proof.Gen.ReferenceIdeal.Run
public import proofs.«01_k».proof.Proof.Value.Entry

@[expose] public section

set_option maxRecDepth 65536
set_option maxHeartbeats 4000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

theorem left9 (h : Left8 V p) : Left9 (afterL [hostOps0_30, hostOps0_31] V) p := by
  refine ⟨(h.args.after hostOps0_30 hostOps0_30_writes (by decide +kernel)).after hostOps0_31 hostOps0_31_writes (by decide +kernel), ?_, ?_, ?_, ?_, ?_⟩ <;>
    (simp only [afterL_cons, afterL_nil]; after_reads_simp; try simp only [h.v3, h.v341, h.v342, h.v680, h.v681, h.v725, h.args.w1, h.args.b1, h.args.a1]) <;> rfl

theorem left10 (h : Left9 V p) : Left10 (afterL [hostOps0_32, hostOps0_33] V) p := by
  refine ⟨(h.args.after hostOps0_32 hostOps0_32_writes (by decide +kernel)).after hostOps0_33 hostOps0_33_writes (by decide +kernel), ?_, ?_, ?_, ?_, ?_⟩ <;>
    (simp only [afterL_cons, afterL_nil]; after_reads_simp; try simp only [h.v341, h.v342, h.v680, h.v681, h.v792, h.args.w2, h.args.b2, h.args.a2]) <;> rfl

theorem left11 (h : Left10 V p) : Left11 (afterL [hostOps0_34, hostOps0_35] V) p := by
  refine ⟨(h.args.after hostOps0_34 hostOps0_34_writes (by decide +kernel)).after hostOps0_35 hostOps0_35_writes (by decide +kernel), ?_, ?_, ?_, ?_, ?_⟩ <;>
    (simp only [afterL_cons, afterL_nil]; after_reads_simp; try simp only [h.v341, h.v342, h.v680, h.v681, h.v858, h.args.w3, h.args.b3, h.args.a3]) <;> rfl

end Cert.Value

end
-- ==== Proof.Value.EntryG.lean ====
/- Stretches of the reference's operations before its loop. -/
module

public import proofs.«01_k».proof.Proof.Gen.ReferenceIdeal.Run
public import proofs.«01_k».proof.Proof.Value.EntryC

@[expose] public section

set_option maxRecDepth 65536
set_option maxHeartbeats 1000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

/-- Before the boxes are joined. -/
structure Mid12 (V : Valuation τ sig (Elt Ideal)) (p : Args) : Prop where
  args : Holds V p
  v341 : V (Proc.devRef .tc main_v341) = ap A_main_v341 p
  v342 : V (Proc.devRef .tc main_v342) = ap A_main_v342 p
  v680 : V (Proc.devRef .tc main_v680) = ap A_main_v680 p
  v681 : V (Proc.devRef .tc main_v681) = ap A_main_v681 p
  v951 : V (Proc.devRef .tc main_v951) = ap A_main_v951 p
  v1014 : V (Proc.devRef .tc main_v1014) = ap A_main_v1014 p
  v1015 : V (Proc.devRef .tc main_v1015) = ap A_main_v1015 p
  v1016 : V (Proc.devRef .tc main_v1016) = ap A_main_v1016 p
  v1017 : V (Proc.devRef .tc main_v1017) = ap A_main_v1017 p

theorem mid12 (h : Left11 V p) : Mid12 (after (hostOps0_36.take 112) V) p := by
  refine ⟨h.args.after _ (List.forall_iff_forall_mem.mpr fun op ho => List.forall_iff_forall_mem.mp hostOps0_36_writes op (List.mem_of_mem_take ho)) (by decide +kernel), ?_, ?_, ?_, ?_, ?_, ?_, ?_, ?_, ?_⟩ <;>
    (simp only [hostOps0_36, List.take_succ_cons, List.take_zero]; after_reads_simp; try simp only [h.v341, h.v342, h.v680, h.v681, h.v922, h.args.w41, h.args.b41, h.args.w42, h.args.b42]) <;> rfl

theorem boxes12 {x0 : (⟨S4x27x27x1, .f32⟩ : BufTy).Contents (Elt Ideal)} {x1 : (⟨S4x27x27x1, .f32⟩ : BufTy).Contents (Elt Ideal)} {x2 : (⟨S4x27x27x1, .f32⟩ : BufTy).Contents (Elt Ideal)} {x3 : (⟨S4x27x27x1, .f32⟩ : BufTy).Contents (Elt Ideal)}
    (h0 : x0 = ap A_main_v1014 p) (h1 : x1 = ap A_main_v1015 p) (h2 : x2 = ap A_main_v1016 p) (h3 : x3 = ap A_main_v1017 p) :
    shapeCast S4x729x4 ((concatenate S4x27x27x4 3 [⟨S4x27x27x1, x0⟩, ⟨S4x27x27x1, x1⟩, ⟨S4x27x27x1, x2⟩, ⟨S4x27x27x1, x3⟩] concatenates_S4x27x27x1_S4x27x27x1_S4x27x27x1_S4x27x27x1_S4x27x27x4_d3 : (⟨S4x27x27x4, .f32⟩ : BufTy).Contents (Elt Ideal))) shapeCasts_S4x27x27x4_S4x729x4 = ap A_main_v1019 p := by
  subst h0 h1 h2 h3
  rfl

/-- Before the scales are joined. -/
structure Tail12 (V : Valuation τ sig (Elt Ideal)) (p : Args) : Prop where
  v341 : V (Proc.devRef .tc main_v341) = ap A_main_v341 p
  v342 : V (Proc.devRef .tc main_v342) = ap A_main_v342 p
  v680 : V (Proc.devRef .tc main_v680) = ap A_main_v680 p
  v681 : V (Proc.devRef .tc main_v681) = ap A_main_v681 p
  v1019 : V (Proc.devRef .tc main_v1019) = ap A_main_v1019 p
  v1020 : V (Proc.devRef .tc main_v1020) = ap A_main_v1020 p

theorem tail12 (h : Mid12 V p) : Tail12 (after ((hostOps0_36.drop 112).take 3) V) p := by
  refine ⟨?_, ?_, ?_, ?_, ?_, ?_⟩
  · simp only [hostOps0_36, List.drop_succ_cons, List.drop_zero, List.take_succ_cons, List.take_zero]; after_reads_simp; exact h.v341
  · simp only [hostOps0_36, List.drop_succ_cons, List.drop_zero, List.take_succ_cons, List.take_zero]; after_reads_simp; exact h.v342
  · simp only [hostOps0_36, List.drop_succ_cons, List.drop_zero, List.take_succ_cons, List.take_zero]; after_reads_simp; exact h.v680
  · simp only [hostOps0_36, List.drop_succ_cons, List.drop_zero, List.take_succ_cons, List.take_zero]; after_reads_simp; exact h.v681
  · simp only [hostOps0_36, List.drop_succ_cons, List.drop_zero, List.take_succ_cons, List.take_zero]; after_reads_simp; exact boxes12 h.v1014 h.v1015 h.v1016 h.v1017
  · simp only [hostOps0_36, List.drop_succ_cons, List.drop_zero, List.take_succ_cons, List.take_zero]; after_reads_simp; simp only [h.v951]; rfl

theorem scales_boxes {x0 : (⟨S4x3481x4, .f32⟩ : BufTy).Contents (Elt Ideal)} {x1 : (⟨S4x1600x4, .f32⟩ : BufTy).Contents (Elt Ideal)} {x2 : (⟨S4x729x4, .f32⟩ : BufTy).Contents (Elt Ideal)}
    (h0 : x0 = ap A_main_v341 p) (h1 : x1 = ap A_main_v680 p) (h2 : x2 = ap A_main_v1019 p) :
    (concatenate S4x5810x4 1 [⟨S4x3481x4, x0⟩, ⟨S4x1600x4, x1⟩, ⟨S4x729x4, x2⟩] concatenates_S4x3481x4_S4x1600x4_S4x729x4_S4x5810x4_d1 : (⟨S4x5810x4, .f32⟩ : BufTy).Contents (Elt Ideal)) = ap A_main_v1021 p := by
  subst h0 h1 h2
  rfl

theorem scales_scores {x0 : (⟨S4x3481, .f32⟩ : BufTy).Contents (Elt Ideal)} {x1 : (⟨S4x1600, .f32⟩ : BufTy).Contents (Elt Ideal)} {x2 : (⟨S4x729, .f32⟩ : BufTy).Contents (Elt Ideal)}
    (h0 : x0 = ap A_main_v342 p) (h1 : x1 = ap A_main_v681 p) (h2 : x2 = ap A_main_v1020 p) :
    (concatenate S4x5810 1 [⟨S4x3481, x0⟩, ⟨S4x1600, x1⟩, ⟨S4x729, x2⟩] concatenates_S4x3481_S4x1600_S4x729_S4x5810_d1 : (⟨S4x5810, .f32⟩ : BufTy).Contents (Elt Ideal)) = ap A_main_v1022 p := by
  subst h0 h1 h2
  rfl

/-- The scales joined. -/
structure Join12 (V : Valuation τ sig (Elt Ideal)) (p : Args) : Prop where
  v1021 : V (Proc.devRef .tc main_v1021) = ap A_main_v1021 p
  v1022 : V (Proc.devRef .tc main_v1022) = ap A_main_v1022 p

theorem join12 (h : Tail12 V p) : Join12 (after (((hostOps0_36.drop 112).drop 3).take 2) V) p := by
  refine ⟨?_, ?_⟩
  · simp only [hostOps0_36, List.drop_succ_cons, List.drop_zero, List.take_succ_cons, List.take_zero]; after_reads_simp; exact scales_boxes h.v341 h.v680 h.v1019
  · simp only [hostOps0_36, List.drop_succ_cons, List.drop_zero, List.take_succ_cons, List.take_zero]; after_reads_simp; exact scales_scores h.v342 h.v681 h.v1020

theorem left12 (h : Left11 V p) : Left12 (afterL [hostOps0_36] V) p := by
  refine ⟨h.args.after hostOps0_36 hostOps0_36_writes (by decide +kernel), ?_, ?_, ?_⟩ <;>
    rw [afterL_cons, afterL_nil, cut hostOps0_36 112, cut (hostOps0_36.drop 112) 3, cut ((hostOps0_36.drop 112).drop 3) 2] <;>
    have h := join12 (tail12 (mid12 h)) <;>
    generalize after ((((hostOps0_36 (F := Ideal)).drop 112).drop 3).take 2) _ = V at h ⊢ <;>
    (simp only [hostOps0_36, List.drop_succ_cons, List.drop_zero]; after_reads_simp)
  · exact h.v1021
  · simp only [h.v1022]; rfl
  · simp only [h.v1022]; rfl

end Cert.Value

end
-- ==== Proof.Value.EntryH.lean ====
/- Stretches of the reference's operations before its loop. -/
module

public import proofs.«01_k».proof.Proof.Gen.ReferenceIdeal.Run
public import proofs.«01_k».proof.Proof.Value.EntryC

@[expose] public section

set_option maxRecDepth 65536
set_option maxHeartbeats 1000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {V : Valuation τ sig (Elt Ideal)} {p : Args}

/-- The numbers of the best boxes, brought into range. -/
structure Mid13 (V : Valuation τ sig (Elt Ideal)) (p : Args) : Prop where
  v1021 : V (Proc.devRef .tc main_v1021) = ap A_main_v1021 p
  v4 : V (Proc.devRef .tc main_call18_v4) = ap A_main_call18_v4 p
  v10 : V (Proc.devRef .tc main_call18_v10) = ap A_main_call18_v10 p

theorem mid13 (h : Left12 V p) : Mid13 (after (hostOps0_37.take 15) V) p := by
  refine ⟨?_, ?_, ?_⟩ <;>
    (simp only [hostOps0_37, List.take_succ_cons, List.take_zero]; after_reads_simp)
  · exact h.v1021
  · simp only [TRef.ofBuf_toBuf, h.v1023]
    unfold ap A_main_call18_v4 A_main_call18_v3 A_main_call18_v1
    generalize A_main_v1023 p.img p.w1 p.b1 p.a1 p.w2 p.b2 p.a2 p.w3 p.b3 p.a3 p.w41 p.b41 p.w42 p.b42 = x
    rfl
  · simp only [TRef.ofBuf_toBuf, h.v1023]
    unfold ap A_main_call18_v10 A_main_call18_v9 A_main_call18_v6 A_main_call18_v4 A_main_call18_v3 A_main_call18_v1
    generalize A_main_v1023 p.img p.w1 p.b1 p.a1 p.w2 p.b2 p.a2 p.w3 p.b3 p.a3 p.w41 p.b41 p.w42 p.b42 = x
    rfl

theorem left13 (h : Left12 V p) : Left13 (afterL [hostOps0_37] V) p := by
  refine ⟨h.args.after hostOps0_37 hostOps0_37_writes (by decide +kernel), ?_, ?_⟩
  · rw [afterL_cons, afterL_nil, cut hostOps0_37 15]
    have h := mid13 h
    generalize after ((hostOps0_37 (F := Ideal)).take 15) _ = V at h ⊢
    simp only [hostOps0_37, List.drop_succ_cons, List.drop_zero]
    after_reads_simp
    simp only [TRef.ofBuf_toBuf, h.v1021, h.v4, h.v10]
    unfold ap A_main_v1024 A_main_call18_v13 A_main_call18_v12 A_main_call18_v11
    generalize A_main_v1021 p.img p.w1 p.b1 p.a1 p.w2 p.b2 p.a2 p.w3 p.b3 p.a3 p.w41 p.b41 p.w42 p.b42 = x
    generalize A_main_call18_v4 p.img p.w1 p.b1 p.a1 p.w2 p.b2 p.a2 p.w3 p.b3 p.a3 p.w41 p.b41 p.w42 p.b42 = y
    generalize A_main_call18_v10 p.img p.w1 p.b1 p.a1 p.w2 p.b2 p.a2 p.w3 p.b3 p.a3 p.w41 p.b41 p.w42 p.b42 = z
    rfl
  · simp only [afterL_cons, afterL_nil]; after_reads_simp; exact h.values

theorem rows_of {x0 : (⟨S4x100x4, .f32⟩ : BufTy).Contents (Elt Ideal)} {x1 : (⟨S4x100x1, .f32⟩ : BufTy).Contents (Elt Ideal)}
    (h0 : x0 = ap A_main_v1024 p) (h1 : x1 = ap A_main_v1040 p) :
    (concatenate S4x100x5 2 [⟨S4x100x4, x0⟩, ⟨S4x100x1, x1⟩] concatenates_S4x100x4_S4x100x1_S4x100x5_d2 : (⟨S4x100x5, .f32⟩ : BufTy).Contents (Elt Ideal)) = (ap init p).main_v1045_2 := by
  subst h0 h1
  unfold ap init; dsimp only
  rfl

theorem blanks_of {x0 : (⟨S4x100x4, .f32⟩ : BufTy).Contents (Elt Ideal)} {x1 : (⟨S4x100x1, .f32⟩ : BufTy).Contents (Elt Ideal)}
    (h0 : x0 = ap A_main_v1024 p) (h1 : x1 = K_main_v1043 (F := Ideal)) :
    (concatenate S4x100x5 2 [⟨S4x100x4, x0⟩, ⟨S4x100x1, x1⟩] concatenates_S4x100x4_S4x100x1_S4x100x5_d2 : (⟨S4x100x5, .f32⟩ : BufTy).Contents (Elt Ideal)) = (ap init p).main_v1045_11 := by
  subst h0 h1
  unfold ap init; dsimp only
  rfl

theorem left14 (h : Left13 V p) : Left14 (afterL [hostOps0_38] V) p := by
  refine ⟨?_, ?_, ?_, ?_, ?_, ?_, ?_, ?_, ?_, ?_, ?_, ?_⟩ <;>
    (simp only [afterL_cons, afterL_nil]; after_reads_simp; try simp only [h.v1024, h.values])
  pick_goal 2
  · refine blanks_of ?_ ?_
    · show after (hostOps0_38.take 21) V _ = _
      simp only [hostOps0_38, List.take_succ_cons, List.take_zero]; after_reads_simp; exact h.v1024
    · show after (hostOps0_38.take 21) V _ = _
      simp only [hostOps0_38, List.take_succ_cons, List.take_zero]; after_reads_simp; rfl
  pick_goal 3
  · refine rows_of ?_ ?_
    · show after (hostOps0_38.take 17) V _ = _
      simp only [hostOps0_38, List.take_succ_cons, List.take_zero]; after_reads_simp; exact h.v1024
    · show after (hostOps0_38.take 17) V _ = _
      simp only [hostOps0_38, List.take_succ_cons, List.take_zero]; after_reads_simp; simp only [h.values]; rfl
  all_goals try unfold ap init
  all_goals try dsimp only [id]
  all_goals rfl

end Cert.Value

end
-- ==== Proof.Value.EntryAll.lean ====
/- What the reference's operations before its loop leave, layer by layer: each stretch of operations takes the values it reads to the
   values it leaves. -/
module

public import proofs.«01_k».proof.Proof.Gen.ReferenceIdeal.Run
public import proofs.«01_k».proof.Proof.Value.EntryA
public import proofs.«01_k».proof.Proof.Value.EntryB
public import proofs.«01_k».proof.Proof.Value.EntryC
public import proofs.«01_k».proof.Proof.Value.EntryD
public import proofs.«01_k».proof.Proof.Value.EntryE
public import proofs.«01_k».proof.Proof.Value.EntryF
public import proofs.«01_k».proof.Proof.Value.EntryG
public import proofs.«01_k».proof.Proof.Value.EntryH

@[expose] public section

set_option maxRecDepth 65536
set_option maxHeartbeats 4000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- What the operations before the loop leave. -/
theorem entry_left (m : (ℓ : Loc nD τ sig) → Buf (Elt Ideal) ℓ) (c : Dev nD) (p : Args) (h : Holds (launchContents m c) p) :
    Left14 (entryContents preI m c) p :=
  left14 (left13 (left12 (left11 (left10 (left9 (left8 (left7 (left6 (left5 (left4 (left3 (left2 (left1 (left0 h))))))))))))))

end Cert.Value

end
-- ==== Proof.Value.RNms.lean ====
/- The reference's suppression loop: after its hundred trips exactly the kept boxes have their scores written. -/
module

public import proofs.«01_k».proof.Proof.Value.RTop
public import proofs.«01_k».proof.Proof.Value.KNms

@[expose] public section

set_option maxRecDepth 16384
set_option maxHeartbeats 400000

noncomputable section

namespace Cert.Value

open scoped Classical
open Cert.ReferenceIdeal Cert.ReferenceIdeal.Gen Cert.ReferenceIdeal.Step Idealize.ShloMosaic

/-! ### The least index -/

theorem minsi_ofNat (a b : ℕ) (ha : a < 2 ^ 31) (hb : b < 2 ^ 31) :
    IntOp.minsi (BitVec.ofNat 32 a) (BitVec.ofNat 32 b) = BitVec.ofNat 32 (min a b) := by
  show (if (BitVec.ofNat 32 a).slt (BitVec.ofNat 32 b) then BitVec.ofNat 32 a else BitVec.ofNat 32 b) = _
  rw [BitVec.slt_eq_decide, toInt_ofNat _ ha, toInt_ofNat _ hb]
  by_cases hab : a < b
  · rw [if_pos (by simpa using hab), min_eq_left hab.le]
  · rw [if_neg (by simpa using hab), min_eq_right (by omega)]

theorem fold_minsi {ι : Type} (S : Finset ι) (g : ι → ℕ) (i : ℕ) (hi : i < 2 ^ 31) :
    Finset.fold IntOp.minsi (BitVec.ofNat 32 i) (fun j => BitVec.ofNat 32 (g j)) S = BitVec.ofNat 32 (Finset.fold min i g S) ∨
      ∃ j, ¬ g j < 2 ^ 31 := by
  by_cases hg : ∀ j, g j < 2 ^ 31
  swap
  · exact .inr (not_forall.mp hg)
  refine .inl ?_
  have : Finset.fold IntOp.minsi (BitVec.ofNat 32 i) (fun j => BitVec.ofNat 32 (g j)) S = BitVec.ofNat 32 (Finset.fold min i g S) ∧
      Finset.fold min i g S < 2 ^ 31 := by
    induction S using Finset.induction_on with
    | empty => exact ⟨rfl, hi⟩
    | insert a S ha ih =>
      rw [Finset.fold_insert ha, Finset.fold_insert ha, ih.1, minsi_ofNat _ _ (hg a) ih.2]
      exact ⟨rfl, lt_of_le_of_lt (min_le_left _ _) (hg a)⟩
  exact this.1

/-- The least of the numbers a condition leaves, when `a` is the least that meets it. -/
theorem least_ofNat (f : Fin 100 → BitVec 32) (c : Fin 100 → Prop) (hf : ∀ j, c j → f j = BitVec.ofNat 32 j)
    (hn : ∀ j, ¬ c j → f j = 100#32) (a : Fin 100) (ha : c a) (hm : ∀ j, c j → a ≤ j) :
    Finset.fold IntOp.minsi (2147483647#32) f Finset.univ = BitVec.ofNat 32 a := by
  have hf : f = fun j : Fin 100 => BitVec.ofNat 32 (if c j then (j : ℕ) else 100) := by
    funext j
    by_cases h : c j
    · rw [if_pos h, hf j h]
    · rw [if_neg h, hn j h]
  rw [hf]
  have ha' := a.isLt
  rcases fold_minsi Finset.univ (fun j : Fin 100 => if c j then (j : ℕ) else 100) 2147483647 (by norm_num) with h | ⟨j, h⟩
  · refine h.trans (congrArg _ (le_antisymm ?_ ?_))
    · refine (Finset.fold_min_le _).mpr (.inr ⟨a, Finset.mem_univ _, ?_⟩)
      rw [if_pos ha]
    · refine (Finset.le_fold_min _).mpr ⟨by omega, fun j _ => ?_⟩
      by_cases hj : c j
      · rw [if_pos hj]; exact hm j hj
      · rw [if_neg hj]; omega
  · refine absurd ?_ h
    have := j.isLt
    split <;> omega

/-! ### Taking a column's value at the chosen place -/

/-- The chosen places, made non-negative. -/
def places (i : IVec S4x1 32) : IVec S4x1x1 32 :=
  shapeCast S4x1x1 (select (cmpi .slt i (broadcastInDim S4x1 ![] bcast_S_S4x1 (constantI S_ 32 0#32)))
    (addi i (broadcastInDim S4x1 ![] bcast_S_S4x1 (constantI S_ 32 100#32))) i) shapeCasts_S4x1_S4x1x1

/-- Whether a place lies in a column. -/
def fits (k : IVec S4x1x1 32) : IVec S4x1 1 :=
  Host.reduce IntOp.andi (andi (cmpi .sge k (broadcastInDim S4x1x1 ![] bcast_S_S4x1x1 (constantI S_ 32 0#32)))
    (cmpi .sle k (broadcastInDim S4x1x1 ![0, 1, 2] bcast_S1x1x1_S4x1x1_0_1_2
      (broadcastInDim S1x1x1 ![2] bcast_S1_S1x1x1_2 (constantI S1 32 99#32))))) (constantI S_ 1 1#1) reducesTo_S4x1x1_S4x1_d2 h_S_

/-- The value a column has at the place chosen in each batch row. -/
def taken (x : FVec Ideal S4x100 .f32) (i : IVec S4x1 32) : FVec Ideal S4x1 .f32 :=
  select (fits (places i)) (Host.gather gather_S4x100_S4x1x1_S4x1_n_1_0_0_1_2_11 x (places i))
    (broadcastInDim S4x1 ![] bcast_S_S4x1 (constant S_ .f32 0x7FC00000#32))

theorem gather_one (x : FVec Ideal S4x100 .f32) (idx : IVec S4x1x1 32) (n : Fin 4) (i : Fin 100)
    (h : idx (ix3 n 0 0) = BitVec.ofNat 32 i) :
    Host.gather gather_S4x100_S4x1x1_S4x1_n_1_0_0_1_2_11 x idx (ix2 n 0) = x (ix2 n i) := by
  set d := gather_S4x100_S4x1x1_S4x1_n_1_0_0_1_2_11 with hd
  unfold Host.gather
  congr 1
  funext a
  refine Fin.ext ?_
  show d.start (ix2 n 0) idx a + d.batchCoord (ix2 n 0) a + d.offCoord (ix2 n 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 n 0) ⟨List.idxOf (1 : Fin 2) d.startIndexMap,
        List.idxOf_lt_length_iff.2 (List.mem_singleton.mpr rfl)⟩ = ix3 n 0 0 := by
      funext b
      refine Fin.ext ?_
      match b with
      | ⟨0, _⟩ => rfl
      | ⟨1, _⟩ => rfl
      | ⟨2, _⟩ => rfl
    rw [hsi, h]
    have hi := i.isLt
    show min (BitVec.ofNat 32 i).toInt.toNat (100 - 1) = (i : ℕ)
    rw [toInt_ofNat _ (by omega), Int.toNat_natCast]
    omega

theorem places_at (i : IVec S4x1 32) (n : Fin 4) (a : Fin 100) (h : i (ix2 n 0) = BitVec.ofNat 32 a) (y z : Fin 1) :
    places i (ix3 n y z) = BitVec.ofNat 32 a := by
  have ha := a.isLt
  obtain rfl : y = 0 := Subsingleton.elim _ _
  pointwise [places]
  simp only [h]
  rw [cmpi_slt_zero _ (by omega)]
  rfl

theorem fits_one (k : IVec S4x1x1 32) (n : Fin 4) (a : Fin 100) (h : ∀ y z : Fin 1, k (ix3 n y z) = BitVec.ofNat 32 a) :
    fits k (ix2 n 0) = 1#1 := by
  have ha := a.isLt
  pointwise [fits]
  simp only [h]
  rw [cmpi_sge_zero _ (by omega), cmpi_sle_of _ 99 (by omega) (by norm_num) (by omega)]
  rfl

theorem taken_at (x : FVec Ideal S4x100 .f32) (i : IVec S4x1 32) (n : Fin 4) (a : Fin 100)
    (h : i (ix2 n 0) = BitVec.ofNat 32 a) : taken x i (ix2 n 0) = x (ix2 n a) := by
  pointwise [taken]
  rw [fits_one _ n a (places_at i n a h), select_one]
  exact gather_one x _ n a (places_at i n a h 0 0)

theorem b51_eq (j : ℕ) (s : State Ideal) : b51 j s = taken s.main_v1045_3 (b18 j s) := rfl
theorem b75_eq (j : ℕ) (s : State Ideal) : b75 j s = taken s.main_v1045_4 (b18 j s) := rfl
theorem b99_eq (j : ℕ) (s : State Ideal) : b99 j s = taken s.main_v1045_5 (b18 j s) := rfl
theorem b123_eq (j : ℕ) (s : State Ideal) : b123 j s = taken s.main_v1045_6 (b18 j s) := rfl
theorem b156_eq (j : ℕ) (s : State Ideal) : b156 j s = taken s.main_v1045_7 (b18 j s) := rfl

/-! ### One trip -/

/-- What no trip changes, in a batch row: the scores, the boxes, the areas, and the rows to write. -/
structure Fixed (s : State Ideal) (n : Fin 4) (v : ℕ → EReal) (b : ℕ → Fin 4 → EReal) : Prop where
  hv : ∀ j : Fin 100, s.main_v1045_0 (ix2 n j) = v j
  h0 : ∀ j : Fin 100, s.main_v1045_3 (ix2 n j) = b j 0
  h1 : ∀ j : Fin 100, s.main_v1045_4 (ix2 n j) = b j 1
  h2 : ∀ j : Fin 100, s.main_v1045_5 (ix2 n j) = b j 2
  h3 : ∀ j : Fin 100, s.main_v1045_6 (ix2 n j) = b j 3
  har : ∀ j : Fin 100, s.main_v1045_7 (ix2 n j) = (b j 2 - b j 0) * (b j 3 - b j 1)
  ho : ∀ (j : Fin 100) (q : Fin 5), s.main_v1045_2 (ix3 n j q) = if h : (q : ℕ) < 4 then b j ⟨q, h⟩ else v j

section
variable {s : State Ideal} {n : Fin 4} {v : ℕ → EReal} {b : ℕ → Fin 4 → EReal} (hf : Fixed s n v b) (h0 : ∀ j, 0 ≤ v j)
  (A : ℕ → Prop) (hA : ∀ j : Fin 100, s.main_v1045_10 (ix2 n j) = BitVec.ofBool (decide (A j))) (t : ℕ)
include hf hA

theorem masked_at (j : Fin 100) : b5 t s (ix2 n j) = if A j then v j else ⊥ := by
  pointwise [b5, b4, b3, b2]
  rw [hA, select_ofBool, hf.hv, neg_inf_bits]

theorem best_at : b8 t s (ix2 n 0) = Finset.fold max ⊥ (fun j : Fin 100 => if A j then v j else ⊥) Finset.univ := by
  pointwise [b8, b7, b6]
  simp only [masked_at hf A hA]
  rw [neg_inf_bits]

include h0
theorem found_at : b21 t s (ix2 n 0) = BitVec.ofBool (decide (∃ j : Fin 100, A j)) := by
  have h := best_at hf A hA t
  pointwise [b21, b20, b19]
  rw [h, neg_inf_bits]
  refine congrArg BitVec.ofBool (decide_eq_decide.mpr ?_)
  rw [Finset.lt_fold_max]
  constructor
  · rintro (h | ⟨j, -, h⟩)
    · exact absurd h (lt_irrefl _)
    · by_contra hn
      rw [if_neg fun h' => hn ⟨j, h'⟩] at h
      exact lt_irrefl _ h
  · rintro ⟨j, hj⟩
    refine .inr ⟨j, Finset.mem_univ _, ?_⟩
    rw [if_pos hj]
    exact lt_of_lt_of_le EReal.bot_lt_zero (h0 _)

theorem chosen_at (hv : ∀ i j : Fin 100, i ≤ j → v j ≤ v i) (a : Fin 100) (ha : A a) (hm : ∀ j : Fin 100, A j → a ≤ j) :
    b18 t s (ix2 n 0) = BitVec.ofNat 32 a := by
  have hb := best_at hf A hA t
  have hM : b8 t s (ix2 n 0) = v a := by
    rw [hb]
    refine le_antisymm ((Finset.fold_max_le _).mpr ⟨bot_le, fun j _ => ?_⟩) ((Finset.le_fold_max _).mpr (.inr ⟨a, Finset.mem_univ _, ?_⟩))
    · by_cases hj : A j
      · rw [if_pos hj]; exact hv _ _ (hm j hj)
      · rw [if_neg hj]; exact bot_le
    · rw [if_pos ha]
  have hmk := masked_at hf A hA t
  have h15 : ∀ j : Fin 100, b15 t s (ix2 n j) = if (if A j then v j else ⊥) = v a then BitVec.ofNat 32 j else 100#32 := by
    intro j
    pointwise [b15, b14, b13, b12, b11, b10, b9, K_main_v1039, K_main_v1038]
    rw [hmk, hM]
  pointwise [b18, b17, b16]
  refine least_ofNat _ (fun j : Fin 100 => (if A j then v j else ⊥) = v a) (fun j hj => (h15 j).trans (if_pos hj))
    (fun j hj => (h15 j).trans (if_neg hj)) a (if_pos ha) fun j hj => ?_
  by_cases h : A j
  · exact hm j h
  · change (if A j then v j else ⊥) = v a at hj
    rw [if_neg h] at hj
    exact absurd hj (lt_of_lt_of_le EReal.bot_lt_zero (h0 _)).ne

omit hf hA h0 in
theorem cmpi_ne_ofNat (a b : ℕ) (ha : a < 2 ^ 32) (hb : b < 2 ^ 32) :
    IntOp.cmpi .ne (BitVec.ofNat 32 a) (BitVec.ofNat 32 b) = BitVec.ofBool (decide (a ≠ b)) := by
  refine congrArg BitVec.ofBool ?_
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [h, this]

omit hf hA h0 in
theorem andi_true (x : BitVec 1) : IntOp.andi x (BitVec.ofBool true) = x := by
  show x &&& 1#1 = x
  revert x
  decide

omit hf hA h0 in
theorem true_andi (x : BitVec 1) : IntOp.andi (BitVec.ofBool true) x = x := by
  show 1#1 &&& x = x
  revert x
  decide

omit hf hA h0 in
theorem andi_false (x : BitVec 1) : IntOp.andi x (BitVec.ofBool false) = 0#1 := by
  show x &&& 0#1 = 0#1
  revert x
  decide

omit hf hA h0 in
theorem false_andi (x : BitVec 1) : IntOp.andi (BitVec.ofBool false) x = 0#1 := by
  show 0#1 &&& x = 0#1
  revert x
  decide

/-- A trip that finds an active box. -/
theorem step_some (hv : ∀ i j : Fin 100, i ≤ j → v j ≤ v i) (a : Fin 100) (ha : A a) (hm : ∀ j : Fin 100, A j → a ≤ j) :
    (∀ j : Fin 100, (step t s).main_v1045_10 (ix2 n j) = BitVec.ofBool (decide (A j ∧ ¬ over (b a) (b j) ∧ (j : ℕ) ≠ a))) ∧
      ∀ (j : Fin 100) (q : Fin 5), (step t s).main_v1045_11 (ix3 n j q) =
        if (j : ℕ) = a then (if h : (q : ℕ) < 4 then b j ⟨q, h⟩ else v j) else s.main_v1045_11 (ix3 n j q) := by
  have hc := chosen_at hf h0 A hA t hv a ha hm
  have hfd := found_at hf h0 A hA t
  rw [decide_eq_true ⟨a, ha⟩] at hfd
  have e0 := (taken_at s.main_v1045_3 _ n a hc).trans (hf.h0 a)
  have e1 := (taken_at s.main_v1045_4 _ n a hc).trans (hf.h1 a)
  have e2 := (taken_at s.main_v1045_5 _ n a hc).trans (hf.h2 a)
  have e3 := (taken_at s.main_v1045_6 _ n a hc).trans (hf.h3 a)
  have e4 := (taken_at s.main_v1045_7 _ n a hc).trans (hf.har a)
  rw [← b51_eq] at e0
  rw [← b75_eq] at e1
  rw [← b99_eq] at e2
  rw [← b123_eq] at e3
  rw [← b156_eq] at e4
  have ha' := a.isLt
  constructor
  · intro j
    have hj := j.isLt
    pointwise [step, b173, b172, b171, b170, b169, b168, b167, b166, b165, b164, b163, b162, b161, b160, b159, b158, b157, b134,
      b133, b132, b131, b130, b129, b128, b127, b126, b125, b124, b101, b100, b77, b76, b53, b52, K_main_v1039, K_main_v1038]
    rw [hA, hc, hfd, e0, e1, e2, e3, e4, hf.h0, hf.h1, hf.h2, hf.h3, hf.har, cmpi_ne_ofNat _ _ (by omega) (by omega),
      andi_ofBool, andi_ofBool, andi_true]
    refine congrArg BitVec.ofBool (decide_eq_decide.mpr ?_)
    rw [and_assoc]
    exact and_congr_right fun _ => and_congr_left fun _ => not_lt.symm
  · intro j q
    have hj := j.isLt
    pointwise [step, b29, b28, b27, b26, b25, b24, b23, b22, K_main_v1039, K_main_v1038]
    rw [hc, hfd, true_andi, cmpi_eq_ofNat _ _ (by omega) (by omega), select_ofBool, hf.ho]

/-- A trip that finds none. -/
theorem step_none (hn : ¬ ∃ j : Fin 100, A j) :
    (∀ j : Fin 100, (step t s).main_v1045_10 (ix2 n j) = BitVec.ofBool (decide (A j))) ∧
      ∀ (j : Fin 100) (q : Fin 5), (step t s).main_v1045_11 (ix3 n j q) = s.main_v1045_11 (ix3 n j q) := by
  have hfd := found_at hf h0 A hA t
  rw [decide_eq_false hn] at hfd
  constructor
  · intro j
    rw [decide_eq_false fun h => hn ⟨j, h⟩]
    pointwise [step, b173, b172]
    rw [hfd, andi_false]
    rfl
  · intro j q
    pointwise [step, b29, b28, b27, b26, b25]
    rw [hfd, false_andi]
    rfl

end

/-! ### All trips -/

/-- The boxes still active when all kept boxes before `c` are picked. -/
def active (v : ℕ → EReal) (b : ℕ → Fin 4 → EReal) (c j : ℕ) : Prop :=
  c ≤ j ∧ pass (v j) ∧ ¬ ∃ k < c, kept (fun j => pass (v j)) (fun i j => over (b i) (b j)) k ∧ over (b k) (b j)

/-- A batch row after `t` trips: all kept boxes before some `c` are picked, the others are as at the start. -/
structure Trips (s : State Ideal) (n : Fin 4) (v : ℕ → EReal) (b : ℕ → Fin 4 → EReal) (t c : ℕ) : Prop where
  fixed : Fixed s n v b
  act : ∀ j : Fin 100, s.main_v1045_10 (ix2 n j) = BitVec.ofBool (decide (active v b c j))
  out : ∀ (j : Fin 100) (q : Fin 5), s.main_v1045_11 (ix3 n j q) =
    if h : (q : ℕ) < 4 then b j ⟨q, h⟩ else
      if (j : ℕ) < c ∧ kept (fun j => pass (v j)) (fun i j => over (b i) (b j)) j then v j else 0
  on : t ≤ c ∨ ¬ ∃ j : Fin 100, active v b c j

section
variable {s : State Ideal} {n : Fin 4} {v : ℕ → EReal} {b : ℕ → Fin 4 → EReal}

/-- A kept box at or after `c` is active. -/
theorem active_of_kept {c j : ℕ} (hc : c ≤ j) (hk : kept (fun j => pass (v j)) (fun i j => over (b i) (b j)) j) : active v b c j := by
  have h := (kept_iff _ _ _).mp hk
  exact ⟨hc, h.1, fun ⟨k, h1, h2⟩ => h.2 ⟨k, by omega, h2⟩⟩

theorem Trips.step {t c : ℕ} (h : Trips s n v b t c) (h0 : ∀ j, 0 ≤ v j) (hv : ∀ i j : Fin 100, i ≤ j → v j ≤ v i) :
    ∃ c', Trips (Step.step t s) n v b (t + 1) c' := by
  have hfix : Fixed (Step.step t s) n v b := ⟨h.fixed.hv, h.fixed.h0, h.fixed.h1, h.fixed.h2, h.fixed.h3, h.fixed.har, h.fixed.ho⟩
  by_cases hn : ∃ j : Fin 100, active v b c j
  swap
  · have hs := step_none h.fixed h0 (active v b c) h.act t hn
    exact ⟨c, hfix, hs.1, fun j q => (hs.2 j q).trans (h.out j q), .inr hn⟩
  · obtain ⟨a, ha, hm⟩ : ∃ a : Fin 100, active v b c a ∧ ∀ j : Fin 100, active v b c j → a ≤ j :=
      have hne : (Finset.univ.filter fun j : Fin 100 => active v b c j).Nonempty :=
        hn.imp fun j hj => Finset.mem_filter.mpr ⟨Finset.mem_univ _, hj⟩
      ⟨_, (Finset.mem_filter.mp (Finset.min'_mem _ hne)).2,
        fun (j : Fin 100) (hj : active v b c j) =>
          Finset.min'_le (Finset.univ.filter fun j : Fin 100 => active v b c j) j (Finset.mem_filter.mpr ⟨Finset.mem_univ _, hj⟩)⟩
    have hs := step_some h.fixed h0 (active v b c) h.act t hv a ha hm
    have hlt := a.isLt
    -- nothing between `c` and `a` is kept
    have hgap : ∀ k, c ≤ k → k < a → ¬ kept (fun j => pass (v j)) (fun i j => over (b i) (b j)) k := fun k h1 h2 hk => by
      have := hm ⟨k, by omega⟩ (active_of_kept h1 hk)
      exact absurd (Fin.le_def.mp this) (by simp; omega)
    have hka : kept (fun j => pass (v j)) (fun i j => over (b i) (b j)) a :=
      (kept_iff _ _ _).mpr ⟨ha.2.1, fun ⟨k, h1, h2, h3⟩ => by
        by_cases hk : k < c
        · exact ha.2.2 ⟨k, hk, h2, h3⟩
        · exact hgap k (by omega) h1 h2⟩
    have hca : c ≤ a := ha.1
    refine ⟨a + 1, hfix, fun j => ?_, fun j q => ?_, ?_⟩
    · rw [hs.1 j]
      refine congrArg BitVec.ofBool (decide_eq_decide.mpr ⟨fun ⟨h1, h2, h3⟩ => ⟨?_, h1.2.1, fun ⟨k, hk, hk1, hk2⟩ => ?_⟩, fun ⟨h1, h2, h3⟩ => ⟨⟨by omega, h2, fun ⟨k, hk, hk1⟩ => h3 ⟨k, by omega, hk1⟩⟩, fun ho => h3 ⟨a, by omega, hka, ho⟩, by omega⟩⟩)
      · have := Fin.le_def.mp (hm j h1)
        omega
      · by_cases e : k = a
        · exact h2 (e ▸ hk2)
        · by_cases hkc : k < c
          · exact h1.2.2 ⟨k, hkc, hk1, hk2⟩
          · exact hgap k (by omega) (by omega) hk1
    · rw [hs.2 j q, h.out j q]
      by_cases hq : (q : ℕ) < 4
      · rw [dif_pos hq, dif_pos hq, dif_pos hq, ite_self]
      · rw [dif_neg hq, dif_neg hq, dif_neg hq]
        by_cases e : (j : ℕ) = a
        · rw [if_pos e, if_pos ⟨by omega, e ▸ hka⟩]
        · rw [if_neg e]
          refine if_congr ⟨fun h' => ⟨by omega, h'.2⟩, fun h' => ⟨?_, h'.2⟩⟩ rfl rfl
          by_contra hc'
          exact hgap j (by omega) (by omega) h'.2
    · rcases h.on with h1 | h1
      · exact .inl (by omega)
      · exact absurd hn h1

/-- After all trips: the boxes, and the scores of the kept ones. -/
theorem Trips.last {c : ℕ} (h : Trips s n v b 100 c) (j : Fin 100) (q : Fin 5) : s.main_v1045_11 (ix3 n j q) =
    if h : (q : ℕ) < 4 then b j ⟨q, h⟩ else
      if kept (fun j => pass (v j)) (fun i j => over (b i) (b j)) j then v j else 0 := by
  have hj := j.isLt
  rw [h.out j q]
  by_cases hq : (q : ℕ) < 4
  · rw [dif_pos hq, dif_pos hq]
  · rw [dif_neg hq, dif_neg hq]
    refine if_congr ⟨fun h' => h'.2, fun h' => ⟨?_, h'⟩⟩ rfl rfl
    by_contra hc
    rcases h.on with h1 | h1
    · omega
    · exact h1 ⟨j, active_of_kept (by omega) h'⟩

end

/-- The loop's states from a first one. -/
def states (s : State Ideal) : ℕ → State Ideal
  | 0 => s
  | t + 1 => Step.step t (states s t)

theorem states_trips {s : State Ideal} {n : Fin 4} {v : ℕ → EReal} {b : ℕ → Fin 4 → EReal} (h : Trips s n v b 0 0) (h0 : ∀ j, 0 ≤ v j)
    (hv : ∀ i j : Fin 100, i ≤ j → v j ≤ v i) (t : ℕ) : ∃ c, Trips (states s t) n v b t c := by
  induction t with
  | zero => exact ⟨0, h⟩
  | succ t ih => exact ih.elim fun c hc => hc.step h0 hv

section
variable (p : Args)

theorem init_10 : (ap init p).main_v1045_10 = ap A_main_v1026 p := by
  unfold ap init; dsimp only
theorem init_11 : (ap init p).main_v1045_11 = ap A_main_v1044 p := by
  unfold ap init; dsimp only
theorem init_0 : (ap init p).main_v1045_0 = ap A_main_values p := by
  unfold ap init; dsimp only
theorem init_2 : (ap init p).main_v1045_2 = ap A_main_v1041 p := by
  unfold ap init; dsimp only
theorem init_3 : (ap init p).main_v1045_3 = ap A_main_v1028 p := by
  unfold ap init; dsimp only
theorem init_4 : (ap init p).main_v1045_4 = ap A_main_v1030 p := by
  unfold ap init; dsimp only
theorem init_5 : (ap init p).main_v1045_5 = ap A_main_v1032 p := by
  unfold ap init; dsimp only
theorem init_6 : (ap init p).main_v1045_6 = ap A_main_v1034 p := by
  unfold ap init; dsimp only
theorem init_7 : (ap init p).main_v1045_7 = ap A_main_v1037 p := by
  unfold ap init; dsimp only

/-- The first state of a batch row. -/
theorem init_trips (n : Fin 4) :
    Trips (ap init p) n (fun j => scoreAt p n (pick (scoreAt p n) j)) (fun j q => boxAt p n q (pick (scoreAt p n) j)) 0 0 := by
  have hbx := boxes_at p n
  have hvl := values_at p n
  have h0 : ∀ j : Fin 100, ap A_main_v1028 p (ix2 n j) = boxAt p n 0 (pick (scoreAt p n) j) := fun j => by
    pointwise [A_main_v1028, A_main_v1027]
    exact hbx j 0
  have h1 : ∀ j : Fin 100, ap A_main_v1030 p (ix2 n j) = boxAt p n 1 (pick (scoreAt p n) j) := fun j => by
    pointwise [A_main_v1030, A_main_v1029]
    exact hbx j 1
  have h2 : ∀ j : Fin 100, ap A_main_v1032 p (ix2 n j) = boxAt p n 2 (pick (scoreAt p n) j) := fun j => by
    pointwise [A_main_v1032, A_main_v1031]
    exact hbx j 2
  have h3 : ∀ j : Fin 100, ap A_main_v1034 p (ix2 n j) = boxAt p n 3 (pick (scoreAt p n) j) := fun j => by
    pointwise [A_main_v1034, A_main_v1033]
    exact hbx j 3
  refine ⟨⟨fun j => ?_, fun j => ?_, fun j => ?_, fun j => ?_, fun j => ?_, fun j => ?_, fun j q => ?_⟩, fun j => ?_, fun j q => ?_, .inl (Nat.zero_le _)⟩
  · rw [init_0]; exact hvl j
  · rw [init_3]; exact h0 j
  · rw [init_4]; exact h1 j
  · rw [init_5]; exact h2 j
  · rw [init_6]; exact h3 j
  · rw [init_7]
    pointwise [A_main_v1037, A_main_v1036, A_main_v1035]
    simp only [h0, h1, h2, h3]
  · rw [init_2]
    pointwise [A_main_v1041, A_main_v1040]
    simp only [hbx, hvl]
  · rw [init_10]
    pointwise [A_main_v1026, K_main_v1025, K_main_cst_120]
    simp only [hvl]
    refine congrArg BitVec.ofBool (decide_eq_decide.mpr ⟨fun h => ⟨Nat.zero_le _, h, fun ⟨k, hk, _⟩ => Nat.not_lt_zero _ hk⟩, fun h => h.2.1⟩)
  · rw [init_11]
    pointwise [A_main_v1044, K_main_v1043, K_main_v1042, K_main_cst_121]
    simp only [hbx]
    by_cases hq : (q : ℕ) < 4
    · rw [dif_pos hq, dif_pos hq]
    · rw [dif_neg hq, dif_neg hq, if_neg fun h => absurd h.1 (Nat.not_lt_zero _)]

end

end Cert.Value

end
-- ==== Proof.Value.Trip.lean ====
/- One trip of the reference's loop takes the buffers' contents to those of the next state, and so all its trips. -/
module

public import proofs.«01_k».proof.Proof.Gen.ReferenceIdeal.Run
public import proofs.«01_k».proof.Proof.Value.RNms

@[expose] public section

set_option maxRecDepth 16384
set_option maxHeartbeats 1000000

noncomputable section

namespace Cert.Value

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- The loop's buffers hold a state before trip `t`. -/
structure At (V : Valuation τ sig (Elt Ideal)) (s : State Ideal) (t : ℕ) : Prop where
  f_10 : V (Proc.devRef .tc main_v1045_10) = s.main_v1045_10
  f_11 : V (Proc.devRef .tc main_v1045_11) = s.main_v1045_11
  f_0 : V (Proc.devRef .tc main_v1045_0) = s.main_v1045_0
  f_2 : V (Proc.devRef .tc main_v1045_2) = s.main_v1045_2
  f_3 : V (Proc.devRef .tc main_v1045_3) = s.main_v1045_3
  f_4 : V (Proc.devRef .tc main_v1045_4) = s.main_v1045_4
  f_5 : V (Proc.devRef .tc main_v1045_5) = s.main_v1045_5
  f_6 : V (Proc.devRef .tc main_v1045_6) = s.main_v1045_6
  f_7 : V (Proc.devRef .tc main_v1045_7) = s.main_v1045_7
  n_8 : V (Proc.devRef .tc main_v1045_8) = constantI S_ 32 (BitVec.ofNat 32 t)
  n_9 : V (Proc.devRef .tc main_v1045_9) = constantI S_ 32 (BitVec.ofNat 32 t)
  k_1 : V (Proc.devRef .tc main_v1045_1) = K_main_v1039

section
variable {V : Valuation τ sig (Elt Ideal)} {s : State Ideal} {t : ℕ} (h : At V s t)
include h

theorem At.v1047 : res_main_while0b_v1047 V = b5 t s := by
  unfold res_main_while0b_v1047
  rw [h.f_10, h.f_0]
  rfl

theorem At.v1049 : res_main_while0b_v1049 V = b8 t s := by
  unfold res_main_while0b_v1049
  rw [h.v1047]
  rfl

theorem At.v1054 : res_main_while0b_v1054 V = b18 t s := by
  unfold res_main_while0b_v1054
  rw [h.v1047, h.v1049, h.k_1]
  rfl

theorem At.v1056 : res_main_while0b_v1056 V = b21 t s := by
  unfold res_main_while0b_v1056
  rw [h.v1049]
  rfl

theorem At.c22 : res_main_while0b_call22_v5 V = b37 t s := by
  unfold res_main_while0b_call22_v5
  rw [h.v1054]
  rfl

theorem At.c23 : res_main_while0b_call23_v5 V = b61 t s := by
  unfold res_main_while0b_call23_v5
  rw [h.v1054]
  rfl

theorem At.c24 : res_main_while0b_call24_v5 V = b85 t s := by
  unfold res_main_while0b_call24_v5
  rw [h.v1054]
  rfl

theorem At.c25 : res_main_while0b_call25_v5 V = b109 t s := by
  unfold res_main_while0b_call25_v5
  rw [h.v1054]
  rfl

theorem At.c26 : res_main_while0b_call26_v5 V = b142 t s := by
  unfold res_main_while0b_call26_v5
  rw [h.v1054]
  rfl

theorem At.v1082 : res_main_while0b_v1082 V = b134 t s := by
  unfold res_main_while0b_v1082
  rw [h.c22, h.c23, h.c24, h.c25, h.f_3, h.f_4, h.f_5, h.f_6]
  rfl

theorem At.step_10 : Value.step_main_v1045_10 V = (Step.step t s).main_v1045_10 := by
  unfold Value.step_main_v1045_10
  rw [h.v1082, h.c26, h.v1054, h.v1056, h.k_1, h.f_10, h.f_7]
  rfl

theorem At.step_11 : Value.step_main_v1045_11 V = (Step.step t s).main_v1045_11 := by
  unfold Value.step_main_v1045_11
  rw [h.v1054, h.v1056, h.k_1, h.f_2, h.f_11]
  rfl

theorem At.next : At (STEP V) (Step.step t s) (t + 1) where
  f_10 := (STEP_main_v1045_10 V).trans h.step_10
  f_11 := (STEP_main_v1045_11 V).trans h.step_11
  n_8 := by
    refine (STEP_main_v1045_8 V).trans ?_
    unfold Value.step_main_v1045_8
    rw [h.n_8]
    funext i
    show BitVec.ofNat 32 t + 1#32 = BitVec.ofNat 32 (t + 1)
    simp only [BitVec.ofNat_add]
  n_9 := by
    refine (STEP_main_v1045_9 V).trans ?_
    unfold Value.step_main_v1045_9
    rw [h.n_9]
    funext i
    show BitVec.ofNat 32 t + 1#32 = BitVec.ofNat 32 (t + 1)
    simp only [BitVec.ofNat_add]
  k_1 := (STEP_main_v1045_1 V).trans h.k_1
  f_0 := (STEP_main_v1045_0 V).trans h.f_0
  f_2 := (STEP_main_v1045_2 V).trans h.f_2
  f_3 := (STEP_main_v1045_3 V).trans h.f_3
  f_4 := (STEP_main_v1045_4 V).trans h.f_4
  f_5 := (STEP_main_v1045_5 V).trans h.f_5
  f_6 := (STEP_main_v1045_6 V).trans h.f_6
  f_7 := (STEP_main_v1045_7 V).trans h.f_7

end

/-- After `k` trips the buffers hold state `k`. -/
theorem At.trips {V : Valuation τ sig (Elt Ideal)} {s : State Ideal} (h : At V s 0) : ∀ k, At (STEP^[k] V) (states s k) k
  | 0 => h
  | k + 1 => by
    rw [Function.iterate_succ_apply']
    exact (At.trips h k).next

end Cert.Value

end
-- ==== Proof.Value.RRun.lean ====
/- What the reference returns. -/
module

public import proofs.«01_k».proof.Proof.Value.EntryAll
public import proofs.«01_k».proof.Proof.Value.Trip

@[expose] public section

set_option maxRecDepth 65536
set_option maxHeartbeats 1000000

noncomputable section

namespace Cert.Value

open Idealize.ShloMosaic Idealize.ShloMosaic.TcCoe Idealize.SL.Sem Idealize.ShloMosaic.StableHlo
open scoped Classical
open Cert.ReferenceIdeal Cert.ReferenceIdeal.Gen Cert.ReferenceIdeal.Value Cert.ReferenceIdeal.Step

variable {m : (ℓ : Loc nD τ sig) → Buf (Elt Ideal) ℓ} {c : Dev nD} {p : Args}

/-- The loop starts from the state the reference's operations build. -/
theorem entry_at (h : Holds (launchContents m c) p) : At (entryContents preI m c) (ap init p) 0 :=
  let e := entry_left m c p h
  ⟨e.v1045_10, e.v1045_11, e.v1045_0, e.v1045_2, e.v1045_3, e.v1045_4, e.v1045_5, e.v1045_6, e.v1045_7, e.v1045_8, e.v1045_9, e.v1045_1⟩

/-- The rows the reference returns: the best boxes, each with its score, or zero where it is suppressed. -/
theorem returned (h : Holds (launchContents m c) p) (n : Fin 4) (hs : ∀ i, 0 ≤ scoreAt p n i) (j : Fin 100) (q : Fin 5) :
    (STEP^[100] (entryContents preI m c)) (Proc.devRef .tc main_v1045_11) (ix3 n j q) =
      if h : q.val < 4 then boxAt p n ⟨q, h⟩ (pick (scoreAt p n) j)
      else if kept (fun j => pass (scoreAt p n (pick (scoreAt p n) j)))
          (fun i j => over (fun q => boxAt p n q (pick (scoreAt p n) i)) (fun q => boxAt p n q (pick (scoreAt p n) j))) j
        then scoreAt p n (pick (scoreAt p n) j) else 0 := by
  obtain ⟨k, hk⟩ := states_trips (init_trips p n) (fun j => hs _) (fun i j hij => pick_antitone _ (by omega) hij) 100
  rw [((entry_at h).trips 100).f_11]
  exact hk.last j q

end Cert.Value

end
-- ==== Proof.Value.Final.lean ====
/- The kernel's result, and that it is the reference's. -/
module

public import proofs.«01_k».proof.Proof.Value.Consts
public import proofs.«01_k».proof.Proof.Value.Scores
public import proofs.«01_k».proof.Proof.Value.Reg3
public import proofs.«01_k».proof.Proof.Value.HostD
public import proofs.«01_k».proof.Proof.Value.RRun

@[expose] public section

set_option maxRecDepth 16384
set_option maxHeartbeats 1000000

noncomputable section

namespace Cert.Value

open Idealize.ShloMosaic Idealize.ShloMosaic.TcCoe Idealize.SL.Sem Idealize.ShloMosaic.StableHlo
open scoped Classical
open Cert.KernelIdeal Cert.KernelIdeal.Gen Cert.KernelIdeal.Own

variable {m : (ℓ : Loc nD τ sig) → Buf (Elt Ideal) ℓ} {ρ : Dev nD → PrngReg} {c : Dev nD} {p : Args}

/-- The contents when all three scales' rows stand. -/
abbrev VR (m : (ℓ : Loc nD τ sig) → Buf (Elt Ideal) ℓ) (ρ : Dev nD → PrngReg) (c : Dev nD) : Valuation τ sig (Elt Ideal) :=
  after (hostOps3.take 2) (W24 m ρ c)

theorem VR_of (r : Ref sig .tc) (h : r ∉ hostOps3_W) : VR m ρ c (Proc.devRef .tc r) = W24 m ρ c (Proc.devRef .tc r) :=
  after_of_writes_sub (hostOps3.take 2) _ (List.forall_iff_forall_mem.mpr fun op ho =>
    List.forall_iff_forall_mem.mp (hostOps3_writes (F := Ideal)) op (List.mem_of_mem_take ho)) h

/-- The second scale's rows stay through the third scale. -/
theorem carry1 : ∀ r ∈ [main_v77, main_v78, main_v136, main_v137], VR m ρ c (Proc.devRef .tc r) = W17 m ρ c (Proc.devRef .tc r) := fun r hr =>
  (VR_of r ((by decide +kernel : ∀ r ∈ [main_v77, main_v78, main_v136, main_v137], r ∉ hostOps3_W) r hr)).trans <|
  (W24_of m ρ c r ((by decide +kernel : ∀ r ∈ [main_v77, main_v78, main_v136, main_v137], ∀ w : Fin cfg2.W, Pipeline.arrRef spec2 w = r → (cfg2.win w).isOut = false) r hr)).trans <|
  (W23_of m ρ c r ((by decide +kernel : ∀ r ∈ [main_v77, main_v78, main_v136, main_v137], r ∉ hostOps2_6_W) r hr)).trans <|
  (W22_of m ρ c r ((by decide +kernel : ∀ r ∈ [main_v77, main_v78, main_v136, main_v137], r ∉ hostOps2_5_W) r hr)).trans <|
  (W21_of m ρ c r ((by decide +kernel : ∀ r ∈ [main_v77, main_v78, main_v136, main_v137], r ∉ hostOps2_4_W) r hr)).trans <|
  (W20_of m ρ c r ((by decide +kernel : ∀ r ∈ [main_v77, main_v78, main_v136, main_v137], r ∉ hostOps2_3_W) r hr)).trans <|
  (W19_of m ρ c r ((by decide +kernel : ∀ r ∈ [main_v77, main_v78, main_v136, main_v137], r ∉ hostOps2_2_W) r hr)).trans <|
  (W18_of m ρ c r ((by decide +kernel : ∀ r ∈ [main_v77, main_v78, main_v136, main_v137], r ∉ hostOps2_1_W) r hr))

/-- The first scale's rows stay through the second. -/
theorem carry0 : ∀ r ∈ [main_v77, main_v78], VR m ρ c (Proc.devRef .tc r) = W9 m ρ c (Proc.devRef .tc r) := fun r hr =>
  (carry1 r ((by decide +kernel : ∀ r ∈ [main_v77, main_v78], r ∈ [main_v77, main_v78, main_v136, main_v137]) r hr)).trans <|
  (W17_of m ρ c r ((by decide +kernel : ∀ r ∈ [main_v77, main_v78], r ∉ hostOps2_W) r hr)).trans <|
  (W16_of m ρ c r ((by decide +kernel : ∀ r ∈ [main_v77, main_v78], ∀ w : Fin cfg1.W, Pipeline.arrRef spec1 w = r → (cfg1.win w).isOut = false) r hr)).trans <|
  (W15_of m ρ c r ((by decide +kernel : ∀ r ∈ [main_v77, main_v78], r ∉ hostOps1_6_W) r hr)).trans <|
  (W14_of m ρ c r ((by decide +kernel : ∀ r ∈ [main_v77, main_v78], r ∉ hostOps1_5_W) r hr)).trans <|
  (W13_of m ρ c r ((by decide +kernel : ∀ r ∈ [main_v77, main_v78], r ∉ hostOps1_4_W) r hr)).trans <|
  (W12_of m ρ c r ((by decide +kernel : ∀ r ∈ [main_v77, main_v78], r ∉ hostOps1_3_W) r hr)).trans <|
  (W11_of m ρ c r ((by decide +kernel : ∀ r ∈ [main_v77, main_v78], r ∉ hostOps1_2_W) r hr)).trans <|
  (W10_of m ρ c r ((by decide +kernel : ∀ r ∈ [main_v77, main_v78], r ∉ hostOps1_1_W) r hr))

theorem row_ext {a b : ℕ} {x y : (⟨2, ![a, b]⟩ : Shape).Idx → EReal} (h : ∀ (n : Fin a) (j : Fin b), x (ix2 n j) = y (ix2 n j)) : x = y := by
  funext i
  have e : i = ix2 (i 0 : Fin a) (i 1 : Fin b) := by
    funext k
    fin_cases k <;> rfl
  rw [e]
  exact h _ _

/-- The three scales' rows are the reference's. -/
theorem rows (h : KArgs (W0 m ρ c) p) (hp : p.Real) : Rows (VR m ρ c) p :=
  have s6 := enter0 h
  have s14 := enter1 (leave0 (ready0 s6))
  have s22 := enter2 (leave1 (ready1 s14))
  { s0 := (carry0 main_v77 (by simp)).trans (row_ext fun n j => row0_score s6 (logit0_real hp) n j)
    s1 := (carry1 main_v136 (by simp)).trans (row_ext fun n j => row1_score s14 (logit1_real hp) n j)
    s2 := row_ext fun n j => row2_score s22 (logit2_real hp) n j
    b0 := fun n q j => (congrFun (carry0 main_v78 (by simp)) _).trans (row0_box s6 scale0 n q j)
    b1 := fun n q j => (congrFun (carry1 main_v137 (by simp)) _).trans (row1_box s14 scale1 n q j)
    b2 := fun n q j => row2_box s22 scale2 n q j }

theorem W25_cut : W25 m ρ c = after (hostOps3.drop 2) (VR m ρ c) := by
  show after hostOps3 (W24 m ρ c) = after (hostOps3.drop 2) (after (hostOps3.take 2) (W24 m ρ c))
  rw [← after_append, List.take_append_drop]

/-- The padded scores that enter the last region. -/
theorem enter3_scores (h : KArgs (W0 m ρ c) p) (hp : p.Real) (n : Fin 4) (r : Fin 46) (l : Fin 128) :
    W29 m ρ c (Proc.devRef .tc main_v200) (ix3 n r l) = if h : (r * 128 + l : ℕ) < 5810 then scoreAt p n ⟨_, h⟩ else 0 :=
  padded_scores (V := W25 m ρ c) (by rw [W25_cut]; exact zero_pad (rows h hp)) (by rw [W25_cut]; exact all_scores (rows h hp)) n r l

theorem enter3_boxes (h : KArgs (W0 m ρ c) p) (hp : p.Real) (n q : Fin 4) (r : Fin 46) (l : Fin 128) :
    W29 m ρ c (Proc.devRef .tc main_v202) (ix4 n q r l) = if h : (r * 128 + l : ℕ) < 5810 then boxAt p n q ⟨_, h⟩ else 0 :=
  padded_boxes (V := W25 m ρ c) (fun n q i => by rw [W25_cut]; exact all_boxes (rows h hp) n q i) n q r l

theorem leave3 (h : KArgs (W0 m ρ c) p) (hp : p.Real) (n : Fin 4) (q : Fin 8) (l : Fin 128) (hl : (l : ℕ) < 100) :
    W30 m ρ c (Proc.devRef .tc main_v203) (ix3 n q l) =
      if h : (q : ℕ) < 4 then boxAt p n ⟨q, h⟩ (pick (scoreAt p n) l)
      else if (q : ℕ) = 4 then scoreAt p n (pick (scoreAt p n) l) * mark (keeps (scoreAt p n) (boxAt p n) l) else 0 :=
  (congrFun (W30_arr m ρ c 2) (ix3 n q l)).trans
    (rows3 (scoreAt p) (score_nonneg hp) (boxAt p) (enter3_scores h hp) (enter3_boxes h hp) n q l hl)

theorem last_at (n : Fin 4) (j : Fin 100) (q : Fin 5) :
    W31 m ρ c (Proc.devRef .tc main_v205) (ix3 n j q) = W30 m ρ c (Proc.devRef .tc main_v203) (ix3 n (⟨q, by omega⟩ : Fin 8) (⟨j, by omega⟩ : Fin 128)) := by
  after_reads_simp
  generalize W30 m ρ c = V
  pointwise

/-- The rows the kernel returns: the best boxes, each with its score, or zero where it is suppressed. -/
theorem kernel_returned (h : KArgs (W0 m ρ c) p) (hp : p.Real) (n : Fin 4) (j : Fin 100) (q : Fin 5) :
    W31 m ρ c (Proc.devRef .tc main_v205) (ix3 n j q) =
      if h : q.val < 4 then boxAt p n ⟨q, h⟩ (pick (scoreAt p n) j)
      else if kept (fun j => pass (scoreAt p n (pick (scoreAt p n) j)))
          (fun i j => over (fun q => boxAt p n q (pick (scoreAt p n) i)) (fun q => boxAt p n q (pick (scoreAt p n) j))) j
        then scoreAt p n (pick (scoreAt p n) j) else 0 := by
  rw [last_at, leave3 h hp n ⟨q, by omega⟩ ⟨j, by omega⟩ j.isLt]
  by_cases hq : q.val < 4
  · rw [dif_pos hq, dif_pos hq]
  · rw [dif_neg hq, dif_neg hq, if_pos (by show q.val = 4; omega)]
    by_cases hk : keeps (scoreAt p n) (boxAt p n) j
    · rw [mark_pos hk, mul_one]
      exact (if_pos hk).symm
    · rw [mark_neg hk, mul_zero]
      exact (if_neg hk).symm

end Cert.Value

end
-- ==== Proof.Value.Pre.lean ====
/- What the precondition says: every argument is an array of numbers. -/
module

public import proofs.«01_k».proof.Proof.Value.Real
public import proofs.«01_k».proof.Pre_finite
public import Idealize.ShloMosaic.Lib.ReduceAll

@[expose] public section

set_option maxRecDepth 16384
set_option maxHeartbeats 1000000

noncomputable section

namespace Cert.Value

open Idealize.ShloMosaic

/-- The precondition's side conditions. -/
theorem finite_facts : Cert.Pre_finite.Facts := by
  constructor <;> decide

theorem infinite_bits : Ideal.ofBits FTy.f32 0x7F800000#32 = (⊤ : EReal) := by
  simp [Ideal.ofBits, Ideal.ieee]

/-- A magnitude below infinity is a number's. -/
theorem real_of_lt {x : EReal} (h : max x (-x) < ⊤) : IsReal x := by
  induction x using EReal.rec with
  | bot => simp at h
  | coe r => exact ⟨r, rfl⟩
  | top => simp at h

/-- All magnitudes below infinity: an array of numbers. -/
theorem real_of_all {s u t : Shape} [Subsingleton t.Idx] {axes : List (Fin s.rank)} (x : FVec Ideal s .f32) {dims : Fin u.rank → Fin s.rank}
    (hb : u.BroadcastsInDim s dims) (hr : s.ReducesTo axes t) (hu : 0 < u.numel) (j : t.Idx)
    (e : Host.reduce IntOp.andi (cmpf .olt (Host.absf x) (broadcastInDim s dims hb (constant u .f32 0x7F800000#32))) (constantI u 1 1#1) hr hu j = 1#1) :
    AllReal x := fun i => by
  have h := Host.reduce_andi_all _ _ _ _ j e i
  have h' : Ideal.cmp .olt (max (x i) (-(x i))) (Ideal.ofBits FTy.f32 0x7F800000#32) = 1#1 := h
  rw [infinite_bits, Ideal.cmp_olt] at h'
  refine real_of_lt ?_
  by_contra hc
  simp [hc] at h'

theorem andi_split {s : Shape} {a b : IVec s 1} {j : s.Idx} (h : andi a b j = 1#1) : a j = 1#1 ∧ b j = 1#1 := IntOp.andi_eq_one.mp h

/-- The precondition of the arguments. -/
theorem args_real [Cert.Pre_finite.Facts] {p : Args}
    (e : Cert.Pre_finite.fn (F := Ideal) p.img p.w1 p.b1 p.a1 p.w2 p.b2 p.a2 p.w3 p.b3 p.a3 p.w41 p.b41 p.w42 p.b42 = (fun _ => 1#1)) : p.Real := by
  have j : Cert.Pre_finite.S_.Idx := fun a => a.elim0
  have h := congrFun e j
  unfold Cert.Pre_finite.fn Cert.Pre_finite.fn_part1 Cert.Pre_finite.fn_part2 Cert.Pre_finite.fn_part3 Cert.Pre_finite.fn_part4 at h
  dsimp only at h
  obtain ⟨h, h_b42⟩ := andi_split h
  obtain ⟨h, h_w42⟩ := andi_split h
  obtain ⟨h, h_b41⟩ := andi_split h
  obtain ⟨h, h_w41⟩ := andi_split h
  obtain ⟨h, h_a3⟩ := andi_split h
  obtain ⟨h, h_b3⟩ := andi_split h
  obtain ⟨h, h_w3⟩ := andi_split h
  obtain ⟨h, h_a2⟩ := andi_split h
  obtain ⟨h, h_b2⟩ := andi_split h
  obtain ⟨h, h_w2⟩ := andi_split h
  obtain ⟨h, h_a1⟩ := andi_split h
  obtain ⟨h, h_b1⟩ := andi_split h
  obtain ⟨h, h_w1⟩ := andi_split h
  exact ⟨real_of_all _ _ _ _ j h, real_of_all _ _ _ _ j h_w1, real_of_all _ _ _ _ j h_b1, real_of_all _ _ _ _ j h_a1, real_of_all _ _ _ _ j h_w2, real_of_all _ _ _ _ j h_b2, real_of_all _ _ _ _ j h_a2, real_of_all _ _ _ _ j h_w3, real_of_all _ _ _ _ j h_b3, real_of_all _ _ _ _ j h_a3, real_of_all _ _ _ _ j h_w41, real_of_all _ _ _ _ j h_b41, real_of_all _ _ _ _ j h_w42, real_of_all _ _ _ _ j h_b42⟩

end Cert.Value

end
-- ==== Proof.lean ====
/- The proof of this certificate's claims: the frames, the named constants, and that the kernel's rows are the reference's. -/
module

public import proofs.«01_k».proof.Defs
public import proofs.«01_k».proof.Proof.Bits.Frame
public import proofs.«01_k».proof.Proof.Ideal.Frame
public import proofs.«01_k».proof.Proof.Value.Final
public import proofs.«01_k».proof.Proof.Value.Pre
public import Idealize.ShloMosaic.Lib.Quiescent

@[expose] public section

set_option maxRecDepth 16384
set_option maxHeartbeats 1000000

noncomputable section

namespace Cert.Proof

open Idealize.ShloMosaic Idealize.ShloMosaic.TcCoe Idealize.SL.Sem
open Cert.Value

/-- The arguments that a memory of the kernel holds. -/
def argsOf (m : (ℓ : Loc KernelIdeal.nD KernelIdeal.τ KernelIdeal.sig) → Buf (Elt Ideal) ℓ) (c : Dev KernelIdeal.nD) : Args where
  img := m ((c.tc : Thread KernelIdeal.nD KernelIdeal.τ).loc KernelIdeal.main_arg0)
  w1 := m ((c.tc : Thread KernelIdeal.nD KernelIdeal.τ).loc KernelIdeal.main_arg1)
  b1 := m ((c.tc : Thread KernelIdeal.nD KernelIdeal.τ).loc KernelIdeal.main_arg2)
  a1 := m ((c.tc : Thread KernelIdeal.nD KernelIdeal.τ).loc KernelIdeal.main_arg3)
  w2 := m ((c.tc : Thread KernelIdeal.nD KernelIdeal.τ).loc KernelIdeal.main_arg4)
  b2 := m ((c.tc : Thread KernelIdeal.nD KernelIdeal.τ).loc KernelIdeal.main_arg5)
  a2 := m ((c.tc : Thread KernelIdeal.nD KernelIdeal.τ).loc KernelIdeal.main_arg6)
  w3 := m ((c.tc : Thread KernelIdeal.nD KernelIdeal.τ).loc KernelIdeal.main_arg7)
  b3 := m ((c.tc : Thread KernelIdeal.nD KernelIdeal.τ).loc KernelIdeal.main_arg8)
  a3 := m ((c.tc : Thread KernelIdeal.nD KernelIdeal.τ).loc KernelIdeal.main_arg9)
  w41 := m ((c.tc : Thread KernelIdeal.nD KernelIdeal.τ).loc KernelIdeal.main_arg10)
  b41 := m ((c.tc : Thread KernelIdeal.nD KernelIdeal.τ).loc KernelIdeal.main_arg11)
  w42 := m ((c.tc : Thread KernelIdeal.nD KernelIdeal.τ).loc KernelIdeal.main_arg12)
  b42 := m ((c.tc : Thread KernelIdeal.nD KernelIdeal.τ).loc KernelIdeal.main_arg13)

/-- The reference's frame. -/
theorem reference_frame : Cert.quiescent_ReferenceIdeal (hReferenceIdeal := Cert.ReferenceIdeal.Gen.facts) := fun m g _ =>
  (θ_run ReferenceIdeal.defs _ _).mono (fun r h => ⟨fun c => (h c).2, sem_eq_zero_of_no_sems (by decide) r.2⟩) (Cert.ReferenceIdeal.Value.run m g)

theorem result_ext {x y : (⟨3, ![4, 100, 5]⟩ : Shape).Idx → EReal} (h : ∀ (n : Fin 4) (j : Fin 100) (q : Fin 5), x (ix3 n j q) = y (ix3 n j q)) : x = y := by
  funext i
  have e : i = ix3 (i 0 : Fin 4) (i 1 : Fin 100) (i 2 : Fin 5) := by
    funext k
    fin_cases k <;> rfl
  rw [e]
  exact h _ _ _

/-- The kernel and the reference return the same rows. -/
theorem same : Cert.algebraic_KernelIdeal_ReferenceIdeal_pre_finite (hKernelIdeal := Cert.KernelIdeal.Gen.facts)
    (hReferenceIdeal := Cert.ReferenceIdeal.Gen.facts) (hPre_finite := finite_facts) := fun m g m' g' hpre hag => by
  refine ⟨fun c => KernelIdeal.Own.W31 m g c (Proc.devRef .tc KernelIdeal.main_v205), ?_, ?_⟩
  · exact (θ_run KernelIdeal.defs _ _).mono (fun r h c => ⟨h.2.2 c _ (KernelIdeal.Own.mem_uc KernelIdeal.main_v205 (by decide)), h.1 c⟩) (KernelIdeal.Own.run m g)
  · refine (θ_run ReferenceIdeal.defs _ _).mono (fun r h c => ⟨(h c).1.trans ?_, (h c).2⟩) (Cert.ReferenceIdeal.Value.run m' g')
    have real : (argsOf m c).Real := @args_real finite_facts (argsOf m c) (hpre c)
    have held : Holds (StableHlo.launchContents m' c) (argsOf m c) := by
      obtain ⟨h0, h1, h2, h3, h4, h5, h6, h7, h8, h9, h10, h11, h12, h13⟩ := hag c
      exact ⟨h0, h1, h2, h3, h4, h5, h6, h7, h8, h9, h10, h11, h12, h13⟩
    have kheld : KArgs (KernelIdeal.Own.W0 m g c) (argsOf m c) := ⟨rfl, rfl, rfl, rfl, rfl, rfl, rfl, rfl, rfl, rfl, rfl, rfl, rfl, rfl⟩
    exact result_ext fun n j q => (returned held n (score_nonneg real n) j q).trans (kernel_returned kheld real n j q).symm

theorem claim : Cert.Claim := ⟨Cert.Kernel.Gen.facts, Cert.KernelIdeal.Gen.facts, Cert.ReferenceIdeal.Gen.facts, finite_facts,
  fun m g _ => Cert.Kernel.Own.frame m g, fun m g _ => Cert.KernelIdeal.Own.frame m g, fun m g _ => Cert.KernelIdeal.Own.frame m g,
  reference_frame, fun m g _ => reference_frame m g trivial, ⟨IdealRules.named_const.statement _ _ _ _ _ rfl, IdealRules.named_const.statement _ _ _ _ _ rfl⟩, same⟩

end Cert.Proof

end
